-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v71)) (v1 : (c : Dev Cert.KernelIdeal.nD) → Buf (Elt Ideal) ((c.tc : Thread Cert.KernelIdeal.nD Cert.KernelIdeal.τ).loc Cert.KernelIdeal.main_v76)) (v2 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_v76) = v1 c
          ∧ r.2.mem ((c.tc : Thread Cert.KernelIdeal.nD Cert.KernelIdeal.τ).loc Cert.KernelIdeal.main_v78) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v22)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v22) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v36)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v36) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v26_0)) (v1 : (c : Dev Cert.Kernel4Ideal.nD) → Buf (Elt Ideal) ((c.tc : Thread Cert.Kernel4Ideal.nD Cert.Kernel4Ideal.τ).loc Cert.Kernel4Ideal.main_v28)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v26_0) = v0 c
          ∧ r.2.mem ((c.tc : Thread Cert.Kernel4Ideal.nD Cert.Kernel4Ideal.τ).loc Cert.Kernel4Ideal.main_v28) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v40) = v0 c
          ∧ r.2.mem ((c.tc : Thread Cert.Reference4Ideal.nD Cert.Reference4Ideal.τ).loc Cert.Reference4Ideal.main_v25) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v4) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_v4) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v4)) (v1 : (c : Dev Cert.Kernel7Ideal.nD) → Buf (Elt Ideal) ((c.tc : Thread Cert.Kernel7Ideal.nD Cert.Kernel7Ideal.τ).loc Cert.Kernel7Ideal.main_v2_0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_v2_0) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v10) = v0 c
          ∧ r.2.mem ((c.tc : Thread Cert.Reference7Ideal.nD Cert.Reference7Ideal.τ).loc Cert.Reference7Ideal.main_v16) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v7)) (v1 : (c : Dev Cert.Kernel8Ideal.nD) → Buf (Elt Ideal) ((c.tc : Thread Cert.Kernel8Ideal.nD Cert.Kernel8Ideal.τ).loc Cert.Kernel8Ideal.main_v8)) (v2 : (c : Dev Cert.Kernel8Ideal.nD) → Buf (Elt Ideal) ((c.tc : Thread Cert.Kernel8Ideal.nD Cert.Kernel8Ideal.τ).loc Cert.Kernel8Ideal.main_v9)) (v3 : (c : Dev Cert.Kernel8Ideal.nD) → Buf (Elt Ideal) ((c.tc : Thread Cert.Kernel8Ideal.nD Cert.Kernel8Ideal.τ).loc Cert.Kernel8Ideal.main_v10)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v7) = v0 c
          ∧ r.2.mem ((c.tc : Thread Cert.Kernel8Ideal.nD Cert.Kernel8Ideal.τ).loc Cert.Kernel8Ideal.main_v8) = v1 c
          ∧ r.2.mem ((c.tc : Thread Cert.Kernel8Ideal.nD Cert.Kernel8Ideal.τ).loc Cert.Kernel8Ideal.main_v9) = v2 c
          ∧ r.2.mem ((c.tc : Thread Cert.Kernel8Ideal.nD Cert.Kernel8Ideal.τ).loc Cert.Kernel8Ideal.main_v10) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_v24) = v1 c
          ∧ r.2.mem ((c.tc : Thread Cert.Reference8Ideal.nD Cert.Reference8Ideal.τ).loc Cert.Reference8Ideal.main_v5) = v2 c
          ∧ r.2.mem ((c.tc : Thread Cert.Reference8Ideal.nD Cert.Reference8Ideal.τ).loc Cert.Reference8Ideal.main_v11) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v7)) (v1 : (c : Dev Cert.Kernel9Ideal.nD) → Buf (Elt Ideal) ((c.tc : Thread Cert.Kernel9Ideal.nD Cert.Kernel9Ideal.τ).loc Cert.Kernel9Ideal.main_v8)) (v2 : (c : Dev Cert.Kernel9Ideal.nD) → Buf (Elt Ideal) ((c.tc : Thread Cert.Kernel9Ideal.nD Cert.Kernel9Ideal.τ).loc Cert.Kernel9Ideal.main_v9)) (v3 : (c : Dev Cert.Kernel9Ideal.nD) → Buf (Elt Ideal) ((c.tc : Thread Cert.Kernel9Ideal.nD Cert.Kernel9Ideal.τ).loc Cert.Kernel9Ideal.main_v10)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v7) = v0 c
          ∧ r.2.mem ((c.tc : Thread Cert.Kernel9Ideal.nD Cert.Kernel9Ideal.τ).loc Cert.Kernel9Ideal.main_v8) = v1 c
          ∧ r.2.mem ((c.tc : Thread Cert.Kernel9Ideal.nD Cert.Kernel9Ideal.τ).loc Cert.Kernel9Ideal.main_v9) = v2 c
          ∧ r.2.mem ((c.tc : Thread Cert.Kernel9Ideal.nD Cert.Kernel9Ideal.τ).loc Cert.Kernel9Ideal.main_v10) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v0) = v0 c
          ∧ r.2.mem ((c.tc : Thread Cert.Reference9Ideal.nD Cert.Reference9Ideal.τ).loc Cert.Reference9Ideal.main_v24) = v1 c
          ∧ r.2.mem ((c.tc : Thread Cert.Reference9Ideal.nD Cert.Reference9Ideal.τ).loc Cert.Reference9Ideal.main_v5) = v2 c
          ∧ r.2.mem ((c.tc : Thread Cert.Reference9Ideal.nD Cert.Reference9Ideal.τ).loc Cert.Reference9Ideal.main_v11) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v7)) (v1 : (c : Dev Cert.Kernel10Ideal.nD) → Buf (Elt Ideal) ((c.tc : Thread Cert.Kernel10Ideal.nD Cert.Kernel10Ideal.τ).loc Cert.Kernel10Ideal.main_v8)) (v2 : (c : Dev Cert.Kernel10Ideal.nD) → Buf (Elt Ideal) ((c.tc : Thread Cert.Kernel10Ideal.nD Cert.Kernel10Ideal.τ).loc Cert.Kernel10Ideal.main_v9)) (v3 : (c : Dev Cert.Kernel10Ideal.nD) → Buf (Elt Ideal) ((c.tc : Thread Cert.Kernel10Ideal.nD Cert.Kernel10Ideal.τ).loc Cert.Kernel10Ideal.main_v10)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v7) = v0 c
          ∧ r.2.mem ((c.tc : Thread Cert.Kernel10Ideal.nD Cert.Kernel10Ideal.τ).loc Cert.Kernel10Ideal.main_v8) = v1 c
          ∧ r.2.mem ((c.tc : Thread Cert.Kernel10Ideal.nD Cert.Kernel10Ideal.τ).loc Cert.Kernel10Ideal.main_v9) = v2 c
          ∧ r.2.mem ((c.tc : Thread Cert.Kernel10Ideal.nD Cert.Kernel10Ideal.τ).loc Cert.Kernel10Ideal.main_v10) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_v24) = v1 c
          ∧ r.2.mem ((c.tc : Thread Cert.Reference10Ideal.nD Cert.Reference10Ideal.τ).loc Cert.Reference10Ideal.main_v5) = v2 c
          ∧ r.2.mem ((c.tc : Thread Cert.Reference10Ideal.nD Cert.Reference10Ideal.τ).loc Cert.Reference10Ideal.main_v11) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v7)) (v1 : (c : Dev Cert.Kernel11Ideal.nD) → Buf (Elt Ideal) ((c.tc : Thread Cert.Kernel11Ideal.nD Cert.Kernel11Ideal.τ).loc Cert.Kernel11Ideal.main_v8)) (v2 : (c : Dev Cert.Kernel11Ideal.nD) → Buf (Elt Ideal) ((c.tc : Thread Cert.Kernel11Ideal.nD Cert.Kernel11Ideal.τ).loc Cert.Kernel11Ideal.main_v9)) (v3 : (c : Dev Cert.Kernel11Ideal.nD) → Buf (Elt Ideal) ((c.tc : Thread Cert.Kernel11Ideal.nD Cert.Kernel11Ideal.τ).loc Cert.Kernel11Ideal.main_v10)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v7) = v0 c
          ∧ r.2.mem ((c.tc : Thread Cert.Kernel11Ideal.nD Cert.Kernel11Ideal.τ).loc Cert.Kernel11Ideal.main_v8) = v1 c
          ∧ r.2.mem ((c.tc : Thread Cert.Kernel11Ideal.nD Cert.Kernel11Ideal.τ).loc Cert.Kernel11Ideal.main_v9) = v2 c
          ∧ r.2.mem ((c.tc : Thread Cert.Kernel11Ideal.nD Cert.Kernel11Ideal.τ).loc Cert.Kernel11Ideal.main_v10) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_v24) = v1 c
          ∧ r.2.mem ((c.tc : Thread Cert.Reference11Ideal.nD Cert.Reference11Ideal.τ).loc Cert.Reference11Ideal.main_v5) = v2 c
          ∧ r.2.mem ((c.tc : Thread Cert.Reference11Ideal.nD Cert.Reference11Ideal.τ).loc Cert.Reference11Ideal.main_v11) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite.lean ====
abbrev S8192x8x96 : Shape := ⟨3, ![8192, 8, 96]⟩
abbrev S8192x8x64 : Shape := ⟨3, ![8192, 8, 64]⟩
abbrev S8192x512 : Shape := ⟨2, ![8192, 512]⟩
abbrev S_ : Shape := ⟨0, ![]⟩

class Facts : Prop where
  bcast_S_S8192x8x96 : S_.BroadcastsInDim S8192x8x96 (![] : Fin 0 → Fin S8192x8x96.rank)
  reducesTo_S8192x8x96_S_d0_1_2 : S8192x8x96.ReducesTo [0, 1, 2] S_
  h_S_ : 0 < S_.numel
  bcast_S_S8192x8x64 : S_.BroadcastsInDim S8192x8x64 (![] : Fin 0 → Fin S8192x8x64.rank)
  reducesTo_S8192x8x64_S_d0_1_2 : S8192x8x64.ReducesTo [0, 1, 2] S_
  bcast_S_S8192x512 : S_.BroadcastsInDim S8192x512 (![] : Fin 0 → Fin S8192x512.rank)
  reducesTo_S8192x512_S_d0_1 : S8192x512.ReducesTo [0, 1] S_

variable [Facts]

def fn_part1 {F : FTy → Type} [FloatOps F] (main_v13 : IVec S_ 1) (main_v16 : IVec S8192x512 1) : IVec S_ 1 :=
  let main_c_5 : IVec S_ 1 := constantI S_ 1 1#1
  let main_v17 : IVec S_ 1 := (fun x v => Host.reduce IntOp.andi x v reducesTo_S8192x512_S_d0_1 h_S_) main_v16 main_c_5
  let main_v18 : IVec S_ 1 := andi main_v13 main_v17
  main_v18

def fn {F : FTy → Type} [FloatOps F] (main_arg0 : FVec F S8192x8x96 .f32) (main_arg1 : FVec F S8192x8x96 .f32) (main_arg2 : FVec F S8192x8x64 .f32) (main_arg3 : FVec F S8192x512 .f32) : IVec S_ 1 :=
  let main_v0 : FVec F S8192x8x96 .f32 := Host.absf main_arg0
  let main_cst : FVec F S_ .f32 := constant S_ .f32 0x7F800000#32
  let main_v1 : FVec F S8192x8x96 .f32 := broadcastInDim S8192x8x96 ![] bcast_S_S8192x8x96 main_cst
  let main_v2 : IVec S8192x8x96 1 := cmpf .olt main_v0 main_v1
  let main_c : IVec S_ 1 := constantI S_ 1 1#1
  let main_v3 : IVec S_ 1 := (fun x v => Host.reduce IntOp.andi x v reducesTo_S8192x8x96_S_d0_1_2 h_S_) main_v2 main_c
  let main_v4 : FVec F S8192x8x96 .f32 := Host.absf main_arg1
  let main_cst_0 : FVec F S_ .f32 := constant S_ .f32 0x7F800000#32
  let main_v5 : FVec F S8192x8x96 .f32 := broadcastInDim S8192x8x96 ![] bcast_S_S8192x8x96 main_cst_0
  let main_v6 : IVec S8192x8x96 1 := cmpf .olt main_v4 main_v5
  let main_c_1 : IVec S_ 1 := constantI S_ 1 1#1
  let main_v7 : IVec S_ 1 := (fun x v => Host.reduce IntOp.andi x v reducesTo_S8192x8x96_S_d0_1_2 h_S_) main_v6 main_c_1
  let main_v8 : IVec S_ 1 := andi main_v3 main_v7
  let main_v9 : FVec F S8192x8x64 .f32 := Host.absf main_arg2
  let main_cst_2 : FVec F S_ .f32 := constant S_ .f32 0x7F800000#32
  let main_v10 : FVec F S8192x8x64 .f32 := broadcastInDim S8192x8x64 ![] bcast_S_S8192x8x64 main_cst_2
  let main_v11 : IVec S8192x8x64 1 := cmpf .olt main_v9 main_v10
  let main_c_3 : IVec S_ 1 := constantI S_ 1 1#1
  let main_v12 : IVec S_ 1 := (fun x v => Host.reduce IntOp.andi x v reducesTo_S8192x8x64_S_d0_1_2 h_S_) main_v11 main_c_3
  let main_v13 : IVec S_ 1 := andi main_v8 main_v12
  let main_v14 : FVec F S8192x512 .f32 := Host.absf main_arg3
  let main_cst_4 : FVec F S_ .f32 := constant S_ .f32 0x7F800000#32
  let main_v15 : FVec F S8192x512 .f32 := broadcastInDim S8192x512 ![] bcast_S_S8192x512 main_cst_4
  let main_v16 : IVec S8192x512 1 := cmpf .olt main_v14 main_v15
  fn_part1 (F := F) main_v13 main_v16
-- ==== Pre_finite4.lean ====
abbrev S8192x1024 : Shape := ⟨2, ![8192, 1024]⟩
abbrev S1024 : Shape := ⟨1, ![1024]⟩
abbrev S1024x4256 : Shape := ⟨2, ![1024, 4256]⟩
abbrev S8192x4256 : Shape := ⟨2, ![8192, 4256]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x4256 : S_.BroadcastsInDim S1024x4256 (![] : Fin 0 → Fin S1024x4256.rank)
  reducesTo_S1024x4256_S_d0_1 : S1024x4256.ReducesTo [0, 1] S_
  bcast_S_S8192x4256 : S_.BroadcastsInDim S8192x4256 (![] : Fin 0 → Fin S8192x4256.rank)
  reducesTo_S8192x4256_S_d0_1 : S8192x4256.ReducesTo [0, 1] S_

variable [Facts]

def fn_part1 {F : FTy → Type} [FloatOps F] (main_arg4 : FVec F S8192x4256 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S8192x4256 .f32 := Host.absf main_arg4
  let main_cst_6 : FVec F S_ .f32 := constant S_ .f32 0x7F800000#32
  let main_v20 : FVec F S8192x4256 .f32 := broadcastInDim S8192x4256 ![] bcast_S_S8192x4256 main_cst_6
  let main_v21 : IVec S8192x4256 1 := cmpf .olt main_v19 main_v20
  let main_c_7 : IVec S_ 1 := constantI S_ 1 1#1
  let main_v22 : IVec S_ 1 := (fun x v => Host.reduce IntOp.andi x v reducesTo_S8192x4256_S_d0_1 h_S_) main_v21 main_c_7
  let main_v23 : IVec S_ 1 := andi main_v18 main_v22
  main_v23

def fn {F : FTy → Type} [FloatOps F] (main_arg0 : FVec F S8192x1024 .f32) (main_arg1 : FVec F S1024 .f32) (main_arg2 : FVec F S1024x4256 .f32) (main_arg3 : FVec F S8192x1024 .f32) (main_arg4 : FVec F S8192x4256 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x4256 .f32 := Host.absf main_arg2
  let main_cst_2 : FVec F S_ .f32 := constant S_ .f32 0x7F800000#32
  let main_v10 : FVec F S1024x4256 .f32 := broadcastInDim S1024x4256 ![] bcast_S_S1024x4256 main_cst_2
  let main_v11 : IVec S1024x4256 1 := cmpf .olt main_v9 main_v10
  let main_c_3 : IVec S_ 1 := constantI S_ 1 1#1
  let main_v12 : IVec S_ 1 := (fun x v => Host.reduce IntOp.andi x v reducesTo_S1024x4256_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_v13 main_v16
-- ==== Kernel.lean ====
abbrev S8192x8x96 : Shape := ⟨3, ![8192, 8, 96]⟩
abbrev S8192x8x64 : Shape := ⟨3, ![8192, 8, 64]⟩
abbrev S8192x512 : Shape := ⟨2, ![8192, 512]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x64x8192 : Shape := ⟨3, ![8, 64, 8192]⟩
abbrev S8x1x8192 : Shape := ⟨3, ![8, 1, 8192]⟩
abbrev S8x8192x96 : Shape := ⟨3, ![8, 8192, 96]⟩
abbrev S8x8192x128 : Shape := ⟨3, ![8, 8192, 128]⟩
abbrev S8x32x256x128 : Shape := ⟨4, ![8, 32, 256, 128]⟩
abbrev S8x32x128x256 : Shape := ⟨4, ![8, 32, 128, 256]⟩
abbrev S4x2x64x8192 : Shape := ⟨4, ![4, 2, 64, 8192]⟩
abbrev S4x1x8192 : Shape := ⟨3, ![4, 1, 8192]⟩
abbrev S4x63x8192 : Shape := ⟨3, ![4, 63, 8192]⟩
abbrev S4x1x64x8192 : Shape := ⟨4, ![4, 1, 64, 8192]⟩
abbrev S4x64x8192 : Shape := ⟨3, ![4, 64, 8192]⟩
abbrev S4x128x8192 : Shape := ⟨3, ![4, 128, 8192]⟩
abbrev S4x1x128x8192 : Shape := ⟨4, ![4, 1, 128, 8192]⟩
abbrev S4x2x128x8192 : Shape := ⟨4, ![4, 2, 128, 8192]⟩
abbrev S8x128x32x256 : Shape := ⟨4, ![8, 128, 32, 256]⟩
abbrev S1x512x128 : Shape := ⟨3, ![1, 512, 128]⟩
abbrev S1x8192x128 : Shape := ⟨3, ![1, 8192, 128]⟩
abbrev S1x32x128x256 : Shape := ⟨4, ![1, 32, 128, 256]⟩
abbrev S512x128 : Shape := ⟨2, ![512, 128]⟩
abbrev S1x1x512 : Shape := ⟨3, ![1, 1, 512]⟩
abbrev S512x256 : Shape := ⟨2, ![512, 256]⟩
abbrev S1x128 : Shape := ⟨2, ![1, 128]⟩
abbrev S128x512 : Shape := ⟨2, ![128, 512]⟩
abbrev S512 : Shape := ⟨1, ![512]⟩
abbrev S512x1 : Shape := ⟨2, ![512, 1]⟩
abbrev S1x512 : Shape := ⟨2, ![1, 512]⟩
abbrev S1x1x128x256 : Shape := ⟨4, ![1, 1, 128, 256]⟩
abbrev S128x256 : Shape := ⟨2, ![128, 256]⟩
abbrev S1x256x128 : Shape := ⟨3, ![1, 256, 128]⟩
abbrev S256x128 : Shape := ⟨2, ![256, 128]⟩
abbrev S256x256 : Shape := ⟨2, ![256, 256]⟩
abbrev S4x2x32x128x256 : Shape := ⟨5, ![4, 2, 32, 128, 256]⟩
abbrev S4x1x32x64x256 : Shape := ⟨5, ![4, 1, 32, 64, 256]⟩
abbrev S4x32x64x256 : Shape := ⟨4, ![4, 32, 64, 256]⟩
abbrev S4x2x32x64x256 : Shape := ⟨5, ![4, 2, 32, 64, 256]⟩
abbrev S8x32x64x256 : Shape := ⟨4, ![8, 32, 64, 256]⟩
abbrev S8x32x96x256 : Shape := ⟨4, ![8, 32, 96, 256]⟩
abbrev S32x256x8x96 : Shape := ⟨4, ![32, 256, 8, 96]⟩
abbrev S32x256x8x64 : Shape := ⟨4, ![32, 256, 8, 64]⟩

abbrev nBuf : Space → Nat
  | .hbm => 101
  | .vmem => 27
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S8192x512, .f32⟩
  | .hbm, ⟨4, _⟩ => ⟨S8x8192x8192, .f32⟩
  | .hbm, ⟨5, _⟩ => ⟨S_, .f32⟩
  | .hbm, ⟨6, _⟩ => ⟨S8x8192x8192, .f32⟩
  | .hbm, ⟨7, _⟩ => ⟨S8x8192x8192, .f32⟩
  | .hbm, ⟨8, _⟩ => ⟨S8192, .i32⟩
  | .hbm, ⟨9, _⟩ => ⟨S1x8192, .i32⟩
  | .hbm, ⟨10, _⟩ => ⟨S8192x1, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S1x8192x8192, .i1⟩
  | .hbm, ⟨15, _⟩ => ⟨S_, .f32⟩
  | .hbm, ⟨16, _⟩ => ⟨S_, .f32⟩
  | .hbm, ⟨17, _⟩ => ⟨S8x8192x8192, .i1⟩
  | .hbm, ⟨18, _⟩ => ⟨S8x8192x8192, .f32⟩
  | .hbm, ⟨19, _⟩ => ⟨S8x8192x8192, .f32⟩
  | .hbm, ⟨20, _⟩ => ⟨S_, .f32⟩
  | .hbm, ⟨21, _⟩ => ⟨S8x8192, .f32⟩
  | .hbm, ⟨22, _⟩ => ⟨S8x8192x1, .f32⟩
  | .hbm, ⟨23, _⟩ => ⟨S8x8192x8192, .f32⟩
  | .hbm, ⟨24, _⟩ => ⟨S8x8192x8192, .f32⟩
  | .hbm, ⟨25, _⟩ => ⟨S8x8192x8192, .f32⟩
  | .hbm, ⟨26, _⟩ => ⟨S_, .f32⟩
  | .hbm, ⟨27, _⟩ => ⟨S8x8192, .f32⟩
  | .hbm, ⟨28, _⟩ => ⟨S8x8192x1, .f32⟩
  | .hbm, ⟨29, _⟩ => ⟨S8x8192x8192, .f32⟩
  | .hbm, ⟨30, _⟩ => ⟨S8x8192x8192, .f32⟩
  | .hbm, ⟨31, _⟩ => ⟨S8x64x8192, .f32⟩
  | .hbm, ⟨32, _⟩ => ⟨S8192x8x64, .f32⟩
  | .hbm, ⟨33, _⟩ => ⟨S8192x512, .f32⟩
  | .hbm, ⟨34, _⟩ => ⟨S_, .f32⟩
  | .hbm, ⟨35, _⟩ => ⟨S_, .f32⟩
  | .hbm, ⟨36, _⟩ => ⟨S8x8192x1, .f32⟩
  | .hbm, ⟨37, _⟩ => ⟨S8x8192x1, .f32⟩
  | .hbm, ⟨38, _⟩ => ⟨S8x8192x1, .f32⟩
  | .hbm, ⟨39, _⟩ => ⟨S8x8192x1, .f32⟩
  | .hbm, ⟨40, _⟩ => ⟨S8x1x8192, .f32⟩
  | .hbm, ⟨41, _⟩ => ⟨S8x8192x96, .f32⟩
  | .hbm, ⟨42, _⟩ => ⟨S_, .i32⟩
  | .hbm, ⟨43, _⟩ => ⟨S_, .f32⟩
  | .hbm, ⟨44, _⟩ => ⟨S8x8192x128, .f32⟩
  | .hbm, ⟨45, _⟩ => ⟨S_, .f32⟩
  | .hbm, ⟨46, _⟩ => ⟨S8x8192x128, .f32⟩
  | .hbm, ⟨47, _⟩ => ⟨S8x8192x128, .f32⟩
  | .hbm, ⟨48, _⟩ => ⟨S8x8192x128, .f32⟩
  | .hbm, ⟨49, _⟩ => ⟨S8x8192x128, .f32⟩
  | .hbm, ⟨50, _⟩ => ⟨S8x8192x128, .bf16⟩
  | .hbm, ⟨51, _⟩ => ⟨S8x8192x96, .f32⟩
  | .hbm, ⟨52, _⟩ => ⟨S_, .i32⟩
  | .hbm, ⟨53, _⟩ => ⟨S_, .f32⟩
  | .hbm, ⟨54, _⟩ => ⟨S8x8192x128, .f32⟩
  | .hbm, ⟨55, _⟩ => ⟨S8x32x256x128, .f32⟩
  | .hbm, ⟨56, _⟩ => ⟨S8x32x128x256, .f32⟩
  | .hbm, ⟨57, _⟩ => ⟨S8x32x128x256, .bf16⟩
  | .hbm, ⟨58, _⟩ => ⟨S8x64x8192, .f32⟩
  | .hbm, ⟨59, _⟩ => ⟨S4x2x64x8192, .f32⟩
  | .hbm, ⟨60, _⟩ => ⟨S_, .f32⟩
  | .hbm, ⟨61, _⟩ => ⟨S4x1x8192, .f32⟩
  | .hbm, ⟨62, _⟩ => ⟨S_, .f32⟩
  | .hbm, ⟨63, _⟩ => ⟨S4x63x8192, .f32⟩
  | .hbm, ⟨64, _⟩ => ⟨S4x1x64x8192, .f32⟩
  | .hbm, ⟨65, _⟩ => ⟨S4x64x8192, .f32⟩
  | .hbm, ⟨66, _⟩ => ⟨S4x128x8192, .f32⟩
  | .hbm, ⟨67, _⟩ => ⟨S4x1x64x8192, .f32⟩
  | .hbm, ⟨68, _⟩ => ⟨S4x64x8192, .f32⟩
  | .hbm, ⟨69, _⟩ => ⟨S4x128x8192, .f32⟩
  | .hbm, ⟨70, _⟩ => ⟨S4x1x128x8192, .f32⟩
  | .hbm, ⟨71, _⟩ => ⟨S4x1x128x8192, .f32⟩
  | .hbm, ⟨72, _⟩ => ⟨S4x2x128x8192, .f32⟩
  | .hbm, ⟨73, _⟩ => ⟨S8x128x32x256, .f32⟩
  | .hbm, ⟨74, _⟩ => ⟨S8x32x128x256, .f32⟩
  | .hbm, ⟨75, _⟩ => ⟨S8x32x128x256, .bf16⟩
  | .hbm, ⟨76, _⟩ => ⟨S8x8192x128, .bf16⟩
  | .hbm, ⟨77, _⟩ => ⟨S8x8192x128, .f32⟩
  | .hbm, ⟨78, _⟩ => ⟨S8x32x128x256, .f32⟩
  | .hbm, ⟨79, _⟩ => ⟨S8x32x128x256, .f32⟩
  | .hbm, ⟨80, _⟩ => ⟨S4x2x32x128x256, .f32⟩
  | .hbm, ⟨81, _⟩ => ⟨S4x1x32x64x256, .f32⟩
  | .hbm, ⟨82, _⟩ => ⟨S4x32x64x256, .f32⟩
  | .hbm, ⟨83, _⟩ => ⟨S4x1x32x64x256, .f32⟩
  | .hbm, ⟨84, _⟩ => ⟨S4x32x64x256, .f32⟩
  | .hbm, ⟨85, _⟩ => ⟨S4x1x32x64x256, .f32⟩
  | .hbm, ⟨86, _⟩ => ⟨S4x1x32x64x256, .f32⟩
  | .hbm, ⟨87, _⟩ => ⟨S4x2x32x64x256, .f32⟩
  | .hbm, ⟨88, _⟩ => ⟨S8x32x64x256, .f32⟩
  | .hbm, ⟨89, _⟩ => ⟨S8x8192x96, .f32⟩
  | .hbm, ⟨90, _⟩ => ⟨S8192x8x96, .f32⟩
  | .hbm, ⟨91, _⟩ => ⟨S_, .f32⟩
  | .hbm, ⟨92, _⟩ => ⟨S8192x8x96, .f32⟩
  | .hbm, ⟨93, _⟩ => ⟨S8192x8x96, .f32⟩
  | .hbm, ⟨94, _⟩ => ⟨S8x32x96x256, .f32⟩
  | .hbm, ⟨95, _⟩ => ⟨S32x256x8x96, .f32⟩
  | .hbm, ⟨96, _⟩ => ⟨S8192x8x96, .f32⟩
  | .hbm, ⟨97, _⟩ => ⟨S8192x8x96, .f32⟩
  | .hbm, ⟨98, _⟩ => ⟨S8192x8x96, .f32⟩
  | .hbm, ⟨99, _⟩ => ⟨S32x256x8x64, .f32⟩
  | .hbm, ⟨100, _⟩ => ⟨S8192x8x64, .f32⟩
  | .local _ .vmem, ⟨0, _⟩ => ⟨S1x512x128, .bf16⟩
  | .local _ .vmem, ⟨1, _⟩ => ⟨S1x512x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x32x128x256, .bf16⟩
  | .local _ .vmem, ⟨5, _⟩ => ⟨S1x32x128x256, .bf16⟩
  | .local _ .vmem, ⟨6, _⟩ => ⟨S1x32x128x256, .bf16⟩
  | .local _ .vmem, ⟨7, _⟩ => ⟨S1x32x128x256, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1x1x512, .f32⟩
  | .local _ .vmem, ⟨13, _⟩ => ⟨S1x1x512, .f32⟩
  | .local _ .vmem, ⟨14, _⟩ => ⟨S1x512x128, .f32⟩
  | .local _ .vmem, ⟨15, _⟩ => ⟨S1x512x128, .f32⟩
  | .local _ .vmem, ⟨16, _⟩ => ⟨S1x32x128x256, .f32⟩
  | .local _ .vmem, ⟨17, _⟩ => ⟨S1x32x128x256, .f32⟩
  | .local _ .vmem, ⟨18, _⟩ => ⟨S1x32x128x256, .f32⟩
  | .local _ .vmem, ⟨19, _⟩ => ⟨S1x32x128x256, .f32⟩
  | .local _ .vmem, ⟨20, _⟩ => ⟨S512x128, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | .local _ .vmem, ⟨24, _⟩ => ⟨S512x256, .f32⟩
  | .local _ .vmem, ⟨25, _⟩ => ⟨S512x256, .f32⟩
  | .local _ .vmem, ⟨26, _⟩ => ⟨S512x256, .f32⟩
  | _, _ => ⟨S8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c : Ref sig .tc := ⟨.hbm, 42, rfl⟩
abbrev main_call1_v0 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_5 : Ref sig .tc := ⟨.hbm, 52, rfl⟩
abbrev main_call2_v0 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_cst_7 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58_0 : Ref sig .tc := ⟨.hbm, 77, rfl⟩
abbrev main_v58_1 : Ref sig .tc := ⟨.hbm, 78, rfl⟩
abbrev main_v58_2 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_8 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 16], ![false, false]⟩

@[reducible] def k0_t1_loop (i : grid0.Coords) : Scf.Loop 32 :=
  let c0_i32_52 : BitVec 32 := 0#32
  let arg1 : BitVec 32 := BitVec.ofNat 32 (i 1).val
  let c0_i32_45 : BitVec 32 := 0#32
  let v98 : BitVec 1 := Scalar.cmpi .sgt arg1 c0_i32_45
  let v99 : BitVec 32 := Scalar.extui v98
  let c0_i32_46 : BitVec 32 := 0#32
  let v100 : BitVec 1 := Scalar.cmpi .slt arg1 c0_i32_46
  let v101 : BitVec 32 := Scalar.extui v100
  let v102 : BitVec 32 := Scalar.subi v99 v101
  let c4_i32 : BitVec 32 := 4#32
  let c0_i32_47 : BitVec 32 := 0#32
  let v103 : BitVec 1 := Scalar.cmpi .sgt c4_i32 c0_i32_47
  let v104 : BitVec 32 := Scalar.extui v103
  let c0_i32_48 : BitVec 32 := 0#32
  let v105 : BitVec 1 := Scalar.cmpi .slt c4_i32 c0_i32_48
  let v106 : BitVec 32 := Scalar.extui v105
  let v107 : BitVec 32 := Scalar.subi v104 v106
  let v108 : BitVec 1 := Scalar.cmpi .ne v102 v107
  let v109 : BitVec 32 := Scalar.remsi arg1 c4_i32
  let c0_i32_49 : BitVec 32 := 0#32
  let v110 : BitVec 1 := Scalar.cmpi .ne v109 c0_i32_49
  let v111 : BitVec 1 := Scalar.andi v108 v110
  let v97 : BitVec 32 := Scalar.divsi arg1 c4_i32
  let c1_i32_50 : BitVec 32 := 1#32
  let v112 : BitVec 32 := Scalar.subi v97 c1_i32_50
  let v113 : BitVec 32 := Scalar.select v111 v112 v97
  let v114 : BitVec 32 := Scalar.subi v113 c0_i32_52
  let c1_i32_53 : BitVec 32 := 1#32
  let v116 : BitVec 32 := Scalar.divsi v114 c1_i32_53
  let v117 : BitVec 32 := Scalar.muli v116 c1_i32_53
  let v118 : BitVec 32 := Scalar.addi c0_i32_52 v117
  let c1_i32_54 : BitVec 32 := 1#32
  ⟨c0_i32_52, v118, c1_i32_54⟩
def k0_off1 (i : grid0.Coords) (k0_t1 : Fin (k0_t1_loop i).trips) (c0_i32_154 : BitVec 32) (c1_i32_155 : BitVec 32) : Fin 4 → Nat :=
  let c0_156 : Index := 0#32
  let c8_i32 : BitVec 32 := 8#32
  let c0_i32_52 : BitVec 32 := 0#32
  let c1_i32_54 : BitVec 32 := 1#32
  let arg19 : BitVec 32 := Scf.iv c0_i32_52 c1_i32_54 k0_t1
  let v260 : BitVec 32 := Scalar.muli c8_i32 arg19
  let v261 : BitVec 32 := Scalar.addi v260 c0_i32_154
  let v262 : BitVec 32 := Scalar.addi v261 c1_i32_155
  let v263 : Index := Scalar.indexCast v262
  let c0_157 : Index := 0#32
  let c0_158 : Index := 0#32
  ![0, v263.toNat, 0, 0]
def k0_mult1 (i : grid0.Coords) (k0_t1 : Fin (k0_t1_loop i).trips) : BitVec 32 :=
  let c8_i32 : BitVec 32 := 8#32
  let c0_i32_52 : BitVec 32 := 0#32
  let c1_i32_54 : BitVec 32 := 1#32
  let arg19 : BitVec 32 := Scf.iv c0_i32_52 c1_i32_54 k0_t1
  let v260 : BitVec 32 := Scalar.muli c8_i32 arg19
  let c0_i32_154 : BitVec 32 := 0#32
  let v261 : BitVec 32 := Scalar.addi v260 c0_i32_154
  let c256_i32_168 : BitVec 32 := 256#32
  let v277 : BitVec 32 := Scalar.muli v261 c256_i32_168
  v277
def k0_off2 (i : grid0.Coords) (k0_t1 : Fin (k0_t1_loop i).trips) (c0_i32_154 : BitVec 32) : Fin 3 → Nat :=
  let c0_179 : Index := 0#32
  let c8_i32 : BitVec 32 := 8#32
  let c0_i32_52 : BitVec 32 := 0#32
  let c1_i32_54 : BitVec 32 := 1#32
  let arg19 : BitVec 32 := Scf.iv c0_i32_52 c1_i32_54 k0_t1
  let v260 : BitVec 32 := Scalar.muli c8_i32 arg19
  let v261 : BitVec 32 := Scalar.addi v260 c0_i32_154
  let c256_i32_168 : BitVec 32 := 256#32
  let v277 : BitVec 32 := Scalar.muli v261 c256_i32_168
  let v278 : BitVec 32 := v277
  let v289 : Index := Scalar.indexCast v278
  let c0_180 : Index := 0#32
  ![0, v289.toNat, 0]
def k0_off3 (i : grid0.Coords) (k0_t1 : Fin (k0_t1_loop i).trips) (c0_i32_154 : BitVec 32) : Fin 4 → Nat :=
  let c0_184 : Index := 0#32
  let c8_i32 : BitVec 32 := 8#32
  let c0_i32_52 : BitVec 32 := 0#32
  let c1_i32_54 : BitVec 32 := 1#32
  let arg19 : BitVec 32 := Scf.iv c0_i32_52 c1_i32_54 k0_t1
  let v260 : BitVec 32 := Scalar.muli c8_i32 arg19
  let v261 : BitVec 32 := Scalar.addi v260 c0_i32_154
  let v297 : Index := Scalar.indexCast v261
  let c0_185 : Index := 0#32
  let c0_186 : Index := 0#32
  ![0, v297.toNat, 0, 0]
def k0_mult2 (i : grid0.Coords) (k0_t1 : Fin (k0_t1_loop i).trips) : BitVec 32 :=
  let c8_i32 : BitVec 32 := 8#32
  let c0_i32_52 : BitVec 32 := 0#32
  let c1_i32_54 : BitVec 32 := 1#32
  let arg19 : BitVec 32 := Scf.iv c0_i32_52 c1_i32_54 k0_t1
  let v260 : BitVec 32 := Scalar.muli c8_i32 arg19
  let c0_i32_154 : BitVec 32 := 0#32
  let v261 : BitVec 32 := Scalar.addi v260 c0_i32_154
  let c1_i32_211 : BitVec 32 := 1#32
  let v331 : BitVec 32 := Scalar.addi v261 c1_i32_211
  let c256_i32_212 : BitVec 32 := 256#32
  let v332 : BitVec 32 := Scalar.muli v331 c256_i32_212
  v332
def k0_off4 (i : grid0.Coords) (k0_t1 : Fin (k0_t1_loop i).trips) (c0_i32_154 : BitVec 32) : Fin 3 → Nat :=
  let c0_223 : Index := 0#32
  let c8_i32 : BitVec 32 := 8#32
  let c0_i32_52 : BitVec 32 := 0#32
  let c1_i32_54 : BitVec 32 := 1#32
  let arg19 : BitVec 32 := Scf.iv c0_i32_52 c1_i32_54 k0_t1
  let v260 : BitVec 32 := Scalar.muli c8_i32 arg19
  let v261 : BitVec 32 := Scalar.addi v260 c0_i32_154
  let c1_i32_211 : BitVec 32 := 1#32
  let v331 : BitVec 32 := Scalar.addi v261 c1_i32_211
  let c256_i32_212 : BitVec 32 := 256#32
  let v332 : BitVec 32 := Scalar.muli v331 c256_i32_212
  let v333 : BitVec 32 := v332
  let v344 : Index := Scalar.indexCast v333
  let c0_224 : Index := 0#32
  ![0, v344.toNat, 0]
def k0_mult3 (i : grid0.Coords) (k0_t1 : Fin (k0_t1_loop i).trips) : BitVec 32 :=
  let c8_i32_242 : BitVec 32 := 8#32
  let c0_i32_52 : BitVec 32 := 0#32
  let c1_i32_54 : BitVec 32 := 1#32
  let arg19 : BitVec 32 := Scf.iv c0_i32_52 c1_i32_54 k0_t1
  let v371 : BitVec 32 := Scalar.muli c8_i32_242 arg19
  let c2_i32_243 : BitVec 32 := 2#32
  let v372 : BitVec 32 := Scalar.addi v371 c2_i32_243
  let c256_i32_257 : BitVec 32 := 256#32
  let v388 : BitVec 32 := Scalar.muli v372 c256_i32_257
  v388
def k0_mult4 (i : grid0.Coords) (k0_t1 : Fin (k0_t1_loop i).trips) : BitVec 32 :=
  let c8_i32_242 : BitVec 32 := 8#32
  let c0_i32_52 : BitVec 32 := 0#32
  let c1_i32_54 : BitVec 32 := 1#32
  let arg19 : BitVec 32 := Scf.iv c0_i32_52 c1_i32_54 k0_t1
  let v371 : BitVec 32 := Scalar.muli c8_i32_242 arg19
  let c2_i32_243 : BitVec 32 := 2#32
  let v372 : BitVec 32 := Scalar.addi v371 c2_i32_243
  let c1_i32_300 : BitVec 32 := 1#32
  let v442 : BitVec 32 := Scalar.addi v372 c1_i32_300
  let c256_i32_301 : BitVec 32 := 256#32
  let v443 : BitVec 32 := Scalar.muli v442 c256_i32_301
  v443
def k0_mult5 (i : grid0.Coords) (k0_t1 : Fin (k0_t1_loop i).trips) : BitVec 32 :=
  let c8_i32_331 : BitVec 32 := 8#32
  let c0_i32_52 : BitVec 32 := 0#32
  let c1_i32_54 : BitVec 32 := 1#32
  let arg19 : BitVec 32 := Scf.iv c0_i32_52 c1_i32_54 k0_t1
  let v482 : BitVec 32 := Scalar.muli c8_i32_331 arg19
  let c4_i32_332 : BitVec 32 := 4#32
  let v483 : BitVec 32 := Scalar.addi v482 c4_i32_332
  let c256_i32_346 : BitVec 32 := 256#32
  let v499 : BitVec 32 := Scalar.muli v483 c256_i32_346
  v499
def k0_mult6 (i : grid0.Coords) (k0_t1 : Fin (k0_t1_loop i).trips) : BitVec 32 :=
  let c8_i32_331 : BitVec 32 := 8#32
  let c0_i32_52 : BitVec 32 := 0#32
  let c1_i32_54 : BitVec 32 := 1#32
  let arg19 : BitVec 32 := Scf.iv c0_i32_52 c1_i32_54 k0_t1
  let v482 : BitVec 32 := Scalar.muli c8_i32_331 arg19
  let c4_i32_332 : BitVec 32 := 4#32
  let v483 : BitVec 32 := Scalar.addi v482 c4_i32_332
  let c1_i32_389 : BitVec 32 := 1#32
  let v553 : BitVec 32 := Scalar.addi v483 c1_i32_389
  let c256_i32_390 : BitVec 32 := 256#32
  let v554 : BitVec 32 := Scalar.muli v553 c256_i32_390
  v554
def k0_mult7 (i : grid0.Coords) (k0_t1 : Fin (k0_t1_loop i).trips) : BitVec 32 :=
  let c8_i32_420 : BitVec 32 := 8#32
  let c0_i32_52 : BitVec 32 := 0#32
  let c1_i32_54 : BitVec 32 := 1#32
  let arg19 : BitVec 32 := Scf.iv c0_i32_52 c1_i32_54 k0_t1
  let v593 : BitVec 32 := Scalar.muli c8_i32_420 arg19
  let c6_i32 : BitVec 32 := 6#32
  let v594 : BitVec 32 := Scalar.addi v593 c6_i32
  let c256_i32_434 : BitVec 32 := 256#32
  let v610 : BitVec 32 := Scalar.muli v594 c256_i32_434
  v610
def k0_mult8 (i : grid0.Coords) (k0_t1 : Fin (k0_t1_loop i).trips) : BitVec 32 :=
  let c8_i32_420 : BitVec 32 := 8#32
  let c0_i32_52 : BitVec 32 := 0#32
  let c1_i32_54 : BitVec 32 := 1#32
  let arg19 : BitVec 32 := Scf.iv c0_i32_52 c1_i32_54 k0_t1
  let v593 : BitVec 32 := Scalar.muli c8_i32_420 arg19
  let c6_i32 : BitVec 32 := 6#32
  let v594 : BitVec 32 := Scalar.addi v593 c6_i32
  let c1_i32_477 : BitVec 32 := 1#32
  let v664 : BitVec 32 := Scalar.addi v594 c1_i32_477
  let c256_i32_478 : BitVec 32 := 256#32
  let v665 : BitVec 32 := Scalar.muli v664 c256_i32_478
  v665
@[reducible] def k0_t2_loop (i : grid0.Coords) : Scf.Loop 32 :=
  let c0_i32_52 : BitVec 32 := 0#32
  let arg1 : BitVec 32 := BitVec.ofNat 32 (i 1).val
  let c0_i32_45 : BitVec 32 := 0#32
  let v98 : BitVec 1 := Scalar.cmpi .sgt arg1 c0_i32_45
  let v99 : BitVec 32 := Scalar.extui v98
  let c0_i32_46 : BitVec 32 := 0#32
  let v100 : BitVec 1 := Scalar.cmpi .slt arg1 c0_i32_46
  let v101 : BitVec 32 := Scalar.extui v100
  let v102 : BitVec 32 := Scalar.subi v99 v101
  let c4_i32 : BitVec 32 := 4#32
  let c0_i32_47 : BitVec 32 := 0#32
  let v103 : BitVec 1 := Scalar.cmpi .sgt c4_i32 c0_i32_47
  let v104 : BitVec 32 := Scalar.extui v103
  let c0_i32_48 : BitVec 32 := 0#32
  let v105 : BitVec 1 := Scalar.cmpi .slt c4_i32 c0_i32_48
  let v106 : BitVec 32 := Scalar.extui v105
  let v107 : BitVec 32 := Scalar.subi v104 v106
  let v108 : BitVec 1 := Scalar.cmpi .ne v102 v107
  let v109 : BitVec 32 := Scalar.remsi arg1 c4_i32
  let c0_i32_49 : BitVec 32 := 0#32
  let v110 : BitVec 1 := Scalar.cmpi .ne v109 c0_i32_49
  let v111 : BitVec 1 := Scalar.andi v108 v110
  let v97 : BitVec 32 := Scalar.divsi arg1 c4_i32
  let c1_i32_50 : BitVec 32 := 1#32
  let v112 : BitVec 32 := Scalar.subi v97 c1_i32_50
  let v113 : BitVec 32 := Scalar.select v111 v112 v97
  let v114 : BitVec 32 := Scalar.subi v113 c0_i32_52
  let c1_i32_53 : BitVec 32 := 1#32
  let v116 : BitVec 32 := Scalar.divsi v114 c1_i32_53
  let v117 : BitVec 32 := Scalar.muli v116 c1_i32_53
  let v118 : BitVec 32 := Scalar.addi c0_i32_52 v117
  let v115 : BitVec 32 := Scalar.addi c0_i32_52 v114
  let c1_i32_55 : BitVec 32 := 1#32
  ⟨v118, v115, c1_i32_55⟩
def k0_off5 (i : grid0.Coords) (k0_t2 : Fin (k0_t2_loop i).trips) (c0_i32_154 : BitVec 32) (c1_i32_155 : BitVec 32) : Fin 4 → Nat :=
  let c0_156 : Index := 0#32
  let c8_i32 : BitVec 32 := 8#32
  let c0_i32_52 : BitVec 32 := 0#32
  let arg1 : BitVec 32 := BitVec.ofNat 32 (i 1).val
  let c0_i32_45 : BitVec 32 := 0#32
  let v98 : BitVec 1 := Scalar.cmpi .sgt arg1 c0_i32_45
  let v99 : BitVec 32 := Scalar.extui v98
  let c0_i32_46 : BitVec 32 := 0#32
  let v100 : BitVec 1 := Scalar.cmpi .slt arg1 c0_i32_46
  let v101 : BitVec 32 := Scalar.extui v100
  let v102 : BitVec 32 := Scalar.subi v99 v101
  let c4_i32 : BitVec 32 := 4#32
  let c0_i32_47 : BitVec 32 := 0#32
  let v103 : BitVec 1 := Scalar.cmpi .sgt c4_i32 c0_i32_47
  let v104 : BitVec 32 := Scalar.extui v103
  let c0_i32_48 : BitVec 32 := 0#32
  let v105 : BitVec 1 := Scalar.cmpi .slt c4_i32 c0_i32_48
  let v106 : BitVec 32 := Scalar.extui v105
  let v107 : BitVec 32 := Scalar.subi v104 v106
  let v108 : BitVec 1 := Scalar.cmpi .ne v102 v107
  let v109 : BitVec 32 := Scalar.remsi arg1 c4_i32
  let c0_i32_49 : BitVec 32 := 0#32
  let v110 : BitVec 1 := Scalar.cmpi .ne v109 c0_i32_49
  let v111 : BitVec 1 := Scalar.andi v108 v110
  let v97 : BitVec 32 := Scalar.divsi arg1 c4_i32
  let c1_i32_50 : BitVec 32 := 1#32
  let v112 : BitVec 32 := Scalar.subi v97 c1_i32_50
  let v113 : BitVec 32 := Scalar.select v111 v112 v97
  let v114 : BitVec 32 := Scalar.subi v113 c0_i32_52
  let c1_i32_53 : BitVec 32 := 1#32
  let v116 : BitVec 32 := Scalar.divsi v114 c1_i32_53
  let v117 : BitVec 32 := Scalar.muli v116 c1_i32_53
  let v118 : BitVec 32 := Scalar.addi c0_i32_52 v117
  let c1_i32_55 : BitVec 32 := 1#32
  let arg19 : BitVec 32 := Scf.iv v118 c1_i32_55 k0_t2
  let v260 : BitVec 32 := Scalar.muli c8_i32 arg19
  let v261 : BitVec 32 := Scalar.addi v260 c0_i32_154
  let v262 : BitVec 32 := Scalar.addi v261 c1_i32_155
  let v263 : Index := Scalar.indexCast v262
  let c0_157 : Index := 0#32
  let c0_158 : Index := 0#32
  ![0, v263.toNat, 0, 0]
def k0_mult9 (i : grid0.Coords) (k0_t2 : Fin (k0_t2_loop i).trips) : BitVec 32 :=
  let c8_i32 : BitVec 32 := 8#32
  let c0_i32_52 : BitVec 32 := 0#32
  let arg1 : BitVec 32 := BitVec.ofNat 32 (i 1).val
  let c0_i32_45 : BitVec 32 := 0#32
  let v98 : BitVec 1 := Scalar.cmpi .sgt arg1 c0_i32_45
  let v99 : BitVec 32 := Scalar.extui v98
  let c0_i32_46 : BitVec 32 := 0#32
  let v100 : BitVec 1 := Scalar.cmpi .slt arg1 c0_i32_46
  let v101 : BitVec 32 := Scalar.extui v100
  let v102 : BitVec 32 := Scalar.subi v99 v101
  let c4_i32 : BitVec 32 := 4#32
  let c0_i32_47 : BitVec 32 := 0#32
  let v103 : BitVec 1 := Scalar.cmpi .sgt c4_i32 c0_i32_47
  let v104 : BitVec 32 := Scalar.extui v103
  let c0_i32_48 : BitVec 32 := 0#32
  let v105 : BitVec 1 := Scalar.cmpi .slt c4_i32 c0_i32_48
  let v106 : BitVec 32 := Scalar.extui v105
  let v107 : BitVec 32 := Scalar.subi v104 v106
  let v108 : BitVec 1 := Scalar.cmpi .ne v102 v107
  let v109 : BitVec 32 := Scalar.remsi arg1 c4_i32
  let c0_i32_49 : BitVec 32 := 0#32
  let v110 : BitVec 1 := Scalar.cmpi .ne v109 c0_i32_49
  let v111 : BitVec 1 := Scalar.andi v108 v110
  let v97 : BitVec 32 := Scalar.divsi arg1 c4_i32
  let c1_i32_50 : BitVec 32 := 1#32
  let v112 : BitVec 32 := Scalar.subi v97 c1_i32_50
  let v113 : BitVec 32 := Scalar.select v111 v112 v97
  let v114 : BitVec 32 := Scalar.subi v113 c0_i32_52
  let c1_i32_53 : BitVec 32 := 1#32
  let v116 : BitVec 32 := Scalar.divsi v114 c1_i32_53
  let v117 : BitVec 32 := Scalar.muli v116 c1_i32_53
  let v118 : BitVec 32 := Scalar.addi c0_i32_52 v117
  let c1_i32_55 : BitVec 32 := 1#32
  let arg19 : BitVec 32 := Scf.iv v118 c1_i32_55 k0_t2
  let v260 : BitVec 32 := Scalar.muli c8_i32 arg19
  let c0_i32_154 : BitVec 32 := 0#32
  let v261 : BitVec 32 := Scalar.addi v260 c0_i32_154
  let c256_i32_168 : BitVec 32 := 256#32
  let v277 : BitVec 32 := Scalar.muli v261 c256_i32_168
  v277
def k0_off6 (i : grid0.Coords) (k0_t2 : Fin (k0_t2_loop i).trips) (c0_i32_154 : BitVec 32) : Fin 3 → Nat :=
  let c0_179 : Index := 0#32
  let c8_i32 : BitVec 32 := 8#32
  let c0_i32_52 : BitVec 32 := 0#32
  let arg1 : BitVec 32 := BitVec.ofNat 32 (i 1).val
  let c0_i32_45 : BitVec 32 := 0#32
  let v98 : BitVec 1 := Scalar.cmpi .sgt arg1 c0_i32_45
  let v99 : BitVec 32 := Scalar.extui v98
  let c0_i32_46 : BitVec 32 := 0#32
  let v100 : BitVec 1 := Scalar.cmpi .slt arg1 c0_i32_46
  let v101 : BitVec 32 := Scalar.extui v100
  let v102 : BitVec 32 := Scalar.subi v99 v101
  let c4_i32 : BitVec 32 := 4#32
  let c0_i32_47 : BitVec 32 := 0#32
  let v103 : BitVec 1 := Scalar.cmpi .sgt c4_i32 c0_i32_47
  let v104 : BitVec 32 := Scalar.extui v103
  let c0_i32_48 : BitVec 32 := 0#32
  let v105 : BitVec 1 := Scalar.cmpi .slt c4_i32 c0_i32_48
  let v106 : BitVec 32 := Scalar.extui v105
  let v107 : BitVec 32 := Scalar.subi v104 v106
  let v108 : BitVec 1 := Scalar.cmpi .ne v102 v107
  let v109 : BitVec 32 := Scalar.remsi arg1 c4_i32
  let c0_i32_49 : BitVec 32 := 0#32
  let v110 : BitVec 1 := Scalar.cmpi .ne v109 c0_i32_49
  let v111 : BitVec 1 := Scalar.andi v108 v110
  let v97 : BitVec 32 := Scalar.divsi arg1 c4_i32
  let c1_i32_50 : BitVec 32 := 1#32
  let v112 : BitVec 32 := Scalar.subi v97 c1_i32_50
  let v113 : BitVec 32 := Scalar.select v111 v112 v97
  let v114 : BitVec 32 := Scalar.subi v113 c0_i32_52
  let c1_i32_53 : BitVec 32 := 1#32
  let v116 : BitVec 32 := Scalar.divsi v114 c1_i32_53
  let v117 : BitVec 32 := Scalar.muli v116 c1_i32_53
  let v118 : BitVec 32 := Scalar.addi c0_i32_52 v117
  let c1_i32_55 : BitVec 32 := 1#32
  let arg19 : BitVec 32 := Scf.iv v118 c1_i32_55 k0_t2
  let v260 : BitVec 32 := Scalar.muli c8_i32 arg19
  let v261 : BitVec 32 := Scalar.addi v260 c0_i32_154
  let c256_i32_168 : BitVec 32 := 256#32
  let v277 : BitVec 32 := Scalar.muli v261 c256_i32_168
  let v278 : BitVec 32 := v277
  let v289 : Index := Scalar.indexCast v278
  let c0_180 : Index := 0#32
  ![0, v289.toNat, 0]
def k0_off7 (i : grid0.Coords) (k0_t2 : Fin (k0_t2_loop i).trips) (c0_i32_154 : BitVec 32) : Fin 4 → Nat :=
  let c0_184 : Index := 0#32
  let c8_i32 : BitVec 32 := 8#32
  let c0_i32_52 : BitVec 32 := 0#32
  let arg1 : BitVec 32 := BitVec.ofNat 32 (i 1).val
  let c0_i32_45 : BitVec 32 := 0#32
  let v98 : BitVec 1 := Scalar.cmpi .sgt arg1 c0_i32_45
  let v99 : BitVec 32 := Scalar.extui v98
  let c0_i32_46 : BitVec 32 := 0#32
  let v100 : BitVec 1 := Scalar.cmpi .slt arg1 c0_i32_46
  let v101 : BitVec 32 := Scalar.extui v100
  let v102 : BitVec 32 := Scalar.subi v99 v101
  let c4_i32 : BitVec 32 := 4#32
  let c0_i32_47 : BitVec 32 := 0#32
  let v103 : BitVec 1 := Scalar.cmpi .sgt c4_i32 c0_i32_47
  let v104 : BitVec 32 := Scalar.extui v103
  let c0_i32_48 : BitVec 32 := 0#32
  let v105 : BitVec 1 := Scalar.cmpi .slt c4_i32 c0_i32_48
  let v106 : BitVec 32 := Scalar.extui v105
  let v107 : BitVec 32 := Scalar.subi v104 v106
  let v108 : BitVec 1 := Scalar.cmpi .ne v102 v107
  let v109 : BitVec 32 := Scalar.remsi arg1 c4_i32
  let c0_i32_49 : BitVec 32 := 0#32
  let v110 : BitVec 1 := Scalar.cmpi .ne v109 c0_i32_49
  let v111 : BitVec 1 := Scalar.andi v108 v110
  let v97 : BitVec 32 := Scalar.divsi arg1 c4_i32
  let c1_i32_50 : BitVec 32 := 1#32
  let v112 : BitVec 32 := Scalar.subi v97 c1_i32_50
  let v113 : BitVec 32 := Scalar.select v111 v112 v97
  let v114 : BitVec 32 := Scalar.subi v113 c0_i32_52
  let c1_i32_53 : BitVec 32 := 1#32
  let v116 : BitVec 32 := Scalar.divsi v114 c1_i32_53
  let v117 : BitVec 32 := Scalar.muli v116 c1_i32_53
  let v118 : BitVec 32 := Scalar.addi c0_i32_52 v117
  let c1_i32_55 : BitVec 32 := 1#32
  let arg19 : BitVec 32 := Scf.iv v118 c1_i32_55 k0_t2
  let v260 : BitVec 32 := Scalar.muli c8_i32 arg19
  let v261 : BitVec 32 := Scalar.addi v260 c0_i32_154
  let v297 : Index := Scalar.indexCast v261
  let c0_185 : Index := 0#32
  let c0_186 : Index := 0#32
  ![0, v297.toNat, 0, 0]
def k0_mult10 (i : grid0.Coords) (k0_t2 : Fin (k0_t2_loop i).trips) : BitVec 32 :=
  let c8_i32 : BitVec 32 := 8#32
  let c0_i32_52 : BitVec 32 := 0#32
  let arg1 : BitVec 32 := BitVec.ofNat 32 (i 1).val
  let c0_i32_45 : BitVec 32 := 0#32
  let v98 : BitVec 1 := Scalar.cmpi .sgt arg1 c0_i32_45
  let v99 : BitVec 32 := Scalar.extui v98
  let c0_i32_46 : BitVec 32 := 0#32
  let v100 : BitVec 1 := Scalar.cmpi .slt arg1 c0_i32_46
  let v101 : BitVec 32 := Scalar.extui v100
  let v102 : BitVec 32 := Scalar.subi v99 v101
  let c4_i32 : BitVec 32 := 4#32
  let c0_i32_47 : BitVec 32 := 0#32
  let v103 : BitVec 1 := Scalar.cmpi .sgt c4_i32 c0_i32_47
  let v104 : BitVec 32 := Scalar.extui v103
  let c0_i32_48 : BitVec 32 := 0#32
  let v105 : BitVec 1 := Scalar.cmpi .slt c4_i32 c0_i32_48
  let v106 : BitVec 32 := Scalar.extui v105
  let v107 : BitVec 32 := Scalar.subi v104 v106
  let v108 : BitVec 1 := Scalar.cmpi .ne v102 v107
  let v109 : BitVec 32 := Scalar.remsi arg1 c4_i32
  let c0_i32_49 : BitVec 32 := 0#32
  let v110 : BitVec 1 := Scalar.cmpi .ne v109 c0_i32_49
  let v111 : BitVec 1 := Scalar.andi v108 v110
  let v97 : BitVec 32 := Scalar.divsi arg1 c4_i32
  let c1_i32_50 : BitVec 32 := 1#32
  let v112 : BitVec 32 := Scalar.subi v97 c1_i32_50
  let v113 : BitVec 32 := Scalar.select v111 v112 v97
  let v114 : BitVec 32 := Scalar.subi v113 c0_i32_52
  let c1_i32_53 : BitVec 32 := 1#32
  let v116 : BitVec 32 := Scalar.divsi v114 c1_i32_53
  let v117 : BitVec 32 := Scalar.muli v116 c1_i32_53
  let v118 : BitVec 32 := Scalar.addi c0_i32_52 v117
  let c1_i32_55 : BitVec 32 := 1#32
  let arg19 : BitVec 32 := Scf.iv v118 c1_i32_55 k0_t2
  let v260 : BitVec 32 := Scalar.muli c8_i32 arg19
  let c0_i32_154 : BitVec 32 := 0#32
  let v261 : BitVec 32 := Scalar.addi v260 c0_i32_154
  let c1_i32_211 : BitVec 32 := 1#32
  let v331 : BitVec 32 := Scalar.addi v261 c1_i32_211
  let c256_i32_212 : BitVec 32 := 256#32
  let v332 : BitVec 32 := Scalar.muli v331 c256_i32_212
  v332
def k0_off8 (i : grid0.Coords) (k0_t2 : Fin (k0_t2_loop i).trips) (c0_i32_154 : BitVec 32) : Fin 3 → Nat :=
  let c0_223 : Index := 0#32
  let c8_i32 : BitVec 32 := 8#32
  let c0_i32_52 : BitVec 32 := 0#32
  let arg1 : BitVec 32 := BitVec.ofNat 32 (i 1).val
  let c0_i32_45 : BitVec 32 := 0#32
  let v98 : BitVec 1 := Scalar.cmpi .sgt arg1 c0_i32_45
  let v99 : BitVec 32 := Scalar.extui v98
  let c0_i32_46 : BitVec 32 := 0#32
  let v100 : BitVec 1 := Scalar.cmpi .slt arg1 c0_i32_46
  let v101 : BitVec 32 := Scalar.extui v100
  let v102 : BitVec 32 := Scalar.subi v99 v101
  let c4_i32 : BitVec 32 := 4#32
  let c0_i32_47 : BitVec 32 := 0#32
  let v103 : BitVec 1 := Scalar.cmpi .sgt c4_i32 c0_i32_47
  let v104 : BitVec 32 := Scalar.extui v103
  let c0_i32_48 : BitVec 32 := 0#32
  let v105 : BitVec 1 := Scalar.cmpi .slt c4_i32 c0_i32_48
  let v106 : BitVec 32 := Scalar.extui v105
  let v107 : BitVec 32 := Scalar.subi v104 v106
  let v108 : BitVec 1 := Scalar.cmpi .ne v102 v107
  let v109 : BitVec 32 := Scalar.remsi arg1 c4_i32
  let c0_i32_49 : BitVec 32 := 0#32
  let v110 : BitVec 1 := Scalar.cmpi .ne v109 c0_i32_49
  let v111 : BitVec 1 := Scalar.andi v108 v110
  let v97 : BitVec 32 := Scalar.divsi arg1 c4_i32
  let c1_i32_50 : BitVec 32 := 1#32
  let v112 : BitVec 32 := Scalar.subi v97 c1_i32_50
  let v113 : BitVec 32 := Scalar.select v111 v112 v97
  let v114 : BitVec 32 := Scalar.subi v113 c0_i32_52
  let c1_i32_53 : BitVec 32 := 1#32
  let v116 : BitVec 32 := Scalar.divsi v114 c1_i32_53
  let v117 : BitVec 32 := Scalar.muli v116 c1_i32_53
  let v118 : BitVec 32 := Scalar.addi c0_i32_52 v117
  let c1_i32_55 : BitVec 32 := 1#32
  let arg19 : BitVec 32 := Scf.iv v118 c1_i32_55 k0_t2
  let v260 : BitVec 32 := Scalar.muli c8_i32 arg19
  let v261 : BitVec 32 := Scalar.addi v260 c0_i32_154
  let c1_i32_211 : BitVec 32 := 1#32
  let v331 : BitVec 32 := Scalar.addi v261 c1_i32_211
  let c256_i32_212 : BitVec 32 := 256#32
  let v332 : BitVec 32 := Scalar.muli v331 c256_i32_212
  let v333 : BitVec 32 := v332
  let v344 : Index := Scalar.indexCast v333
  let c0_224 : Index := 0#32
  ![0, v344.toNat, 0]
def k0_mult11 (i : grid0.Coords) (k0_t2 : Fin (k0_t2_loop i).trips) : BitVec 32 :=
  let c8_i32_242 : BitVec 32 := 8#32
  let c0_i32_52 : BitVec 32 := 0#32
  let arg1 : BitVec 32 := BitVec.ofNat 32 (i 1).val
  let c0_i32_45 : BitVec 32 := 0#32
  let v98 : BitVec 1 := Scalar.cmpi .sgt arg1 c0_i32_45
  let v99 : BitVec 32 := Scalar.extui v98
  let c0_i32_46 : BitVec 32 := 0#32
  let v100 : BitVec 1 := Scalar.cmpi .slt arg1 c0_i32_46
  let v101 : BitVec 32 := Scalar.extui v100
  let v102 : BitVec 32 := Scalar.subi v99 v101
  let c4_i32 : BitVec 32 := 4#32
  let c0_i32_47 : BitVec 32 := 0#32
  let v103 : BitVec 1 := Scalar.cmpi .sgt c4_i32 c0_i32_47
  let v104 : BitVec 32 := Scalar.extui v103
  let c0_i32_48 : BitVec 32 := 0#32
  let v105 : BitVec 1 := Scalar.cmpi .slt c4_i32 c0_i32_48
  let v106 : BitVec 32 := Scalar.extui v105
  let v107 : BitVec 32 := Scalar.subi v104 v106
  let v108 : BitVec 1 := Scalar.cmpi .ne v102 v107
  let v109 : BitVec 32 := Scalar.remsi arg1 c4_i32
  let c0_i32_49 : BitVec 32 := 0#32
  let v110 : BitVec 1 := Scalar.cmpi .ne v109 c0_i32_49
  let v111 : BitVec 1 := Scalar.andi v108 v110
  let v97 : BitVec 32 := Scalar.divsi arg1 c4_i32
  let c1_i32_50 : BitVec 32 := 1#32
  let v112 : BitVec 32 := Scalar.subi v97 c1_i32_50
  let v113 : BitVec 32 := Scalar.select v111 v112 v97
  let v114 : BitVec 32 := Scalar.subi v113 c0_i32_52
  let c1_i32_53 : BitVec 32 := 1#32
  let v116 : BitVec 32 := Scalar.divsi v114 c1_i32_53
  let v117 : BitVec 32 := Scalar.muli v116 c1_i32_53
  let v118 : BitVec 32 := Scalar.addi c0_i32_52 v117
  let c1_i32_55 : BitVec 32 := 1#32
  let arg19 : BitVec 32 := Scf.iv v118 c1_i32_55 k0_t2
  let v371 : BitVec 32 := Scalar.muli c8_i32_242 arg19
  let c2_i32_243 : BitVec 32 := 2#32
  let v372 : BitVec 32 := Scalar.addi v371 c2_i32_243
  let c256_i32_257 : BitVec 32 := 256#32
  let v388 : BitVec 32 := Scalar.muli v372 c256_i32_257
  v388
def k0_mult12 (i : grid0.Coords) (k0_t2 : Fin (k0_t2_loop i).trips) : BitVec 32 :=
  let c8_i32_242 : BitVec 32 := 8#32
  let c0_i32_52 : BitVec 32 := 0#32
  let arg1 : BitVec 32 := BitVec.ofNat 32 (i 1).val
  let c0_i32_45 : BitVec 32 := 0#32
  let v98 : BitVec 1 := Scalar.cmpi .sgt arg1 c0_i32_45
  let v99 : BitVec 32 := Scalar.extui v98
  let c0_i32_46 : BitVec 32 := 0#32
  let v100 : BitVec 1 := Scalar.cmpi .slt arg1 c0_i32_46
  let v101 : BitVec 32 := Scalar.extui v100
  let v102 : BitVec 32 := Scalar.subi v99 v101
  let c4_i32 : BitVec 32 := 4#32
  let c0_i32_47 : BitVec 32 := 0#32
  let v103 : BitVec 1 := Scalar.cmpi .sgt c4_i32 c0_i32_47
  let v104 : BitVec 32 := Scalar.extui v103
  let c0_i32_48 : BitVec 32 := 0#32
  let v105 : BitVec 1 := Scalar.cmpi .slt c4_i32 c0_i32_48
  let v106 : BitVec 32 := Scalar.extui v105
  let v107 : BitVec 32 := Scalar.subi v104 v106
  let v108 : BitVec 1 := Scalar.cmpi .ne v102 v107
  let v109 : BitVec 32 := Scalar.remsi arg1 c4_i32
  let c0_i32_49 : BitVec 32 := 0#32
  let v110 : BitVec 1 := Scalar.cmpi .ne v109 c0_i32_49
  let v111 : BitVec 1 := Scalar.andi v108 v110
  let v97 : BitVec 32 := Scalar.divsi arg1 c4_i32
  let c1_i32_50 : BitVec 32 := 1#32
  let v112 : BitVec 32 := Scalar.subi v97 c1_i32_50
  let v113 : BitVec 32 := Scalar.select v111 v112 v97
  let v114 : BitVec 32 := Scalar.subi v113 c0_i32_52
  let c1_i32_53 : BitVec 32 := 1#32
  let v116 : BitVec 32 := Scalar.divsi v114 c1_i32_53
  let v117 : BitVec 32 := Scalar.muli v116 c1_i32_53
  let v118 : BitVec 32 := Scalar.addi c0_i32_52 v117
  let c1_i32_55 : BitVec 32 := 1#32
  let arg19 : BitVec 32 := Scf.iv v118 c1_i32_55 k0_t2
  let v371 : BitVec 32 := Scalar.muli c8_i32_242 arg19
  let c2_i32_243 : BitVec 32 := 2#32
  let v372 : BitVec 32 := Scalar.addi v371 c2_i32_243
  let c1_i32_300 : BitVec 32 := 1#32
  let v442 : BitVec 32 := Scalar.addi v372 c1_i32_300
  let c256_i32_301 : BitVec 32 := 256#32
  let v443 : BitVec 32 := Scalar.muli v442 c256_i32_301
  v443
def k0_mult13 (i : grid0.Coords) (k0_t2 : Fin (k0_t2_loop i).trips) : BitVec 32 :=
  let c8_i32_331 : BitVec 32 := 8#32
  let c0_i32_52 : BitVec 32 := 0#32
  let arg1 : BitVec 32 := BitVec.ofNat 32 (i 1).val
  let c0_i32_45 : BitVec 32 := 0#32
  let v98 : BitVec 1 := Scalar.cmpi .sgt arg1 c0_i32_45
  let v99 : BitVec 32 := Scalar.extui v98
  let c0_i32_46 : BitVec 32 := 0#32
  let v100 : BitVec 1 := Scalar.cmpi .slt arg1 c0_i32_46
  let v101 : BitVec 32 := Scalar.extui v100
  let v102 : BitVec 32 := Scalar.subi v99 v101
  let c4_i32 : BitVec 32 := 4#32
  let c0_i32_47 : BitVec 32 := 0#32
  let v103 : BitVec 1 := Scalar.cmpi .sgt c4_i32 c0_i32_47
  let v104 : BitVec 32 := Scalar.extui v103
  let c0_i32_48 : BitVec 32 := 0#32
  let v105 : BitVec 1 := Scalar.cmpi .slt c4_i32 c0_i32_48
  let v106 : BitVec 32 := Scalar.extui v105
  let v107 : BitVec 32 := Scalar.subi v104 v106
  let v108 : BitVec 1 := Scalar.cmpi .ne v102 v107
  let v109 : BitVec 32 := Scalar.remsi arg1 c4_i32
  let c0_i32_49 : BitVec 32 := 0#32
  let v110 : BitVec 1 := Scalar.cmpi .ne v109 c0_i32_49
  let v111 : BitVec 1 := Scalar.andi v108 v110
  let v97 : BitVec 32 := Scalar.divsi arg1 c4_i32
  let c1_i32_50 : BitVec 32 := 1#32
  let v112 : BitVec 32 := Scalar.subi v97 c1_i32_50
  let v113 : BitVec 32 := Scalar.select v111 v112 v97
  let v114 : BitVec 32 := Scalar.subi v113 c0_i32_52
  let c1_i32_53 : BitVec 32 := 1#32
  let v116 : BitVec 32 := Scalar.divsi v114 c1_i32_53
  let v117 : BitVec 32 := Scalar.muli v116 c1_i32_53
  let v118 : BitVec 32 := Scalar.addi c0_i32_52 v117
  let c1_i32_55 : BitVec 32 := 1#32
  let arg19 : BitVec 32 := Scf.iv v118 c1_i32_55 k0_t2
  let v482 : BitVec 32 := Scalar.muli c8_i32_331 arg19
  let c4_i32_332 : BitVec 32 := 4#32
  let v483 : BitVec 32 := Scalar.addi v482 c4_i32_332
  let c256_i32_346 : BitVec 32 := 256#32
  let v499 : BitVec 32 := Scalar.muli v483 c256_i32_346
  v499
def k0_mult14 (i : grid0.Coords) (k0_t2 : Fin (k0_t2_loop i).trips) : BitVec 32 :=
  let c8_i32_331 : BitVec 32 := 8#32
  let c0_i32_52 : BitVec 32 := 0#32
  let arg1 : BitVec 32 := BitVec.ofNat 32 (i 1).val
  let c0_i32_45 : BitVec 32 := 0#32
  let v98 : BitVec 1 := Scalar.cmpi .sgt arg1 c0_i32_45
  let v99 : BitVec 32 := Scalar.extui v98
  let c0_i32_46 : BitVec 32 := 0#32
  let v100 : BitVec 1 := Scalar.cmpi .slt arg1 c0_i32_46
  let v101 : BitVec 32 := Scalar.extui v100
  let v102 : BitVec 32 := Scalar.subi v99 v101
  let c4_i32 : BitVec 32 := 4#32
  let c0_i32_47 : BitVec 32 := 0#32
  let v103 : BitVec 1 := Scalar.cmpi .sgt c4_i32 c0_i32_47
  let v104 : BitVec 32 := Scalar.extui v103
  let c0_i32_48 : BitVec 32 := 0#32
  let v105 : BitVec 1 := Scalar.cmpi .slt c4_i32 c0_i32_48
  let v106 : BitVec 32 := Scalar.extui v105
  let v107 : BitVec 32 := Scalar.subi v104 v106
  let v108 : BitVec 1 := Scalar.cmpi .ne v102 v107
  let v109 : BitVec 32 := Scalar.remsi arg1 c4_i32
  let c0_i32_49 : BitVec 32 := 0#32
  let v110 : BitVec 1 := Scalar.cmpi .ne v109 c0_i32_49
  let v111 : BitVec 1 := Scalar.andi v108 v110
  let v97 : BitVec 32 := Scalar.divsi arg1 c4_i32
  let c1_i32_50 : BitVec 32 := 1#32
  let v112 : BitVec 32 := Scalar.subi v97 c1_i32_50
  let v113 : BitVec 32 := Scalar.select v111 v112 v97
  let v114 : BitVec 32 := Scalar.subi v113 c0_i32_52
  let c1_i32_53 : BitVec 32 := 1#32
  let v116 : BitVec 32 := Scalar.divsi v114 c1_i32_53
  let v117 : BitVec 32 := Scalar.muli v116 c1_i32_53
  let v118 : BitVec 32 := Scalar.addi c0_i32_52 v117
  let c1_i32_55 : BitVec 32 := 1#32
  let arg19 : BitVec 32 := Scf.iv v118 c1_i32_55 k0_t2
  let v482 : BitVec 32 := Scalar.muli c8_i32_331 arg19
  let c4_i32_332 : BitVec 32 := 4#32
  let v483 : BitVec 32 := Scalar.addi v482 c4_i32_332
  let c1_i32_389 : BitVec 32 := 1#32
  let v553 : BitVec 32 := Scalar.addi v483 c1_i32_389
  let c256_i32_390 : BitVec 32 := 256#32
  let v554 : BitVec 32 := Scalar.muli v553 c256_i32_390
  v554
def k0_mult15 (i : grid0.Coords) (k0_t2 : Fin (k0_t2_loop i).trips) : BitVec 32 :=
  let c8_i32_420 : BitVec 32 := 8#32
  let c0_i32_52 : BitVec 32 := 0#32
  let arg1 : BitVec 32 := BitVec.ofNat 32 (i 1).val
  let c0_i32_45 : BitVec 32 := 0#32
  let v98 : BitVec 1 := Scalar.cmpi .sgt arg1 c0_i32_45
  let v99 : BitVec 32 := Scalar.extui v98
  let c0_i32_46 : BitVec 32 := 0#32
  let v100 : BitVec 1 := Scalar.cmpi .slt arg1 c0_i32_46
  let v101 : BitVec 32 := Scalar.extui v100
  let v102 : BitVec 32 := Scalar.subi v99 v101
  let c4_i32 : BitVec 32 := 4#32
  let c0_i32_47 : BitVec 32 := 0#32
  let v103 : BitVec 1 := Scalar.cmpi .sgt c4_i32 c0_i32_47
  let v104 : BitVec 32 := Scalar.extui v103
  let c0_i32_48 : BitVec 32 := 0#32
  let v105 : BitVec 1 := Scalar.cmpi .slt c4_i32 c0_i32_48
  let v106 : BitVec 32 := Scalar.extui v105
  let v107 : BitVec 32 := Scalar.subi v104 v106
  let v108 : BitVec 1 := Scalar.cmpi .ne v102 v107
  let v109 : BitVec 32 := Scalar.remsi arg1 c4_i32
  let c0_i32_49 : BitVec 32 := 0#32
  let v110 : BitVec 1 := Scalar.cmpi .ne v109 c0_i32_49
  let v111 : BitVec 1 := Scalar.andi v108 v110
  let v97 : BitVec 32 := Scalar.divsi arg1 c4_i32
  let c1_i32_50 : BitVec 32 := 1#32
  let v112 : BitVec 32 := Scalar.subi v97 c1_i32_50
  let v113 : BitVec 32 := Scalar.select v111 v112 v97
  let v114 : BitVec 32 := Scalar.subi v113 c0_i32_52
  let c1_i32_53 : BitVec 32 := 1#32
  let v116 : BitVec 32 := Scalar.divsi v114 c1_i32_53
  let v117 : BitVec 32 := Scalar.muli v116 c1_i32_53
  let v118 : BitVec 32 := Scalar.addi c0_i32_52 v117
  let c1_i32_55 : BitVec 32 := 1#32
  let arg19 : BitVec 32 := Scf.iv v118 c1_i32_55 k0_t2
  let v593 : BitVec 32 := Scalar.muli c8_i32_420 arg19
  let c6_i32 : BitVec 32 := 6#32
  let v594 : BitVec 32 := Scalar.addi v593 c6_i32
  let c256_i32_434 : BitVec 32 := 256#32
  let v610 : BitVec 32 := Scalar.muli v594 c256_i32_434
  v610
def k0_mult16 (i : grid0.Coords) (k0_t2 : Fin (k0_t2_loop i).trips) : BitVec 32 :=
  let c8_i32_420 : BitVec 32 := 8#32
  let c0_i32_52 : BitVec 32 := 0#32
  let arg1 : BitVec 32 := BitVec.ofNat 32 (i 1).val
  let c0_i32_45 : BitVec 32 := 0#32
  let v98 : BitVec 1 := Scalar.cmpi .sgt arg1 c0_i32_45
  let v99 : BitVec 32 := Scalar.extui v98
  let c0_i32_46 : BitVec 32 := 0#32
  let v100 : BitVec 1 := Scalar.cmpi .slt arg1 c0_i32_46
  let v101 : BitVec 32 := Scalar.extui v100
  let v102 : BitVec 32 := Scalar.subi v99 v101
  let c4_i32 : BitVec 32 := 4#32
  let c0_i32_47 : BitVec 32 := 0#32
  let v103 : BitVec 1 := Scalar.cmpi .sgt c4_i32 c0_i32_47
  let v104 : BitVec 32 := Scalar.extui v103
  let c0_i32_48 : BitVec 32 := 0#32
  let v105 : BitVec 1 := Scalar.cmpi .slt c4_i32 c0_i32_48
  let v106 : BitVec 32 := Scalar.extui v105
  let v107 : BitVec 32 := Scalar.subi v104 v106
  let v108 : BitVec 1 := Scalar.cmpi .ne v102 v107
  let v109 : BitVec 32 := Scalar.remsi arg1 c4_i32
  let c0_i32_49 : BitVec 32 := 0#32
  let v110 : BitVec 1 := Scalar.cmpi .ne v109 c0_i32_49
  let v111 : BitVec 1 := Scalar.andi v108 v110
  let v97 : BitVec 32 := Scalar.divsi arg1 c4_i32
  let c1_i32_50 : BitVec 32 := 1#32
  let v112 : BitVec 32 := Scalar.subi v97 c1_i32_50
  let v113 : BitVec 32 := Scalar.select v111 v112 v97
  let v114 : BitVec 32 := Scalar.subi v113 c0_i32_52
  let c1_i32_53 : BitVec 32 := 1#32
  let v116 : BitVec 32 := Scalar.divsi v114 c1_i32_53
  let v117 : BitVec 32 := Scalar.muli v116 c1_i32_53
  let v118 : BitVec 32 := Scalar.addi c0_i32_52 v117
  let c1_i32_55 : BitVec 32 := 1#32
  let arg19 : BitVec 32 := Scf.iv v118 c1_i32_55 k0_t2
  let v593 : BitVec 32 := Scalar.muli c8_i32_420 arg19
  let c6_i32 : BitVec 32 := 6#32
  let v594 : BitVec 32 := Scalar.addi v593 c6_i32
  let c1_i32_477 : BitVec 32 := 1#32
  let v664 : BitVec 32 := Scalar.addi v594 c1_i32_477
  let c256_i32_478 : BitVec 32 := 256#32
  let v665 : BitVec 32 := Scalar.muli v664 c256_i32_478
  v665
def k0_cond2 (i : grid0.Coords) : BitVec 1 :=
  let arg1 : BitVec 32 := BitVec.ofNat 32 (i 1).val
  let c4_i32_56 : BitVec 32 := 4#32
  let c0_i32_57 : BitVec 32 := 0#32
  let v119 : BitVec 1 := Scalar.cmpi .eq c4_i32_56 c0_i32_57
  let c1_i32_58 : BitVec 32 := 1#32
  let v120 : BitVec 32 := Scalar.select v119 c1_i32_58 c4_i32_56
  let v121 : BitVec 32 := Scalar.remsi arg1 v120
  let c0_i32_60 : BitVec 32 := 0#32
  let v123 : BitVec 1 := Scalar.cmpi .slt v121 c0_i32_60
  let c0_i32_61 : BitVec 32 := 0#32
  let v124 : BitVec 1 := Scalar.cmpi .slt v120 c0_i32_61
  let v125 : BitVec 1 := Scalar.xori v123 v124
  let c0_i32_59 : BitVec 32 := 0#32
  let v122 : BitVec 1 := Scalar.cmpi .ne v121 c0_i32_59
  let v126 : BitVec 1 := Scalar.andi v125 v122
  let v127 : BitVec 32 := Scalar.addi v121 v120
  let v128 : BitVec 32 := Scalar.select v126 v127 v121
  let c2_i32_62 : BitVec 32 := 2#32
  let v129 : BitVec 1 := Scalar.cmpi .sge v128 c2_i32_62
  let v130 : BitVec 32 := Scalar.extui v129
  let c0_i32_63 : BitVec 32 := 0#32
  let v131 : BitVec 1 := Scalar.cmpi .ne v130 c0_i32_63
  v131

def k0_off9 (i : grid0.Coords) (c1_i32_161 : BitVec 32) : Fin 4 → Nat :=
  let c0_162 : Index := 0#32
  let c8_i32 : BitVec 32 := 8#32
  let arg1 : BitVec 32 := BitVec.ofNat 32 (i 1).val
  let c0_i32_155 : BitVec 32 := 0#32
  let v261 : BitVec 1 := Scalar.cmpi .sgt arg1 c0_i32_155
  let v262 : BitVec 32 := Scalar.extui v261
  let c0_i32_156 : BitVec 32 := 0#32
  let v263 : BitVec 1 := Scalar.cmpi .slt arg1 c0_i32_156
  let v264 : BitVec 32 := Scalar.extui v263
  let v265 : BitVec 32 := Scalar.subi v262 v264
  let c4_i32_154 : BitVec 32 := 4#32
  let c0_i32_157 : BitVec 32 := 0#32
  let v266 : BitVec 1 := Scalar.cmpi .sgt c4_i32_154 c0_i32_157
  let v267 : BitVec 32 := Scalar.extui v266
  let c0_i32_158 : BitVec 32 := 0#32
  let v268 : BitVec 1 := Scalar.cmpi .slt c4_i32_154 c0_i32_158
  let v269 : BitVec 32 := Scalar.extui v268
  let v270 : BitVec 32 := Scalar.subi v267 v269
  let v271 : BitVec 1 := Scalar.cmpi .ne v265 v270
  let v272 : BitVec 32 := Scalar.remsi arg1 c4_i32_154
  let c0_i32_159 : BitVec 32 := 0#32
  let v273 : BitVec 1 := Scalar.cmpi .ne v272 c0_i32_159
  let v274 : BitVec 1 := Scalar.andi v271 v273
  let v260 : BitVec 32 := Scalar.divsi arg1 c4_i32_154
  let c1_i32_160 : BitVec 32 := 1#32
  let v275 : BitVec 32 := Scalar.subi v260 c1_i32_160
  let v276 : BitVec 32 := Scalar.select v274 v275 v260
  let v277 : BitVec 32 := Scalar.muli c8_i32 v276
  let v278 : BitVec 32 := Scalar.addi v277 c1_i32_161
  let v279 : Index := Scalar.indexCast v278
  let c0_163 : Index := 0#32
  let c0_164 : Index := 0#32
  ![0, v279.toNat, 0, 0]
def k0_mult17 (i : grid0.Coords) : BitVec 32 :=
  let c8_i32 : BitVec 32 := 8#32
  let arg1 : BitVec 32 := BitVec.ofNat 32 (i 1).val
  let c0_i32_155 : BitVec 32 := 0#32
  let v261 : BitVec 1 := Scalar.cmpi .sgt arg1 c0_i32_155
  let v262 : BitVec 32 := Scalar.extui v261
  let c0_i32_156 : BitVec 32 := 0#32
  let v263 : BitVec 1 := Scalar.cmpi .slt arg1 c0_i32_156
  let v264 : BitVec 32 := Scalar.extui v263
  let v265 : BitVec 32 := Scalar.subi v262 v264
  let c4_i32_154 : BitVec 32 := 4#32
  let c0_i32_157 : BitVec 32 := 0#32
  let v266 : BitVec 1 := Scalar.cmpi .sgt c4_i32_154 c0_i32_157
  let v267 : BitVec 32 := Scalar.extui v266
  let c0_i32_158 : BitVec 32 := 0#32
  let v268 : BitVec 1 := Scalar.cmpi .slt c4_i32_154 c0_i32_158
  let v269 : BitVec 32 := Scalar.extui v268
  let v270 : BitVec 32 := Scalar.subi v267 v269
  let v271 : BitVec 1 := Scalar.cmpi .ne v265 v270
  let v272 : BitVec 32 := Scalar.remsi arg1 c4_i32_154
  let c0_i32_159 : BitVec 32 := 0#32
  let v273 : BitVec 1 := Scalar.cmpi .ne v272 c0_i32_159
  let v274 : BitVec 1 := Scalar.andi v271 v273
  let v260 : BitVec 32 := Scalar.divsi arg1 c4_i32_154
  let c1_i32_160 : BitVec 32 := 1#32
  let v275 : BitVec 32 := Scalar.subi v260 c1_i32_160
  let v276 : BitVec 32 := Scalar.select v274 v275 v260
  let v277 : BitVec 32 := Scalar.muli c8_i32 v276
  let c256_i32_174 : BitVec 32 := 256#32
  let v293 : BitVec 32 := Scalar.muli v277 c256_i32_174
  v293
def k0_off10 (i : grid0.Coords) : Fin 3 → Nat :=
  let c0_185 : Index := 0#32
  let c8_i32 : BitVec 32 := 8#32
  let arg1 : BitVec 32 := BitVec.ofNat 32 (i 1).val
  let c0_i32_155 : BitVec 32 := 0#32
  let v261 : BitVec 1 := Scalar.cmpi .sgt arg1 c0_i32_155
  let v262 : BitVec 32 := Scalar.extui v261
  let c0_i32_156 : BitVec 32 := 0#32
  let v263 : BitVec 1 := Scalar.cmpi .slt arg1 c0_i32_156
  let v264 : BitVec 32 := Scalar.extui v263
  let v265 : BitVec 32 := Scalar.subi v262 v264
  let c4_i32_154 : BitVec 32 := 4#32
  let c0_i32_157 : BitVec 32 := 0#32
  let v266 : BitVec 1 := Scalar.cmpi .sgt c4_i32_154 c0_i32_157
  let v267 : BitVec 32 := Scalar.extui v266
  let c0_i32_158 : BitVec 32 := 0#32
  let v268 : BitVec 1 := Scalar.cmpi .slt c4_i32_154 c0_i32_158
  let v269 : BitVec 32 := Scalar.extui v268
  let v270 : BitVec 32 := Scalar.subi v267 v269
  let v271 : BitVec 1 := Scalar.cmpi .ne v265 v270
  let v272 : BitVec 32 := Scalar.remsi arg1 c4_i32_154
  let c0_i32_159 : BitVec 32 := 0#32
  let v273 : BitVec 1 := Scalar.cmpi .ne v272 c0_i32_159
  let v274 : BitVec 1 := Scalar.andi v271 v273
  let v260 : BitVec 32 := Scalar.divsi arg1 c4_i32_154
  let c1_i32_160 : BitVec 32 := 1#32
  let v275 : BitVec 32 := Scalar.subi v260 c1_i32_160
  let v276 : BitVec 32 := Scalar.select v274 v275 v260
  let v277 : BitVec 32 := Scalar.muli c8_i32 v276
  let c256_i32_174 : BitVec 32 := 256#32
  let v293 : BitVec 32 := Scalar.muli v277 c256_i32_174
  let v294 : BitVec 32 := v293
  let v305 : Index := Scalar.indexCast v294
  let c0_186 : Index := 0#32
  ![0, v305.toNat, 0]
def k0_off11 (i : grid0.Coords) : Fin 4 → Nat :=
  let c0_190 : Index := 0#32
  let c8_i32 : BitVec 32 := 8#32
  let arg1 : BitVec 32 := BitVec.ofNat 32 (i 1).val
  let c0_i32_155 : BitVec 32 := 0#32
  let v261 : BitVec 1 := Scalar.cmpi .sgt arg1 c0_i32_155
  let v262 : BitVec 32 := Scalar.extui v261
  let c0_i32_156 : BitVec 32 := 0#32
  let v263 : BitVec 1 := Scalar.cmpi .slt arg1 c0_i32_156
  let v264 : BitVec 32 := Scalar.extui v263
  let v265 : BitVec 32 := Scalar.subi v262 v264
  let c4_i32_154 : BitVec 32 := 4#32
  let c0_i32_157 : BitVec 32 := 0#32
  let v266 : BitVec 1 := Scalar.cmpi .sgt c4_i32_154 c0_i32_157
  let v267 : BitVec 32 := Scalar.extui v266
  let c0_i32_158 : BitVec 32 := 0#32
  let v268 : BitVec 1 := Scalar.cmpi .slt c4_i32_154 c0_i32_158
  let v269 : BitVec 32 := Scalar.extui v268
  let v270 : BitVec 32 := Scalar.subi v267 v269
  let v271 : BitVec 1 := Scalar.cmpi .ne v265 v270
  let v272 : BitVec 32 := Scalar.remsi arg1 c4_i32_154
  let c0_i32_159 : BitVec 32 := 0#32
  let v273 : BitVec 1 := Scalar.cmpi .ne v272 c0_i32_159
  let v274 : BitVec 1 := Scalar.andi v271 v273
  let v260 : BitVec 32 := Scalar.divsi arg1 c4_i32_154
  let c1_i32_160 : BitVec 32 := 1#32
  let v275 : BitVec 32 := Scalar.subi v260 c1_i32_160
  let v276 : BitVec 32 := Scalar.select v274 v275 v260
  let v277 : BitVec 32 := Scalar.muli c8_i32 v276
  let v313 : Index := Scalar.indexCast v277
  let c0_191 : Index := 0#32
  let c0_192 : Index := 0#32
  ![0, v313.toNat, 0, 0]
def k0_mult18 (i : grid0.Coords) : BitVec 32 :=
  let c8_i32 : BitVec 32 := 8#32
  let arg1 : BitVec 32 := BitVec.ofNat 32 (i 1).val
  let c0_i32_155 : BitVec 32 := 0#32
  let v261 : BitVec 1 := Scalar.cmpi .sgt arg1 c0_i32_155
  let v262 : BitVec 32 := Scalar.extui v261
  let c0_i32_156 : BitVec 32 := 0#32
  let v263 : BitVec 1 := Scalar.cmpi .slt arg1 c0_i32_156
  let v264 : BitVec 32 := Scalar.extui v263
  let v265 : BitVec 32 := Scalar.subi v262 v264
  let c4_i32_154 : BitVec 32 := 4#32
  let c0_i32_157 : BitVec 32 := 0#32
  let v266 : BitVec 1 := Scalar.cmpi .sgt c4_i32_154 c0_i32_157
  let v267 : BitVec 32 := Scalar.extui v266
  let c0_i32_158 : BitVec 32 := 0#32
  let v268 : BitVec 1 := Scalar.cmpi .slt c4_i32_154 c0_i32_158
  let v269 : BitVec 32 := Scalar.extui v268
  let v270 : BitVec 32 := Scalar.subi v267 v269
  let v271 : BitVec 1 := Scalar.cmpi .ne v265 v270
  let v272 : BitVec 32 := Scalar.remsi arg1 c4_i32_154
  let c0_i32_159 : BitVec 32 := 0#32
  let v273 : BitVec 1 := Scalar.cmpi .ne v272 c0_i32_159
  let v274 : BitVec 1 := Scalar.andi v271 v273
  let v260 : BitVec 32 := Scalar.divsi arg1 c4_i32_154
  let c1_i32_160 : BitVec 32 := 1#32
  let v275 : BitVec 32 := Scalar.subi v260 c1_i32_160
  let v276 : BitVec 32 := Scalar.select v274 v275 v260
  let v277 : BitVec 32 := Scalar.muli c8_i32 v276
  let c1_i32_217 : BitVec 32 := 1#32
  let v347 : BitVec 32 := Scalar.addi v277 c1_i32_217
  let c256_i32_218 : BitVec 32 := 256#32
  let v348 : BitVec 32 := Scalar.muli v347 c256_i32_218
  v348
def k0_off12 (i : grid0.Coords) (c1_i32_217 : BitVec 32) : Fin 3 → Nat :=
  let c0_229 : Index := 0#32
  let c8_i32 : BitVec 32 := 8#32
  let arg1 : BitVec 32 := BitVec.ofNat 32 (i 1).val
  let c0_i32_155 : BitVec 32 := 0#32
  let v261 : BitVec 1 := Scalar.cmpi .sgt arg1 c0_i32_155
  let v262 : BitVec 32 := Scalar.extui v261
  let c0_i32_156 : BitVec 32 := 0#32
  let v263 : BitVec 1 := Scalar.cmpi .slt arg1 c0_i32_156
  let v264 : BitVec 32 := Scalar.extui v263
  let v265 : BitVec 32 := Scalar.subi v262 v264
  let c4_i32_154 : BitVec 32 := 4#32
  let c0_i32_157 : BitVec 32 := 0#32
  let v266 : BitVec 1 := Scalar.cmpi .sgt c4_i32_154 c0_i32_157
  let v267 : BitVec 32 := Scalar.extui v266
  let c0_i32_158 : BitVec 32 := 0#32
  let v268 : BitVec 1 := Scalar.cmpi .slt c4_i32_154 c0_i32_158
  let v269 : BitVec 32 := Scalar.extui v268
  let v270 : BitVec 32 := Scalar.subi v267 v269
  let v271 : BitVec 1 := Scalar.cmpi .ne v265 v270
  let v272 : BitVec 32 := Scalar.remsi arg1 c4_i32_154
  let c0_i32_159 : BitVec 32 := 0#32
  let v273 : BitVec 1 := Scalar.cmpi .ne v272 c0_i32_159
  let v274 : BitVec 1 := Scalar.andi v271 v273
  let v260 : BitVec 32 := Scalar.divsi arg1 c4_i32_154
  let c1_i32_160 : BitVec 32 := 1#32
  let v275 : BitVec 32 := Scalar.subi v260 c1_i32_160
  let v276 : BitVec 32 := Scalar.select v274 v275 v260
  let v277 : BitVec 32 := Scalar.muli c8_i32 v276
  let v347 : BitVec 32 := Scalar.addi v277 c1_i32_217
  let c256_i32_218 : BitVec 32 := 256#32
  let v348 : BitVec 32 := Scalar.muli v347 c256_i32_218
  let v349 : BitVec 32 := v348
  let v360 : Index := Scalar.indexCast v349
  let c0_230 : Index := 0#32
  ![0, v360.toNat, 0]
def k0_off13 (i : grid0.Coords) (c1_i32_257 : BitVec 32) : Fin 4 → Nat :=
  let c0_258 : Index := 0#32
  let c8_i32_255 : BitVec 32 := 8#32
  let arg1 : BitVec 32 := BitVec.ofNat 32 (i 1).val
  let c0_i32_249 : BitVec 32 := 0#32
  let v388 : BitVec 1 := Scalar.cmpi .sgt arg1 c0_i32_249
  let v389 : BitVec 32 := Scalar.extui v388
  let c0_i32_250 : BitVec 32 := 0#32
  let v390 : BitVec 1 := Scalar.cmpi .slt arg1 c0_i32_250
  let v391 : BitVec 32 := Scalar.extui v390
  let v392 : BitVec 32 := Scalar.subi v389 v391
  let c4_i32_248 : BitVec 32 := 4#32
  let c0_i32_251 : BitVec 32 := 0#32
  let v393 : BitVec 1 := Scalar.cmpi .sgt c4_i32_248 c0_i32_251
  let v394 : BitVec 32 := Scalar.extui v393
  let c0_i32_252 : BitVec 32 := 0#32
  let v395 : BitVec 1 := Scalar.cmpi .slt c4_i32_248 c0_i32_252
  let v396 : BitVec 32 := Scalar.extui v395
  let v397 : BitVec 32 := Scalar.subi v394 v396
  let v398 : BitVec 1 := Scalar.cmpi .ne v392 v397
  let v399 : BitVec 32 := Scalar.remsi arg1 c4_i32_248
  let c0_i32_253 : BitVec 32 := 0#32
  let v400 : BitVec 1 := Scalar.cmpi .ne v399 c0_i32_253
  let v401 : BitVec 1 := Scalar.andi v398 v400
  let v387 : BitVec 32 := Scalar.divsi arg1 c4_i32_248
  let c1_i32_254 : BitVec 32 := 1#32
  let v402 : BitVec 32 := Scalar.subi v387 c1_i32_254
  let v403 : BitVec 32 := Scalar.select v401 v402 v387
  let v404 : BitVec 32 := Scalar.muli c8_i32_255 v403
  let c2_i32_256 : BitVec 32 := 2#32
  let v405 : BitVec 32 := Scalar.addi v404 c2_i32_256
  let v406 : BitVec 32 := Scalar.addi v405 c1_i32_257
  let v407 : Index := Scalar.indexCast v406
  let c0_259 : Index := 0#32
  let c0_260 : Index := 0#32
  ![0, v407.toNat, 0, 0]
def k0_mult19 (i : grid0.Coords) : BitVec 32 :=
  let c8_i32_255 : BitVec 32 := 8#32
  let arg1 : BitVec 32 := BitVec.ofNat 32 (i 1).val
  let c0_i32_249 : BitVec 32 := 0#32
  let v388 : BitVec 1 := Scalar.cmpi .sgt arg1 c0_i32_249
  let v389 : BitVec 32 := Scalar.extui v388
  let c0_i32_250 : BitVec 32 := 0#32
  let v390 : BitVec 1 := Scalar.cmpi .slt arg1 c0_i32_250
  let v391 : BitVec 32 := Scalar.extui v390
  let v392 : BitVec 32 := Scalar.subi v389 v391
  let c4_i32_248 : BitVec 32 := 4#32
  let c0_i32_251 : BitVec 32 := 0#32
  let v393 : BitVec 1 := Scalar.cmpi .sgt c4_i32_248 c0_i32_251
  let v394 : BitVec 32 := Scalar.extui v393
  let c0_i32_252 : BitVec 32 := 0#32
  let v395 : BitVec 1 := Scalar.cmpi .slt c4_i32_248 c0_i32_252
  let v396 : BitVec 32 := Scalar.extui v395
  let v397 : BitVec 32 := Scalar.subi v394 v396
  let v398 : BitVec 1 := Scalar.cmpi .ne v392 v397
  let v399 : BitVec 32 := Scalar.remsi arg1 c4_i32_248
  let c0_i32_253 : BitVec 32 := 0#32
  let v400 : BitVec 1 := Scalar.cmpi .ne v399 c0_i32_253
  let v401 : BitVec 1 := Scalar.andi v398 v400
  let v387 : BitVec 32 := Scalar.divsi arg1 c4_i32_248
  let c1_i32_254 : BitVec 32 := 1#32
  let v402 : BitVec 32 := Scalar.subi v387 c1_i32_254
  let v403 : BitVec 32 := Scalar.select v401 v402 v387
  let v404 : BitVec 32 := Scalar.muli c8_i32_255 v403
  let c2_i32_256 : BitVec 32 := 2#32
  let v405 : BitVec 32 := Scalar.addi v404 c2_i32_256
  let c256_i32_270 : BitVec 32 := 256#32
  let v421 : BitVec 32 := Scalar.muli v405 c256_i32_270
  v421
def k0_mult20 (i : grid0.Coords) : BitVec 32 :=
  let c8_i32_255 : BitVec 32 := 8#32
  let arg1 : BitVec 32 := BitVec.ofNat 32 (i 1).val
  let c0_i32_249 : BitVec 32 := 0#32
  let v388 : BitVec 1 := Scalar.cmpi .sgt arg1 c0_i32_249
  let v389 : BitVec 32 := Scalar.extui v388
  let c0_i32_250 : BitVec 32 := 0#32
  let v390 : BitVec 1 := Scalar.cmpi .slt arg1 c0_i32_250
  let v391 : BitVec 32 := Scalar.extui v390
  let v392 : BitVec 32 := Scalar.subi v389 v391
  let c4_i32_248 : BitVec 32 := 4#32
  let c0_i32_251 : BitVec 32 := 0#32
  let v393 : BitVec 1 := Scalar.cmpi .sgt c4_i32_248 c0_i32_251
  let v394 : BitVec 32 := Scalar.extui v393
  let c0_i32_252 : BitVec 32 := 0#32
  let v395 : BitVec 1 := Scalar.cmpi .slt c4_i32_248 c0_i32_252
  let v396 : BitVec 32 := Scalar.extui v395
  let v397 : BitVec 32 := Scalar.subi v394 v396
  let v398 : BitVec 1 := Scalar.cmpi .ne v392 v397
  let v399 : BitVec 32 := Scalar.remsi arg1 c4_i32_248
  let c0_i32_253 : BitVec 32 := 0#32
  let v400 : BitVec 1 := Scalar.cmpi .ne v399 c0_i32_253
  let v401 : BitVec 1 := Scalar.andi v398 v400
  let v387 : BitVec 32 := Scalar.divsi arg1 c4_i32_248
  let c1_i32_254 : BitVec 32 := 1#32
  let v402 : BitVec 32 := Scalar.subi v387 c1_i32_254
  let v403 : BitVec 32 := Scalar.select v401 v402 v387
  let v404 : BitVec 32 := Scalar.muli c8_i32_255 v403
  let c2_i32_256 : BitVec 32 := 2#32
  let v405 : BitVec 32 := Scalar.addi v404 c2_i32_256
  let c1_i32_313 : BitVec 32 := 1#32
  let v475 : BitVec 32 := Scalar.addi v405 c1_i32_313
  let c256_i32_314 : BitVec 32 := 256#32
  let v476 : BitVec 32 := Scalar.muli v475 c256_i32_314
  v476
def k0_off14 (i : grid0.Coords) : Fin 3 → Nat :=
  let c0_325 : Index := 0#32
  let c8_i32_255 : BitVec 32 := 8#32
  let arg1 : BitVec 32 := BitVec.ofNat 32 (i 1).val
  let c0_i32_249 : BitVec 32 := 0#32
  let v388 : BitVec 1 := Scalar.cmpi .sgt arg1 c0_i32_249
  let v389 : BitVec 32 := Scalar.extui v388
  let c0_i32_250 : BitVec 32 := 0#32
  let v390 : BitVec 1 := Scalar.cmpi .slt arg1 c0_i32_250
  let v391 : BitVec 32 := Scalar.extui v390
  let v392 : BitVec 32 := Scalar.subi v389 v391
  let c4_i32_248 : BitVec 32 := 4#32
  let c0_i32_251 : BitVec 32 := 0#32
  let v393 : BitVec 1 := Scalar.cmpi .sgt c4_i32_248 c0_i32_251
  let v394 : BitVec 32 := Scalar.extui v393
  let c0_i32_252 : BitVec 32 := 0#32
  let v395 : BitVec 1 := Scalar.cmpi .slt c4_i32_248 c0_i32_252
  let v396 : BitVec 32 := Scalar.extui v395
  let v397 : BitVec 32 := Scalar.subi v394 v396
  let v398 : BitVec 1 := Scalar.cmpi .ne v392 v397
  let v399 : BitVec 32 := Scalar.remsi arg1 c4_i32_248
  let c0_i32_253 : BitVec 32 := 0#32
  let v400 : BitVec 1 := Scalar.cmpi .ne v399 c0_i32_253
  let v401 : BitVec 1 := Scalar.andi v398 v400
  let v387 : BitVec 32 := Scalar.divsi arg1 c4_i32_248
  let c1_i32_254 : BitVec 32 := 1#32
  let v402 : BitVec 32 := Scalar.subi v387 c1_i32_254
  let v403 : BitVec 32 := Scalar.select v401 v402 v387
  let v404 : BitVec 32 := Scalar.muli c8_i32_255 v403
  let c2_i32_256 : BitVec 32 := 2#32
  let v405 : BitVec 32 := Scalar.addi v404 c2_i32_256
  let c1_i32_313 : BitVec 32 := 1#32
  let v475 : BitVec 32 := Scalar.addi v405 c1_i32_313
  let c256_i32_314 : BitVec 32 := 256#32
  let v476 : BitVec 32 := Scalar.muli v475 c256_i32_314
  let v477 : BitVec 32 := v476
  let v488 : Index := Scalar.indexCast v477
  let c0_326 : Index := 0#32
  ![0, v488.toNat, 0]
def k0_cond3 (i : grid0.Coords) : BitVec 1 :=
  let arg1 : BitVec 32 := BitVec.ofNat 32 (i 1).val
  let c2_i32_64 : BitVec 32 := 2#32
  let c0_i32_65 : BitVec 32 := 0#32
  let v132 : BitVec 1 := Scalar.cmpi .eq c2_i32_64 c0_i32_65
  let c1_i32_66 : BitVec 32 := 1#32
  let v133 : BitVec 32 := Scalar.select v132 c1_i32_66 c2_i32_64
  let v134 : BitVec 32 := Scalar.remsi arg1 v133
  let c0_i32_68 : BitVec 32 := 0#32
  let v136 : BitVec 1 := Scalar.cmpi .slt v134 c0_i32_68
  let c0_i32_69 : BitVec 32 := 0#32
  let v137 : BitVec 1 := Scalar.cmpi .slt v133 c0_i32_69
  let v138 : BitVec 1 := Scalar.xori v136 v137
  let c0_i32_67 : BitVec 32 := 0#32
  let v135 : BitVec 1 := Scalar.cmpi .ne v134 c0_i32_67
  let v139 : BitVec 1 := Scalar.andi v138 v135
  let v140 : BitVec 32 := Scalar.addi v134 v133
  let v141 : BitVec 32 := Scalar.select v139 v140 v134
  let c1_i32_70 : BitVec 32 := 1#32
  let v142 : BitVec 1 := Scalar.cmpi .eq v141 c1_i32_70
  let v143 : BitVec 32 := Scalar.extui v142
  let c0_i32_71 : BitVec 32 := 0#32
  let v144 : BitVec 1 := Scalar.cmpi .ne v143 c0_i32_71
  v144

def k0_off15 (i : grid0.Coords) (c1_i32_156 : BitVec 32) : Fin 4 → Nat :=
  let c0_157 : Index := 0#32
  let c2_i32_154 : BitVec 32 := 2#32
  let arg1 : BitVec 32 := BitVec.ofNat 32 (i 1).val
  let v260 : BitVec 32 := Scalar.muli c2_i32_154 arg1
  let c2_i32_155 : BitVec 32 := 2#32
  let v261 : BitVec 32 := Scalar.subi v260 c2_i32_155
  let v262 : BitVec 32 := Scalar.addi v261 c1_i32_156
  let v263 : Index := Scalar.indexCast v262
  let c0_158 : Index := 0#32
  let c0_159 : Index := 0#32
  ![0, v263.toNat, 0, 0]
def k0_mult21 (i : grid0.Coords) : BitVec 32 :=
  let c2_i32_154 : BitVec 32 := 2#32
  let arg1 : BitVec 32 := BitVec.ofNat 32 (i 1).val
  let v260 : BitVec 32 := Scalar.muli c2_i32_154 arg1
  let c2_i32_155 : BitVec 32 := 2#32
  let v261 : BitVec 32 := Scalar.subi v260 c2_i32_155
  let c256_i32_169 : BitVec 32 := 256#32
  let v277 : BitVec 32 := Scalar.muli v261 c256_i32_169
  v277
def k0_off16 (i : grid0.Coords) : Fin 3 → Nat :=
  let c0_180 : Index := 0#32
  let c2_i32_154 : BitVec 32 := 2#32
  let arg1 : BitVec 32 := BitVec.ofNat 32 (i 1).val
  let v260 : BitVec 32 := Scalar.muli c2_i32_154 arg1
  let c2_i32_155 : BitVec 32 := 2#32
  let v261 : BitVec 32 := Scalar.subi v260 c2_i32_155
  let c256_i32_169 : BitVec 32 := 256#32
  let v277 : BitVec 32 := Scalar.muli v261 c256_i32_169
  let v278 : BitVec 32 := v277
  let v289 : Index := Scalar.indexCast v278
  let c0_181 : Index := 0#32
  ![0, v289.toNat, 0]
def k0_off17 (i : grid0.Coords) : Fin 4 → Nat :=
  let c0_185 : Index := 0#32
  let c2_i32_154 : BitVec 32 := 2#32
  let arg1 : BitVec 32 := BitVec.ofNat 32 (i 1).val
  let v260 : BitVec 32 := Scalar.muli c2_i32_154 arg1
  let c2_i32_155 : BitVec 32 := 2#32
  let v261 : BitVec 32 := Scalar.subi v260 c2_i32_155
  let v297 : Index := Scalar.indexCast v261
  let c0_186 : Index := 0#32
  let c0_187 : Index := 0#32
  ![0, v297.toNat, 0, 0]
def k0_mult22 (i : grid0.Coords) : BitVec 32 :=
  let c2_i32_154 : BitVec 32 := 2#32
  let arg1 : BitVec 32 := BitVec.ofNat 32 (i 1).val
  let v260 : BitVec 32 := Scalar.muli c2_i32_154 arg1
  let c2_i32_155 : BitVec 32 := 2#32
  let v261 : BitVec 32 := Scalar.subi v260 c2_i32_155
  let c1_i32_212 : BitVec 32 := 1#32
  let v331 : BitVec 32 := Scalar.addi v261 c1_i32_212
  let c256_i32_213 : BitVec 32 := 256#32
  let v332 : BitVec 32 := Scalar.muli v331 c256_i32_213
  v332
def k0_off18 (i : grid0.Coords) : Fin 3 → Nat :=
  let c0_224 : Index := 0#32
  let c2_i32_154 : BitVec 32 := 2#32
  let arg1 : BitVec 32 := BitVec.ofNat 32 (i 1).val
  let v260 : BitVec 32 := Scalar.muli c2_i32_154 arg1
  let c2_i32_155 : BitVec 32 := 2#32
  let v261 : BitVec 32 := Scalar.subi v260 c2_i32_155
  let c1_i32_212 : BitVec 32 := 1#32
  let v331 : BitVec 32 := Scalar.addi v261 c1_i32_212
  let c256_i32_213 : BitVec 32 := 256#32
  let v332 : BitVec 32 := Scalar.muli v331 c256_i32_213
  let v333 : BitVec 32 := v332
  let v344 : Index := Scalar.indexCast v333
  let c0_225 : Index := 0#32
  ![0, v344.toNat, 0]
def k0_off19 (i : grid0.Coords) : Fin 4 → Nat :=
  let c0_74 : Index := 0#32
  let c2_i32_72 : BitVec 32 := 2#32
  let arg1 : BitVec 32 := BitVec.ofNat 32 (i 1).val
  let v145 : BitVec 32 := Scalar.muli c2_i32_72 arg1
  let c1_i32_73 : BitVec 32 := 1#32
  let v146 : BitVec 32 := Scalar.addi v145 c1_i32_73
  let v148 : Index := Scalar.indexCast v146
  let c0_75 : Index := 0#32
  let c0_76 : Index := 0#32
  ![0, v148.toNat, 0, 0]
def k0_mult23 (i : grid0.Coords) : BitVec 32 :=
  let c2_i32_85 : BitVec 32 := 2#32
  let arg1 : BitVec 32 := BitVec.ofNat 32 (i 1).val
  let v163 : BitVec 32 := Scalar.muli c2_i32_85 arg1
  let c256_i32 : BitVec 32 := 256#32
  let v164 : BitVec 32 := Scalar.muli v163 c256_i32
  v164
def k0_off20 (i : grid0.Coords) : Fin 3 → Nat :=
  let c0_98 : Index := 0#32
  let c2_i32_85 : BitVec 32 := 2#32
  let arg1 : BitVec 32 := BitVec.ofNat 32 (i 1).val
  let v163 : BitVec 32 := Scalar.muli c2_i32_85 arg1
  let c256_i32 : BitVec 32 := 256#32
  let v164 : BitVec 32 := Scalar.muli v163 c256_i32
  let v165 : BitVec 32 := v164
  let v181 : Index := Scalar.indexCast v165
  let c0_99 : Index := 0#32
  ![0, v181.toNat, 0]
def k0_off21 (i : grid0.Coords) : Fin 4 → Nat :=
  let c0_103 : Index := 0#32
  let c2_i32_85 : BitVec 32 := 2#32
  let arg1 : BitVec 32 := BitVec.ofNat 32 (i 1).val
  let v163 : BitVec 32 := Scalar.muli c2_i32_85 arg1
  let v189 : Index := Scalar.indexCast v163
  let c0_104 : Index := 0#32
  let c0_105 : Index := 0#32
  ![0, v189.toNat, 0, 0]
def k0_mult24 (i : grid0.Coords) : BitVec 32 :=
  let c2_i32_72 : BitVec 32 := 2#32
  let arg1 : BitVec 32 := BitVec.ofNat 32 (i 1).val
  let v145 : BitVec 32 := Scalar.muli c2_i32_72 arg1
  let c1_i32_73 : BitVec 32 := 1#32
  let v146 : BitVec 32 := Scalar.addi v145 c1_i32_73
  let c256_i32_129 : BitVec 32 := 256#32
  let v225 : BitVec 32 := Scalar.muli v146 c256_i32_129
  v225
def k0_off22 (i : grid0.Coords) : Fin 3 → Nat :=
  let c0_130 : Index := 0#32
  let c2_i32_72 : BitVec 32 := 2#32
  let arg1 : BitVec 32 := BitVec.ofNat 32 (i 1).val
  let v145 : BitVec 32 := Scalar.muli c2_i32_72 arg1
  let c1_i32_73 : BitVec 32 := 1#32
  let v146 : BitVec 32 := Scalar.addi v145 c1_i32_73
  let c256_i32_129 : BitVec 32 := 256#32
  let v225 : BitVec 32 := Scalar.muli v146 c256_i32_129
  let v226 : BitVec 32 := v225
  let v227 : Index := Scalar.indexCast v226
  let c0_131 : Index := 0#32
  ![0, v227.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg1.toNat, v16.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg1.toNat, v16.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x32x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x32x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x32x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S8192x8x96 : Shape := ⟨3, ![8192, 8, 96]⟩
abbrev S8192x8x64 : Shape := ⟨3, ![8192, 8, 64]⟩
abbrev S8192x512 : Shape := ⟨2, ![8192, 512]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x64x8192 : Shape := ⟨3, ![8, 64, 8192]⟩
abbrev S8x8192x96 : Shape := ⟨3, ![8, 8192, 96]⟩

abbrev nBuf : Space → Nat
  | .hbm => 92
  | .vmem => 0
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S8192x512, .f32⟩
  | .hbm, ⟨4, _⟩ => ⟨S8x8192x8192, .f32⟩
  | .hbm, ⟨5, _⟩ => ⟨S_, .f32⟩
  | .hbm, ⟨6, _⟩ => ⟨S8x8192x8192, .f32⟩
  | .hbm, ⟨7, _⟩ => ⟨S8x8192x8192, .f32⟩
  | .hbm, ⟨8, _⟩ => ⟨S8192, .i32⟩
  | .hbm, ⟨9, _⟩ => ⟨S1x8192, .i32⟩
  | .hbm, ⟨10, _⟩ => ⟨S8192x1, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S1x8192x8192, .i1⟩
  | .hbm, ⟨15, _⟩ => ⟨S_, .f32⟩
  | .hbm, ⟨16, _⟩ => ⟨S_, .f32⟩
  | .hbm, ⟨17, _⟩ => ⟨S8x8192x8192, .i1⟩
  | .hbm, ⟨18, _⟩ => ⟨S8x8192x8192, .f32⟩
  | .hbm, ⟨19, _⟩ => ⟨S8x8192x8192, .f32⟩
  | .hbm, ⟨20, _⟩ => ⟨S_, .f32⟩
  | .hbm, ⟨21, _⟩ => ⟨S8x8192x8192, .f32⟩
  | .hbm, ⟨22, _⟩ => ⟨S_, .f32⟩
  | .hbm, ⟨23, _⟩ => ⟨S8x8192, .f32⟩
  | .hbm, ⟨24, _⟩ => ⟨S8x8192x1, .f32⟩
  | .hbm, ⟨25, _⟩ => ⟨S8x8192x8192, .f32⟩
  | .hbm, ⟨26, _⟩ => ⟨S8x8192x8192, .i1⟩
  | .hbm, ⟨27, _⟩ => ⟨S8x8192x8192, .f32⟩
  | .hbm, ⟨28, _⟩ => ⟨S_, .f32⟩
  | .hbm, ⟨29, _⟩ => ⟨S8x8192, .f32⟩
  | .hbm, ⟨30, _⟩ => ⟨S_, .f32⟩
  | .hbm, ⟨31, _⟩ => ⟨S8x8192, .f32⟩
  | .hbm, ⟨32, _⟩ => ⟨S8x8192, .f32⟩
  | .hbm, ⟨33, _⟩ => ⟨S_, .f32⟩
  | .hbm, ⟨34, _⟩ => ⟨S8x8192, .f32⟩
  | .hbm, ⟨35, _⟩ => ⟨S8x8192, .i1⟩
  | .hbm, ⟨36, _⟩ => ⟨S_, .f32⟩
  | .hbm, ⟨37, _⟩ => ⟨S8x8192, .f32⟩
  | .hbm, ⟨38, _⟩ => ⟨S8x8192, .i1⟩
  | .hbm, ⟨39, _⟩ => ⟨S_, .f32⟩
  | .hbm, ⟨40, _⟩ => ⟨S8x8192, .f32⟩
  | .hbm, ⟨41, _⟩ => ⟨S_, .f32⟩
  | .hbm, ⟨42, _⟩ => ⟨S8x8192, .f32⟩
  | .hbm, ⟨43, _⟩ => ⟨S_, .f32⟩
  | .hbm, ⟨44, _⟩ => ⟨S8x8192, .f32⟩
  | .hbm, ⟨45, _⟩ => ⟨S8x8192, .f32⟩
  | .hbm, ⟨46, _⟩ => ⟨S8x8192, .f32⟩
  | .hbm, ⟨47, _⟩ => ⟨S8x8192x1, .f32⟩
  | .hbm, ⟨48, _⟩ => ⟨S8x8192x8192, .f32⟩
  | .hbm, ⟨49, _⟩ => ⟨S8x8192x8192, .f32⟩
  | .hbm, ⟨50, _⟩ => ⟨S8x8192x8192, .f32⟩
  | .hbm, ⟨51, _⟩ => ⟨S_, .f32⟩
  | .hbm, ⟨52, _⟩ => ⟨S8x8192, .f32⟩
  | .hbm, ⟨53, _⟩ => ⟨S8x8192x1, .f32⟩
  | .hbm, ⟨54, _⟩ => ⟨S8x8192x8192, .f32⟩
  | .hbm, ⟨55, _⟩ => ⟨S8x8192x8192, .f32⟩
  | .hbm, ⟨56, _⟩ => ⟨S8x8192x1, .f32⟩
  | .hbm, ⟨57, _⟩ => ⟨S_, .f32⟩
  | .hbm, ⟨58, _⟩ => ⟨S8x8192x1, .f32⟩
  | .hbm, ⟨59, _⟩ => ⟨S8x8192x1, .f32⟩
  | .hbm, ⟨60, _⟩ => ⟨S8x64x8192, .f32⟩
  | .hbm, ⟨61, _⟩ => ⟨S8192x8x64, .f32⟩
  | .hbm, ⟨62, _⟩ => ⟨S8192x512, .f32⟩
  | .hbm, ⟨63, _⟩ => ⟨S8192x8x64, .f32⟩
  | .hbm, ⟨64, _⟩ => ⟨S8x64x8192, .f32⟩
  | .hbm, ⟨65, _⟩ => ⟨S8x8192x8192, .f32⟩
  | .hbm, ⟨66, _⟩ => ⟨S8x64x8192, .f32⟩
  | .hbm, ⟨67, _⟩ => ⟨S8192x8x64, .f32⟩
  | .hbm, ⟨68, _⟩ => ⟨S8x8192x8192, .f32⟩
  | .hbm, ⟨69, _⟩ => ⟨S8x8192x8192, .f32⟩
  | .hbm, ⟨70, _⟩ => ⟨S8x8192x8192, .f32⟩
  | .hbm, ⟨71, _⟩ => ⟨S_, .f32⟩
  | .hbm, ⟨72, _⟩ => ⟨S8x8192, .f32⟩
  | .hbm, ⟨73, _⟩ => ⟨S8x8192x1, .f32⟩
  | .hbm, ⟨74, _⟩ => ⟨S8x8192x1, .f32⟩
  | .hbm, ⟨75, _⟩ => ⟨S8x8192x8192, .f32⟩
  | .hbm, ⟨76, _⟩ => ⟨S8x8192x8192, .f32⟩
  | .hbm, ⟨77, _⟩ => ⟨S_, .f32⟩
  | .hbm, ⟨78, _⟩ => ⟨S8x8192, .f32⟩
  | .hbm, ⟨79, _⟩ => ⟨S8x8192x8192, .f32⟩
  | .hbm, ⟨80, _⟩ => ⟨S8x8192x8192, .f32⟩
  | .hbm, ⟨81, _⟩ => ⟨S8x8192x8192, .f32⟩
  | .hbm, ⟨82, _⟩ => ⟨S_, .f32⟩
  | .hbm, ⟨83, _⟩ => ⟨S8x8192x8192, .f32⟩
  | .hbm, ⟨84, _⟩ => ⟨S8x8192x8192, .f32⟩
  | .hbm, ⟨85, _⟩ => ⟨S_, .f32⟩
  | .hbm, ⟨86, _⟩ => ⟨S8x8192x8192, .f32⟩
  | .hbm, ⟨87, _⟩ => ⟨S8x8192x8192, .f32⟩
  | .hbm, ⟨88, _⟩ => ⟨S8x8192x96, .f32⟩
  | .hbm, ⟨89, _⟩ => ⟨S8192x8x96, .f32⟩
  | .hbm, ⟨90, _⟩ => ⟨S8x8192x96, .f32⟩
  | .hbm, ⟨91, _⟩ => ⟨S8192x8x96, .f32⟩
  | _, _ => ⟨S8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_v10_1 : Ref sig .tc := ⟨.hbm, 17, rfl⟩
abbrev main_call0_v2 : Ref sig .tc := ⟨.hbm, 18, rfl⟩
abbrev main_v10_0 : Ref sig .tc := ⟨.hbm, 19, rfl⟩
abbrev main_call0_cst : Ref sig .tc := ⟨.hbm, 20, rfl⟩
abbrev main_v10_2 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_call1_cst : Ref sig .tc := ⟨.hbm, 82, rfl⟩
abbrev main_call1_v0 : Ref sig .tc := ⟨.hbm, 83, rfl⟩
abbrev main_v59 : Ref sig .tc := ⟨.hbm, 84, rfl⟩
abbrev main_cst_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩

abbrev nD : Nat := 1
abbrev τ : Topo := Topo.v7x

variable {F : FTy → Type} [FloatOps F]
-- ==== Kernel2.lean ====
abbrev S8192x1024 : Shape := ⟨2, ![8192, 1024]⟩
abbrev S1024 : Shape := ⟨1, ![1024]⟩
abbrev S1024x4256 : Shape := ⟨2, ![1024, 4256]⟩
abbrev S1x1024 : Shape := ⟨2, ![1, 1024]⟩
abbrev S4256x1024 : Shape := ⟨2, ![4256, 1024]⟩
abbrev S2560x1024 : Shape := ⟨2, ![2560, 1024]⟩
abbrev S512x1024 : Shape := ⟨2, ![512, 1024]⟩
abbrev S384x1024 : Shape := ⟨2, ![384, 1024]⟩
abbrev S_ : Shape := ⟨0, ![]⟩
abbrev S64x1024 : Shape := ⟨2, ![64, 1024]⟩
abbrev S32x1024 : Shape := ⟨2, ![32, 1024]⟩
abbrev S128x1024 : Shape := ⟨2, ![128, 1024]⟩
abbrev S4352x1024 : Shape := ⟨2, ![4352, 1024]⟩
abbrev S1024x4352 : Shape := ⟨2, ![1024, 4352]⟩
abbrev S8192x4352 : Shape := ⟨2, ![8192, 4352]⟩
abbrev S512x4352 : Shape := ⟨2, ![512, 4352]⟩
abbrev S512 : Shape := ⟨1, ![512]⟩
abbrev S512x1 : Shape := ⟨2, ![512, 1]⟩
abbrev S8192x384 : Shape := ⟨2, ![8192, 384]⟩
abbrev S8192x32 : Shape := ⟨2, ![8192, 32]⟩
abbrev S8192x2560 : Shape := ⟨2, ![8192, 2560]⟩
abbrev S8192x512 : Shape := ⟨2, ![8192, 512]⟩
abbrev S8192x128 : Shape := ⟨2, ![8192, 128]⟩
abbrev S8192x4256 : Shape := ⟨2, ![8192, 4256]⟩

abbrev nBuf : Space → Nat
  | .hbm => 29
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4256, .f32⟩
  | .hbm, ⟨3, _⟩ => ⟨S1x1024, .f32⟩
  | .hbm, ⟨4, _⟩ => ⟨S1024x4256, .bf16⟩
  | .hbm, ⟨5, _⟩ => ⟨S4256x1024, .bf16⟩
  | .hbm, ⟨6, _⟩ => ⟨S2560x1024, .bf16⟩
  | .hbm, ⟨7, _⟩ => ⟨S512x1024, .bf16⟩
  | .hbm, ⟨8, _⟩ => ⟨S384x1024, .bf16⟩
  | .hbm, ⟨9, _⟩ => ⟨S_, .bf16⟩
  | .hbm, ⟨10, _⟩ => ⟨S64x1024, .bf16⟩
  | .hbm, ⟨11, _⟩ => ⟨S32x1024, .bf16⟩
  | .hbm, ⟨12, _⟩ => ⟨S_, .bf16⟩
  | .hbm, ⟨13, _⟩ => ⟨S32x1024, .bf16⟩
  | .hbm, ⟨14, _⟩ => ⟨S512x1024, .bf16⟩
  | .hbm, ⟨15, _⟩ => ⟨S128x1024, .bf16⟩
  | .hbm, ⟨16, _⟩ => ⟨S128x1024, .bf16⟩
  | .hbm, ⟨17, _⟩ => ⟨S4352x1024, .bf16⟩
  | .hbm, ⟨18, _⟩ => ⟨S1024x4352, .bf16⟩
  | .hbm, ⟨19, _⟩ => ⟨S8192x4352, .f32⟩
  | .hbm, ⟨20, _⟩ => ⟨S8192x1024, .bf16⟩
  | .hbm, ⟨21, _⟩ => ⟨S8192x384, .f32⟩
  | .hbm, ⟨22, _⟩ => ⟨S8192x32, .f32⟩
  | .hbm, ⟨23, _⟩ => ⟨S8192x2560, .f32⟩
  | .hbm, ⟨24, _⟩ => ⟨S8192x512, .f32⟩
  | .hbm, ⟨25, _⟩ => ⟨S8192x128, .f32⟩
  | .hbm, ⟨26, _⟩ => ⟨S8192x128, .f32⟩
  | .hbm, ⟨27, _⟩ => ⟨S8192x512, .f32⟩
  | .hbm, ⟨28, _⟩ => ⟨S8192x4256, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4352, .bf16⟩
  | .local _ .vmem, ⟨4, _⟩ => ⟨S512x4352, .f32⟩
  | .local _ .vmem, ⟨5, _⟩ => ⟨S512x4352, .f32⟩
  | .local _ .vmem, ⟨6, _⟩ => ⟨S512x1024, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14_0 : Ref sig .tc := ⟨.hbm, 19, rfl⟩
abbrev main_v14_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4352 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S8192x1024 : Shape := ⟨2, ![8192, 1024]⟩
abbrev S1024 : Shape := ⟨1, ![1024]⟩
abbrev S1024x4256 : Shape := ⟨2, ![1024, 4256]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4256 : Shape := ⟨2, ![8192, 4256]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4256, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x4256, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel3.lean ====
abbrev S8192x1024 : Shape := ⟨2, ![8192, 1024]⟩
abbrev S1024 : Shape := ⟨1, ![1024]⟩
abbrev S1024x4256 : Shape := ⟨2, ![1024, 4256]⟩
abbrev S8192x4256 : Shape := ⟨2, ![8192, 4256]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S4256x8192 : Shape := ⟨2, ![4256, 8192]⟩
abbrev S2560x8192 : Shape := ⟨2, ![2560, 8192]⟩
abbrev S512x8192 : Shape := ⟨2, ![512, 8192]⟩
abbrev S384x8192 : Shape := ⟨2, ![384, 8192]⟩
abbrev S64x8192 : Shape := ⟨2, ![64, 8192]⟩
abbrev S32x8192 : Shape := ⟨2, ![32, 8192]⟩
abbrev S128x8192 : Shape := ⟨2, ![128, 8192]⟩
abbrev S4352x8192 : Shape := ⟨2, ![4352, 8192]⟩
abbrev S8192x4352 : Shape := ⟨2, ![8192, 4352]⟩
abbrev S1024x4352 : Shape := ⟨2, ![1024, 4352]⟩
abbrev S1024x1024 : Shape := ⟨2, ![1024, 1024]⟩
abbrev S1024x2176 : Shape := ⟨2, ![1024, 2176]⟩
abbrev S1024x384 : Shape := ⟨2, ![1024, 384]⟩
abbrev S1024x32 : Shape := ⟨2, ![1024, 32]⟩
abbrev S1024x2560 : Shape := ⟨2, ![1024, 2560]⟩
abbrev S1024x512 : Shape := ⟨2, ![1024, 512]⟩
abbrev S1024x128 : Shape := ⟨2, ![1024, 128]⟩

abbrev nBuf : Space → Nat
  | .hbm => 46
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4256, .f32⟩
  | .hbm, ⟨3, _⟩ => ⟨S8192x4256, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S4256x8192, .f32⟩
  | .hbm, ⟨22, _⟩ => ⟨S2560x8192, .f32⟩
  | .hbm, ⟨23, _⟩ => ⟨S512x8192, .f32⟩
  | .hbm, ⟨24, _⟩ => ⟨S384x8192, .f32⟩
  | .hbm, ⟨25, _⟩ => ⟨S_, .f32⟩
  | .hbm, ⟨26, _⟩ => ⟨S64x8192, .f32⟩
  | .hbm, ⟨27, _⟩ => ⟨S32x8192, .f32⟩
  | .hbm, ⟨28, _⟩ => ⟨S_, .f32⟩
  | .hbm, ⟨29, _⟩ => ⟨S32x8192, .f32⟩
  | .hbm, ⟨30, _⟩ => ⟨S512x8192, .f32⟩
  | .hbm, ⟨31, _⟩ => ⟨S128x8192, .f32⟩
  | .hbm, ⟨32, _⟩ => ⟨S128x8192, .f32⟩
  | .hbm, ⟨33, _⟩ => ⟨S4352x8192, .f32⟩
  | .hbm, ⟨34, _⟩ => ⟨S8192x4352, .f32⟩
  | .hbm, ⟨35, _⟩ => ⟨S8192x4352, .bf16⟩
  | .hbm, ⟨36, _⟩ => ⟨S1024x4352, .bf16⟩
  | .hbm, ⟨37, _⟩ => ⟨S1024x384, .bf16⟩
  | .hbm, ⟨38, _⟩ => ⟨S1024x32, .bf16⟩
  | .hbm, ⟨39, _⟩ => ⟨S1024x2560, .bf16⟩
  | .hbm, ⟨40, _⟩ => ⟨S1024x512, .bf16⟩
  | .hbm, ⟨41, _⟩ => ⟨S1024x128, .bf16⟩
  | .hbm, ⟨42, _⟩ => ⟨S1024x128, .bf16⟩
  | .hbm, ⟨43, _⟩ => ⟨S1024x512, .bf16⟩
  | .hbm, ⟨44, _⟩ => ⟨S1024x4256, .bf16⟩
  | .hbm, ⟨45, _⟩ => ⟨S1024x4256, .f32⟩
  | .local _ .vmem, ⟨0, _⟩ => ⟨S1024x1024, .bf16⟩
  | .local _ .vmem, ⟨1, _⟩ => ⟨S1024x1024, .bf16⟩
  | .local _ .vmem, ⟨2, _⟩ => ⟨S1024x2176, .bf16⟩
  | .local _ .vmem, ⟨3, _⟩ => ⟨S1024x2176, .bf16⟩
  | .local _ .vmem, ⟨4, _⟩ => ⟨S1024x2176, .bf16⟩
  | .local _ .vmem, ⟨5, _⟩ => ⟨S1024x2176, .bf16⟩
  | .local _ .vmem, ⟨6, _⟩ => ⟨S1024x2176, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x2176 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S8192x1024 : Shape := ⟨2, ![8192, 1024]⟩
abbrev S1024 : Shape := ⟨1, ![1024]⟩
abbrev S1024x4256 : Shape := ⟨2, ![1024, 4256]⟩
abbrev S8192x4256 : Shape := ⟨2, ![8192, 4256]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S4256x1024 : Shape := ⟨2, ![4256, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4256, .f32⟩
  | .hbm, ⟨3, _⟩ => ⟨S8192x4256, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x4256, .f32⟩
  | .hbm, ⟨25, _⟩ => ⟨S4256x1024, .f32⟩
  | .hbm, ⟨26, _⟩ => ⟨S1024x4256, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel4.lean ====
abbrev S8192x1024 : Shape := ⟨2, ![8192, 1024]⟩
abbrev S1024 : Shape := ⟨1, ![1024]⟩
abbrev S1024x4256 : Shape := ⟨2, ![1024, 4256]⟩
abbrev S8192x4256 : Shape := ⟨2, ![8192, 4256]⟩
abbrev S4256x1024 : Shape := ⟨2, ![4256, 1024]⟩
abbrev S2560x1024 : Shape := ⟨2, ![2560, 1024]⟩
abbrev S512x1024 : Shape := ⟨2, ![512, 1024]⟩
abbrev S384x1024 : Shape := ⟨2, ![384, 1024]⟩
abbrev S_ : Shape := ⟨0, ![]⟩
abbrev S64x1024 : Shape := ⟨2, ![64, 1024]⟩
abbrev S32x1024 : Shape := ⟨2, ![32, 1024]⟩
abbrev S128x1024 : Shape := ⟨2, ![128, 1024]⟩
abbrev S4352x1024 : Shape := ⟨2, ![4352, 1024]⟩
abbrev S4256x8192 : Shape := ⟨2, ![4256, 8192]⟩
abbrev S2560x8192 : Shape := ⟨2, ![2560, 8192]⟩
abbrev S512x8192 : Shape := ⟨2, ![512, 8192]⟩
abbrev S384x8192 : Shape := ⟨2, ![384, 8192]⟩
abbrev S64x8192 : Shape := ⟨2, ![64, 8192]⟩
abbrev S32x8192 : Shape := ⟨2, ![32, 8192]⟩
abbrev S128x8192 : Shape := ⟨2, ![128, 8192]⟩
abbrev S4352x8192 : Shape := ⟨2, ![4352, 8192]⟩
abbrev S8192x4352 : Shape := ⟨2, ![8192, 4352]⟩
abbrev S1x1024 : Shape := ⟨2, ![1, 1024]⟩
abbrev S8x1024 : Shape := ⟨2, ![8, 1024]⟩
abbrev S512x4352 : Shape := ⟨2, ![512, 4352]⟩
abbrev S512 : Shape := ⟨1, ![512]⟩
abbrev S512x1 : Shape := ⟨2, ![512, 1]⟩

abbrev nBuf : Space → Nat
  | .hbm => 39
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4256, .f32⟩
  | .hbm, ⟨3, _⟩ => ⟨S8192x1024, .f32⟩
  | .hbm, ⟨4, _⟩ => ⟨S8192x4256, .f32⟩
  | .hbm, ⟨5, _⟩ => ⟨S1024x4256, .bf16⟩
  | .hbm, ⟨6, _⟩ => ⟨S4256x1024, .bf16⟩
  | .hbm, ⟨7, _⟩ => ⟨S2560x1024, .bf16⟩
  | .hbm, ⟨8, _⟩ => ⟨S512x1024, .bf16⟩
  | .hbm, ⟨9, _⟩ => ⟨S384x1024, .bf16⟩
  | .hbm, ⟨10, _⟩ => ⟨S_, .bf16⟩
  | .hbm, ⟨11, _⟩ => ⟨S64x1024, .bf16⟩
  | .hbm, ⟨12, _⟩ => ⟨S32x1024, .bf16⟩
  | .hbm, ⟨13, _⟩ => ⟨S_, .bf16⟩
  | .hbm, ⟨14, _⟩ => ⟨S32x1024, .bf16⟩
  | .hbm, ⟨15, _⟩ => ⟨S512x1024, .bf16⟩
  | .hbm, ⟨16, _⟩ => ⟨S128x1024, .bf16⟩
  | .hbm, ⟨17, _⟩ => ⟨S128x1024, .bf16⟩
  | .hbm, ⟨18, _⟩ => ⟨S4352x1024, .bf16⟩
  | .hbm, ⟨19, _⟩ => ⟨S4256x8192, .f32⟩
  | .hbm, ⟨20, _⟩ => ⟨S2560x8192, .f32⟩
  | .hbm, ⟨21, _⟩ => ⟨S512x8192, .f32⟩
  | .hbm, ⟨22, _⟩ => ⟨S384x8192, .f32⟩
  | .hbm, ⟨23, _⟩ => ⟨S_, .f32⟩
  | .hbm, ⟨24, _⟩ => ⟨S64x8192, .f32⟩
  | .hbm, ⟨25, _⟩ => ⟨S32x8192, .f32⟩
  | .hbm, ⟨26, _⟩ => ⟨S_, .f32⟩
  | .hbm, ⟨27, _⟩ => ⟨S32x8192, .f32⟩
  | .hbm, ⟨28, _⟩ => ⟨S512x8192, .f32⟩
  | .hbm, ⟨29, _⟩ => ⟨S128x8192, .f32⟩
  | .hbm, ⟨30, _⟩ => ⟨S128x8192, .f32⟩
  | .hbm, ⟨31, _⟩ => ⟨S4352x8192, .f32⟩
  | .hbm, ⟨32, _⟩ => ⟨S8192x4352, .f32⟩
  | .hbm, ⟨33, _⟩ => ⟨S8192x4352, .bf16⟩
  | .hbm, ⟨34, _⟩ => ⟨S1x1024, .f32⟩
  | .hbm, ⟨35, _⟩ => ⟨S8192x1024, .f32⟩
  | .hbm, ⟨36, _⟩ => ⟨S8x1024, .f32⟩
  | .hbm, ⟨37, _⟩ => ⟨S1x1024, .f32⟩
  | .hbm, ⟨38, _⟩ => ⟨S1024, .f32⟩
  | .local _ .vmem, ⟨0, _⟩ => ⟨S512x4352, .bf16⟩
  | .local _ .vmem, ⟨1, _⟩ => ⟨S512x4352, .bf16⟩
  | .local _ .vmem, ⟨2, _⟩ => ⟨S4352x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26_0 : Ref sig .tc := ⟨.hbm, 35, rfl⟩
abbrev main_v26_1 : Ref sig .tc := ⟨.hbm, 36, rfl⟩
abbrev main_v27 : Ref sig .tc := ⟨.hbm, 37, rfl⟩
abbrev main_v28 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4352 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference4Ideal.lean ====
abbrev S8192x1024 : Shape := ⟨2, ![8192, 1024]⟩
abbrev S1024 : Shape := ⟨1, ![1024]⟩
abbrev S1024x4256 : Shape := ⟨2, ![1024, 4256]⟩
abbrev S8192x4256 : Shape := ⟨2, ![8192, 4256]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S4256x1024 : Shape := ⟨2, ![4256, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4256, .f32⟩
  | .hbm, ⟨3, _⟩ => ⟨S8192x1024, .f32⟩
  | .hbm, ⟨4, _⟩ => ⟨S8192x4256, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x4256, .f32⟩
  | .hbm, ⟨26, _⟩ => ⟨S4256x1024, .f32⟩
  | .hbm, ⟨27, _⟩ => ⟨S1024x4256, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel5.lean ====
abbrev S8192x1536 : Shape := ⟨2, ![8192, 1536]⟩
abbrev S1536x1024 : Shape := ⟨2, ![1536, 1024]⟩
abbrev S8192x1024 : Shape := ⟨2, ![8192, 1024]⟩
abbrev S512x1536 : Shape := ⟨2, ![512, 1536]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1536, .f32⟩
  | .hbm, ⟨1, _⟩ => ⟨S1536x1024, .f32⟩
  | .hbm, ⟨2, _⟩ => ⟨S8192x1024, .f32⟩
  | .hbm, ⟨3, _⟩ => ⟨S8192x1536, .bf16⟩
  | .hbm, ⟨4, _⟩ => ⟨S1536x1024, .bf16⟩
  | .hbm, ⟨5, _⟩ => ⟨S8192x1024, .f32⟩
  | .local _ .vmem, ⟨0, _⟩ => ⟨S512x1536, .bf16⟩
  | .local _ .vmem, ⟨1, _⟩ => ⟨S512x1536, .bf16⟩
  | .local _ .vmem, ⟨2, _⟩ => ⟨S1536x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S8192x1536 : Shape := ⟨2, ![8192, 1536]⟩
abbrev S1536x1024 : Shape := ⟨2, ![1536, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S1536x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel6.lean ====
abbrev S8192x1536 : Shape := ⟨2, ![8192, 1536]⟩
abbrev S1536x1024 : Shape := ⟨2, ![1536, 1024]⟩
abbrev S8192x1024 : Shape := ⟨2, ![8192, 1024]⟩
abbrev S1024x1536 : Shape := ⟨2, ![1024, 1536]⟩
abbrev S512x1024 : Shape := ⟨2, ![512, 1024]⟩
abbrev S512x1536 : Shape := ⟨2, ![512, 1536]⟩

abbrev nBuf : Space → Nat
  | .hbm => 10
  | .vmem => 9
  | .smem => 0
  | _ => 0

abbrev bufTy : (tb : Table) → Fin (tcTables nBuf tb) → BufTy
  | .hbm, ⟨0, _⟩ => ⟨S8192x1536, .f32⟩
  | .hbm, ⟨1, _⟩ => ⟨S1536x1024, .f32⟩
  | .hbm, ⟨2, _⟩ => ⟨S8192x1024, .f32⟩
  | .hbm, ⟨3, _⟩ => ⟨S8192x1024, .f32⟩
  | .hbm, ⟨4, _⟩ => ⟨S8192x1536, .bf16⟩
  | .hbm, ⟨5, _⟩ => ⟨S1536x1024, .bf16⟩
  | .hbm, ⟨6, _⟩ => ⟨S1024x1536, .bf16⟩
  | .hbm, ⟨7, _⟩ => ⟨S8192x1536, .f32⟩
  | .hbm, ⟨8, _⟩ => ⟨S1536x1024, .bf16⟩
  | .hbm, ⟨9, _⟩ => ⟨S1536x1024, .f32⟩
  | .local _ .vmem, ⟨0, _⟩ => ⟨S512x1024, .f32⟩
  | .local _ .vmem, ⟨1, _⟩ => ⟨S512x1024, .f32⟩
  | .local _ .vmem, ⟨2, _⟩ => ⟨S512x1536, .bf16⟩
  | .local _ .vmem, ⟨3, _⟩ => ⟨S512x1536, .bf16⟩
  | .local _ .vmem, ⟨4, _⟩ => ⟨S1024x1536, .bf16⟩
  | .local _ .vmem, ⟨5, _⟩ => ⟨S512x1536, .f32⟩
  | .local _ .vmem, ⟨6, _⟩ => ⟨S512x1536, .f32⟩
  | .local _ .vmem, ⟨7, _⟩ => ⟨S1536x1024, .bf16⟩
  | .local _ .vmem, ⟨8, _⟩ => ⟨S1536x1024, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v17 : BitVec 1 := Scalar.cmpi .eq arg0 c15_i32
  let v18 : BitVec 32 := Scalar.extui v17
  let c0_i32_13 : BitVec 32 := 0#32
  let v19 : BitVec 1 := Scalar.cmpi .ne v18 c0_i32_13
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1536x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference6Ideal.lean ====
abbrev S8192x1536 : Shape := ⟨2, ![8192, 1536]⟩
abbrev S1536x1024 : Shape := ⟨2, ![1536, 1024]⟩
abbrev S8192x1024 : Shape := ⟨2, ![8192, 1024]⟩
abbrev S1024x1536 : Shape := ⟨2, ![1024, 1536]⟩

abbrev nBuf : Space → Nat
  | .hbm => 10
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S1536x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1536, .f32⟩
  | .hbm, ⟨8, _⟩ => ⟨S1536x1024, .f32⟩
  | .hbm, ⟨9, _⟩ => ⟨S8192x1536, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel7.lean ====
abbrev S8192x1536 : Shape := ⟨2, ![8192, 1536]⟩
abbrev S1536x1024 : Shape := ⟨2, ![1536, 1024]⟩
abbrev S8192x1024 : Shape := ⟨2, ![8192, 1024]⟩
abbrev S8x128 : Shape := ⟨2, ![8, 128]⟩
abbrev S512x1536 : Shape := ⟨2, ![512, 1536]⟩
abbrev S512x1024 : Shape := ⟨2, ![512, 1024]⟩
abbrev S8x1024 : Shape := ⟨2, ![8, 1024]⟩
abbrev S64x8x1024 : Shape := ⟨3, ![64, 8, 1024]⟩
abbrev S8 : Shape := ⟨1, ![8]⟩
abbrev S8x1 : Shape := ⟨2, ![8, 1]⟩
abbrev S1 : Shape := ⟨1, ![1]⟩
abbrev S1x1 : Shape := ⟨2, ![1, 1]⟩
abbrev S_ : Shape := ⟨0, ![]⟩

abbrev nBuf : Space → Nat
  | .hbm => 10
  | .vmem => 11
  | .smem => 0
  | _ => 0

abbrev bufTy : (tb : Table) → Fin (tcTables nBuf tb) → BufTy
  | .hbm, ⟨0, _⟩ => ⟨S8192x1536, .f32⟩
  | .hbm, ⟨1, _⟩ => ⟨S1536x1024, .f32⟩
  | .hbm, ⟨2, _⟩ => ⟨S8192x1024, .f32⟩
  | .hbm, ⟨3, _⟩ => ⟨S8192x1024, .f32⟩
  | .hbm, ⟨4, _⟩ => ⟨S8192x1536, .bf16⟩
  | .hbm, ⟨5, _⟩ => ⟨S1536x1024, .bf16⟩
  | .hbm, ⟨6, _⟩ => ⟨S8192x1024, .f32⟩
  | .hbm, ⟨7, _⟩ => ⟨S8x128, .f32⟩
  | .hbm, ⟨8, _⟩ => ⟨S1x1, .f32⟩
  | .hbm, ⟨9, _⟩ => ⟨S_, .f32⟩
  | .local _ .vmem, ⟨0, _⟩ => ⟨S512x1536, .bf16⟩
  | .local _ .vmem, ⟨1, _⟩ => ⟨S512x1536, .bf16⟩
  | .local _ .vmem, ⟨2, _⟩ => ⟨S1536x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S8x128, .f32⟩
  | .local _ .vmem, ⟨10, _⟩ => ⟨S8x1024, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v23 : BitVec 1 := Scalar.cmpi .eq arg0 c15_i32
  let v24 : BitVec 32 := Scalar.extui v23
  let c0_i32_16 : BitVec 32 := 0#32
  let v25 : BitVec 1 := Scalar.cmpi .ne v24 c0_i32_16
  v25

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference7Ideal.lean ====
abbrev S8192x1536 : Shape := ⟨2, ![8192, 1536]⟩
abbrev S1536x1024 : Shape := ⟨2, ![1536, 1024]⟩
abbrev S8192x1024 : Shape := ⟨2, ![8192, 1024]⟩
abbrev S_ : Shape := ⟨0, ![]⟩
abbrev S8192 : Shape := ⟨1, ![8192]⟩

abbrev nBuf : Space → Nat
  | .hbm => 29
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S1536x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S_, .f32⟩
  | .hbm, ⟨14, _⟩ => ⟨S8192, .f32⟩
  | .hbm, ⟨15, _⟩ => ⟨S8192, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8192, .f32⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S8192x1024, .f32⟩
  | .hbm, ⟨28, _⟩ => ⟨S8192x1024, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_cst_4 : Ref sig .tc := ⟨.hbm, 20, rfl⟩
abbrev main_cst_5 : Ref sig .tc := ⟨.hbm, 21, rfl⟩
abbrev main_v11 : Ref sig .tc := ⟨.hbm, 22, rfl⟩
abbrev main_v12 : Ref sig .tc := ⟨.hbm, 23, rfl⟩
abbrev main_cst_6 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]
-- ==== Kernel8.lean ====
abbrev S8x2x1024x532 : Shape := ⟨4, ![8, 2, 1024, 532]⟩
abbrev S2x1024x532 : Shape := ⟨3, ![2, 1024, 532]⟩
abbrev S2048x532 : Shape := ⟨2, ![2048, 532]⟩
abbrev S8x2048x532 : Shape := ⟨3, ![8, 2048, 532]⟩
abbrev S8x256x532 : Shape := ⟨3, ![8, 256, 532]⟩
abbrev S256x532 : Shape := ⟨2, ![256, 532]⟩
abbrev S1x256x532 : Shape := ⟨3, ![1, 256, 532]⟩

abbrev nBuf : Space → Nat
  | .hbm => 18
  | .vmem => 16
  | .smem => 0
  | _ => 0

abbrev bufTy : (tb : Table) → Fin (tcTables nBuf tb) → BufTy
  | .hbm, ⟨0, _⟩ => ⟨S8x2x1024x532, .f32⟩
  | .hbm, ⟨1, _⟩ => ⟨S2x1024x532, .f32⟩
  | .hbm, ⟨2, _⟩ => ⟨S2x1024x532, .f32⟩
  | .hbm, ⟨3, _⟩ => ⟨S2x1024x532, .f32⟩
  | .hbm, ⟨4, _⟩ => ⟨S8x2x1024x532, .bf16⟩
  | .hbm, ⟨5, _⟩ => ⟨S2048x532, .f32⟩
  | .hbm, ⟨6, _⟩ => ⟨S8x2048x532, .bf16⟩
  | .hbm, ⟨7, _⟩ => ⟨S2048x532, .f32⟩
  | .hbm, ⟨8, _⟩ => ⟨S2048x532, .f32⟩
  | .hbm, ⟨9, _⟩ => ⟨S2048x532, .f32⟩
  | .hbm, ⟨10, _⟩ => ⟨S2048x532, .f32⟩
  | .hbm, ⟨11, _⟩ => ⟨S2048x532, .f32⟩
  | .hbm, ⟨12, _⟩ => ⟨S2048x532, .f32⟩
  | .hbm, ⟨13, _⟩ => ⟨S2048x532, .f32⟩
  | .hbm, ⟨14, _⟩ => ⟨S2x1024x532, .f32⟩
  | .hbm, ⟨15, _⟩ => ⟨S2x1024x532, .f32⟩
  | .hbm, ⟨16, _⟩ => ⟨S2x1024x532, .f32⟩
  | .hbm, ⟨17, _⟩ => ⟨S2x1024x532, .f32⟩
  | .local _ .vmem, ⟨0, _⟩ => ⟨S8x256x532, .bf16⟩
  | .local _ .vmem, ⟨1, _⟩ => ⟨S8x256x532, .bf16⟩
  | .local _ .vmem, ⟨2, _⟩ => ⟨S256x532, .f32⟩
  | .local _ .vmem, ⟨3, _⟩ => ⟨S256x532, .f32⟩
  | .local _ .vmem, ⟨4, _⟩ => ⟨S256x532, .f32⟩
  | .local _ .vmem, ⟨5, _⟩ => ⟨S256x532, .f32⟩
  | .local _ .vmem, ⟨6, _⟩ => ⟨S256x532, .f32⟩
  | .local _ .vmem, ⟨7, _⟩ => ⟨S256x532, .f32⟩
  | .local _ .vmem, ⟨8, _⟩ => ⟨S256x532, .f32⟩
  | .local _ .vmem, ⟨9, _⟩ => ⟨S256x532, .f32⟩
  | .local _ .vmem, ⟨10, _⟩ => ⟨S256x532, .f32⟩
  | .local _ .vmem, ⟨11, _⟩ => ⟨S256x532, .f32⟩
  | .local _ .vmem, ⟨12, _⟩ => ⟨S256x532, .f32⟩
  | .local _ .vmem, ⟨13, _⟩ => ⟨S256x532, .f32⟩
  | .local _ .vmem, ⟨14, _⟩ => ⟨S256x532, .f32⟩
  | .local _ .vmem, ⟨15, _⟩ => ⟨S256x532, .f32⟩
  | _, _ => ⟨S8x2x1024x532, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x532 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x532 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x532 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x532 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x532 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x532 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x532 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x532 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S8x2x1024x532 : Shape := ⟨4, ![8, 2, 1024, 532]⟩
abbrev S2x1024x532 : Shape := ⟨3, ![2, 1024, 532]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x2x1024x532, .f32⟩
  | .hbm, ⟨1, _⟩ => ⟨S2x1024x532, .f32⟩
  | .hbm, ⟨2, _⟩ => ⟨S2x1024x532, .f32⟩
  | .hbm, ⟨3, _⟩ => ⟨S2x1024x532, .f32⟩
  | .hbm, ⟨4, _⟩ => ⟨S_, .f32⟩
  | .hbm, ⟨5, _⟩ => ⟨S2x1024x532, .f32⟩
  | .hbm, ⟨6, _⟩ => ⟨S_, .f32⟩
  | .hbm, ⟨7, _⟩ => ⟨S2x1024x532, .f32⟩
  | .hbm, ⟨8, _⟩ => ⟨S2x1024x532, .f32⟩
  | .hbm, ⟨9, _⟩ => ⟨S_, .f32⟩
  | .hbm, ⟨10, _⟩ => ⟨S2x1024x532, .f32⟩
  | .hbm, ⟨11, _⟩ => ⟨S2x1024x532, .f32⟩
  | .hbm, ⟨12, _⟩ => ⟨S2x1024x532, .f32⟩
  | .hbm, ⟨13, _⟩ => ⟨S_, .f32⟩
  | .hbm, ⟨14, _⟩ => ⟨S2x1024x532, .f32⟩
  | .hbm, ⟨15, _⟩ => ⟨S2x1024x532, .f32⟩
  | .hbm, ⟨16, _⟩ => ⟨S2x1024x532, .f32⟩
  | .hbm, ⟨17, _⟩ => ⟨S_, .f32⟩
  | .hbm, ⟨18, _⟩ => ⟨S2x1024x532, .f32⟩
  | .hbm, ⟨19, _⟩ => ⟨S2x1024x532, .f32⟩
  | .hbm, ⟨20, _⟩ => ⟨S2x1024x532, .f32⟩
  | .hbm, ⟨21, _⟩ => ⟨S_, .f32⟩
  | .hbm, ⟨22, _⟩ => ⟨S2x1024x532, .f32⟩
  | .hbm, ⟨23, _⟩ => ⟨S2x1024x532, .f32⟩
  | .hbm, ⟨24, _⟩ => ⟨S_, .f32⟩
  | .hbm, ⟨25, _⟩ => ⟨S2x1024x532, .f32⟩
  | .hbm, ⟨26, _⟩ => ⟨S2x1024x532, .f32⟩
  | .hbm, ⟨27, _⟩ => ⟨S2x1024x532, .f32⟩
  | .hbm, ⟨28, _⟩ => ⟨S_, .f32⟩
  | .hbm, ⟨29, _⟩ => ⟨S2x1024x532, .f32⟩
  | .hbm, ⟨30, _⟩ => ⟨S2x1024x532, .f32⟩
  | .hbm, ⟨31, _⟩ => ⟨S2x1024x532, .f32⟩
  | .hbm, ⟨32, _⟩ => ⟨S_, .f32⟩
  | .hbm, ⟨33, _⟩ => ⟨S2x1024x532, .f32⟩
  | .hbm, ⟨34, _⟩ => ⟨S2x1024x532, .f32⟩
  | .hbm, ⟨35, _⟩ => ⟨S2x1024x532, .f32⟩
  | .hbm, ⟨36, _⟩ => ⟨S_, .f32⟩
  | .hbm, ⟨37, _⟩ => ⟨S2x1024x532, .f32⟩
  | .hbm, ⟨38, _⟩ => ⟨S2x1024x532, .f32⟩
  | _, _ => ⟨S8x2x1024x532, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel9.lean ====
abbrev S8x2x192x1024 : Shape := ⟨4, ![8, 2, 192, 1024]⟩
abbrev S2x192x1024 : Shape := ⟨3, ![2, 192, 1024]⟩
abbrev S384x1024 : Shape := ⟨2, ![384, 1024]⟩
abbrev S8x384x1024 : Shape := ⟨3, ![8, 384, 1024]⟩
abbrev S8x192x1024 : Shape := ⟨3, ![8, 192, 1024]⟩
abbrev S192x1024 : Shape := ⟨2, ![192, 1024]⟩
abbrev S1x192x1024 : Shape := ⟨3, ![1, 192, 1024]⟩

abbrev nBuf : Space → Nat
  | .hbm => 18
  | .vmem => 16
  | .smem => 0
  | _ => 0

abbrev bufTy : (tb : Table) → Fin (tcTables nBuf tb) → BufTy
  | .hbm, ⟨0, _⟩ => ⟨S8x2x192x1024, .f32⟩
  | .hbm, ⟨1, _⟩ => ⟨S2x192x1024, .f32⟩
  | .hbm, ⟨2, _⟩ => ⟨S2x192x1024, .f32⟩
  | .hbm, ⟨3, _⟩ => ⟨S2x192x1024, .f32⟩
  | .hbm, ⟨4, _⟩ => ⟨S8x2x192x1024, .bf16⟩
  | .hbm, ⟨5, _⟩ => ⟨S384x1024, .f32⟩
  | .hbm, ⟨6, _⟩ => ⟨S8x384x1024, .bf16⟩
  | .hbm, ⟨7, _⟩ => ⟨S384x1024, .f32⟩
  | .hbm, ⟨8, _⟩ => ⟨S384x1024, .f32⟩
  | .hbm, ⟨9, _⟩ => ⟨S384x1024, .f32⟩
  | .hbm, ⟨10, _⟩ => ⟨S384x1024, .f32⟩
  | .hbm, ⟨11, _⟩ => ⟨S384x1024, .f32⟩
  | .hbm, ⟨12, _⟩ => ⟨S384x1024, .f32⟩
  | .hbm, ⟨13, _⟩ => ⟨S384x1024, .f32⟩
  | .hbm, ⟨14, _⟩ => ⟨S2x192x1024, .f32⟩
  | .hbm, ⟨15, _⟩ => ⟨S2x192x1024, .f32⟩
  | .hbm, ⟨16, _⟩ => ⟨S2x192x1024, .f32⟩
  | .hbm, ⟨17, _⟩ => ⟨S2x192x1024, .f32⟩
  | .local _ .vmem, ⟨0, _⟩ => ⟨S8x192x1024, .bf16⟩
  | .local _ .vmem, ⟨1, _⟩ => ⟨S8x192x1024, .bf16⟩
  | .local _ .vmem, ⟨2, _⟩ => ⟨S192x1024, .f32⟩
  | .local _ .vmem, ⟨3, _⟩ => ⟨S192x1024, .f32⟩
  | .local _ .vmem, ⟨4, _⟩ => ⟨S192x1024, .f32⟩
  | .local _ .vmem, ⟨5, _⟩ => ⟨S192x1024, .f32⟩
  | .local _ .vmem, ⟨6, _⟩ => ⟨S192x1024, .f32⟩
  | .local _ .vmem, ⟨7, _⟩ => ⟨S192x1024, .f32⟩
  | .local _ .vmem, ⟨8, _⟩ => ⟨S192x1024, .f32⟩
  | .local _ .vmem, ⟨9, _⟩ => ⟨S192x1024, .f32⟩
  | .local _ .vmem, ⟨10, _⟩ => ⟨S192x1024, .f32⟩
  | .local _ .vmem, ⟨11, _⟩ => ⟨S192x1024, .f32⟩
  | .local _ .vmem, ⟨12, _⟩ => ⟨S192x1024, .f32⟩
  | .local _ .vmem, ⟨13, _⟩ => ⟨S192x1024, .f32⟩
  | .local _ .vmem, ⟨14, _⟩ => ⟨S192x1024, .f32⟩
  | .local _ .vmem, ⟨15, _⟩ => ⟨S192x1024, .f32⟩
  | _, _ => ⟨S8x2x192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x192x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S192x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S192x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S192x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S192x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference9Ideal.lean ====
abbrev S8x2x192x1024 : Shape := ⟨4, ![8, 2, 192, 1024]⟩
abbrev S2x192x1024 : Shape := ⟨3, ![2, 192, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x2x192x1024, .f32⟩
  | .hbm, ⟨1, _⟩ => ⟨S2x192x1024, .f32⟩
  | .hbm, ⟨2, _⟩ => ⟨S2x192x1024, .f32⟩
  | .hbm, ⟨3, _⟩ => ⟨S2x192x1024, .f32⟩
  | .hbm, ⟨4, _⟩ => ⟨S_, .f32⟩
  | .hbm, ⟨5, _⟩ => ⟨S2x192x1024, .f32⟩
  | .hbm, ⟨6, _⟩ => ⟨S_, .f32⟩
  | .hbm, ⟨7, _⟩ => ⟨S2x192x1024, .f32⟩
  | .hbm, ⟨8, _⟩ => ⟨S2x192x1024, .f32⟩
  | .hbm, ⟨9, _⟩ => ⟨S_, .f32⟩
  | .hbm, ⟨10, _⟩ => ⟨S2x192x1024, .f32⟩
  | .hbm, ⟨11, _⟩ => ⟨S2x192x1024, .f32⟩
  | .hbm, ⟨12, _⟩ => ⟨S2x192x1024, .f32⟩
  | .hbm, ⟨13, _⟩ => ⟨S_, .f32⟩
  | .hbm, ⟨14, _⟩ => ⟨S2x192x1024, .f32⟩
  | .hbm, ⟨15, _⟩ => ⟨S2x192x1024, .f32⟩
  | .hbm, ⟨16, _⟩ => ⟨S2x192x1024, .f32⟩
  | .hbm, ⟨17, _⟩ => ⟨S_, .f32⟩
  | .hbm, ⟨18, _⟩ => ⟨S2x192x1024, .f32⟩
  | .hbm, ⟨19, _⟩ => ⟨S2x192x1024, .f32⟩
  | .hbm, ⟨20, _⟩ => ⟨S2x192x1024, .f32⟩
  | .hbm, ⟨21, _⟩ => ⟨S_, .f32⟩
  | .hbm, ⟨22, _⟩ => ⟨S2x192x1024, .f32⟩
  | .hbm, ⟨23, _⟩ => ⟨S2x192x1024, .f32⟩
  | .hbm, ⟨24, _⟩ => ⟨S_, .f32⟩
  | .hbm, ⟨25, _⟩ => ⟨S2x192x1024, .f32⟩
  | .hbm, ⟨26, _⟩ => ⟨S2x192x1024, .f32⟩
  | .hbm, ⟨27, _⟩ => ⟨S2x192x1024, .f32⟩
  | .hbm, ⟨28, _⟩ => ⟨S_, .f32⟩
  | .hbm, ⟨29, _⟩ => ⟨S2x192x1024, .f32⟩
  | .hbm, ⟨30, _⟩ => ⟨S2x192x1024, .f32⟩
  | .hbm, ⟨31, _⟩ => ⟨S2x192x1024, .f32⟩
  | .hbm, ⟨32, _⟩ => ⟨S_, .f32⟩
  | .hbm, ⟨33, _⟩ => ⟨S2x192x1024, .f32⟩
  | .hbm, ⟨34, _⟩ => ⟨S2x192x1024, .f32⟩
  | .hbm, ⟨35, _⟩ => ⟨S2x192x1024, .f32⟩
  | .hbm, ⟨36, _⟩ => ⟨S_, .f32⟩
  | .hbm, ⟨37, _⟩ => ⟨S2x192x1024, .f32⟩
  | .hbm, ⟨38, _⟩ => ⟨S2x192x1024, .f32⟩
  | _, _ => ⟨S8x2x192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel10.lean ====
abbrev S8x2x256x96 : Shape := ⟨4, ![8, 2, 256, 96]⟩
abbrev S2x256x96 : Shape := ⟨3, ![2, 256, 96]⟩
abbrev S512x96 : Shape := ⟨2, ![512, 96]⟩
abbrev S8x512x96 : Shape := ⟨3, ![8, 512, 96]⟩
abbrev S1x512x96 : Shape := ⟨3, ![1, 512, 96]⟩

abbrev nBuf : Space → Nat
  | .hbm => 18
  | .vmem => 8
  | .smem => 0
  | _ => 0

abbrev bufTy : (tb : Table) → Fin (tcTables nBuf tb) → BufTy
  | .hbm, ⟨0, _⟩ => ⟨S8x2x256x96, .f32⟩
  | .hbm, ⟨1, _⟩ => ⟨S2x256x96, .f32⟩
  | .hbm, ⟨2, _⟩ => ⟨S2x256x96, .f32⟩
  | .hbm, ⟨3, _⟩ => ⟨S2x256x96, .f32⟩
  | .hbm, ⟨4, _⟩ => ⟨S8x2x256x96, .bf16⟩
  | .hbm, ⟨5, _⟩ => ⟨S512x96, .f32⟩
  | .hbm, ⟨6, _⟩ => ⟨S8x512x96, .bf16⟩
  | .hbm, ⟨7, _⟩ => ⟨S512x96, .f32⟩
  | .hbm, ⟨8, _⟩ => ⟨S512x96, .f32⟩
  | .hbm, ⟨9, _⟩ => ⟨S512x96, .f32⟩
  | .hbm, ⟨10, _⟩ => ⟨S512x96, .f32⟩
  | .hbm, ⟨11, _⟩ => ⟨S512x96, .f32⟩
  | .hbm, ⟨12, _⟩ => ⟨S512x96, .f32⟩
  | .hbm, ⟨13, _⟩ => ⟨S512x96, .f32⟩
  | .hbm, ⟨14, _⟩ => ⟨S2x256x96, .f32⟩
  | .hbm, ⟨15, _⟩ => ⟨S2x256x96, .f32⟩
  | .hbm, ⟨16, _⟩ => ⟨S2x256x96, .f32⟩
  | .hbm, ⟨17, _⟩ => ⟨S2x256x96, .f32⟩
  | .local _ .vmem, ⟨0, _⟩ => ⟨S8x512x96, .bf16⟩
  | .local _ .vmem, ⟨1, _⟩ => ⟨S512x96, .f32⟩
  | .local _ .vmem, ⟨2, _⟩ => ⟨S512x96, .f32⟩
  | .local _ .vmem, ⟨3, _⟩ => ⟨S512x96, .f32⟩
  | .local _ .vmem, ⟨4, _⟩ => ⟨S512x96, .f32⟩
  | .local _ .vmem, ⟨5, _⟩ => ⟨S512x96, .f32⟩
  | .local _ .vmem, ⟨6, _⟩ => ⟨S512x96, .f32⟩
  | .local _ .vmem, ⟨7, _⟩ => ⟨S512x96, .f32⟩
  | _, _ => ⟨S8x2x256x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x512x96 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference10Ideal.lean ====
abbrev S8x2x256x96 : Shape := ⟨4, ![8, 2, 256, 96]⟩
abbrev S2x256x96 : Shape := ⟨3, ![2, 256, 96]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x2x256x96, .f32⟩
  | .hbm, ⟨1, _⟩ => ⟨S2x256x96, .f32⟩
  | .hbm, ⟨2, _⟩ => ⟨S2x256x96, .f32⟩
  | .hbm, ⟨3, _⟩ => ⟨S2x256x96, .f32⟩
  | .hbm, ⟨4, _⟩ => ⟨S_, .f32⟩
  | .hbm, ⟨5, _⟩ => ⟨S2x256x96, .f32⟩
  | .hbm, ⟨6, _⟩ => ⟨S_, .f32⟩
  | .hbm, ⟨7, _⟩ => ⟨S2x256x96, .f32⟩
  | .hbm, ⟨8, _⟩ => ⟨S2x256x96, .f32⟩
  | .hbm, ⟨9, _⟩ => ⟨S_, .f32⟩
  | .hbm, ⟨10, _⟩ => ⟨S2x256x96, .f32⟩
  | .hbm, ⟨11, _⟩ => ⟨S2x256x96, .f32⟩
  | .hbm, ⟨12, _⟩ => ⟨S2x256x96, .f32⟩
  | .hbm, ⟨13, _⟩ => ⟨S_, .f32⟩
  | .hbm, ⟨14, _⟩ => ⟨S2x256x96, .f32⟩
  | .hbm, ⟨15, _⟩ => ⟨S2x256x96, .f32⟩
  | .hbm, ⟨16, _⟩ => ⟨S2x256x96, .f32⟩
  | .hbm, ⟨17, _⟩ => ⟨S_, .f32⟩
  | .hbm, ⟨18, _⟩ => ⟨S2x256x96, .f32⟩
  | .hbm, ⟨19, _⟩ => ⟨S2x256x96, .f32⟩
  | .hbm, ⟨20, _⟩ => ⟨S2x256x96, .f32⟩
  | .hbm, ⟨21, _⟩ => ⟨S_, .f32⟩
  | .hbm, ⟨22, _⟩ => ⟨S2x256x96, .f32⟩
  | .hbm, ⟨23, _⟩ => ⟨S2x256x96, .f32⟩
  | .hbm, ⟨24, _⟩ => ⟨S_, .f32⟩
  | .hbm, ⟨25, _⟩ => ⟨S2x256x96, .f32⟩
  | .hbm, ⟨26, _⟩ => ⟨S2x256x96, .f32⟩
  | .hbm, ⟨27, _⟩ => ⟨S2x256x96, .f32⟩
  | .hbm, ⟨28, _⟩ => ⟨S_, .f32⟩
  | .hbm, ⟨29, _⟩ => ⟨S2x256x96, .f32⟩
  | .hbm, ⟨30, _⟩ => ⟨S2x256x96, .f32⟩
  | .hbm, ⟨31, _⟩ => ⟨S2x256x96, .f32⟩
  | .hbm, ⟨32, _⟩ => ⟨S_, .f32⟩
  | .hbm, ⟨33, _⟩ => ⟨S2x256x96, .f32⟩
  | .hbm, ⟨34, _⟩ => ⟨S2x256x96, .f32⟩
  | .hbm, ⟨35, _⟩ => ⟨S2x256x96, .f32⟩
  | .hbm, ⟨36, _⟩ => ⟨S_, .f32⟩
  | .hbm, ⟨37, _⟩ => ⟨S2x256x96, .f32⟩
  | .hbm, ⟨38, _⟩ => ⟨S2x256x96, .f32⟩
  | _, _ => ⟨S8x2x256x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel11.lean ====
abbrev S8x2x128x128 : Shape := ⟨4, ![8, 2, 128, 128]⟩
abbrev S2x128x128 : Shape := ⟨3, ![2, 128, 128]⟩
abbrev S256x128 : Shape := ⟨2, ![256, 128]⟩
abbrev S8x256x128 : Shape := ⟨3, ![8, 256, 128]⟩
abbrev S1x256x128 : Shape := ⟨3, ![1, 256, 128]⟩

abbrev nBuf : Space → Nat
  | .hbm => 18
  | .vmem => 8
  | .smem => 0
  | _ => 0

abbrev bufTy : (tb : Table) → Fin (tcTables nBuf tb) → BufTy
  | .hbm, ⟨0, _⟩ => ⟨S8x2x128x128, .f32⟩
  | .hbm, ⟨1, _⟩ => ⟨S2x128x128, .f32⟩
  | .hbm, ⟨2, _⟩ => ⟨S2x128x128, .f32⟩
  | .hbm, ⟨3, _⟩ => ⟨S2x128x128, .f32⟩
  | .hbm, ⟨4, _⟩ => ⟨S8x2x128x128, .bf16⟩
  | .hbm, ⟨5, _⟩ => ⟨S256x128, .f32⟩
  | .hbm, ⟨6, _⟩ => ⟨S8x256x128, .bf16⟩
  | .hbm, ⟨7, _⟩ => ⟨S256x128, .f32⟩
  | .hbm, ⟨8, _⟩ => ⟨S256x128, .f32⟩
  | .hbm, ⟨9, _⟩ => ⟨S256x128, .f32⟩
  | .hbm, ⟨10, _⟩ => ⟨S256x128, .f32⟩
  | .hbm, ⟨11, _⟩ => ⟨S256x128, .f32⟩
  | .hbm, ⟨12, _⟩ => ⟨S256x128, .f32⟩
  | .hbm, ⟨13, _⟩ => ⟨S256x128, .f32⟩
  | .hbm, ⟨14, _⟩ => ⟨S2x128x128, .f32⟩
  | .hbm, ⟨15, _⟩ => ⟨S2x128x128, .f32⟩
  | .hbm, ⟨16, _⟩ => ⟨S2x128x128, .f32⟩
  | .hbm, ⟨17, _⟩ => ⟨S2x128x128, .f32⟩
  | .local _ .vmem, ⟨0, _⟩ => ⟨S8x256x128, .bf16⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | _, _ => ⟨S8x2x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference11Ideal.lean ====
abbrev S8x2x128x128 : Shape := ⟨4, ![8, 2, 128, 128]⟩
abbrev S2x128x128 : Shape := ⟨3, ![2, 128, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x2x128x128, .f32⟩
  | .hbm, ⟨1, _⟩ => ⟨S2x128x128, .f32⟩
  | .hbm, ⟨2, _⟩ => ⟨S2x128x128, .f32⟩
  | .hbm, ⟨3, _⟩ => ⟨S2x128x128, .f32⟩
  | .hbm, ⟨4, _⟩ => ⟨S_, .f32⟩
  | .hbm, ⟨5, _⟩ => ⟨S2x128x128, .f32⟩
  | .hbm, ⟨6, _⟩ => ⟨S_, .f32⟩
  | .hbm, ⟨7, _⟩ => ⟨S2x128x128, .f32⟩
  | .hbm, ⟨8, _⟩ => ⟨S2x128x128, .f32⟩
  | .hbm, ⟨9, _⟩ => ⟨S_, .f32⟩
  | .hbm, ⟨10, _⟩ => ⟨S2x128x128, .f32⟩
  | .hbm, ⟨11, _⟩ => ⟨S2x128x128, .f32⟩
  | .hbm, ⟨12, _⟩ => ⟨S2x128x128, .f32⟩
  | .hbm, ⟨13, _⟩ => ⟨S_, .f32⟩
  | .hbm, ⟨14, _⟩ => ⟨S2x128x128, .f32⟩
  | .hbm, ⟨15, _⟩ => ⟨S2x128x128, .f32⟩
  | .hbm, ⟨16, _⟩ => ⟨S2x128x128, .f32⟩
  | .hbm, ⟨17, _⟩ => ⟨S_, .f32⟩
  | .hbm, ⟨18, _⟩ => ⟨S2x128x128, .f32⟩
  | .hbm, ⟨19, _⟩ => ⟨S2x128x128, .f32⟩
  | .hbm, ⟨20, _⟩ => ⟨S2x128x128, .f32⟩
  | .hbm, ⟨21, _⟩ => ⟨S_, .f32⟩
  | .hbm, ⟨22, _⟩ => ⟨S2x128x128, .f32⟩
  | .hbm, ⟨23, _⟩ => ⟨S2x128x128, .f32⟩
  | .hbm, ⟨24, _⟩ => ⟨S_, .f32⟩
  | .hbm, ⟨25, _⟩ => ⟨S2x128x128, .f32⟩
  | .hbm, ⟨26, _⟩ => ⟨S2x128x128, .f32⟩
  | .hbm, ⟨27, _⟩ => ⟨S2x128x128, .f32⟩
  | .hbm, ⟨28, _⟩ => ⟨S_, .f32⟩
  | .hbm, ⟨29, _⟩ => ⟨S2x128x128, .f32⟩
  | .hbm, ⟨30, _⟩ => ⟨S2x128x128, .f32⟩
  | .hbm, ⟨31, _⟩ => ⟨S2x128x128, .f32⟩
  | .hbm, ⟨32, _⟩ => ⟨S_, .f32⟩
  | .hbm, ⟨33, _⟩ => ⟨S2x128x128, .f32⟩
  | .hbm, ⟨34, _⟩ => ⟨S2x128x128, .f32⟩
  | .hbm, ⟨35, _⟩ => ⟨S2x128x128, .f32⟩
  | .hbm, ⟨36, _⟩ => ⟨S_, .f32⟩
  | .hbm, ⟨37, _⟩ => ⟨S2x128x128, .f32⟩
  | .hbm, ⟨38, _⟩ => ⟨S2x128x128, .f32⟩
  | _, _ => ⟨S8x2x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Prog.lean ====
/-
  The kernel's body as a composition of two steps.

  The attention's backward body works in two strokes, over and over: it lays the scores of one tile of keys
  (`scoresP`: the query block against the keys, the cotangent block against the values) in one of two pairs of
  scratch buffers, and it consumes a pair of score buffers (`consumeP`: the probabilities, the query gradient's and
  the two tile gradients' sums). Both are stated here once, over the buffers and the offsets they touch, and the
  octet of the counted loop and the two conditional regions are shown to BE such compositions.
-/
module

public import proofs.«01_k».proof.Proof.Gen.KernelIdeal.Skeleton
public import proofs.«01_k».proof.Proof.Gen.KernelIdeal.Frame
public import Idealize.ShloMosaic.Lib.Tactic

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- A tile's offset lies in the tiled arrays. -/
abbrev TileIn (off : Fin S1x32x128x256.rank → ℕ) : Prop := ∀ a, off a + S1x1x128x256.size a ≤ S1x32x128x256.size a
/-- A block of 256 key rows' offset lies in the row-major keys. -/
abbrev RowsIn (off : Fin S1x8192x128.rank → ℕ) : Prop := ∀ a, off a + S1x256x128.size a ≤ S1x8192x128.size a

/-- Lay the scores of the tile at `off` in the buffers `s` and `p`. -/
def scoresP (kt vt : Memref sig .tc .vmem S1x32x128x256 .bf16) (s p : Memref sig .tc .vmem S512x256 .f32)
    (q dob : FVec F S512x128 .bf16) (off : Fin S1x32x128x256.rank → ℕ) (h : TileIn off) : Prog (TpuEff nD τ sig (Elt F) Λ₀ .tc) (Unit) := do
  let k : Vec F S1x1x128x256 .bf16 ← Prog.lift (.load kt (Rect.unit (s := S1x32x128x256) off S1x1x128x256.size h).toLoadRect (View.loadsAt_vmem h_S1x1x128x256))
  let _ : Vec F S512x256 .f32 ← Prog.lift (.load s (Rect.unit (s := S512x256) ![0, 0] S512x256.size inb_S512x256_S512x256_0_0).toLoadRect (View.loadsAt_vmem h_S512x256))
  Prog.lift (.store s (Rect.unit (s := S512x256) ![0, 0] S512x256.size inb_S512x256_S512x256_0_0) (k0_pay3 q k) Finset.univ (View.stores_vmem_bits_univ h_S512x256 rfl) (.inl rfl))
  let v : Vec F S1x1x128x256 .bf16 ← Prog.lift (.load vt (Rect.unit (s := S1x32x128x256) off S1x1x128x256.size h).toLoadRect (View.loadsAt_vmem h_S1x1x128x256))
  let _ : Vec F S512x256 .f32 ← Prog.lift (.load p (Rect.unit (s := S512x256) ![0, 0] S512x256.size inb_S512x256_S512x256_0_0).toLoadRect (View.loadsAt_vmem h_S512x256))
  Prog.lift (.store p (Rect.unit (s := S512x256) ![0, 0] S512x256.size inb_S512x256_S512x256_0_0) (k0_pay4 dob v) Finset.univ (View.stores_vmem_bits_univ h_S512x256 rfl) (.inl rfl))

/-- Consume the scores in `s` and `p`: add the tile's parts to the query gradient in `dq` and to the tile at `off` of
    the two gradients of keys and values. -/
def consumeP (krow : Memref sig .tc .vmem S1x8192x128 .bf16) (dk dv : Memref sig .tc .vmem S1x32x128x256 .f32)
    (dq : Memref sig .tc .vmem S512x128 .f32) (lse dd s p : Memref sig .tc .vmem S512x256 .f32)
    (dobT qT : FVec F S128x512 .bf16)
    (off : Fin S1x32x128x256.rank → ℕ) (h : TileIn off) (rows : Fin S1x8192x128.rank → ℕ) (hr : RowsIn rows) : Prog (TpuEff nD τ sig (Elt F) Λ₀ .tc) (Unit) := do
  let s1 : Vec F S512x256 .f32 ← Prog.lift (.load s (Rect.unit (s := S512x256) ![0, 0] S512x256.size inb_S512x256_S512x256_0_0).toLoadRect (View.loadsAt_vmem h_S512x256))
  let l1 : Vec F S512x256 .f32 ← Prog.lift (.load lse (Rect.unit (s := S512x256) ![0, 0] S512x256.size inb_S512x256_S512x256_0_0).toLoadRect (View.loadsAt_vmem h_S512x256))
  let p1 : Vec F S512x256 .f32 ← Prog.lift (.load p (Rect.unit (s := S512x256) ![0, 0] S512x256.size inb_S512x256_S512x256_0_0).toLoadRect (View.loadsAt_vmem h_S512x256))
  let d1 : Vec F S512x256 .f32 ← Prog.lift (.load dd (Rect.unit (s := S512x256) ![0, 0] S512x256.size inb_S512x256_S512x256_0_0).toLoadRect (View.loadsAt_vmem h_S512x256))
  let q1 : Vec F S512x128 .f32 ← Prog.lift (.load dq (Rect.unit (s := S512x128) ![0, 0] S512x128.size inb_S512x128_S512x128_0_0).toLoadRect (View.loadsAt_vmem h_S512x128))
  let k1 : Vec F S1x256x128 .bf16 ← Prog.lift (.load krow (Rect.unit (s := S1x8192x128) rows S1x256x128.size hr).toLoadRect (View.loadsAt_vmem h_S1x256x128))
  let _ : Vec F S512x128 .f32 ← Prog.lift (.load dq (Rect.unit (s := S512x128) ![0, 0] S512x128.size inb_S512x128_S512x128_0_0).toLoadRect (View.loadsAt_vmem h_S512x128))
  Prog.lift (.store dq (Rect.unit (s := S512x128) ![0, 0] S512x128.size inb_S512x128_S512x128_0_0) (k0_pay7 (k0_pay6 s1 l1 p1 d1) q1 k1) Finset.univ (View.stores_vmem_bits_univ h_S512x128 rfl) (.inl rfl))
  let t1 : Vec F S1x1x128x256 .f32 ← Prog.lift (.load dk (Rect.unit (s := S1x32x128x256) off S1x1x128x256.size h).toLoadRect (View.loadsAt_vmem h_S1x1x128x256))
  let _ : Vec F S1x1x128x256 .f32 ← Prog.lift (.load dk (Rect.unit (s := S1x32x128x256) off S1x1x128x256.size h).toLoadRect (View.loadsAt_vmem h_S1x1x128x256))
  Prog.lift (.store dk (Rect.unit (s := S1x32x128x256) off S1x1x128x256.size h) (k0_pay8 qT (k0_pay6 s1 l1 p1 d1) t1) Finset.univ (View.stores_vmem_bits_univ h_S1x1x128x256 rfl) (.inl rfl))
  let t2 : Vec F S1x1x128x256 .f32 ← Prog.lift (.load dv (Rect.unit (s := S1x32x128x256) off S1x1x128x256.size h).toLoadRect (View.loadsAt_vmem h_S1x1x128x256))
  let _ : Vec F S1x1x128x256 .f32 ← Prog.lift (.load dv (Rect.unit (s := S1x32x128x256) off S1x1x128x256.size h).toLoadRect (View.loadsAt_vmem h_S1x1x128x256))
  Prog.lift (.store dv (Rect.unit (s := S1x32x128x256) off S1x1x128x256.size h) (k0_pay9 dobT (k0_pay5 s1 l1) t2) Finset.univ (View.stores_vmem_bits_univ h_S1x1x128x256 rfl) (.inl rfl))

/-- Two tiles: the scores of the second laid before the first is consumed, those of the third before the second is. -/
def pairP (krow : Memref sig .tc .vmem S1x8192x128 .bf16) (kt vt : Memref sig .tc .vmem S1x32x128x256 .bf16)
    (dk dv : Memref sig .tc .vmem S1x32x128x256 .f32)
    (dq : Memref sig .tc .vmem S512x128 .f32) (lse dd sa sb pa pb : Memref sig .tc .vmem S512x256 .f32)
    (q dob : FVec F S512x128 .bf16) (dobT qT : FVec F S128x512 .bf16)
    (o0 : Fin S1x32x128x256.rank → ℕ) (h0 : TileIn o0) (o1 : Fin S1x32x128x256.rank → ℕ) (h1 : TileIn o1)
    (o2 : Fin S1x32x128x256.rank → ℕ) (h2 : TileIn o2)
    (r0 : Fin S1x8192x128.rank → ℕ) (hr0 : RowsIn r0) (r1 : Fin S1x8192x128.rank → ℕ) (hr1 : RowsIn r1) : Prog (TpuEff nD τ sig (Elt F) Λ₀ .tc) (Unit) := do
  scoresP kt vt sb pb q dob o1 h1
  consumeP krow dk dv dq lse dd sa pa dobT qT o0 h0 r0 hr0
  scoresP kt vt sa pa q dob o2 h2
  consumeP krow dk dv dq lse dd sb pb dobT qT o1 h1 r1 hr1

end Cert.Proof.KernelIdeal

end
-- ==== Proof.Body.lean ====
/-
  The kernel's body in pieces: the two loops over the key tiles below the diagonal and the parts
  around them, each named by the values it takes and gives back.
-/
module

public import proofs.«01_k».proof.Proof.Prog

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F] [Named F]

theorem octet_eq (i : grid0.Coords)
    (arg2 : Memref sig .tc .vmem S1x512x128 .bf16) (harg2 : arg2.IsWhole)
    (arg3 : Memref sig .tc .vmem S1x8192x128 .bf16) (harg3 : arg3.IsWhole)
    (arg4 : Memref sig .tc .vmem S1x32x128x256 .bf16) (harg4 : arg4.IsWhole)
    (arg5 : Memref sig .tc .vmem S1x32x128x256 .bf16) (harg5 : arg5.IsWhole)
    (arg6 : Memref sig .tc .vmem S512x128 .f32) (harg6 : arg6.IsWhole)
    (arg7 : Memref sig .tc .vmem S512x128 .f32) (harg7 : arg7.IsWhole)
    (arg8 : Memref sig .tc .vmem S1x1x512 .f32) (harg8 : arg8.IsWhole)
    (arg9 : Memref sig .tc .vmem S1x512x128 .f32) (harg9 : arg9.IsWhole)
    (arg10 : Memref sig .tc .vmem S1x32x128x256 .f32) (harg10 : arg10.IsWhole)
    (arg11 : Memref sig .tc .vmem S1x32x128x256 .f32) (harg11 : arg11.IsWhole)
    (arg12 : Memref sig .tc .vmem S512x128 .f32) (harg12 : arg12.IsWhole)
    (arg13 : Memref sig .tc .vmem S512x256 .f32) (harg13 : arg13.IsWhole)
    (arg14 : Memref sig .tc .vmem S512x256 .f32) (harg14 : arg14.IsWhole)
    (arg15 : Memref sig .tc .vmem S512x256 .f32) (harg15 : arg15.IsWhole)
    (arg16 : Memref sig .tc .vmem S512x256 .f32) (harg16 : arg16.IsWhole)
    (arg17 : Memref sig .tc .vmem S512x256 .f32) (harg17 : arg17.IsWhole)
    (arg18 : Memref sig .tc .vmem S512x256 .f32) (harg18 : arg18.IsWhole)
    (arg1 : BitVec 32) (v47 : FVec F S512x128 .bf16) (v49 : FVec F S128x512 .bf16) (v51 : FVec F S512x128 .bf16) (v54 : FVec F S128x512 .bf16)
    (v97 : BitVec 32) (v111 : BitVec 1) (t : Fin (k0_t1_loop i).trips) :
    k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v47 v49 v51 v54 v97 v111 t () = (do
    pairP arg3 arg4 arg5 arg10 arg11 arg12 arg13 arg14 arg15 arg16 arg17 arg18 v51 v47 v49 v54
      (k0_off3 i t 0#32) (k0_off3_inb i t 0) (k0_off1 i t 0#32 1#32) (k0_off1_inb i t 0 0) (k0_off1 i t 0#32 2#32) (k0_off1_inb i t 0 1)
      (k0_off2 i t 0#32) (k0_off2_inb i t 0) (k0_off4 i t 0#32) (k0_off4_inb i t 0)
    pairP arg3 arg4 arg5 arg10 arg11 arg12 arg13 arg14 arg15 arg16 arg17 arg18 v51 v47 v49 v54
      (k0_off3 i t 2#32) (k0_off3_inb i t 1) (k0_off1 i t 2#32 1#32) (k0_off1_inb i t 1 0) (k0_off1 i t 2#32 2#32) (k0_off1_inb i t 1 1)
      (k0_off2 i t 2#32) (k0_off2_inb i t 1) (k0_off4 i t 2#32) (k0_off4_inb i t 1)
    pairP arg3 arg4 arg5 arg10 arg11 arg12 arg13 arg14 arg15 arg16 arg17 arg18 v51 v47 v49 v54
      (k0_off3 i t 4#32) (k0_off3_inb i t 2) (k0_off1 i t 4#32 1#32) (k0_off1_inb i t 2 0) (k0_off1 i t 4#32 2#32) (k0_off1_inb i t 2 1)
      (k0_off2 i t 4#32) (k0_off2_inb i t 2) (k0_off4 i t 4#32) (k0_off4_inb i t 2)
    pairP arg3 arg4 arg5 arg10 arg11 arg12 arg13 arg14 arg15 arg16 arg17 arg18 v51 v47 v49 v54
      (k0_off3 i t 6#32) (k0_off3_inb i t 3) (k0_off1 i t 6#32 1#32) (k0_off1_inb i t 3 0) (k0_off1 i t 6#32 2#32) (k0_off1_inb i t 3 1)
      (k0_off2 i t 6#32) (k0_off2_inb i t 3) (k0_off4 i t 6#32) (k0_off4_inb i t 3)) := by
  rfl

end Cert.Proof.KernelIdeal

end
-- ==== Proof.Rules.lean ====
/-
  Loads and stores of a buffer held whole, told by what the buffer reads.

  A buffer is held as "memref `M` reads `X`" (`pv`). A load through a rectangle then gives `X` at the rectangle's
  indices, and a store through a rectangle leaves `X` overlaid there by what is stored.
-/
module

public import proofs.«01_k».proof.Proof.Prog

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## Overlays -/

/-- A load through a whole-shape rectangle reads everything. -/
theorem ld_whole {S : Shape} {α : Type} (off : Fin S.rank → ℕ) (h0 : ∀ a, off a = 0) (h : ∀ a, off a + S.size a ≤ S.size a)
    (X : S.Idx → α) : (fun x => X ((Rect.unit (s := S) off S.size h).idx x)) = X := by
  funext x
  refine congrArg X (funext fun a => Fin.ext ?_)
  rw [LoadRect.idx_apply]
  simp [Rect.unit, h0 a]

/-- A store through a whole-shape rectangle leaves what is stored. -/
theorem overlay_whole {S : Shape} {α : Type} (off : Fin S.rank → ℕ) (h0 : ∀ a, off a = 0) (h : ∀ a, off a + S.size a ≤ S.size a)
    (X w : S.Idx → α) : (Rect.unit (s := S) off S.size h).overlay X w = w := by
  funext x
  have e : (Rect.unit (s := S) off S.size h).emb x = x := funext fun a => Fin.ext (by
    show ((Rect.unit (s := S) off S.size h).idx x a : ℕ) = _
    rw [LoadRect.idx_apply]; simp [Rect.unit, h0 a])
  have := (Rect.unit (s := S) off S.size h).overlay_emb X w x
  rwa [e] at this

/-- A load through the rectangle just stored through reads what was stored. -/
theorem ld_overlay {S : Shape} {α : Type} (r : Rect S) (X : S.Idx → α) (w : r.shape.Idx → α) :
    (fun x => r.overlay X w (r.idx x)) = w := by
  funext x; exact r.overlay_emb X w x

/-! ## The buffers -/

/-- Memref `M` held whole on core `c`, reading `X`. -/
abbrev pv (c : Dev nD) {sp : Space} {S : Shape} {e : EltTy} (M : Memref sig .tc sp S e) (h : M.IsWhole) (X : S.Idx → Elt F e) : sProp 𝕄 :=
  M.view.loc (c : Thread nD τ) ↦{fullShare} (h.unread X : Buf (Elt F) (M.view.loc (c : Thread nD τ)))

theorem wp_ld (c : Dev nD) (E : Set ℕ) {cs : CoreSpace} {S : Shape} {e : EltTy} {M : Memref sig .tc cs S e} (h : M.IsWhole) {X : S.Idx → Elt F e}
    {r : Rect S} {hl : M.view.LoadsAt r.toLoadRect} {α : Type} {k : (r.shape.Idx → Elt F e) → Prog (TpuEff nD τ sig (Elt F) Λ₀ .tc) α} {Q : α → sProp 𝕄} :
    pv c M h X ⊢ iprop((pv c M h X -∗ wp frame (wpE (defs₀ (F := F)) Variants.none c none) E (k (fun x => X (r.idx x))) Q)
      -∗ wp frame (wpE (defs₀ (F := F)) Variants.none c none) E (.op (.load M r.toLoadRect hl) k) Q) := by
  have := wp_load (Val := Elt F) (defs := defs₀ (F := F)) (Γ := .empty) (Q := Q) Variants.none (c : Thread nD τ) none E (m := M) (r := r.toLoadRect) (hl := hl) (k := k) (S := Finset.univ) (q := fullShare)
    (f := h.unread X) (Finset.subset_univ _)
  rw [View.readAt_eq_ld, h.read_unread] at this
  exact this

theorem write_slice (c : Dev nD) {sp : Space} {S : Shape} {e : EltTy} {M : Memref sig .tc sp S e} (h : M.IsWhole) (X : S.Idx → Elt F e)
    (r : Rect S) (w : r.shape.Idx → Elt F e) : (M.access r).write (Elt F) (h.unread X) w Finset.univ = h.unread (r.overlay X w) := by
  refine h.eq_unread (funext fun y => ?_)
  change M.view.read (Elt F) (M.view.writes (Elt F) (h.unread X) [⟨r, w⟩]) y = _
  by_cases hy : y ∈ r.set
  · obtain ⟨x, rfl⟩ : ∃ x, r.emb x = y := by
      rw [← Rect.map_emb_univ] at hy
      obtain ⟨x, -, hx⟩ := Finset.mem_map.mp hy
      exact ⟨x, hx⟩
    rw [View.read_writes_cons_emb, Rect.overlay_emb]
  · rw [View.read_writes_cons_miss _ _ _ _ _ hy, Rect.overlay_of_not_mem _ _ _ hy, View.writes_nil, h.read_unread]

theorem wp_st (c : Dev nD) (E : Set ℕ) {cs : CoreSpace} {S : Shape} {e : EltTy} {M : Memref sig .tc cs S e} (h : M.IsWhole) {X : S.Idx → Elt F e}
    {r : Rect S} {w : r.shape.Idx → Elt F e} {hx : (M.access r).Stores Finset.univ} {hm : (Finset.univ : Finset r.shape.Idx) = Finset.univ ∨ ∀ a, r.stride a = 1}
    {α : Type} {k : PUnit → Prog (TpuEff nD τ sig (Elt F) Λ₀ .tc) α} {Q : α → sProp 𝕄} :
    pv c M h X ⊢ iprop((pv c M h (r.overlay X w) -∗ wp frame (wpE (defs₀ (F := F)) Variants.none c none) E (k ⟨⟩) Q)
      -∗ wp frame (wpE (defs₀ (F := F)) Variants.none c none) E (.op (.store M r w Finset.univ hx hm) k) Q) := by
  have := wp_store (Val := Elt F) (defs := defs₀ (F := F)) (Γ := .empty) (Q := Q) Variants.none (c : Thread nD τ) none E (m := M) (r := r) (w := w) (Mk := Finset.univ) (hx := hx) (hm := hm) (k := k)
    (S := Finset.univ) (f := h.unread X) (Finset.subset_univ _)
  rw [write_slice c h X r w] at this
  exact this

/-- What is left after the last operation is what is returned. -/
theorem wp_after (c : Dev nD) (E : Set ℕ) {α β : Type} {x : β} {k : β → Prog (TpuEff nD τ sig (Elt F) Λ₀ .tc) α} {Q : α → sProp 𝕄} :
    wp frame (wpE (defs₀ (F := F)) Variants.none c none) E (k x) Q ⊢ wp frame (wpE (defs₀ (F := F)) Variants.none c none) E ((Prog.ret x).bind k) Q := .rfl

/-- A load of everything. -/
theorem wp_ldw (c : Dev nD) (E : Set ℕ) {cs : CoreSpace} {S : Shape} {e : EltTy} {M : Memref sig .tc cs S e} (h : M.IsWhole) {X : S.Idx → Elt F e}
    {off : Fin S.rank → ℕ} {hin : ∀ a, off a + S.size a ≤ S.size a} {hl : M.view.LoadsAt (Rect.unit (s := S) off S.size hin).toLoadRect} {α : Type}
    {k : (S.Idx → Elt F e) → Prog (TpuEff nD τ sig (Elt F) Λ₀ .tc) α} {Q : α → sProp 𝕄} :
    pv c M h X ⊢ iprop((pv c M h X -∗ wp frame (wpE (defs₀ (F := F)) Variants.none c none) E (k X) Q)
      -∗ wp frame (wpE (defs₀ (F := F)) Variants.none c none) E (.op (.load M (Rect.unit (s := S) off S.size hin).toLoadRect hl) k) Q) := by
  have h0 : ∀ a, off a = 0 := fun a => by have := hin a; omega
  have := wp_ld (F := F) c E h (X := X) (r := Rect.unit (s := S) off S.size hin) (hl := hl) (k := k) (Q := Q)
  rw [ld_whole off h0 hin X] at this
  exact this

/-- A store of everything. -/
theorem wp_stw (c : Dev nD) (E : Set ℕ) {cs : CoreSpace} {S : Shape} {e : EltTy} {M : Memref sig .tc cs S e} (h : M.IsWhole) {X : S.Idx → Elt F e}
    {off : Fin S.rank → ℕ} {hin : ∀ a, off a + S.size a ≤ S.size a} {w : S.Idx → Elt F e}
    {hx : (M.access (Rect.unit (s := S) off S.size hin)).Stores Finset.univ}
    {hm : (Finset.univ : Finset (Rect.unit (s := S) off S.size hin).shape.Idx) = Finset.univ ∨ ∀ a, (Rect.unit (s := S) off S.size hin).stride a = 1}
    {α : Type} {k : PUnit → Prog (TpuEff nD τ sig (Elt F) Λ₀ .tc) α} {Q : α → sProp 𝕄} :
    pv c M h X ⊢ iprop((pv c M h w -∗ wp frame (wpE (defs₀ (F := F)) Variants.none c none) E (k ⟨⟩) Q)
      -∗ wp frame (wpE (defs₀ (F := F)) Variants.none c none) E (.op (.store M (Rect.unit (s := S) off S.size hin) w Finset.univ hx hm) k) Q) := by
  have h0 : ∀ a, off a = 0 := fun a => by have := hin a; omega
  have := wp_st (F := F) c E h (X := X) (r := Rect.unit (s := S) off S.size hin) (w := w) (hx := hx) (hm := hm) (k := k) (Q := Q)
  rw [overlay_whole off h0 hin X w] at this
  exact this

/-! ## The two strokes' triples -/

/-- Tile `n`'s offset is inside. -/
theorem tileIn (n : ℕ) (hn : n < 32) : TileIn ![0, n, 0, 0] := by
  intro a; fin_cases a <;> simp [S1x1x128x256, S1x32x128x256] <;> omega
/-- The rows of tile `n` are inside. -/
theorem rowsIn (n : ℕ) (hn : n < 32) : RowsIn ![0, 256 * n, 0] := by
  intro a; fin_cases a <;> simp [S1x256x128, S1x8192x128] <;> omega

/-- Tile `n` of a tiled array. -/
def tile {α : Type} (X : S1x32x128x256.Idx → α) (n : ℕ) (hn : n < 32) : S1x1x128x256.Idx → α :=
  fun x => X ((Rect.unit (s := S1x32x128x256) ![0, n, 0, 0] S1x1x128x256.size (tileIn n hn)).idx x)
/-- A tiled array with tile `n` replaced. -/
def setTile {α : Type} (X : S1x32x128x256.Idx → α) (n : ℕ) (hn : n < 32) (w : S1x1x128x256.Idx → α) : S1x32x128x256.Idx → α :=
  (Rect.unit (s := S1x32x128x256) ![0, n, 0, 0] S1x1x128x256.size (tileIn n hn)).overlay X w
/-- The 256 key rows of tile `n`. -/
def rowsOf {α : Type} (X : S1x8192x128.Idx → α) (n : ℕ) (hn : n < 32) : S1x256x128.Idx → α :=
  fun x => X ((Rect.unit (s := S1x8192x128) ![0, 256 * n, 0] S1x256x128.size (rowsIn n hn)).idx x)

theorem wp_ld_tile (c : Dev nD) (E : Set ℕ) {e : EltTy} {M : Memref sig .tc .vmem S1x32x128x256 e} (h : M.IsWhole) {X : S1x32x128x256.Idx → Elt F e}
    {off : Fin S1x32x128x256.rank → ℕ} {hin : TileIn off} (n : ℕ) (hn : n < 32) (ho : off = ![0, n, 0, 0])
    {hl : M.view.LoadsAt (Rect.unit (s := S1x32x128x256) off S1x1x128x256.size hin).toLoadRect} {α : Type}
    {k : (S1x1x128x256.Idx → Elt F e) → Prog (TpuEff nD τ sig (Elt F) Λ₀ .tc) α} {Q : α → sProp 𝕄} :
    pv c M h X ⊢ iprop((pv c M h X -∗ wp frame (wpE (defs₀ (F := F)) Variants.none c none) E (k (tile X n hn)) Q)
      -∗ wp frame (wpE (defs₀ (F := F)) Variants.none c none) E (.op (.load M (Rect.unit (s := S1x32x128x256) off S1x1x128x256.size hin).toLoadRect hl) k) Q) := by
  subst ho
  exact wp_ld (F := F) c E h (r := Rect.unit (s := S1x32x128x256) ![0, n, 0, 0] S1x1x128x256.size (tileIn n hn)) (k := k)

theorem wp_ld_rows (c : Dev nD) (E : Set ℕ) {e : EltTy} {M : Memref sig .tc .vmem S1x8192x128 e} (h : M.IsWhole) {X : S1x8192x128.Idx → Elt F e}
    {off : Fin S1x8192x128.rank → ℕ} {hin : RowsIn off} (n : ℕ) (hn : n < 32) (ho : off = ![0, 256 * n, 0])
    {hl : M.view.LoadsAt (Rect.unit (s := S1x8192x128) off S1x256x128.size hin).toLoadRect} {α : Type}
    {k : (S1x256x128.Idx → Elt F e) → Prog (TpuEff nD τ sig (Elt F) Λ₀ .tc) α} {Q : α → sProp 𝕄} :
    pv c M h X ⊢ iprop((pv c M h X -∗ wp frame (wpE (defs₀ (F := F)) Variants.none c none) E (k (rowsOf X n hn)) Q)
      -∗ wp frame (wpE (defs₀ (F := F)) Variants.none c none) E (.op (.load M (Rect.unit (s := S1x8192x128) off S1x256x128.size hin).toLoadRect hl) k) Q) := by
  subst ho
  exact wp_ld (F := F) c E h (r := Rect.unit (s := S1x8192x128) ![0, 256 * n, 0] S1x256x128.size (rowsIn n hn)) (k := k)

theorem wp_st_tile (c : Dev nD) (E : Set ℕ) {e : EltTy} {M : Memref sig .tc .vmem S1x32x128x256 e} (h : M.IsWhole) {X : S1x32x128x256.Idx → Elt F e}
    {off : Fin S1x32x128x256.rank → ℕ} {hin : TileIn off} (n : ℕ) (hn : n < 32) (ho : off = ![0, n, 0, 0]) {w : S1x1x128x256.Idx → Elt F e}
    {hx : (M.access (Rect.unit (s := S1x32x128x256) off S1x1x128x256.size hin)).Stores Finset.univ}
    {hm : (Finset.univ : Finset (Rect.unit (s := S1x32x128x256) off S1x1x128x256.size hin).shape.Idx) = Finset.univ
      ∨ ∀ a, (Rect.unit (s := S1x32x128x256) off S1x1x128x256.size hin).stride a = 1}
    {α : Type} {k : PUnit → Prog (TpuEff nD τ sig (Elt F) Λ₀ .tc) α} {Q : α → sProp 𝕄} :
    pv c M h X ⊢ iprop((pv c M h (setTile X n hn w) -∗ wp frame (wpE (defs₀ (F := F)) Variants.none c none) E (k ⟨⟩) Q)
      -∗ wp frame (wpE (defs₀ (F := F)) Variants.none c none) E (.op (.store M (Rect.unit (s := S1x32x128x256) off S1x1x128x256.size hin) w Finset.univ hx hm) k) Q) := by
  subst ho
  exact wp_st (F := F) c E h

theorem scores_triple (c : Dev nD) (E : Set ℕ)
    {kt : Memref sig .tc .vmem S1x32x128x256 .bf16} (hkt : kt.IsWhole) {vt : Memref sig .tc .vmem S1x32x128x256 .bf16} (hvt : vt.IsWhole)
    {s : Memref sig .tc .vmem S512x256 .f32} (hs : s.IsWhole) {p : Memref sig .tc .vmem S512x256 .f32} (hp : p.IsWhole)
    {q dob : FVec F S512x128 .bf16} {off : Fin S1x32x128x256.rank → ℕ} {h : TileIn off} (n : ℕ) (hn : n < 32) (ho : off = ![0, n, 0, 0])
    {K V : S1x32x128x256.Idx → Elt F .bf16} {S P : S512x256.Idx → Elt F .f32} {Q : Unit → sProp 𝕄} :
    iprop(pv c kt hkt K ∗ pv c vt hvt V ∗ pv c s hs S ∗ pv c p hp P)
      ⊢ iprop((iprop(pv c kt hkt K ∗ pv c vt hvt V ∗ pv c s hs (k0_pay3 q (tile K n hn)) ∗ pv c p hp (k0_pay4 dob (tile V n hn))) -∗ Q ())
        -∗ wp frame (wpE (defs₀ (F := F)) Variants.none c none) E (scoresP kt vt s p q dob off h) Q) := by
  subst ho
  iintro ⟨Hk, Hv, Hs, Hp⟩ HQ
  unfold scoresP
  iapply (wp_ld c E hkt) $$ Hk; iintro Hk
  iapply (wp_ldw c E hs) $$ Hs; iintro Hs
  iapply (wp_stw c E hs) $$ Hs; iintro Hs
  iapply (wp_ld c E hvt) $$ Hv; iintro Hv
  iapply (wp_ldw c E hp) $$ Hp; iintro Hp
  iapply (wp_stw c E hp) $$ Hp; iintro Hp
  sl_step
  iapply HQ
  isplitl [Hk]; · iexact Hk
  isplitl [Hv]; · iexact Hv
  isplitl [Hs]; · iexact Hs
  iexact Hp

end Cert.Proof.KernelIdeal

end
-- ==== Proof.Pair.lean ====
/-
  The two strokes on buffers told by what they read, and a pair of tiles.

  `Acc` is what the kernel accumulates (the block's query gradient, the two tiled gradients), `Blk` what is fixed while
  it does (the query block's operands, the keys, the values), `stepAcc` one tile consumed and `accs` the first tiles
  consumed in order. `atTile n` says that the first `n` tiles are consumed and that tile `n`'s scores are laid in the
  first pair of score buffers.
-/
module

public import proofs.«01_k».proof.Proof.Rules

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

attribute [local irreducible] k0_pay3 k0_pay4 k0_pay5 k0_pay6 k0_pay7 k0_pay8 k0_pay9

/-- What the kernel accumulates at a query block. -/
structure Acc (F : FTy → Type) where
  dq : S512x128.Idx → Elt F .f32
  dk : S1x32x128x256.Idx → Elt F .f32
  dv : S1x32x128x256.Idx → Elt F .f32

/-- What stays fixed at a query block. -/
structure Blk (F : FTy → Type) where
  qh : FVec F S512x128 .bf16
  dob : FVec F S512x128 .bf16
  dobT : FVec F S128x512 .bf16
  qT : FVec F S128x512 .bf16
  lse : S512x256.Idx → Elt F .f32
  dd : S512x256.Idx → Elt F .f32
  kr : S1x8192x128.Idx → Elt F .bf16
  kt : S1x32x128x256.Idx → Elt F .bf16
  vt : S1x32x128x256.Idx → Elt F .bf16

/-- Tile `n`'s scores, and its products of the cotangent with the values. -/
def sc (b : Blk F) (n : ℕ) (hn : n < 32) : S512x256.Idx → Elt F .f32 := k0_pay3 b.qh (tile b.kt n hn)
def pp (b : Blk F) (n : ℕ) (hn : n < 32) : S512x256.Idx → Elt F .f32 := k0_pay4 b.dob (tile b.vt n hn)
/-- Tile `n`'s probabilities and score gradient. -/
def pr (b : Blk F) (n : ℕ) (hn : n < 32) : FVec F S512x256 .f32 := k0_pay5 (sc b n hn) b.lse
def ds (b : Blk F) (n : ℕ) (hn : n < 32) : FVec F S512x256 .bf16 := k0_pay6 (sc b n hn) b.lse (pp b n hn) b.dd

/-- Tile `n` consumed. -/
def stepAcc (b : Blk F) (n : ℕ) (hn : n < 32) (a : Acc F) : Acc F where
  dq := k0_pay7 (ds b n hn) a.dq (rowsOf b.kr n hn)
  dk := setTile a.dk n hn (k0_pay8 b.qT (ds b n hn) (tile a.dk n hn))
  dv := setTile a.dv n hn (k0_pay9 b.dobT (pr b n hn) (tile a.dv n hn))

/-- The first `n` tiles consumed, in order. -/
def accs (b : Blk F) (a : Acc F) : (n : ℕ) → (hn : n ≤ 32) → Acc F
  | 0, _ => a
  | n + 1, hn => stepAcc b n hn (accs b a n (Nat.le_of_succ_le hn))

theorem consume_triple0 (c : Dev nD) (E : Set ℕ)
    {kr : Memref sig .tc .vmem S1x8192x128 .bf16} (hkr : kr.IsWhole)
    {dk : Memref sig .tc .vmem S1x32x128x256 .f32} (hdk : dk.IsWhole) {dv : Memref sig .tc .vmem S1x32x128x256 .f32} (hdv : dv.IsWhole)
    {dq : Memref sig .tc .vmem S512x128 .f32} (hdq : dq.IsWhole)
    {lse : Memref sig .tc .vmem S512x256 .f32} (hlse : lse.IsWhole) {dd : Memref sig .tc .vmem S512x256 .f32} (hdd : dd.IsWhole)
    {s : Memref sig .tc .vmem S512x256 .f32} (hs : s.IsWhole) {p : Memref sig .tc .vmem S512x256 .f32} (hp : p.IsWhole)
    {off : Fin S1x32x128x256.rank → ℕ} {h : TileIn off} {rows : Fin S1x8192x128.rank → ℕ} {hr : RowsIn rows}
    (n : ℕ) (hn : n < 32) (ho : off = ![0, n, 0, 0]) (hro : rows = ![0, 256 * n, 0])
    {dobT qT : FVec F S128x512 .bf16} {KR : S1x8192x128.Idx → Elt F .bf16} {DK DV : S1x32x128x256.Idx → Elt F .f32} {DQ : S512x128.Idx → Elt F .f32}
    {L D S P : S512x256.Idx → Elt F .f32} {Q : Unit → sProp 𝕄} :
    iprop(pv c kr hkr KR ∗ pv c dk hdk DK ∗ pv c dv hdv DV ∗ pv c dq hdq DQ ∗ pv c lse hlse L ∗ pv c dd hdd D
        ∗ pv c s hs S ∗ pv c p hp P)
      ⊢ iprop((iprop(pv c kr hkr KR ∗ pv c dk hdk (setTile DK n hn (k0_pay8 qT (k0_pay6 S L P D) (tile DK n hn))) ∗ pv c dv hdv (setTile DV n hn (k0_pay9 dobT (k0_pay5 S L) (tile DV n hn))) ∗ pv c dq hdq (k0_pay7 (k0_pay6 S L P D) DQ (rowsOf KR n hn))
              ∗ pv c lse hlse L ∗ pv c dd hdd D ∗ pv c s hs S ∗ pv c p hp P) -∗ Q ())
        -∗ wp frame (wpE (defs₀ (F := F)) Variants.none c none) E (consumeP kr dk dv dq lse dd s p dobT qT off h rows hr) Q) := by
  subst ho hro
  iintro ⟨Hkr, Hdk, Hdv, Hdq, Hl, Hd, Hs, Hp⟩ HQ
  unfold consumeP
  iapply (wp_ldw c E hs) $$ Hs; iintro Hs
  iapply (wp_ldw c E hlse) $$ Hl; iintro Hl
  iapply (wp_ldw c E hp) $$ Hp; iintro Hp
  iapply (wp_ldw c E hdd) $$ Hd; iintro Hd
  iapply (wp_ldw c E hdq) $$ Hdq; iintro Hdq
  iapply (wp_ld c E hkr) $$ Hkr; iintro Hkr
  iapply (wp_ldw c E hdq) $$ Hdq; iintro Hdq
  iapply (wp_stw c E hdq) $$ Hdq; iintro Hdq
  iapply (wp_ld c E hdk) $$ Hdk; iintro Hdk
  iapply (wp_ld c E hdk) $$ Hdk; iintro Hdk
  iapply (wp_st c E hdk) $$ Hdk; iintro Hdk
  iapply (wp_ld c E hdv) $$ Hdv; iintro Hdv
  iapply (wp_ld c E hdv) $$ Hdv; iintro Hdv
  iapply (wp_st c E hdv) $$ Hdv; iintro Hdv
  sl_step
  iapply HQ
  isplitl [Hkr]; · iexact Hkr
  isplitl [Hdk]; · iexact Hdk
  isplitl [Hdv]; · iexact Hdv
  isplitl [Hdq]; · iexact Hdq
  isplitl [Hl]; · iexact Hl
  isplitl [Hd]; · iexact Hd
  isplitl [Hs]; · iexact Hs
  iexact Hp

theorem consume_triple (c : Dev nD) (E : Set ℕ)
    {kr : Memref sig .tc .vmem S1x8192x128 .bf16} (hkr : kr.IsWhole)
    {dk : Memref sig .tc .vmem S1x32x128x256 .f32} (hdk : dk.IsWhole) {dv : Memref sig .tc .vmem S1x32x128x256 .f32} (hdv : dv.IsWhole)
    {dq : Memref sig .tc .vmem S512x128 .f32} (hdq : dq.IsWhole)
    {lse : Memref sig .tc .vmem S512x256 .f32} (hlse : lse.IsWhole) {dd : Memref sig .tc .vmem S512x256 .f32} (hdd : dd.IsWhole)
    {s : Memref sig .tc .vmem S512x256 .f32} (hs : s.IsWhole) {p : Memref sig .tc .vmem S512x256 .f32} (hp : p.IsWhole)
    {off : Fin S1x32x128x256.rank → ℕ} {h : TileIn off} {rows : Fin S1x8192x128.rank → ℕ} {hr : RowsIn rows}
    (n : ℕ) (hn : n < 32) (ho : off = ![0, n, 0, 0]) (hro : rows = ![0, 256 * n, 0])
    {b : Blk F} {a : Acc F} {Q : Unit → sProp 𝕄} :
    iprop(pv c kr hkr b.kr ∗ pv c dk hdk a.dk ∗ pv c dv hdv a.dv ∗ pv c dq hdq a.dq ∗ pv c lse hlse b.lse ∗ pv c dd hdd b.dd
        ∗ pv c s hs (sc b n hn) ∗ pv c p hp (pp b n hn))
      ⊢ iprop((iprop(pv c kr hkr b.kr ∗ pv c dk hdk (stepAcc b n hn a).dk ∗ pv c dv hdv (stepAcc b n hn a).dv ∗ pv c dq hdq (stepAcc b n hn a).dq
              ∗ pv c lse hlse b.lse ∗ pv c dd hdd b.dd ∗ pv c s hs (sc b n hn) ∗ pv c p hp (pp b n hn)) -∗ Q ())
        -∗ wp frame (wpE (defs₀ (F := F)) Variants.none c none) E (consumeP kr dk dv dq lse dd s p b.dobT b.qT off h rows hr) Q) := by
  have := consume_triple0 c E hkr hdk hdv hdq hlse hdd hs hp n hn ho hro (h := h) (hr := hr) (dobT := b.dobT) (qT := b.qT) (KR := b.kr) (DK := a.dk) (DV := a.dv)
    (DQ := a.dq) (L := b.lse) (D := b.dd) (S := sc b n hn) (P := pp b n hn) (Q := Q)
  dsimp only [stepAcc, ds, pr]
  exact this

section Pair

variable (c : Dev nD) (E : Set ℕ)
    {kr : Memref sig .tc .vmem S1x8192x128 .bf16} (hkr : kr.IsWhole)
    {kt : Memref sig .tc .vmem S1x32x128x256 .bf16} (hkt : kt.IsWhole) {vt : Memref sig .tc .vmem S1x32x128x256 .bf16} (hvt : vt.IsWhole)
    {dk : Memref sig .tc .vmem S1x32x128x256 .f32} (hdk : dk.IsWhole) {dv : Memref sig .tc .vmem S1x32x128x256 .f32} (hdv : dv.IsWhole)
    {dq : Memref sig .tc .vmem S512x128 .f32} (hdq : dq.IsWhole)
    {lse : Memref sig .tc .vmem S512x256 .f32} (hlse : lse.IsWhole) {dd : Memref sig .tc .vmem S512x256 .f32} (hdd : dd.IsWhole)
    {sa : Memref sig .tc .vmem S512x256 .f32} (hsa : sa.IsWhole) {sb : Memref sig .tc .vmem S512x256 .f32} (hsb : sb.IsWhole)
    {pa : Memref sig .tc .vmem S512x256 .f32} (hpa : pa.IsWhole) {pb : Memref sig .tc .vmem S512x256 .f32} (hpb : pb.IsWhole)

/-- The first `n` tiles consumed from `a`, and tile `n`'s scores laid in the first pair of buffers. -/
def atTile (b : Blk F) (a : Acc F) (n : ℕ) (hn : n < 32) : sProp 𝕄 :=
  iprop(pv c kr hkr b.kr ∗ pv c kt hkt b.kt ∗ pv c vt hvt b.vt
    ∗ pv c dk hdk (accs b a n hn.le).dk ∗ pv c dv hdv (accs b a n hn.le).dv ∗ pv c dq hdq (accs b a n hn.le).dq
    ∗ pv c lse hlse b.lse ∗ pv c dd hdd b.dd ∗ pv c sa hsa (sc b n hn) ∗ pv c pa hpa (pp b n hn)
    ∗ (∃ X : S512x256.Idx → Elt F .f32, pv c sb hsb X) ∗ (∃ X : S512x256.Idx → Elt F .f32, pv c pb hpb X))

theorem pair_triple {b : Blk F} {a : Acc F} (n : ℕ) (hn : n < 32) (m : ℕ) (hm : m < 32) (e : m = n + 2)
    {o0 : Fin S1x32x128x256.rank → ℕ} {h0 : TileIn o0} {o1 : Fin S1x32x128x256.rank → ℕ} {h1 : TileIn o1}
    {o2 : Fin S1x32x128x256.rank → ℕ} {h2 : TileIn o2}
    {r0 : Fin S1x8192x128.rank → ℕ} {hr0 : RowsIn r0} {r1 : Fin S1x8192x128.rank → ℕ} {hr1 : RowsIn r1}
    (e0 : o0 = ![0, n, 0, 0]) (e1 : o1 = ![0, n + 1, 0, 0]) (e2 : o2 = ![0, n + 2, 0, 0])
    (er0 : r0 = ![0, 256 * n, 0]) (er1 : r1 = ![0, 256 * (n + 1), 0]) :
    atTile c hkr hkt hvt hdk hdv hdq hlse hdd hsa hsb hpa hpb b a n hn
      ⊢ wp frame (wpE (defs₀ (F := F)) Variants.none c none) E
          (pairP kr kt vt dk dv dq lse dd sa sb pa pb b.qh b.dob b.dobT b.qT o0 h0 o1 h1 o2 h2 r0 hr0 r1 hr1)
          (fun _ => atTile c hkr hkt hvt hdk hdv hdq hlse hdd hsa hsb hpa hpb b a m hm) := by
  subst e
  unfold atTile pairP
  iintro ⟨Hkr, Hkt, Hvt, Hdk, Hdv, Hdq, Hl, Hd, Hsa, Hpa, ⟨%X, Hsb⟩, ⟨%Y, Hpb⟩⟩
  rw [wp_bind]
  iapply (scores_triple c E hkt hvt hsb hpb (n + 1) (by omega) e1) $$ [Hkt Hvt Hsb Hpb]
  · isplitl [Hkt]; · iexact Hkt
    isplitl [Hvt]; · iexact Hvt
    isplitl [Hsb]; · iexact Hsb
    iexact Hpb
  iintro ⟨Hkt, Hvt, Hsb, Hpb⟩
  rw [wp_bind]
  iapply (consume_triple c E hkr hdk hdv hdq hlse hdd hsa hpa n hn e0 er0 (b := b) (a := accs b a n hn.le)) $$ [Hkr Hdk Hdv Hdq Hl Hd Hsa Hpa]
  · isplitl [Hkr]; · iexact Hkr
    isplitl [Hdk]; · iexact Hdk
    isplitl [Hdv]; · iexact Hdv
    isplitl [Hdq]; · iexact Hdq
    isplitl [Hl]; · iexact Hl
    isplitl [Hd]; · iexact Hd
    isplitl [Hsa]; · iexact Hsa
    iexact Hpa
  iintro ⟨Hkr, Hdk, Hdv, Hdq, Hl, Hd, Hsa, Hpa⟩
  rw [wp_bind]
  iapply (scores_triple c E hkt hvt hsa hpa (n + 2) hm e2) $$ [Hkt Hvt Hsa Hpa]
  · isplitl [Hkt]; · iexact Hkt
    isplitl [Hvt]; · iexact Hvt
    isplitl [Hsa]; · iexact Hsa
    iexact Hpa
  iintro ⟨Hkt, Hvt, Hsa, Hpa⟩
  iapply (consume_triple c E hkr hdk hdv hdq hlse hdd hsb hpb (n + 1) (by omega) e1 er1 (b := b) (a := accs b a (n + 1) (by omega))) $$ [Hkr Hdk Hdv Hdq Hl Hd Hsb Hpb]
  · isplitl [Hkr]; · iexact Hkr
    isplitl [Hdk]; · iexact Hdk
    isplitl [Hdv]; · iexact Hdv
    isplitl [Hdq]; · iexact Hdq
    isplitl [Hl]; · iexact Hl
    isplitl [Hd]; · iexact Hd
    isplitl [Hsb]; · iexact Hsb
    iexact Hpb
  iintro ⟨Hkr, Hdk, Hdv, Hdq, Hl, Hd, Hsb, Hpb⟩
  isplitl [Hkr]; · iexact Hkr
  isplitl [Hkt]; · iexact Hkt
  isplitl [Hvt]; · iexact Hvt
  isplitl [Hdk]; · iexact Hdk
  isplitl [Hdv]; · iexact Hdv
  isplitl [Hdq]; · iexact Hdq
  isplitl [Hl]; · iexact Hl
  isplitl [Hd]; · iexact Hd
  isplitl [Hsa]; · iexact Hsa
  isplitl [Hpa]; · iexact Hpa
  isplitl [Hsb]
  · iexists _; iexact Hsb
  · iexists _; iexact Hpb

end Pair

end Cert.Proof.KernelIdeal

end
-- ==== Proof.Geometry.lean ====
/-
  The words the kernel computes its offsets, trip counts and conditions with, as numbers of the query block `i 1`.
-/
module

public import proofs.«01_k».proof.Proof.Gen.KernelIdeal.Frame

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

theorem trips1 : ∀ i : grid0.Coords, (k0_t1_loop i).trips = (i 1).val / 4 := by decide +kernel
theorem trips2 : ∀ i : grid0.Coords, (k0_t2_loop i).trips = 0 := by decide +kernel
theorem cond2 : ∀ i : grid0.Coords, k0_cond2 i = 1#1 ↔ 2 ≤ (i 1).val % 4 := by decide +kernel
theorem cond3 : ∀ i : grid0.Coords, k0_cond3 i = 1#1 ↔ (i 1).val % 2 = 1 := by decide +kernel

theorem trip_lt {i : grid0.Coords} (t : Fin (k0_t1_loop i).trips) : t.val < 3 := by
  have h := t.isLt; have h0 := trips1 i
  have h1 : (i 1).val < 16 := (i 1).isLt
  omega

/-- A tile number of an octet's trip, as the kernel computes it. -/
theorem octet_word : ∀ (m : Fin 3) (x : Fin 8) (y : Fin 4),
    (Scalar.indexCast (Scalar.addi (Scalar.addi (Scalar.muli 8#32 (Scf.iv 0#32 1#32 m.val)) (BitVec.ofNat 32 x.val)) (BitVec.ofNat 32 y.val))).toNat
      = 8 * m.val + x.val + y.val := by decide +kernel
theorem octet_row_word : ∀ (m : Fin 3) (x : Fin 8) (y : Fin 4),
    (Scalar.indexCast (Scalar.muli (Scalar.addi (Scalar.addi (Scalar.muli 8#32 (Scf.iv 0#32 1#32 m.val)) (BitVec.ofNat 32 x.val)) (BitVec.ofNat 32 y.val)) 256#32)).toNat
      = 256 * (8 * m.val + x.val + y.val) := by decide +kernel
theorem octet_word0 : ∀ (m : Fin 3) (x : Fin 8),
    (Scalar.indexCast (Scalar.addi (Scalar.muli 8#32 (Scf.iv 0#32 1#32 m.val)) (BitVec.ofNat 32 x.val))).toNat
      = 8 * m.val + x.val := by decide +kernel
theorem octet_row_word0 : ∀ (m : Fin 3) (x : Fin 8),
    (Scalar.indexCast (Scalar.muli (Scalar.addi (Scalar.muli 8#32 (Scf.iv 0#32 1#32 m.val)) (BitVec.ofNat 32 x.val)) 256#32)).toNat
      = 256 * (8 * m.val + x.val) := by decide +kernel

theorem off1 (i : grid0.Coords) (t : Fin (k0_t1_loop i).trips) (x y : ℕ) (hx : x < 8) (hy : y < 4) :
    k0_off1 i t (BitVec.ofNat 32 x) (BitVec.ofNat 32 y) = ![0, 8 * t.val + x + y, 0, 0] := by
  rw [← octet_word ⟨t.val, trip_lt t⟩ ⟨x, hx⟩ ⟨y, hy⟩]; rfl
theorem off2 (i : grid0.Coords) (t : Fin (k0_t1_loop i).trips) (x : ℕ) (hx : x < 8) :
    k0_off2 i t (BitVec.ofNat 32 x) = ![0, 256 * (8 * t.val + x), 0] := by
  rw [← octet_row_word0 ⟨t.val, trip_lt t⟩ ⟨x, hx⟩]; rfl
theorem off3 (i : grid0.Coords) (t : Fin (k0_t1_loop i).trips) (x : ℕ) (hx : x < 8) :
    k0_off3 i t (BitVec.ofNat 32 x) = ![0, 8 * t.val + x, 0, 0] := by
  rw [← octet_word0 ⟨t.val, trip_lt t⟩ ⟨x, hx⟩]; rfl
theorem off4 (i : grid0.Coords) (t : Fin (k0_t1_loop i).trips) (x : ℕ) (hx : x < 8) :
    k0_off4 i t (BitVec.ofNat 32 x) = ![0, 256 * (8 * t.val + x + 1), 0] := by
  have := octet_row_word ⟨t.val, trip_lt t⟩ ⟨x, hx⟩ 1
  rw [show 8 * t.val + x + 1 = 8 * t.val + x + (1 : Fin 4).val from rfl, ← this]; rfl

theorem off9 : ∀ (i : grid0.Coords), k0_cond2 i = 1#1 → ∀ r : Fin 2, k0_off9 i (BitVec.ofNat 32 (1 + r.val)) = ![0, 8 * ((i 1).val / 4) + 1 + r.val, 0, 0] := by decide +kernel
theorem off10 : ∀ (i : grid0.Coords), k0_cond2 i = 1#1 → k0_off10 i = ![0, 256 * (8 * ((i 1).val / 4)), 0] := by decide +kernel
theorem off11 : ∀ (i : grid0.Coords), k0_cond2 i = 1#1 → k0_off11 i = ![0, 8 * ((i 1).val / 4), 0, 0] := by decide +kernel
theorem off12 : ∀ (i : grid0.Coords), k0_cond2 i = 1#1 → ∀ r : Fin 2, k0_off12 i (BitVec.ofNat 32 (1 + r.val)) = ![0, 256 * (8 * ((i 1).val / 4) + 1 + r.val), 0] := by decide +kernel
theorem off13 : ∀ (i : grid0.Coords), k0_cond2 i = 1#1 → ∀ r : Fin 2, k0_off13 i (BitVec.ofNat 32 (1 + r.val)) = ![0, 8 * ((i 1).val / 4) + 3 + r.val, 0, 0] := by decide +kernel
theorem off14 : ∀ (i : grid0.Coords), k0_cond2 i = 1#1 → k0_off14 i = ![0, 256 * (8 * ((i 1).val / 4) + 3), 0] := by decide +kernel
theorem off15 : ∀ (i : grid0.Coords), k0_cond3 i = 1#1 → ∀ r : Fin 2, k0_off15 i (BitVec.ofNat 32 (1 + r.val)) = ![0, 2 * (i 1).val - 1 + r.val, 0, 0] := by decide +kernel
theorem off16 : ∀ (i : grid0.Coords), k0_cond3 i = 1#1 → k0_off16 i = ![0, 256 * (2 * (i 1).val - 2), 0] := by decide +kernel
theorem off17 : ∀ (i : grid0.Coords), k0_cond3 i = 1#1 → k0_off17 i = ![0, 2 * (i 1).val - 2, 0, 0] := by decide +kernel
theorem off18 : ∀ (i : grid0.Coords), k0_cond3 i = 1#1 → k0_off18 i = ![0, 256 * (2 * (i 1).val - 1), 0] := by decide +kernel

end Cert.Proof.KernelIdeal

end
-- ==== Proof.Middle.lean ====
/-
  The kernel's middle: the tiles before the diagonal, in octets, then four tiles, then two, as the query block's number
  asks.
-/
module

public import proofs.«01_k».proof.Proof.Body
public import proofs.«01_k».proof.Proof.Pair
public import proofs.«01_k».proof.Proof.Geometry

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The four tiles taken when the block's number leaves two or three after the octets. -/
def quadP (i : grid0.Coords) (arg3 : Memref sig .tc .vmem S1x8192x128 .bf16)
    (arg4 : Memref sig .tc .vmem S1x32x128x256 .bf16)
    (arg5 : Memref sig .tc .vmem S1x32x128x256 .bf16)
    (arg10 : Memref sig .tc .vmem S1x32x128x256 .f32)
    (arg11 : Memref sig .tc .vmem S1x32x128x256 .f32)
    (arg12 : Memref sig .tc .vmem S512x128 .f32)
    (arg13 : Memref sig .tc .vmem S512x256 .f32)
    (arg14 : Memref sig .tc .vmem S512x256 .f32)
    (arg15 : Memref sig .tc .vmem S512x256 .f32)
    (arg16 : Memref sig .tc .vmem S512x256 .f32)
    (arg17 : Memref sig .tc .vmem S512x256 .f32)
    (arg18 : Memref sig .tc .vmem S512x256 .f32)
    (v47 : FVec F S512x128 .bf16) (v49 : FVec F S128x512 .bf16) (v51 : FVec F S512x128 .bf16) (v54 : FVec F S128x512 .bf16)
    (h : k0_cond2 i = 1#1) : Prog (TpuEff nD τ sig (Elt F) Λ₀ .tc) (Unit) := do
  pairP arg3 arg4 arg5 arg10 arg11 arg12 arg13 arg14 arg15 arg16 arg17 arg18 v51 v47 v49 v54
    (k0_off11 i) (k0_off11_inb i h) (k0_off9 i 1#32) (k0_off9_inb i h 0) (k0_off9 i 2#32) (k0_off9_inb i h 1)
    (k0_off10 i) (k0_off10_inb i h) (k0_off12 i 1#32) (k0_off12_inb i h 0)
  pairP arg3 arg4 arg5 arg10 arg11 arg12 arg13 arg14 arg15 arg16 arg17 arg18 v51 v47 v49 v54
    (k0_off9 i 2#32) (k0_off9_inb i h 1) (k0_off13 i 1#32) (k0_off13_inb i h 0) (k0_off13 i 2#32) (k0_off13_inb i h 1)
    (k0_off12 i 2#32) (k0_off12_inb i h 1) (k0_off14 i) (k0_off14_inb i h)

/-- The two tiles taken when the block's number is odd. -/
def twoP (i : grid0.Coords) (arg3 : Memref sig .tc .vmem S1x8192x128 .bf16)
    (arg4 : Memref sig .tc .vmem S1x32x128x256 .bf16)
    (arg5 : Memref sig .tc .vmem S1x32x128x256 .bf16)
    (arg10 : Memref sig .tc .vmem S1x32x128x256 .f32)
    (arg11 : Memref sig .tc .vmem S1x32x128x256 .f32)
    (arg12 : Memref sig .tc .vmem S512x128 .f32)
    (arg13 : Memref sig .tc .vmem S512x256 .f32)
    (arg14 : Memref sig .tc .vmem S512x256 .f32)
    (arg15 : Memref sig .tc .vmem S512x256 .f32)
    (arg16 : Memref sig .tc .vmem S512x256 .f32)
    (arg17 : Memref sig .tc .vmem S512x256 .f32)
    (arg18 : Memref sig .tc .vmem S512x256 .f32)
    (v47 : FVec F S512x128 .bf16) (v49 : FVec F S128x512 .bf16) (v51 : FVec F S512x128 .bf16) (v54 : FVec F S128x512 .bf16)
    (h : k0_cond3 i = 1#1) : Prog (TpuEff nD τ sig (Elt F) Λ₀ .tc) (Unit) :=
  pairP arg3 arg4 arg5 arg10 arg11 arg12 arg13 arg14 arg15 arg16 arg17 arg18 v51 v47 v49 v54
    (k0_off17 i) (k0_off17_inb i h) (k0_off15 i 1#32) (k0_off15_inb i h 0) (k0_off15 i 2#32) (k0_off15_inb i h 1)
    (k0_off16 i) (k0_off16_inb i h) (k0_off18 i) (k0_off18_inb i h)

section

variable (i : grid0.Coords)
    (arg2 : Memref sig .tc .vmem S1x512x128 .bf16) (harg2 : arg2.IsWhole)
    (arg3 : Memref sig .tc .vmem S1x8192x128 .bf16) (harg3 : arg3.IsWhole)
    (arg4 : Memref sig .tc .vmem S1x32x128x256 .bf16) (harg4 : arg4.IsWhole)
    (arg5 : Memref sig .tc .vmem S1x32x128x256 .bf16) (harg5 : arg5.IsWhole)
    (arg6 : Memref sig .tc .vmem S512x128 .f32) (harg6 : arg6.IsWhole)
    (arg7 : Memref sig .tc .vmem S512x128 .f32) (harg7 : arg7.IsWhole)
    (arg8 : Memref sig .tc .vmem S1x1x512 .f32) (harg8 : arg8.IsWhole)
    (arg9 : Memref sig .tc .vmem S1x512x128 .f32) (harg9 : arg9.IsWhole)
    (arg10 : Memref sig .tc .vmem S1x32x128x256 .f32) (harg10 : arg10.IsWhole)
    (arg11 : Memref sig .tc .vmem S1x32x128x256 .f32) (harg11 : arg11.IsWhole)
    (arg12 : Memref sig .tc .vmem S512x128 .f32) (harg12 : arg12.IsWhole)
    (arg13 : Memref sig .tc .vmem S512x256 .f32) (harg13 : arg13.IsWhole)
    (arg14 : Memref sig .tc .vmem S512x256 .f32) (harg14 : arg14.IsWhole)
    (arg15 : Memref sig .tc .vmem S512x256 .f32) (harg15 : arg15.IsWhole)
    (arg16 : Memref sig .tc .vmem S512x256 .f32) (harg16 : arg16.IsWhole)
    (arg17 : Memref sig .tc .vmem S512x256 .f32) (harg17 : arg17.IsWhole)
    (arg18 : Memref sig .tc .vmem S512x256 .f32) (harg18 : arg18.IsWhole)

theorem middle_eq (arg1 : BitVec 32) (v47 : FVec F S512x128 .bf16) (v49 : FVec F S128x512 .bf16) (v51 : FVec F S512x128 .bf16) (v54 : FVec F S128x512 .bf16)
    (v97 : BitVec 32) (v111 : BitVec 1) :
    k0_part42_skel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v47 v49 v51 v54 v97 v111 = (do
      Scf.Loop.for (k0_t1_loop i) (k0_t1_ok i) ⟨⟩ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v47 v49 v51 v54 v97 v111)
      Scf.Loop.for (k0_t2_loop i) (k0_t2_ok i) ⟨⟩ (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v47 v49 v51 v54 v97 v111 (Scalar.addi 0#32 (Scalar.muli (Scalar.divsi (Scalar.subi (Scalar.select v111 (Scalar.subi v97 1#32) v97) 0#32) 1#32) 1#32)))
      (if h : k0_cond2 i = 1#1 then quadP i arg3 arg4 arg5 arg10 arg11 arg12 arg13 arg14 arg15 arg16 arg17 arg18 v47 v49 v51 v54 h else pure ⟨⟩)
      (if h : k0_cond3 i = 1#1 then twoP i arg3 arg4 arg5 arg10 arg11 arg12 arg13 arg14 arg15 arg16 arg17 arg18 v47 v49 v51 v54 h else pure ⟨⟩)
      pure 2#32) := by
  unfold k0_part42_skel
  by_cases h2 : k0_cond2 i = 1#1 <;> by_cases h3 : k0_cond3 i = 1#1 <;> simp only [h2, h3, ↓reduceDIte] <;> rfl

variable (c : Dev nD) (E : Set ℕ) (b : Blk F) (a : Acc F)

theorem octet_triple (arg1 : BitVec 32) (v97 : BitVec 32) (v111 : BitVec 1) (t : Fin (k0_t1_loop i).trips) (n : ℕ) (hn : n < 32) (m : ℕ) (hm : m < 32)
    (en : n = 8 * t.val) (em : m = 8 * t.val + 8) :
    atTile c harg3 harg4 harg5 harg10 harg11 harg12 harg13 harg14 harg15 harg16 harg17 harg18 b a n hn
      ⊢ wp frame (wpE (defs₀ (F := F)) Variants.none c none) E (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 b.dob b.dobT b.qh b.qT v97 v111 t ()) (fun _ => atTile c harg3 harg4 harg5 harg10 harg11 harg12 harg13 harg14 harg15 harg16 harg17 harg18 b a m hm) := by
  subst en
  rw [octet_eq, wp_bind]
  refine (pair_triple c E harg3 harg4 harg5 harg10 harg11 harg12 harg13 harg14 harg15 harg16 harg17 harg18 (8 * t.val) hn (8 * t.val + 2) (by omega) rfl
    (off3 i t 0 (by omega)) (off1 i t 0 1 (by omega) (by omega)) (off1 i t 0 2 (by omega) (by omega)) (off2 i t 0 (by omega)) (off4 i t 0 (by omega))).trans (wp_mono _ _ _ fun _ => ?_)
  rw [wp_bind]
  refine (pair_triple c E harg3 harg4 harg5 harg10 harg11 harg12 harg13 harg14 harg15 harg16 harg17 harg18 (8 * t.val + 2) (by omega) (8 * t.val + 4) (by omega) rfl
    (off3 i t 2 (by omega)) (off1 i t 2 1 (by omega) (by omega)) (off1 i t 2 2 (by omega) (by omega)) (off2 i t 2 (by omega)) (off4 i t 2 (by omega))).trans (wp_mono _ _ _ fun _ => ?_)
  rw [wp_bind]
  refine (pair_triple c E harg3 harg4 harg5 harg10 harg11 harg12 harg13 harg14 harg15 harg16 harg17 harg18 (8 * t.val + 4) (by omega) (8 * t.val + 6) (by omega) rfl
    (off3 i t 4 (by omega)) (off1 i t 4 1 (by omega) (by omega)) (off1 i t 4 2 (by omega) (by omega)) (off2 i t 4 (by omega)) (off4 i t 4 (by omega))).trans (wp_mono _ _ _ fun _ => ?_)
  exact pair_triple c E harg3 harg4 harg5 harg10 harg11 harg12 harg13 harg14 harg15 harg16 harg17 harg18 (8 * t.val + 6) (by omega) m hm (by omega)
    (off3 i t 6 (by omega)) (off1 i t 6 1 (by omega) (by omega)) (off1 i t 6 2 (by omega) (by omega)) (off2 i t 6 (by omega)) (off4 i t 6 (by omega))

theorem quad_triple (h : k0_cond2 i = 1#1) (n : ℕ) (hn : n < 32) (m : ℕ) (hm : m < 32) (en : n = 8 * ((i 1).val / 4)) (em : m = n + 4) :
    atTile c harg3 harg4 harg5 harg10 harg11 harg12 harg13 harg14 harg15 harg16 harg17 harg18 b a n hn
      ⊢ wp frame (wpE (defs₀ (F := F)) Variants.none c none) E (quadP i arg3 arg4 arg5 arg10 arg11 arg12 arg13 arg14 arg15 arg16 arg17 arg18 b.dob b.dobT b.qh b.qT h) (fun _ => atTile c harg3 harg4 harg5 harg10 harg11 harg12 harg13 harg14 harg15 harg16 harg17 harg18 b a m hm) := by
  subst en
  have e1 : k0_off9 i 1#32 = ![0, 8 * ((i 1).val / 4) + 1, 0, 0] := off9 i h 0
  have e2 : k0_off9 i 2#32 = ![0, 8 * ((i 1).val / 4) + 2, 0, 0] := off9 i h 1
  have e3 : k0_off13 i 1#32 = ![0, 8 * ((i 1).val / 4) + 2 + 1, 0, 0] := off13 i h 0
  have e4 : k0_off13 i 2#32 = ![0, 8 * ((i 1).val / 4) + 2 + 2, 0, 0] := off13 i h 1
  have e5 : k0_off12 i 1#32 = ![0, 256 * (8 * ((i 1).val / 4) + 1), 0] := off12 i h 0
  have e6 : k0_off12 i 2#32 = ![0, 256 * (8 * ((i 1).val / 4) + 2), 0] := off12 i h 1
  unfold quadP
  rw [wp_bind]
  refine (pair_triple c E harg3 harg4 harg5 harg10 harg11 harg12 harg13 harg14 harg15 harg16 harg17 harg18 _ hn (8 * ((i 1).val / 4) + 2) (by omega) rfl
    (off11 i h) e1 e2 (off10 i h) e5).trans (wp_mono _ _ _ fun _ => ?_)
  exact pair_triple c E harg3 harg4 harg5 harg10 harg11 harg12 harg13 harg14 harg15 harg16 harg17 harg18 _ (by omega) m hm em
    e2 e3 e4 e6 (off14 i h)

theorem two_triple (h : k0_cond3 i = 1#1) (n : ℕ) (hn : n < 32) (m : ℕ) (hm : m < 32) (en : n = 2 * (i 1).val - 2) (em : m = n + 2) :
    atTile c harg3 harg4 harg5 harg10 harg11 harg12 harg13 harg14 harg15 harg16 harg17 harg18 b a n hn
      ⊢ wp frame (wpE (defs₀ (F := F)) Variants.none c none) E (twoP i arg3 arg4 arg5 arg10 arg11 arg12 arg13 arg14 arg15 arg16 arg17 arg18 b.dob b.dobT b.qh b.qT h) (fun _ => atTile c harg3 harg4 harg5 harg10 harg11 harg12 harg13 harg14 harg15 harg16 harg17 harg18 b a m hm) := by
  have h1 : (i 1).val % 2 = 1 := (cond3 i).mp h
  have e1 : k0_off15 i 1#32 = ![0, 2 * (i 1).val - 1, 0, 0] := off15 i h 0
  have e2 : k0_off15 i 2#32 = ![0, 2 * (i 1).val - 1 + 1, 0, 0] := off15 i h 1
  have e3 := off18 i h
  have e4 := off17 i h
  have e5 := off16 i h
  rw [← en] at e4 e5
  rw [show 2 * (i 1).val - 1 = n + 1 by omega] at e1 e2 e3
  exact pair_triple c E harg3 harg4 harg5 harg10 harg11 harg12 harg13 harg14 harg15 harg16 harg17 harg18 _ hn m hm em e4 e1 e2 e5 e3

theorem middle_triple (arg1 : BitVec 32) (v97 : BitVec 32) (v111 : BitVec 1) (h0 : 0 < 32) (hm : 2 * (i 1).val < 32) {Q : BitVec 32 → sProp 𝕄} :
    atTile c harg3 harg4 harg5 harg10 harg11 harg12 harg13 harg14 harg15 harg16 harg17 harg18 b a 0 h0
      ⊢ iprop((atTile c harg3 harg4 harg5 harg10 harg11 harg12 harg13 harg14 harg15 harg16 harg17 harg18 b a (2 * (i 1).val) hm -∗ Q 2#32)
        -∗ wp frame (wpE (defs₀ (F := F)) Variants.none c none) E (k0_part42_skel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 b.dob b.dobT b.qh b.qT v97 v111) Q) := by
  have hi : (i 1).val < 16 := (i 1).isLt
  have ht1 := trips1 i
  have ht2 := trips2 i
  rw [middle_eq]
  have step : atTile c harg3 harg4 harg5 harg10 harg11 harg12 harg13 harg14 harg15 harg16 harg17 harg18 b a 0 h0 ⊢ wp frame (wpE (defs₀ (F := F)) Variants.none c none) E
      (Scf.Loop.for (k0_t1_loop i) (k0_t1_ok i) ⟨⟩ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 b.dob b.dobT b.qh b.qT v97 v111))
      (fun _ => atTile c harg3 harg4 harg5 harg10 harg11 harg12 harg13 harg14 harg15 harg16 harg17 harg18 b a (8 * ((i 1).val / 4)) (by omega)) := by
    refine BIBase.Entails.trans ?_ (Scf.wp_for frame (wpE (defs₀ (F := F)) Variants.none c none) E _ _ _ _ _ _
      (fun k _ => iprop(∃ h : 8 * k < 32, atTile c harg3 harg4 harg5 harg10 harg11 harg12 harg13 harg14 harg15 harg16 harg17 harg18 b a (8 * k) h)) ?_)
    · iintro H
      isplitl [H]
      · iexists h0; iexact H
      · iintro %acc ⟨%h, H⟩
        have e : 8 * Scf.trips (k0_t1_loop i).lb (k0_t1_loop i).ub (k0_t1_loop i).st = 8 * ((i 1).val / 4) := by rw [← ht1]
        simp only [e]
        iexact H
    · intro k acc
      iintro ⟨%h, H⟩
      have hk : k.val < (k0_t1_loop i).trips := k.isLt
      iapply (octet_triple i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 c E b a arg1 v97 v111 k (8 * k.val) h (8 * (k.val + 1)) (by omega) rfl (by omega)).trans (wp_mono _ _ _ fun _ => ?_) $$ H
      iintro H; iexists (by omega : 8 * (k.val + 1) < 32); iexact H
  iintro HA HQ
  rw [wp_bind]
  iapply wp_wand $$ [HA]
  · iapply step $$ HA
  iintro %_ HA
  rw [wp_bind]
  iapply (Scf.wp_for frame (wpE (defs₀ (F := F)) Variants.none c none) E _ _ _ _ _ _
      (fun k _ => atTile c harg3 harg4 harg5 harg10 harg11 harg12 harg13 harg14 harg15 harg16 harg17 harg18 b a (8 * ((i 1).val / 4)) (by omega)) (fun k _ => absurd k.isLt (by
        have : Scf.trips (k0_t2_loop i).lb (k0_t2_loop i).ub (k0_t2_loop i).st = 0 := ht2
        omega)))
  isplitl [HA]
  · iexact HA
  iintro %_ HA
  rw [wp_bind]
  by_cases h2 : k0_cond2 i = 1#1
  · have c2 := (cond2 i).mp h2
    simp only [dif_pos h2]
    iapply wp_wand $$ [HA]
    · iapply (quad_triple i arg3 harg3 arg4 harg4 arg5 harg5 arg10 harg10 arg11 harg11 arg12 harg12 arg13 harg13 arg14 harg14 arg15 harg15 arg16 harg16 arg17 harg17 arg18 harg18 c E b a h2 _ _ (8 * ((i 1).val / 4) + 4) (by omega) rfl rfl) $$ HA
    iintro %_ HA
    rw [wp_bind]
    by_cases h3 : k0_cond3 i = 1#1
    · have c3 := (cond3 i).mp h3
      simp only [dif_pos h3]
      iapply wp_wand $$ [HA]
      · iapply (two_triple i arg3 harg3 arg4 harg4 arg5 harg5 arg10 harg10 arg11 harg11 arg12 harg12 arg13 harg13 arg14 harg14 arg15 harg15 arg16 harg16 arg17 harg17 arg18 harg18 c E b a h3 _ _ (2 * (i 1).val) hm (by omega) (by omega)) $$ HA
      iintro %_ HA
      sl_step
      iapply HQ $$ HA
    · have c3 := (cond3 i).not.mp h3
      simp only [dif_neg h3]
      have e : 8 * ((i 1).val / 4) + 4 = 2 * (i 1).val := by omega
      simp only [e]
      sl_step
      sl_step
      iapply HQ $$ HA
  · have c2 := (cond2 i).not.mp h2
    simp only [dif_neg h2]
    sl_step
    rw [wp_bind]
    by_cases h3 : k0_cond3 i = 1#1
    · have c3 := (cond3 i).mp h3
      simp only [dif_pos h3]
      iapply wp_wand $$ [HA]
      · iapply (two_triple i arg3 harg3 arg4 harg4 arg5 harg5 arg10 harg10 arg11 harg11 arg12 harg12 arg13 harg13 arg14 harg14 arg15 harg15 arg16 harg16 arg17 harg17 arg18 harg18 c E b a h3 _ _ (2 * (i 1).val) hm (by omega) (by omega)) $$ HA
      iintro %_ HA
      sl_step
      iapply HQ $$ HA
    · have c3 := (cond3 i).not.mp h3
      simp only [dif_neg h3]
      have e : 8 * ((i 1).val / 4) = 2 * (i 1).val := by omega
      simp only [e]
      sl_step
      sl_step
      iapply HQ $$ HA

end

end Cert.Proof.KernelIdeal

end
-- ==== Proof.Ends.lean ====
/-
  The kernel's beginning and end: the operands read and the buffers filled before the first tile, the two tiles on the
  diagonal, and what a grid point writes.
-/
module

public import proofs.«01_k».proof.Proof.Pair
public import proofs.«01_k».proof.Proof.Geometry

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## What is fixed at a grid point -/

/-- A column of lanes repeated twice: the left 128 lanes and the right 128 lanes of a 256-lane buffer. -/
def halves (w1 w2 : S512x128.Idx → Elt F .f32) : S512x256.Idx → Elt F .f32 :=
  (Rect.unit (s := S512x256) ![0, 128] S512x128.size inb_S512x256_S512x128_0_128).overlay
    ((Rect.unit (s := S512x256) ![0, 0] S512x128.size inb_S512x256_S512x128_0_0).overlay (constant (F := F) S512x256 .f32 0x00000000#32) w1) w2

/-- Filling both halves leaves nothing of what was there. -/
theorem overlay_halves (X : S512x256.Idx → Elt F .f32) (w1 w2 : S512x128.Idx → Elt F .f32) :
    (Rect.unit (s := S512x256) ![0, 128] S512x128.size inb_S512x256_S512x128_0_128).overlay
      ((Rect.unit (s := S512x256) ![0, 0] S512x128.size inb_S512x256_S512x128_0_0).overlay X w1) w2 = halves w1 w2 := by
  unfold halves
  funext y
  by_cases h1 : y ∈ (Rect.unit (s := S512x256) ![0, 128] S512x128.size inb_S512x256_S512x128_0_128).set
  · obtain ⟨x, rfl⟩ : ∃ x, (Rect.unit (s := S512x256) ![0, 128] S512x128.size inb_S512x256_S512x128_0_128).emb x = y := by
      rw [← Rect.map_emb_univ] at h1
      obtain ⟨x, -, hx⟩ := Finset.mem_map.mp h1
      exact ⟨x, hx⟩
    rw [Rect.overlay_emb, Rect.overlay_emb]
  · rw [Rect.overlay_of_not_mem _ _ _ h1, Rect.overlay_of_not_mem _ _ _ h1]
    have h0 : y ∈ (Rect.unit (s := S512x256) ![0, 0] S512x128.size inb_S512x256_S512x128_0_0).set := by
      rw [Rect.mem_set_unit] at h1 ⊢
      intro a
      have b0 : (y 0 : ℕ) < 512 := (y 0).isLt
      have b1 : (y 1 : ℕ) < 256 := (y 1).isLt
      by_contra hc
      refine h1 fun a' => ?_
      fin_cases a <;> fin_cases a' <;> simp [S512x128] at hc ⊢ <;> omega
    obtain ⟨x, rfl⟩ : ∃ x, (Rect.unit (s := S512x256) ![0, 0] S512x128.size inb_S512x256_S512x128_0_0).emb x = y := by
      rw [← Rect.map_emb_univ] at h0
      obtain ⟨x, -, hx⟩ := Finset.mem_map.mp h0
      exact ⟨x, hx⟩
    rw [Rect.overlay_emb, Rect.overlay_emb]

/-- The row and the column numbers of a score tile. -/
abbrev iota0 : IVec S512x256 32 := iota .tc S512x256 32 [0] iota_S512x256_d0_w32
abbrev iota1 : IVec S512x256 32 := iota .tc S512x256 32 [1] iota_S512x256_d1_w32

/-- The operands of a grid point, from the seven input blocks. -/
def mkBlk (i : grid0.Coords) (X2 : S1x512x128.Idx → Elt F .bf16) (X3 : S1x8192x128.Idx → Elt F .bf16) (X4 X5 : S1x32x128x256.Idx → Elt F .bf16)
    (X6 X7 : S512x128.Idx → Elt F .f32) (X8 : S1x1x512.Idx → Elt F .f32) : Blk F where
  qh := k0_pay170 X2
  dob := k0_pay168 (k0_pay166 i) X7
  dobT := k0_pay169 (k0_pay166 i) X7
  qT := k0_pay171 X2
  lse := halves (k0_pay174 X8) (k0_pay176 X8)
  dd := halves (k0_pay175 (k0_pay166 i) X7 X6) (k0_pay178 (k0_pay177 (k0_pay166 i) X7 X6))
  kr := X3
  kt := X4
  vt := X5

/-- What is accumulated before the first tile: the key and value gradients go on from what the last grid point left,
    except at the first query block, where they begin at zero. -/
def acc0 (i : grid0.Coords) (DK DV : S1x32x128x256.Idx → Elt F .f32) : Acc F where
  dq := k0_pay179
  dk := if (i 1).val = 0 then k0_pay164 else DK
  dv := if (i 1).val = 0 then k0_pay165 else DV

/-! ## The two tiles on the diagonal -/

/-- The lower half of a score tile, and of a query block. -/
def lowS {α : Type} (X : S512x256.Idx → α) : S256x256.Idx → α :=
  fun x => X ((Rect.unit (s := S512x256) ![256, 0] S256x256.size inb_S512x256_S256x256_256_0).idx x)
def lowD {α : Type} (X : S512x128.Idx → α) : S256x128.Idx → α :=
  fun x => X ((Rect.unit (s := S512x128) ![256, 0] S256x128.size inb_S512x128_S256x128_256_0).idx x)
/-- A query block with its lower half replaced. -/
def setLow {α : Type} (X : S512x128.Idx → α) (w : S256x128.Idx → α) : S512x128.Idx → α :=
  (Rect.unit (s := S512x128) ![256, 0] S256x128.size inb_S512x128_S256x128_256_0).overlay X w

theorem lowS_overlay {α : Type} (X : S512x256.Idx → α) (w : S256x256.Idx → α) :
    lowS ((Rect.unit (s := S512x256) ![256, 0] S256x256.size inb_S512x256_S256x256_256_0).overlay X w) = w :=
  ld_overlay (Rect.unit (s := S512x256) ![256, 0] S256x256.size inb_S512x256_S256x256_256_0) X w

theorem wp_ld_lowS (c : Dev nD) (E : Set ℕ) {M : Memref sig .tc .vmem S512x256 .f32} (h : M.IsWhole) {X : S512x256.Idx → Elt F .f32}
    {hl : M.view.LoadsAt (Rect.unit (s := S512x256) ![256, 0] S256x256.size inb_S512x256_S256x256_256_0).toLoadRect} {α : Type}
    {k : (S256x256.Idx → Elt F .f32) → Prog (TpuEff nD τ sig (Elt F) Λ₀ .tc) α} {Q : α → sProp 𝕄} :
    pv c M h X ⊢ iprop((pv c M h X -∗ wp frame (wpE (defs₀ (F := F)) Variants.none c none) E (k (lowS X)) Q)
      -∗ wp frame (wpE (defs₀ (F := F)) Variants.none c none) E
        (.op (.load M (Rect.unit (s := S512x256) ![256, 0] S256x256.size inb_S512x256_S256x256_256_0).toLoadRect hl) k) Q) :=
  wp_ld (F := F) c E h (r := Rect.unit (s := S512x256) ![256, 0] S256x256.size inb_S512x256_S256x256_256_0) (k := k)

theorem wp_ld_lowD (c : Dev nD) (E : Set ℕ) {M : Memref sig .tc .vmem S512x128 .f32} (h : M.IsWhole) {X : S512x128.Idx → Elt F .f32}
    {hl : M.view.LoadsAt (Rect.unit (s := S512x128) ![256, 0] S256x128.size inb_S512x128_S256x128_256_0).toLoadRect} {α : Type}
    {k : (S256x128.Idx → Elt F .f32) → Prog (TpuEff nD τ sig (Elt F) Λ₀ .tc) α} {Q : α → sProp 𝕄} :
    pv c M h X ⊢ iprop((pv c M h X -∗ wp frame (wpE (defs₀ (F := F)) Variants.none c none) E (k (lowD X)) Q)
      -∗ wp frame (wpE (defs₀ (F := F)) Variants.none c none) E
        (.op (.load M (Rect.unit (s := S512x128) ![256, 0] S256x128.size inb_S512x128_S256x128_256_0).toLoadRect hl) k) Q) :=
  wp_ld (F := F) c E h (r := Rect.unit (s := S512x128) ![256, 0] S256x128.size inb_S512x128_S256x128_256_0) (k := k)

/-- The first diagonal tile's probabilities, zero above the diagonal, and the difference its score gradient scales. -/
def dpr (b : Blk F) (n : ℕ) (hn : n < 32) : FVec F S512x256 .f32 := k0_pay189 iota0 iota1 (sc b n hn) b.lse
def ddf (b : Blk F) (n : ℕ) (hn : n < 32) : FVec F S512x256 .f32 := k0_pay190 (pp b n hn) b.dd

/-- The first diagonal tile consumed. -/
def diagAcc (b : Blk F) (n : ℕ) (hn : n < 32) (a : Acc F) : Acc F where
  dq := k0_pay192 (dpr b n hn) (ddf b n hn) a.dq (rowsOf b.kr n hn)
  dk := setTile a.dk n hn (k0_pay193 b.qT (dpr b n hn) (ddf b n hn) (tile a.dk n hn))
  dv := setTile a.dv n hn (k0_pay194 b.dobT (dpr b n hn) (tile a.dv n hn))

/-- The second diagonal tile's scores and products, which only the block's lower half has. -/
def scLow (b : Blk F) (n : ℕ) (hn : n < 32) : S256x256.Idx → Elt F .f32 := k0_pay187 b.qh (tile b.kt n hn)
def ppLow (b : Blk F) (n : ℕ) (hn : n < 32) : S256x256.Idx → Elt F .f32 := k0_pay188 b.dob (tile b.vt n hn)

/-- The second diagonal tile consumed. -/
def halfAcc (b : Blk F) (n : ℕ) (hn : n < 32) (a : Acc F) : Acc F where
  dq := setLow a.dq (k0_pay198 (k0_pay195 iota0 iota1) (scLow b n hn) (lowS b.lse) (ppLow b n hn) (lowS b.dd) (lowD a.dq) (rowsOf b.kr n hn))
  dk := setTile a.dk n hn (k0_pay199 b.qT (k0_pay195 iota0 iota1) (scLow b n hn) (lowS b.lse) (ppLow b n hn) (lowS b.dd) (tile a.dk n hn))
  dv := setTile a.dv n hn (k0_pay1 b.dobT (k0_pay196 (k0_pay195 iota0 iota1) (scLow b n hn) (lowS b.lse)) (tile a.dv n hn))

/-- What a grid point leaves: all tiles before the diagonal consumed, then the two on it. -/
def pointAcc (i : grid0.Coords) (b : Blk F) (a : Acc F) : Acc F :=
  halfAcc b (2 * (i 1).val + 1) (by have : (i 1).val < 16 := (i 1).isLt; omega)
    (diagAcc b (2 * (i 1).val) (by have : (i 1).val < 16 := (i 1).isLt; omega)
      (accs b a (2 * (i 1).val) (by have : (i 1).val < 16 := (i 1).isLt; omega)))

theorem off20 (i : grid0.Coords) : k0_off20 i = ![0, 256 * (2 * (i 1).val), 0] := by
  rw [k0_off20_eq, show 512 * (i 1).val = 256 * (2 * (i 1).val) by omega]
theorem off22 (i : grid0.Coords) : k0_off22 i = ![0, 256 * (2 * (i 1).val + 1), 0] := by
  rw [k0_off22_eq, show 512 * (i 1).val + 256 = 256 * (2 * (i 1).val + 1) by omega]

theorem first_word : ∀ i : grid0.Coords, Scalar.cmpi .ne (Scalar.extui (Scalar.cmpi .eq (BitVec.ofNat 32 (i 1).val) 0#32) : BitVec 32) 0#32 = 1#1 ↔ (i 1).val = 0 := by
  decide +kernel

theorem pay180_eq (q : FVec F S512x128 .bf16) (x : Vec F S1x1x128x256 .bf16) : k0_pay180 q x = k0_pay3 q x := rfl
theorem pay181_eq (q : FVec F S512x128 .bf16) (x : Vec F S1x1x128x256 .bf16) : k0_pay181 q x = k0_pay4 q x := rfl

attribute [local irreducible] k0_pay1 k0_pay2 k0_pay3 k0_pay4 k0_pay5 k0_pay6 k0_pay7 k0_pay8 k0_pay9 k0_pay164 k0_pay165 k0_pay166 k0_pay168 k0_pay169 k0_pay170
  k0_pay171 k0_pay174 k0_pay175 k0_pay176 k0_pay177 k0_pay178 k0_pay179 k0_pay187 k0_pay188 k0_pay189 k0_pay190 k0_pay192 k0_pay193 k0_pay194 k0_pay195
  k0_pay196 k0_pay198 k0_pay199

/-! ## The parts' triples -/

section

variable (i : grid0.Coords)
    (arg2 : Memref sig .tc .vmem S1x512x128 .bf16) (harg2 : arg2.IsWhole)
    (arg3 : Memref sig .tc .vmem S1x8192x128 .bf16) (harg3 : arg3.IsWhole)
    (arg4 : Memref sig .tc .vmem S1x32x128x256 .bf16) (harg4 : arg4.IsWhole)
    (arg5 : Memref sig .tc .vmem S1x32x128x256 .bf16) (harg5 : arg5.IsWhole)
    (arg6 : Memref sig .tc .vmem S512x128 .f32) (harg6 : arg6.IsWhole)
    (arg7 : Memref sig .tc .vmem S512x128 .f32) (harg7 : arg7.IsWhole)
    (arg8 : Memref sig .tc .vmem S1x1x512 .f32) (harg8 : arg8.IsWhole)
    (arg9 : Memref sig .tc .vmem S1x512x128 .f32) (harg9 : arg9.IsWhole)
    (arg10 : Memref sig .tc .vmem S1x32x128x256 .f32) (harg10 : arg10.IsWhole)
    (arg11 : Memref sig .tc .vmem S1x32x128x256 .f32) (harg11 : arg11.IsWhole)
    (arg12 : Memref sig .tc .vmem S512x128 .f32) (harg12 : arg12.IsWhole)
    (arg13 : Memref sig .tc .vmem S512x256 .f32) (harg13 : arg13.IsWhole)
    (arg14 : Memref sig .tc .vmem S512x256 .f32) (harg14 : arg14.IsWhole)
    (arg15 : Memref sig .tc .vmem S512x256 .f32) (harg15 : arg15.IsWhole)
    (arg16 : Memref sig .tc .vmem S512x256 .f32) (harg16 : arg16.IsWhole)
    (arg17 : Memref sig .tc .vmem S512x256 .f32) (harg17 : arg17.IsWhole)
    (arg18 : Memref sig .tc .vmem S512x256 .f32) (harg18 : arg18.IsWhole)

theorem part39_triple (c : Dev nD) (E : Set ℕ) {DK DV : S1x32x128x256.Idx → Elt F .f32} {Q : (Σ' (arg1 : BitVec 32) (v3 : IVec S512x256 32) (v4 : IVec S512x256 32), IVec S1x128 1) → sProp 𝕄} :
    iprop(pv c arg10 harg10 DK ∗ pv c arg11 harg11 DV)
      ⊢ iprop((∀ w : BitVec 32, iprop(pv c arg10 harg10 (acc0 i DK DV).dk ∗ pv c arg11 harg11 (acc0 i DK DV).dv) -∗ Q ⟨w, iota0, iota1, k0_pay166 i⟩)
        -∗ wp frame (wpE (defs₀ (F := F)) Variants.none c none) E (k0_part39_skel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) Q) := by
  iintro ⟨H10, H11⟩ HQ
  unfold k0_part39_skel
  by_cases h : (i 1).val = 0
  · have hw := (first_word i).mpr h
    simp only [hw, ↓reduceDIte, acc0, if_pos h]
    iapply (wp_ldw c E harg10) $$ H10; iintro H10
    iapply (wp_stw c E harg10) $$ H10; iintro H10
    iapply (wp_ldw c E harg11) $$ H11; iintro H11
    iapply (wp_stw c E harg11) $$ H11; iintro H11
    iapply (wp_after c E)
    sl_step
    iapply HQ $$ %(BitVec.ofNat 32 (i 1).val)
    isplitl [H10]; · iexact H10
    iexact H11
  · have hw := (first_word i).not.mpr h
    simp only [hw, ↓reduceDIte, acc0, if_neg h]
    sl_step
    iapply HQ $$ %(BitVec.ofNat 32 (i 1).val)
    isplitl [H10]; · iexact H10
    iexact H11

theorem part40_triple (c : Dev nD) (E : Set ℕ) {X2 : S1x512x128.Idx → Elt F .bf16} {X6 X7 : S512x128.Idx → Elt F .f32} {X8 : S1x1x512.Idx → Elt F .f32} {J13 J14 : S512x256.Idx → Elt F .f32} {own : IVec S1x128 1}
    {Q : (Σ' (v47 : FVec F S512x128 .bf16) (v49 : FVec F S128x512 .bf16) (v51 : FVec F S512x128 .bf16) (v54 : FVec F S128x512 .bf16) (v77 : FVec F S512x128 .f32), Vec F S512x128 .f32) → sProp 𝕄} :
    iprop(pv c arg2 harg2 X2 ∗ pv c arg6 harg6 X6 ∗ pv c arg7 harg7 X7 ∗ pv c arg8 harg8 X8 ∗ pv c arg13 harg13 J13 ∗ pv c arg14 harg14 J14)
      ⊢ iprop((∀ v : Vec F S512x128 .f32, iprop(pv c arg2 harg2 X2 ∗ pv c arg6 harg6 X6 ∗ pv c arg7 harg7 X7 ∗ pv c arg8 harg8 X8 ∗ pv c arg13 harg13 (halves (k0_pay174 X8) (k0_pay176 X8)) ∗ pv c arg14 harg14 ((Rect.unit (s := S512x256) ![0, 0] S512x128.size inb_S512x256_S512x128_0_0).overlay J14 (k0_pay175 own X7 X6))) -∗ Q ⟨k0_pay168 own X7, k0_pay169 own X7, k0_pay170 X2, k0_pay171 X2, k0_pay177 own X7 X6, v⟩)
        -∗ wp frame (wpE (defs₀ (F := F)) Variants.none c none) E (k0_part40_skel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 own) Q) := by
  iintro ⟨H2, H6, H7, H8, H13, H14⟩ HQ
  unfold k0_part40_skel
  iapply (wp_ldw c E harg7) $$ H7; iintro H7
  iapply (wp_ldw c E harg2) $$ H2; iintro H2
  iapply (wp_ldw c E harg6) $$ H6; iintro H6
  iapply (wp_ldw c E harg8) $$ H8; iintro H8
  iapply (wp_ld c E harg13) $$ H13; iintro H13
  iapply (wp_st c E harg13) $$ H13; iintro H13
  iapply (wp_ld c E harg14) $$ H14; iintro H14
  iapply (wp_st c E harg14) $$ H14; iintro H14
  iapply (wp_ld c E harg13) $$ H13; iintro H13
  iapply (wp_st c E harg13) $$ H13; iintro H13
  iapply (wp_ld c E harg14) $$ H14; iintro H14
  rw [overlay_halves J13]
  iapply (wp_after c E)
  try dsimp only
  sl_step
  iapply HQ
  isplitl [H2]; · iexact H2
  isplitl [H6]; · iexact H6
  isplitl [H7]; · iexact H7
  isplitl [H8]; · iexact H8
  isplitl [H13]; · iexact H13
  iexact H14

theorem part41_triple (c : Dev nD) (E : Set ℕ) {J12 : S512x128.Idx → Elt F .f32} {J14 J15 J17 : S512x256.Idx → Elt F .f32} {KT VT : S1x32x128x256.Idx → Elt F .bf16} {w1 : BitVec 32} {qh dob : FVec F S512x128 .bf16} {d1 d2 : FVec F S512x128 .f32} {v78 : Vec F S512x128 .f32}
    {Q : (Σ' (v97 : BitVec 32), BitVec 1) → sProp 𝕄} :
    iprop(pv c arg4 harg4 KT ∗ pv c arg5 harg5 VT ∗ pv c arg12 harg12 J12 ∗ pv c arg14 harg14 ((Rect.unit (s := S512x256) ![0, 0] S512x128.size inb_S512x256_S512x128_0_0).overlay J14 d1) ∗ pv c arg15 harg15 J15 ∗ pv c arg17 harg17 J17)
      ⊢ iprop((∀ (w2 : BitVec 32) (w3 : BitVec 1), iprop(pv c arg4 harg4 KT ∗ pv c arg5 harg5 VT ∗ pv c arg12 harg12 (k0_pay179 (F := F)) ∗ pv c arg14 harg14 (halves d1 (k0_pay178 d2)) ∗ pv c arg15 harg15 (k0_pay3 qh (tile KT 0 (by omega))) ∗ pv c arg17 harg17 (k0_pay4 dob (tile VT 0 (by omega)))) -∗ Q ⟨w2, w3⟩)
        -∗ wp frame (wpE (defs₀ (F := F)) Variants.none c none) E (k0_part41_skel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 w1 dob qh d2 v78) Q) := by
  iintro ⟨H4, H5, H12, H14, H15, H17⟩ HQ
  unfold k0_part41_skel
  iapply (wp_st c E harg14) $$ H14; iintro H14
  iapply (wp_ldw c E harg12) $$ H12; iintro H12
  iapply (wp_stw c E harg12) $$ H12; iintro H12
  iapply (wp_ld c E harg4) $$ H4; iintro H4
  iapply (wp_ldw c E harg15) $$ H15; iintro H15
  iapply (wp_stw c E harg15) $$ H15; iintro H15
  iapply (wp_ld c E harg5) $$ H5; iintro H5
  iapply (wp_ldw c E harg17) $$ H17; iintro H17
  iapply (wp_stw c E harg17) $$ H17; iintro H17
  rw [overlay_halves J14, pay180_eq, pay181_eq]
  iapply (wp_after c E)
  try dsimp only
  sl_step
  iapply HQ
  isplitl [H4]; · iexact H4
  isplitl [H5]; · iexact H5
  isplitl [H12]; · iexact H12
  isplitl [H14]; · iexact H14
  isplitl [H15]; · iexact H15
  iexact H17

theorem part43_triple (c : Dev nD) (E : Set ℕ) (hn : 2 * (i 1).val + 1 < 32) (hm : 2 * (i 1).val < 32) {b : Blk F} {a : Acc F} {J16 J18 : S512x256.Idx → Elt F .f32} {w1 w2 : BitVec 32}
    {Q : (Σ' (v146 : BitVec 32) (v163 : BitVec 32) (v165 : BitVec 32) (v174 : FVec F S512x256 .f32), FVec F S512x256 .f32) → sProp 𝕄} :
    iprop(pv c arg4 harg4 b.kt ∗ pv c arg5 harg5 b.vt ∗ pv c arg13 harg13 b.lse ∗ pv c arg14 harg14 b.dd ∗ pv c arg15 harg15 (sc b (2 * (i 1).val) hm) ∗ pv c arg16 harg16 J16 ∗ pv c arg17 harg17 (pp b (2 * (i 1).val) hm) ∗ pv c arg18 harg18 J18)
      ⊢ iprop((∀ (w3 : BitVec 32) (w4 : BitVec 32) (w5 : BitVec 32), iprop(pv c arg4 harg4 b.kt ∗ pv c arg5 harg5 b.vt ∗ pv c arg13 harg13 b.lse ∗ pv c arg14 harg14 b.dd ∗ pv c arg15 harg15 (sc b (2 * (i 1).val) hm) ∗ pv c arg16 harg16 ((Rect.unit (s := S512x256) ![256, 0] S256x256.size inb_S512x256_S256x256_256_0).overlay J16 (scLow b (2 * (i 1).val + 1) hn)) ∗ pv c arg17 harg17 (pp b (2 * (i 1).val) hm) ∗ pv c arg18 harg18 ((Rect.unit (s := S512x256) ![256, 0] S256x256.size inb_S512x256_S256x256_256_0).overlay J18 (ppLow b (2 * (i 1).val + 1) hn))) -∗ Q ⟨w3, w4, w5, dpr b (2 * (i 1).val) hm, ddf b (2 * (i 1).val) hm⟩)
        -∗ wp frame (wpE (defs₀ (F := F)) Variants.none c none) E (k0_part43_skel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 w1 iota0 iota1 b.dob b.qh w2) Q) := by
  iintro ⟨H4, H5, H13, H14, H15, H16, H17, H18⟩ HQ
  unfold k0_part43_skel
  iapply (wp_ld_tile c E harg4 _ hn (k0_off19_eq i)) $$ H4; iintro H4
  iapply (wp_ld c E harg16) $$ H16; iintro H16
  iapply (wp_st c E harg16) $$ H16; iintro H16
  iapply (wp_ld_tile c E harg5 _ hn (k0_off19_eq i)) $$ H5; iintro H5
  iapply (wp_ld c E harg18) $$ H18; iintro H18
  iapply (wp_st c E harg18) $$ H18; iintro H18
  iapply (wp_ldw c E harg15) $$ H15; iintro H15
  iapply (wp_ldw c E harg13) $$ H13; iintro H13
  iapply (wp_ldw c E harg17) $$ H17; iintro H17
  iapply (wp_ldw c E harg14) $$ H14; iintro H14
  dsimp only [dpr, ddf]
  iapply (wp_after c E)
  try dsimp only
  sl_step
  iapply HQ
  isplitl [H4]; · iexact H4
  isplitl [H5]; · iexact H5
  isplitl [H13]; · iexact H13
  isplitl [H14]; · iexact H14
  isplitl [H15]; · iexact H15
  isplitl [H16]; · iexact H16
  isplitl [H17]; · iexact H17
  iexact H18

theorem part44_triple (c : Dev nD) (E : Set ℕ) (hn : 2 * (i 1).val + 1 < 32) (hm : 2 * (i 1).val < 32) {b : Blk F} {a : Acc F} {w1 w2 : BitVec 32}
    {Q : IVec S256x256 1 → sProp 𝕄} :
    iprop(pv c arg3 harg3 b.kr ∗ pv c arg10 harg10 a.dk ∗ pv c arg11 harg11 a.dv ∗ pv c arg12 harg12 a.dq)
      ⊢ iprop((iprop(pv c arg3 harg3 b.kr ∗ pv c arg10 harg10 (diagAcc b (2 * (i 1).val) hm a).dk ∗ pv c arg11 harg11 (diagAcc b (2 * (i 1).val) hm a).dv ∗ pv c arg12 harg12 (diagAcc b (2 * (i 1).val) hm a).dq) -∗ Q (k0_pay195 iota0 iota1))
        -∗ wp frame (wpE (defs₀ (F := F)) Variants.none c none) E (k0_part44_skel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 iota0 iota1 b.dobT b.qT w1 w2 (dpr b (2 * (i 1).val) hm) (ddf b (2 * (i 1).val) hm)) Q) := by
  iintro ⟨H3, H10, H11, H12⟩ HQ
  unfold k0_part44_skel
  iapply (wp_ldw c E harg12) $$ H12; iintro H12
  iapply (wp_ld_rows c E harg3 _ hm (off20 i)) $$ H3; iintro H3
  iapply (wp_ldw c E harg12) $$ H12; iintro H12
  iapply (wp_stw c E harg12) $$ H12; iintro H12
  iapply (wp_ld_tile c E harg10 _ hm (k0_off21_eq i)) $$ H10; iintro H10
  iapply (wp_ld_tile c E harg10 _ hm (k0_off21_eq i)) $$ H10; iintro H10
  iapply (wp_st_tile c E harg10 _ hm (k0_off21_eq i)) $$ H10; iintro H10
  iapply (wp_ld_tile c E harg11 _ hm (k0_off21_eq i)) $$ H11; iintro H11
  iapply (wp_ld_tile c E harg11 _ hm (k0_off21_eq i)) $$ H11; iintro H11
  iapply (wp_st_tile c E harg11 _ hm (k0_off21_eq i)) $$ H11; iintro H11
  dsimp only [diagAcc]
  iapply (wp_after c E)
  try dsimp only
  sl_step
  iapply HQ
  isplitl [H3]; · iexact H3
  isplitl [H10]; · iexact H10
  isplitl [H11]; · iexact H11
  iexact H12

theorem part45_triple (c : Dev nD) (E : Set ℕ) (hn : 2 * (i 1).val + 1 < 32) (hm : 2 * (i 1).val < 32) {b : Blk F} {a : Acc F} {J16 J18 : S512x256.Idx → Elt F .f32} {w1 : BitVec 32}
    {Q : FVec F S256x256 .f32 → sProp 𝕄} :
    iprop(pv c arg3 harg3 b.kr ∗ pv c arg10 harg10 a.dk ∗ pv c arg12 harg12 a.dq ∗ pv c arg13 harg13 b.lse ∗ pv c arg14 harg14 b.dd ∗ pv c arg16 harg16 ((Rect.unit (s := S512x256) ![256, 0] S256x256.size inb_S512x256_S256x256_256_0).overlay J16 (scLow b (2 * (i 1).val + 1) hn)) ∗ pv c arg18 harg18 ((Rect.unit (s := S512x256) ![256, 0] S256x256.size inb_S512x256_S256x256_256_0).overlay J18 (ppLow b (2 * (i 1).val + 1) hn)))
      ⊢ iprop((iprop(pv c arg3 harg3 b.kr ∗ pv c arg10 harg10 (halfAcc b (2 * (i 1).val + 1) hn a).dk ∗ pv c arg12 harg12 (halfAcc b (2 * (i 1).val + 1) hn a).dq ∗ pv c arg13 harg13 b.lse ∗ pv c arg14 harg14 b.dd ∗ pv c arg16 harg16 ((Rect.unit (s := S512x256) ![256, 0] S256x256.size inb_S512x256_S256x256_256_0).overlay J16 (scLow b (2 * (i 1).val + 1) hn)) ∗ pv c arg18 harg18 ((Rect.unit (s := S512x256) ![256, 0] S256x256.size inb_S512x256_S256x256_256_0).overlay J18 (ppLow b (2 * (i 1).val + 1) hn))) -∗ Q (k0_pay196 (k0_pay195 iota0 iota1) (scLow b (2 * (i 1).val + 1) hn) (lowS b.lse)))
        -∗ wp frame (wpE (defs₀ (F := F)) Variants.none c none) E (k0_part45_skel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 b.qT w1 (k0_pay195 iota0 iota1)) Q) := by
  iintro ⟨H3, H10, H12, H13, H14, H16, H18⟩ HQ
  unfold k0_part45_skel
  iapply (wp_ld_lowS c E harg16) $$ H16; iintro H16
  iapply (wp_ld_lowS c E harg13) $$ H13; iintro H13
  iapply (wp_ld_lowS c E harg18) $$ H18; iintro H18
  iapply (wp_ld_lowS c E harg14) $$ H14; iintro H14
  iapply (wp_ld_lowD c E harg12) $$ H12; iintro H12
  iapply (wp_ld_rows c E harg3 _ hn (off22 i)) $$ H3; iintro H3
  iapply (wp_ld_lowD c E harg12) $$ H12; iintro H12
  iapply (wp_st c E harg12) $$ H12; iintro H12
  iapply (wp_ld_tile c E harg10 _ hn (k0_off19_eq i)) $$ H10; iintro H10
  iapply (wp_ld_tile c E harg10 _ hn (k0_off19_eq i)) $$ H10; iintro H10
  iapply (wp_st_tile c E harg10 _ hn (k0_off19_eq i)) $$ H10; iintro H10
  rw [lowS_overlay, lowS_overlay]
  dsimp only [halfAcc]
  iapply (wp_after c E)
  try dsimp only
  sl_step
  iapply HQ
  isplitl [H3]; · iexact H3
  isplitl [H10]; · iexact H10
  isplitl [H12]; · iexact H12
  isplitl [H13]; · iexact H13
  isplitl [H14]; · iexact H14
  isplitl [H16]; · iexact H16
  iexact H18

end

end Cert.Proof.KernelIdeal

end
-- ==== Proof.Point.lean ====
/-
  One grid point: from the seven input blocks and what the last point left of the key and value gradients, to the block of
  the query gradient and the two gradients with this query block's parts added.
-/
module

public import proofs.«01_k».proof.Proof.Middle
public import proofs.«01_k».proof.Proof.Ends

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

attribute [local irreducible] k0_pay1 k0_pay2 k0_pay3 k0_pay4 k0_pay5 k0_pay6 k0_pay7 k0_pay8 k0_pay9 k0_pay164 k0_pay165 k0_pay166 k0_pay168 k0_pay169 k0_pay170
  k0_pay171 k0_pay174 k0_pay175 k0_pay176 k0_pay177 k0_pay178 k0_pay179 k0_pay187 k0_pay188 k0_pay189 k0_pay190 k0_pay192 k0_pay193 k0_pay194 k0_pay195
  k0_pay196 k0_pay198 k0_pay199

theorem point_triple (i : grid0.Coords)
    (arg2 : Memref sig .tc .vmem S1x512x128 .bf16) (harg2 : arg2.IsWhole)
    (arg3 : Memref sig .tc .vmem S1x8192x128 .bf16) (harg3 : arg3.IsWhole)
    (arg4 : Memref sig .tc .vmem S1x32x128x256 .bf16) (harg4 : arg4.IsWhole)
    (arg5 : Memref sig .tc .vmem S1x32x128x256 .bf16) (harg5 : arg5.IsWhole)
    (arg6 : Memref sig .tc .vmem S512x128 .f32) (harg6 : arg6.IsWhole)
    (arg7 : Memref sig .tc .vmem S512x128 .f32) (harg7 : arg7.IsWhole)
    (arg8 : Memref sig .tc .vmem S1x1x512 .f32) (harg8 : arg8.IsWhole)
    (arg9 : Memref sig .tc .vmem S1x512x128 .f32) (harg9 : arg9.IsWhole)
    (arg10 : Memref sig .tc .vmem S1x32x128x256 .f32) (harg10 : arg10.IsWhole)
    (arg11 : Memref sig .tc .vmem S1x32x128x256 .f32) (harg11 : arg11.IsWhole)
    (arg12 : Memref sig .tc .vmem S512x128 .f32) (harg12 : arg12.IsWhole)
    (arg13 : Memref sig .tc .vmem S512x256 .f32) (harg13 : arg13.IsWhole)
    (arg14 : Memref sig .tc .vmem S512x256 .f32) (harg14 : arg14.IsWhole)
    (arg15 : Memref sig .tc .vmem S512x256 .f32) (harg15 : arg15.IsWhole)
    (arg16 : Memref sig .tc .vmem S512x256 .f32) (harg16 : arg16.IsWhole)
    (arg17 : Memref sig .tc .vmem S512x256 .f32) (harg17 : arg17.IsWhole)
    (arg18 : Memref sig .tc .vmem S512x256 .f32) (harg18 : arg18.IsWhole)
    (c : Dev nD) (E : Set ℕ) (X2 : S1x512x128.Idx → Elt F .bf16) (X3 : S1x8192x128.Idx → Elt F .bf16) (X4 X5 : S1x32x128x256.Idx → Elt F .bf16)
    (X6 X7 : S512x128.Idx → Elt F .f32) (X8 : S1x1x512.Idx → Elt F .f32) (J9 : S1x512x128.Idx → Elt F .f32) (DK DV : S1x32x128x256.Idx → Elt F .f32) :
    iprop(pv c arg2 harg2 X2 ∗ pv c arg3 harg3 X3 ∗ pv c arg4 harg4 X4 ∗ pv c arg5 harg5 X5 ∗ pv c arg6 harg6 X6 ∗ pv c arg7 harg7 X7 ∗ pv c arg8 harg8 X8 ∗ pv c arg9 harg9 J9 ∗ pv c arg10 harg10 DK ∗ pv c arg11 harg11 DV ∗ (∃ J : S512x128.Idx → Elt F .f32, pv c arg12 harg12 J) ∗ (∃ J : S512x256.Idx → Elt F .f32, pv c arg13 harg13 J) ∗ (∃ J : S512x256.Idx → Elt F .f32, pv c arg14 harg14 J) ∗ (∃ J : S512x256.Idx → Elt F .f32, pv c arg15 harg15 J) ∗ (∃ J : S512x256.Idx → Elt F .f32, pv c arg16 harg16 J) ∗ (∃ J : S512x256.Idx → Elt F .f32, pv c arg17 harg17 J) ∗ (∃ J : S512x256.Idx → Elt F .f32, pv c arg18 harg18 J))
      ⊢ wp frame (wpE (defs₀ (F := F)) Variants.none c none) E (cc0_mla_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
          (fun _ => iprop(pv c arg2 harg2 X2 ∗ pv c arg3 harg3 X3 ∗ pv c arg4 harg4 X4 ∗ pv c arg5 harg5 X5 ∗ pv c arg6 harg6 X6 ∗ pv c arg7 harg7 X7 ∗ pv c arg8 harg8 X8 ∗ pv c arg9 harg9 (k0_pay2 (pointAcc i (mkBlk i X2 X3 X4 X5 X6 X7 X8) (acc0 i DK DV)).dq) ∗ pv c arg10 harg10 (pointAcc i (mkBlk i X2 X3 X4 X5 X6 X7 X8) (acc0 i DK DV)).dk ∗ pv c arg11 harg11 (pointAcc i (mkBlk i X2 X3 X4 X5 X6 X7 X8) (acc0 i DK DV)).dv ∗ (∃ J : S512x128.Idx → Elt F .f32, pv c arg12 harg12 J) ∗ (∃ J : S512x256.Idx → Elt F .f32, pv c arg13 harg13 J) ∗ (∃ J : S512x256.Idx → Elt F .f32, pv c arg14 harg14 J) ∗ (∃ J : S512x256.Idx → Elt F .f32, pv c arg15 harg15 J) ∗ (∃ J : S512x256.Idx → Elt F .f32, pv c arg16 harg16 J) ∗ (∃ J : S512x256.Idx → Elt F .f32, pv c arg17 harg17 J) ∗ (∃ J : S512x256.Idx → Elt F .f32, pv c arg18 harg18 J))) := by
  have hi : (i 1).val < 16 := (i 1).isLt
  have hn : 2 * (i 1).val + 1 < 32 := by omega
  have hm : 2 * (i 1).val < 32 := by omega
  rw [cc0_mla_attn_bwd_eq_skeleton]
  unfold cc0_mla_attn_bwd_skel
  rw [k0_part39_eq_skeleton, k0_part40_eq_skeleton, k0_part41_eq_skeleton, k0_part42_eq_skeleton, k0_part43_eq_skeleton, k0_part44_eq_skeleton,
    k0_part45_eq_skeleton]
  iintro ⟨H2, H3, H4, H5, H6, H7, H8, H9, H10, H11, ⟨%J12, H12⟩, ⟨%J13, H13⟩, ⟨%J14, H14⟩, ⟨%J15, H15⟩, ⟨%J16, H16⟩, ⟨%J17, H17⟩, ⟨%J18, H18⟩⟩
  rw [wp_bind]
  iapply (part39_triple i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 c E) $$ [H10 H11]
  · isplitl [H10]; · iexact H10
    iexact H11
  iintro %w0 ⟨H10, H11⟩
  try dsimp only
  rw [wp_bind]
  iapply (part40_triple i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 c E) $$ [H2 H6 H7 H8 H13 H14]
  · isplitl [H2]; · iexact H2
    isplitl [H6]; · iexact H6
    isplitl [H7]; · iexact H7
    isplitl [H8]; · iexact H8
    isplitl [H13]; · iexact H13
    iexact H14
  iintro %v78 ⟨H2, H6, H7, H8, H13, H14⟩
  try dsimp only
  rw [wp_bind]
  iapply (part41_triple i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 c E) $$ [H4 H5 H12 H14 H15 H17]
  · isplitl [H4]; · iexact H4
    isplitl [H5]; · iexact H5
    isplitl [H12]; · iexact H12
    isplitl [H14]; · iexact H14
    isplitl [H15]; · iexact H15
    iexact H17
  iintro %w1 %w2 ⟨H4, H5, H12, H14, H15, H17⟩
  try dsimp only
  rw [wp_bind]
  iapply (middle_triple i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 c E (mkBlk i X2 X3 X4 X5 X6 X7 X8) (acc0 i DK DV) w0 w1 w2 (by omega) hm) $$ [H3 H4 H5 H10 H11 H12 H13 H14 H15 H16 H17 H18]
  · unfold atTile
    isplitl [H3]; · iexact H3
    isplitl [H4]; · iexact H4
    isplitl [H5]; · iexact H5
    isplitl [H10]; · iexact H10
    isplitl [H11]; · iexact H11
    isplitl [H12]; · iexact H12
    isplitl [H13]; · iexact H13
    isplitl [H14]; · iexact H14
    isplitl [H15]; · iexact H15
    isplitl [H17]; · iexact H17
    isplitl [H16]
    · iexists _; iexact H16
    · iexists _; iexact H18
  unfold atTile
  iintro ⟨H3, H4, H5, H10, H11, H12, H13, H14, H15, H17, ⟨%K16, H16⟩, ⟨%K18, H18⟩⟩
  rw [wp_bind]
  iapply (part43_triple i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 c E hn hm (b := mkBlk i X2 X3 X4 X5 X6 X7 X8) (a := accs (mkBlk i X2 X3 X4 X5 X6 X7 X8) (acc0 i DK DV) (2 * (i 1).val) hm.le) (J16 := K16) (J18 := K18)) $$ [H4 H5 H13 H14 H15 H16 H17 H18]
  · isplitl [H4]; · iexact H4
    isplitl [H5]; · iexact H5
    isplitl [H13]; · iexact H13
    isplitl [H14]; · iexact H14
    isplitl [H15]; · iexact H15
    isplitl [H16]; · iexact H16
    isplitl [H17]; · iexact H17
    iexact H18
  iintro %w3 %w4 %w5 ⟨H4, H5, H13, H14, H15, H16, H17, H18⟩
  try dsimp only
  rw [wp_bind]
  iapply (part44_triple i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 c E hn hm (b := mkBlk i X2 X3 X4 X5 X6 X7 X8) (a := accs (mkBlk i X2 X3 X4 X5 X6 X7 X8) (acc0 i DK DV) (2 * (i 1).val) hm.le)) $$ [H3 H10 H11 H12]
  · isplitl [H3]; · iexact H3
    isplitl [H10]; · iexact H10
    isplitl [H11]; · iexact H11
    iexact H12
  iintro ⟨H3, H10, H11, H12⟩
  try dsimp only
  rw [wp_bind]
  iapply (part45_triple i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 c E hn hm (b := mkBlk i X2 X3 X4 X5 X6 X7 X8) (a := diagAcc (mkBlk i X2 X3 X4 X5 X6 X7 X8) (2 * (i 1).val) hm (accs (mkBlk i X2 X3 X4 X5 X6 X7 X8) (acc0 i DK DV) (2 * (i 1).val) hm.le))) $$ [H3 H10 H12 H13 H14 H16 H18]
  · isplitl [H3]; · iexact H3
    isplitl [H10]; · iexact H10
    isplitl [H12]; · iexact H12
    isplitl [H13]; · iexact H13
    isplitl [H14]; · iexact H14
    isplitl [H16]; · iexact H16
    iexact H18
  iintro ⟨H3, H10, H12, H13, H14, H16, H18⟩
  try dsimp only
  iapply (wp_ld_tile c E harg11 _ hn (k0_off19_eq i)) $$ H11; iintro H11
  iapply (wp_ld_tile c E harg11 _ hn (k0_off19_eq i)) $$ H11; iintro H11
  iapply (wp_st_tile c E harg11 _ hn (k0_off19_eq i)) $$ H11; iintro H11
  iapply (wp_ldw c E harg12) $$ H12; iintro H12
  iapply (wp_ldw c E harg9) $$ H9; iintro H9
  iapply (wp_stw c E harg9) $$ H9; iintro H9
  iapply (wp_after c E)
  sl_step
  dsimp only [pointAcc, halfAcc, mkBlk]
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

end Cert.Proof.KernelIdeal

end
-- ==== Proof.Run.lean ====
/-
  The whole run: what the pipeline's staging buffers hold at each grid point, the body obligation from the triple of one
  grid point, and the launch.

  The grid is head by query block, sixteen query blocks to a head. The query gradient's block is written back at every
  point. The key and value gradients stay in their staging buffers over the sixteen points of a head: what they hold after
  a point is a recursion on the point (`left`), reset at the first query block of each head.
-/
module

public import proofs.«01_k».proof.Proof.Point
public import proofs.«01_k».proof.Proof.Gen.KernelIdeal.Frame

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
open Idealize.ShloMosaic.Pipeline (Dat Cfg Window BodyObligation cellOf)

local notation "𝕄" => MT nD τ sig Unit (Elt F) ℕ (UR sig nD τ) ℕ

/-- A whole memref owned at what it reads is its buffer held at those contents. -/
theorem owns_pv (c : Dev nD) {sp : Space} {S : Shape} {e : EltTy} (M : Memref sig .tc sp S e) (h : M.IsWhole) (X : S.Idx → Elt F e) :
    (owns (c : Thread nD τ) M fullShare X : sProp 𝕄) ⊣⊢ pv c M h X := by
  have hs : M.view.set = Finset.univ := by
    obtain ⟨b, rfl, rfl, rfl, hm⟩ := h; cases hm; simp only [Memref.view_whole, View.set_whole]
  constructor
  · unfold owns
    iintro ⟨%f, %hf, H⟩
    rw [h.eq_unread hf, hs]
    iexact H
  · unfold owns
    rw [hs]
    iintro H
    iexists h.unread X
    isplitr
    · ipureintro; exact h.read_unread X
    · iexact H

variable (m : (ℓ : Loc nD τ sig) → Buf (Elt F) ℓ) (ρ : Dev nD → PrngReg)

/-- The blocks of a grid point as the body uses them. -/
def blk (c : Dev nD) (t : Fin cfg0.N) : Blk F :=
  mkBlk (grid0.coords t) (iblk m c 0 t) (iblk m c 1 t) (iblk m c 2 t) (iblk m c 3 t) (iblk m c 4 t) (iblk m c 5 t) (iblk m c 6 t)

/-- What the three gradients hold after grid point `t`. -/
def left (c : Dev nD) : (t : ℕ) → t < cfg0.N → Acc F
  | 0, h => pointAcc (grid0.coords ⟨0, h⟩) (blk m c ⟨0, h⟩) (acc0 (grid0.coords ⟨0, h⟩) k0_pay164 k0_pay165)
  | t + 1, h => pointAcc (grid0.coords ⟨t + 1, h⟩) (blk m c ⟨t + 1, h⟩)
      (acc0 (grid0.coords ⟨t + 1, h⟩) (left c t (Nat.lt_of_succ_lt h)).dk (left c t (Nat.lt_of_succ_lt h)).dv)

/-- The proof data: arrays as the region finds them; after a point the input buffers at their blocks and the output
    buffers at `left`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => k0_pay2 (left m c t.val t.isLt).dq
    | ⟨8, _⟩ => (left m c t.val t.isLt).dk
    | ⟨9, _⟩ => (left m c t.val t.isLt).dv
  Φ _ := Pipeline.ΦA spec0 c
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = k0_pay2 (left m c t.val t.isLt).dq := by dsimp only [dats]
theorem after8 (c : Dev nD) (t : Fin cfg0.N) : (dats m 0 c).after 8 t = (left m c t.val t.isLt).dk := by dsimp only [dats]
theorem after9 (c : Dev nD) (t : Fin cfg0.N) : (dats m 0 c).after 9 t = (left m c t.val t.isLt).dv := by dsimp only [dats]

theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d
theorem before6 (c : Dev nD) (t : Fin cfg0.N) (d) : (dats m 0 c).before 6 t d = iblk m c 6 t := before0_6_of m (dats m 0 c) (A_eq m c 6) (after6 m c) t d

/-- The query block of grid point `t`. -/
theorem coord1 : ∀ t : Fin cfg0.N, (grid0.coords t 1).val = t.val % 16 :=
  (by decide +kernel : ∀ t : Fin grid0.N, (grid0.coords t 1).val = t.val % 16)
/-- The head of grid point `t`. -/
theorem coord0 : ∀ t : Fin cfg0.N, (grid0.coords t 0).val = t.val / 16 :=
  (by decide +kernel : ∀ t : Fin grid0.N, (grid0.coords t 0).val = t.val / 16)

/-- At a head's first query block what the two accumulators held does not matter. -/
theorem acc0_first (i : grid0.Coords) (h : (i 1).val = 0) (DK DV DK' DV' : S1x32x128x256.Idx → Elt F .f32) : acc0 i DK DV = acc0 i DK' DV' := by
  unfold acc0
  simp only [h, if_true]

/-- What the body leaves at point `t`, from what it finds there in the two accumulators' buffers. -/
theorem left_eq (c : Dev nD) (t : Fin cfg0.N) (d8 d9) :
    left m c t.val t.isLt = pointAcc (grid0.coords t) (blk m c t) (acc0 (grid0.coords t) ((dats m 0 c).before 8 t d8) ((dats m 0 c).before 9 t d9)) := by
  obtain ⟨n, hn⟩ := t
  cases n with
  | zero =>
    change pointAcc _ _ _ = _
    rw [acc0_first (grid0.coords ⟨0, hn⟩) (coord1 _) _ _ ((dats m 0 c).before 8 ⟨0, hn⟩ d8) ((dats m 0 c).before 9 ⟨0, hn⟩ d9)]
  | succ n =>
    change pointAcc _ _ _ = _
    by_cases h : (n + 1) % 16 = 0
    · rw [acc0_first (grid0.coords ⟨n + 1, hn⟩) (by rw [coord1]; exact h) _ _ ((dats m 0 c).before 8 ⟨n + 1, hn⟩ d8) ((dats m 0 c).before 9 ⟨n + 1, hn⟩ d9)]
    · have f8 : (cfg0.win 8).flush ⟨n, Nat.lt_of_succ_lt hn⟩ = false := Bool.eq_false_iff.mpr fun hf => by
        have := (flush0_8 _).mp hf; simp only at this; omega
      have f9 : (cfg0.win 9).flush ⟨n, Nat.lt_of_succ_lt hn⟩ = false := Bool.eq_false_iff.mpr fun hf => by
        have := (flush0_9 _).mp hf; simp only at this; omega
      have b8 := (dats m 0 c).before_out_kept 8 rfl ⟨n + 1, hn⟩ (Nat.succ_ne_zero n) f8 (fun _ => rfl) (fun _ _ => rfl) d8
      have b9 := (dats m 0 c).before_out_kept 9 rfl ⟨n + 1, hn⟩ (Nat.succ_ne_zero n) f9 (fun _ => rfl) (fun _ _ => rfl) d9
      rw [b8, b9, after8, after9]
      rfl

/-- A scratch buffer held at something, told by what it reads. -/
theorem scratch_pv (c : Dev nD) (b : Ref sig .tc) : iprop(∃ f : Buf (Elt F) ((c : Thread nD τ).loc b), ((c : Thread nD τ).loc b) ↦{fullShare} f)
    ⊢ (iprop(∃ J, pv c (Memref.whole b) (Memref.isWhole_whole _) J) : sProp 𝕄) := by
  iintro ⟨%f, H⟩
  iexists (Memref.whole b).view.read (Elt F) f
  have e := Memref.IsWhole.unread_read (Val := Elt F) (Memref.isWhole_whole b) f
  unfold pv
  rw [e]
  iexact H
theorem pv_scratch (c : Dev nD) (b : Ref sig .tc) : (iprop(∃ J, pv c (Memref.whole b) (Memref.isWhole_whole _) J) : sProp 𝕄)
    ⊢ iprop(∃ f : Buf (Elt F) ((c : Thread nD τ).loc b), ((c : Thread nD τ).loc b) ↦{fullShare} f) := by
  iintro ⟨%J, H⟩
  iexists _
  iexact H

/-- What the body is handed at point `t`, and what it leaves. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

attribute [local irreducible] pointAcc acc0 mkBlk iblk k0_pay2 left in
set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0, after1, after2, after3, after4, after5, after6, after7, after8, after9]
  unfold Pipeline.ΦA
  rw [scopedRest0_eq]
  iintro ⟨⟨⟨S0, S1, S2, S3, S4, S5, S6⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave S0 := (scratch_pv c cc0_scratch0) $$ S0
  ihave S1 := (scratch_pv c cc0_scratch1) $$ S1
  ihave S2 := (scratch_pv c cc0_scratch2) $$ S2
  ihave S3 := (scratch_pv c cc0_scratch3) $$ S3
  ihave S4 := (scratch_pv c cc0_scratch4) $$ S4
  ihave S5 := (scratch_pv c cc0_scratch5) $$ S5
  ihave S6 := (scratch_pv c cc0_scratch6) $$ S6
  ihave H0 := (owns_pv c (st0_0 t) (hstage0_0 ((cfg0.slots t 0).cast nbuf0_0)) _).1 $$ H0
  ihave H1 := (owns_pv c (st0_1 t) (hstage0_1 ((cfg0.slots t 1).cast nbuf0_1)) _).1 $$ H1
  ihave H2 := (owns_pv c (st0_2 t) (hstage0_2 ((cfg0.slots t 2).cast nbuf0_2)) _).1 $$ H2
  ihave H3 := (owns_pv c (st0_3 t) (hstage0_3 ((cfg0.slots t 3).cast nbuf0_3)) _).1 $$ H3
  ihave H4 := (owns_pv c (st0_4 t) (hstage0_4 ((cfg0.slots t 4).cast nbuf0_4)) _).1 $$ H4
  ihave H5 := (owns_pv c (st0_5 t) (hstage0_5 ((cfg0.slots t 5).cast nbuf0_5)) _).1 $$ H5
  ihave H6 := (owns_pv c (st0_6 t) (hstage0_6 ((cfg0.slots t 6).cast nbuf0_6)) _).1 $$ H6
  ihave H7 := (owns_pv c (st0_7 t) (hstage0_7 ((cfg0.slots t 7).cast nbuf0_7)) _).1 $$ H7
  ihave H8 := (owns_pv c (st0_8 t) (hstage0_8 ((cfg0.slots t 8).cast nbuf0_8)) _).1 $$ H8
  ihave H9 := (owns_pv c (st0_9 t) (hstage0_9 ((cfg0.slots t 9).cast nbuf0_9)) _).1 $$ H9
  rw [left_eq m c t d8 d9]
  unfold blk
  iapply wp_wand $$ [H0 H1 H2 H3 H4 H5 H6 H7 H8 H9 S0 S1 S2 S3 S4 S5 S6]
  · iapply (point_triple (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) c Set.univ)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · iexact S0
    isplitl [S1]; · iexact S1
    isplitl [S2]; · iexact S2
    isplitl [S3]; · iexact S3
    isplitl [S4]; · iexact S4
    isplitl [S5]; · iexact S5
    iexact S6
  iintro %_ ⟨H0, H1, H2, H3, H4, H5, H6, H7, H8, H9, S0, S1, S2, S3, S4, S5, S6⟩
  ihave S0 := (pv_scratch c cc0_scratch0) $$ S0
  ihave S1 := (pv_scratch c cc0_scratch1) $$ S1
  ihave S2 := (pv_scratch c cc0_scratch2) $$ S2
  ihave S3 := (pv_scratch c cc0_scratch3) $$ S3
  ihave S4 := (pv_scratch c cc0_scratch4) $$ S4
  ihave S5 := (pv_scratch c cc0_scratch5) $$ S5
  ihave S6 := (pv_scratch c cc0_scratch6) $$ S6
  ihave H0 := (owns_pv c (st0_0 t) (hstage0_0 ((cfg0.slots t 0).cast nbuf0_0)) _).2 $$ H0
  ihave H1 := (owns_pv c (st0_1 t) (hstage0_1 ((cfg0.slots t 1).cast nbuf0_1)) _).2 $$ H1
  ihave H2 := (owns_pv c (st0_2 t) (hstage0_2 ((cfg0.slots t 2).cast nbuf0_2)) _).2 $$ H2
  ihave H3 := (owns_pv c (st0_3 t) (hstage0_3 ((cfg0.slots t 3).cast nbuf0_3)) _).2 $$ H3
  ihave H4 := (owns_pv c (st0_4 t) (hstage0_4 ((cfg0.slots t 4).cast nbuf0_4)) _).2 $$ H4
  ihave H5 := (owns_pv c (st0_5 t) (hstage0_5 ((cfg0.slots t 5).cast nbuf0_5)) _).2 $$ H5
  ihave H6 := (owns_pv c (st0_6 t) (hstage0_6 ((cfg0.slots t 6).cast nbuf0_6)) _).2 $$ H6
  ihave H7 := (owns_pv c (st0_7 t) (hstage0_7 ((cfg0.slots t 7).cast nbuf0_7)) _).2 $$ H7
  ihave H8 := (owns_pv c (st0_8 t) (hstage0_8 ((cfg0.slots t 8).cast nbuf0_8)) _).2 $$ H8
  ihave H9 := (owns_pv c (st0_9 t) (hstage0_9 ((cfg0.slots t 9).cast nbuf0_9)) _).2 $$ H9
  isplitl [Hr S0 S1 S2 S3 S4 S5 S6]
  · isplitr [Hr]
    · isplitl [S0]; · iexact S0
      isplitl [S1]; · iexact S1
      isplitl [S2]; · iexact S2
      isplitl [S3]; · iexact S3
      isplitl [S4]; · iexact S4
      isplitl [S5]; · iexact S5
      iexact S6
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body at that point. -/
theorem defs₀_row (t : Fin cfg0.N) : (defs₀ (F := F)) .tc cfg0.body (cfg0.bodyArgs t (cfg0.slots t)) = bodyAt0 t := by
  unfold defs₀; rw [Defs.onTc_tc]

theorem body_obligation (c : Dev nD) : BodyObligation (dats (F := F) m 0 c) defs₀ Variants.none () Set.univ := fun t => by
  rw [bigSep_W0, bigSep_W0, defs₀_row]
  exact triple_restated (sound_body m c t) rfl .rfl fun _ => .rfl

/-- The run: every array of the call and every other buffer of the host as the proof data tells, every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around cfgs (dats m) 0 launch0 defs₀ Variants.none m ρ main
    (fun c => (body_obligation m c).loose) (fun c => (dats m 0 c).share_full fun _ => rfl) (fun _ _ => rfl)
    (V0 m) [hostOps1] sfx_sub sfx_fresh sfx_keeps (hmain m Variants.none) (A_eq m) (fun _ _ => rfl) _ (fun _ h => h)

/-- The arguments end as launched, every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c),
      ((h.1 c).1 5).trans (((dats m 0 c).arrAt_in 5 rfl _).trans ((A_eq m c 5).trans (V_main_arg3 m c)))⟩, h.2⟩) (run_main m ρ)

end Cert.Proof.KernelIdeal

end
-- ==== Proof.Frames.lean ====
/-
  The frames of the three programs, and the one rule of the idealization.

  Each program runs to its end from any memory, leaves its four arguments as they were, and leaves
  every semaphore counter at zero.
-/
module

public import proofs.«01_k».proof.Defs
public import proofs.«01_k».proof.Proof.Run
public import proofs.«01_k».proof.Proof.Kernel.Run
public import proofs.«01_k».proof.Proof.Gen.ReferenceIdeal.Run
public import Idealize.ShloMosaic.Lib.Quiescent

@[expose] public section

noncomputable section

namespace Cert.Proof

open Idealize.ShloMosaic Idealize.SL.Sem

/-- The program as printed: arguments kept, counters at zero. -/
theorem frame_kernel : Cert.quiescent_Kernel := fun m ρ _ => Cert.Proof.Kernel.frame_main (F := Bits) m ρ

/-- The idealized program: arguments kept, counters at zero. -/
theorem frame_ideal : Cert.quiescent_KernelIdeal := fun m ρ _ => Cert.Proof.KernelIdeal.frame_main (F := Ideal) m ρ

/-- The reference: arguments kept; it declares no semaphore, so every counter is zero. -/
theorem frame_reference : Cert.quiescent_ReferenceIdeal := fun m ρ _ =>
  (θ_run _ _ _).mono (fun r h => ⟨fun c => (h c).2.2.2, sem_eq_zero_of_no_sems (by decide) r.2⟩)
    (Cert.ReferenceIdeal.Value.run (F := Ideal) m ρ)

/-- The named mask is the printed constant at its own instance and minus infinity at the idealized one. -/
theorem preserves_mask : Cert.preserves_Kernel_KernelIdeal :=
  IdealRules.named_const.statement Cert.KernelIdeal.κ "mask" .f32 0xF149F2CA#32 ⊥ rfl

end Cert.Proof

end
-- ==== Proof.Softmax.lean ====
/-
  The reference's arrays, one by one, at an entry.
-/
module

public import proofs.«01_k».proof.Proof.Gen.ReferenceIdeal.Run
public import Idealize.ShloMosaic.Lib.Pointwise
public import Idealize.ShloMosaic.PureOps.Ideal
public import Idealize.ShloMosaic.PureOps.IdealRules
public import Idealize.ShloMosaic.Lib.WordCmp

@[expose] public section

set_option maxRecDepth 65536

noncomputable section

namespace Cert.Proof.Softmax

open Cert.ReferenceIdeal Cert.ReferenceIdeal.Gen
open Idealize.ShloMosaic

/-- An array of extended reals. -/
abbrev Arr (s : Shape) := FVec Ideal s .f32

/-- The constant the scores are scaled by. -/
def scale : EReal := Ideal.ofBits FTy.f32 0x3DD105EC#32

/-- Whether query `R` may see key `K`. -/
def seen : Vec Ideal S8x8192x8192 .i1 :=
  broadcastInDim S8x8192x8192 ![0, 1, 2] bcast_S1x8192x8192_S8x8192x8192_0_1_2
    (broadcastInDim S1x8192x8192 ![1, 2] bcast_S8192x8192_S1x8192x8192_1_2
      (cmpi .sle
        (broadcastInDim S8192x8192 ![0, 1] bcast_S1x8192_S8192x8192_0_1
          (broadcastInDim S1x8192 ![1] bcast_S8192_S1x8192_1 (iotaInDim S8192 32 0)))
        (broadcastInDim S8192x8192 ![0, 1] bcast_S8192x1_S8192x8192_0_1
          (broadcastInDim S8192x1 ![0] bcast_S8192_S8192x1_0 (iotaInDim S8192 32 0)))))

theorem ninf : Ideal.ofBits FTy.f32 0xFF800000#32 = ⊥ := by simp [Ideal.ofBits, Ideal.ieee]

/-- A choice by the comparison of two positions. -/
theorem select_le {α : Type} (K R : Fin 8192) (x y : α) :
    Scalar.select (IntOp.cmpi .sle (BitVec.ofNat 32 K.val) (BitVec.ofNat 32 R.val)) x y
      = if K.val ≤ R.val then x else y := by
  rw [WordCmp.cmpi_sle_ofNat (w := 32) (by have := K.isLt; omega) (by have := R.isLt; omega)]
  by_cases h : K.val ≤ R.val <;> simp [h, Scalar.select]

/-- The masked scores. -/
def causal (q k : Arr S8192x8x96) : Arr S8x8192x8192 :=
  select seen
    (mulf (Host.dotGeneral (F := Ideal) dot_S8192x8x96_S8192x8x96_S8x8192x8192_2_2_0_0_1_1 none q k)
      (broadcastInDim S8x8192x8192 ![] bcast_S_S8x8192x8192 (constant (F := Ideal) S_ .f32 0x3DD105EC#32)))
    (broadcastInDim S8x8192x8192 ![] bcast_S_S8x8192x8192 (id (constant (F := Ideal) S_ .f32 0xFF800000#32)))

theorem causal_apply (q k : Arr S8192x8x96) (h : Fin 8) (R K : Fin 8192) :
    causal q k (ix3 h R K) = if K.val ≤ R.val then (∑ d : Fin 96, q (ix3 R h d) * k (ix3 K h d)) * scale else ⊥ := by
  pointwise [causal, seen, scale]
  rw [select_le, ← ninf]
  rfl

/-- The largest masked score of each query. -/
def top (x : Arr S8x8192x8192) : Arr S8x8192 :=
  Host.reduce (FloatOps.maximumf (F := Ideal)) x (constant (F := Ideal) S_ .f32 0xFF800000#32)
    reducesTo_S8x8192x8192_S8x8192_d2 h_S_

theorem top_apply (x : Arr S8x8192x8192) (h : Fin 8) (R : Fin 8192) :
    top x (ix2 h R) = Finset.univ.fold max ⊥ fun K : Fin 8192 => x (ix3 h R K) := by
  pointwise [top]
  rw [ninf]

/-- The exponentials of the scores less a number per query. -/
def expo (x : Arr S8x8192x8192) (t : Arr S8x8192) : Arr S8x8192x8192 :=
  Host.exp (F := Ideal) (subf x (broadcastInDim S8x8192x8192 ![0, 1, 2] bcast_S8x8192x1_S8x8192x8192_0_1_2
    (broadcastInDim S8x8192x1 ![0, 1] bcast_S8x8192_S8x8192x1_0_1 t)))

theorem expo_apply (x : Arr S8x8192x8192) (t : Arr S8x8192) (h : Fin 8) (R K : Fin 8192) :
    expo x t (ix3 h R K) = Ideal.exp (x (ix3 h R K) - t (ix2 h R)) := by
  pointwise [expo]

/-- The sum over the keys. -/
def total (e : Arr S8x8192x8192) : Arr S8x8192 :=
  Host.reduceAdd (F := Ideal) e (constant (F := Ideal) S_ .f32 0x00000000#32) reducesTo_S8x8192x8192_S8x8192_d2 h_S_

theorem total_apply (e : Arr S8x8192x8192) (h : Fin 8) (R : Fin 8192) :
    total e (ix2 h R) = ∑ K : Fin 8192, e (ix3 h R K) := by
  pointwise [total]

/-- A number per query, as a column. -/
def col (l : Arr S8x8192) : Arr S8x8192x1 := broadcastInDim S8x8192x1 ![0, 1] bcast_S8x8192_S8x8192x1_0_1 l

/-- A number per query, at every key. -/
def wide (l : Arr S8x8192x1) : Arr S8x8192x8192 :=
  broadcastInDim S8x8192x8192 ![0, 1, 2] bcast_S8x8192x1_S8x8192x8192_0_1_2 l

/-- The probabilities. -/
def soft (e : Arr S8x8192x8192) (l : Arr S8x8192) : Arr S8x8192x8192 := Host.divf (F := Ideal) e (wide (col l))

theorem soft_apply (e : Arr S8x8192x8192) (l : Arr S8x8192) (h : Fin 8) (R K : Fin 8192) :
    soft e l (ix3 h R K) = Ideal.div (e (ix3 h R K)) (l (ix2 h R)) := by
  pointwise [soft, wide, col]

/-- The cotangent, head by head. -/
def cot (ct : Arr S8192x512) : Arr S8x64x8192 :=
  transpose S8x64x8192 [1, 2, 0] (shapeCast _ ct shapeCasts_S8192x512_S8192x8x64) transposes_S8192x8x64_S8x64x8192_1_2_0

/-- Lane `d` of head `h` among the 512 lanes of the heads side by side. -/
def lane (h : Fin 8) (d : Fin 64) : Fin 512 := ⟨64 * h.val + d.val, by omega⟩

theorem cot_apply (ct : Arr S8192x512) (h : Fin 8) (d : Fin 64) (R : Fin 8192) :
    cot ct (ix3 h d R) = ct (ix2 R (lane h d)) := by
  pointwise [cot, lane]
  congr 3
  omega

/-- The gradient of the probabilities. -/
def dprob (ct : Arr S8192x512) (v : Arr S8192x8x64) : Arr S8x8192x8192 :=
  Host.dotGeneral (F := Ideal) dot_S8x64x8192_S8192x8x64_S8x8192x8192_1_2_2_0_0_1 none (cot ct) v

theorem dprob_apply (ct : Arr S8192x512) (v : Arr S8192x8x64) (h : Fin 8) (R K : Fin 8192) :
    dprob ct v (ix3 h R K) = ∑ d : Fin 64, ct (ix2 R (lane h d)) * v (ix3 K h d) := by
  pointwise [dprob, cot_apply]

/-- The gradient of the values. -/
def dval (ct : Arr S8192x512) (p : Arr S8x8192x8192) : Arr S8192x8x64 :=
  transpose S8192x8x64 [2, 0, 1]
    (Host.dotGeneral (F := Ideal) dot_S8x64x8192_S8x8192x8192_S8x64x8192_2_1_1_2_0_0 none (cot ct) p)
    transposes_S8x64x8192_S8192x8x64_2_0_1

theorem dval_apply (ct : Arr S8192x512) (p : Arr S8x8192x8192) (K : Fin 8192) (h : Fin 8) (d : Fin 64) :
    dval ct p (ix3 K h d) = ∑ R : Fin 8192, ct (ix2 R (lane h d)) * p (ix3 h R K) := by
  pointwise [dval, cot_apply]

/-- What the normalisation takes from the gradient of the probabilities. -/
def inner (dp e : Arr S8x8192x8192) (l : Arr S8x8192) : Arr S8x8192 :=
  Host.reduceAdd (F := Ideal)
    (Host.negf (shapeCast S8x8192x1
      (Host.reduceAdd (F := Ideal)
        (mulf (mulf dp (wide (Host.divf (F := Ideal)
          (broadcastInDim S8x8192x1 ![] bcast_S_S8x8192x1 (constant (F := Ideal) S_ .f32 0x3F800000#32))
          (mulf (col l) (col l))))) e)
        (constant (F := Ideal) S_ .f32 0x00000000#32) reducesTo_S8x8192x8192_S8x8192_d2 h_S_)
      shapeCasts_S8x8192_S8x8192x1))
    (constant (F := Ideal) S_ .f32 0x00000000#32) reducesTo_S8x8192x1_S8x8192_d2 h_S_

theorem inner_apply (dp e : Arr S8x8192x8192) (l : Arr S8x8192) (h : Fin 8) (R : Fin 8192) :
    inner dp e l (ix2 h R)
      = -∑ K : Fin 8192, dp (ix3 h R K) * Ideal.div 1 (l (ix2 h R) * l (ix2 h R)) * e (ix3 h R K) := by
  pointwise [inner, wide, col]
  exact Fintype.sum_unique _

/-- The gradient of the products of queries and keys. -/
def dscore (dp e : Arr S8x8192x8192) (l : Arr S8x8192) : Arr S8x8192x8192 :=
  mulf (select seen
      (mulf (addf (Host.divf (F := Ideal) dp (wide (col l)))
        (broadcastInDim S8x8192x8192 ![0, 1] bcast_S8x8192_S8x8192x8192_0_1 (inner dp e l))) e)
      (broadcastInDim S8x8192x8192 ![] bcast_S_S8x8192x8192 (constant (F := Ideal) S_ .f32 0x00000000#32)))
    (broadcastInDim S8x8192x8192 ![] bcast_S_S8x8192x8192 (constant (F := Ideal) S_ .f32 0x3DD105EC#32))

theorem dscore_apply (dp e : Arr S8x8192x8192) (l : Arr S8x8192) (h : Fin 8) (R K : Fin 8192) :
    dscore dp e l (ix3 h R K)
      = (if K.val ≤ R.val then
          (Ideal.div (dp (ix3 h R K)) (l (ix2 h R)) + inner dp e l (ix2 h R)) * e (ix3 h R K) else 0) * scale := by
  pointwise [dscore, seen, wide, col, scale]
  rw [select_le]
  split <;> simp

/-- The gradient of the keys. -/
def dkey (g : Arr S8x8192x8192) (q : Arr S8192x8x96) : Arr S8192x8x96 :=
  transpose S8192x8x96 [1, 0, 2]
    (Host.dotGeneral (F := Ideal) dot_S8x8192x8192_S8192x8x96_S8x8192x96_1_0_2_2_0_1 none g q)
    transposes_S8x8192x96_S8192x8x96_1_0_2

theorem dkey_apply (g : Arr S8x8192x8192) (q : Arr S8192x8x96) (K : Fin 8192) (h : Fin 8) (d : Fin 96) :
    dkey g q (ix3 K h d) = ∑ R : Fin 8192, g (ix3 h R K) * q (ix3 R h d) := by
  pointwise [dkey]

/-- The gradient of the queries. -/
def dquery (g : Arr S8x8192x8192) (k : Arr S8192x8x96) : Arr S8192x8x96 :=
  transpose S8192x8x96 [1, 0, 2]
    (Host.dotGeneral (F := Ideal) dot_S8x8192x8192_S8192x8x96_S8x8192x96_2_0_1_2_0_1 none g k)
    transposes_S8x8192x96_S8192x8x96_1_0_2

theorem dquery_apply (g : Arr S8x8192x8192) (k : Arr S8192x8x96) (R : Fin 8192) (h : Fin 8) (d : Fin 96) :
    dquery g k (ix3 R h d) = ∑ K : Fin 8192, g (ix3 h R K) * k (ix3 K h d) := by
  pointwise [dquery]

/-- The largest score, bounded below by minus infinity once more. -/
def atLeast (t : Arr S8x8192) : Arr S8x8192 :=
  maximumf (broadcastInDim S8x8192 ![] bcast_S_S8x8192 (constant (F := Ideal) S_ .f32 0xFF800000#32)) t

theorem atLeast_eq (t : Arr S8x8192) : atLeast t = t := by
  funext y
  pointwise [atLeast]
  rw [ninf]
  exact max_eq_right bot_le

/-- The reference's exponentials. -/
def expos (q k : Arr S8192x8x96) : Arr S8x8192x8192 := expo (causal q k) (atLeast (top (causal q k)))

variable (m : (ℓ : Loc nD τ sig) → Buf (Elt Ideal) ℓ) (c : Dev nD)

theorem ref_dv : Value.res_main_v46 m c
    = dval (m ((c.tc : Thread nD τ).loc main_arg3))
        (soft (expos (m ((c.tc : Thread nD τ).loc main_arg0)) (m ((c.tc : Thread nD τ).loc main_arg1)))
          (total (expos (m ((c.tc : Thread nD τ).loc main_arg0)) (m ((c.tc : Thread nD τ).loc main_arg1))))) := rfl

/-- The reference's gradient of the products. -/
def grads (q k : Arr S8192x8x96) (v : Arr S8192x8x64) (ct : Arr S8192x512) : Arr S8x8192x8192 :=
  dscore (dprob ct v) (expos q k) (total (expos q k))

theorem ref_dk : Value.res_main_v63 m c
    = dkey (grads (m ((c.tc : Thread nD τ).loc main_arg0)) (m ((c.tc : Thread nD τ).loc main_arg1))
        (m ((c.tc : Thread nD τ).loc main_arg2)) (m ((c.tc : Thread nD τ).loc main_arg3)))
        (m ((c.tc : Thread nD τ).loc main_arg0)) := rfl

theorem ref_dq : Value.res_main_v65 m c
    = dquery (grads (m ((c.tc : Thread nD τ).loc main_arg0)) (m ((c.tc : Thread nD τ).loc main_arg1))
        (m ((c.tc : Thread nD τ).loc main_arg2)) (m ((c.tc : Thread nD τ).loc main_arg3)))
        (m ((c.tc : Thread nD τ).loc main_arg1)) := rfl

end Cert.Proof.Softmax
-- ==== Proof.Reals.lean ====
/-
  The reference on arrays of real numbers: every array it computes is an array of real numbers, and its three results
  are the three sums of the attention's gradient.
-/
module

public import proofs.«01_k».proof.Proof.Softmax

@[expose] public section

set_option maxRecDepth 65536

noncomputable section

namespace Cert.Proof.Softmax

open Cert.ReferenceIdeal Cert.ReferenceIdeal.Gen
open Idealize.ShloMosaic

/-- An array of real numbers read as one of extended reals. -/
def up {s : Shape} (x : s.Idx → ℝ) : Arr s := fun i => ((x i : ℝ) : EReal)

theorem up_apply {s : Shape} (x : s.Idx → ℝ) (i : s.Idx) : up x i = ((x i : ℝ) : EReal) := rfl

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem coe_ite (p : Prop) [Decidable p] (x : ℝ) : (if p then ((x : ℝ) : EReal) else 0) = ((if p then x else 0 : ℝ) : EReal) := by
  split <;> simp

/-- The scale as a real number. -/
def sc : ℝ := scale.toReal

theorem scale_coe : scale = ((sc : ℝ) : EReal) := by
  refine (EReal.coe_toReal ?_ ?_).symm <;> simp [scale, Ideal.ofBits, Ideal.ieee, -EReal.coe_mul]

variable (q k : S8192x8x96.Idx → ℝ) (v : S8192x8x64.Idx → ℝ) (ct : S8192x512.Idx → ℝ) (h : Fin 8) (R K : Fin 8192)

/-- The scaled product of query `R` and key `K`. -/
def logit : ℝ := (∑ d : Fin 96, q (ix3 R h d) * k (ix3 K h d)) * sc

theorem causal_coe : causal (up q) (up k) (ix3 h R K) = if K.val ≤ R.val then ((logit q k h R K : ℝ) : EReal) else ⊥ := by
  rw [causal_apply]
  simp only [up_apply, scale_coe, ← EReal.coe_mul, coe_sum, logit]

/-- The greatest of a row. -/
def peak : ℝ := (top (causal (up q) (up k)) (ix2 h R)).toReal

theorem top_coe : top (causal (up q) (up k)) (ix2 h R) = ((peak q k h R : ℝ) : EReal) := by
  refine (EReal.coe_toReal ?_ ?_).symm
  · rw [top_apply]
    refine ne_of_lt ((Finset.fold_max_lt _).mpr ⟨bot_lt_top, fun K _ => ?_⟩)
    rw [causal_coe]
    split
    · exact EReal.coe_lt_top _
    · exact bot_lt_top
  · rw [top_apply]
    refine ne_of_gt ((Finset.lt_fold_max _).mpr (Or.inr ⟨R, Finset.mem_univ _, ?_⟩))
    rw [causal_coe, if_pos le_rfl]
    exact EReal.bot_lt_coe _

/-- The exponential of a key's product, less the greatest of its row; zero of a key the query does not see. -/
def ex : ℝ := if K.val ≤ R.val then Real.exp (logit q k h R K - peak q k h R) else 0

theorem expo_coe : expo (causal (up q) (up k)) (top (causal (up q) (up k))) (ix3 h R K) = ((ex q k h R K : ℝ) : EReal) := by
  rw [expo_apply, causal_coe, top_coe]
  unfold ex
  by_cases hK : K.val ≤ R.val
  · rw [if_pos hK, if_pos hK, ← EReal.coe_sub, Ideal.exp_coe]
  · rw [if_neg hK, if_neg hK, EReal.bot_sub, Ideal.exp_bot, EReal.coe_zero]

/-- The sum of a row's exponentials. -/
def tot : ℝ := ∑ K : Fin 8192, ex q k h R K

theorem ex_nonneg : 0 ≤ ex q k h R K := by
  unfold ex
  split
  · exact (Real.exp_pos _).le
  · exact le_rfl

theorem tot_pos : 0 < tot q k h R := by
  refine Finset.sum_pos' (fun K _ => ex_nonneg q k h R K) ⟨R, Finset.mem_univ _, ?_⟩
  unfold ex
  rw [if_pos le_rfl]
  exact Real.exp_pos _

theorem total_coe : total (expo (causal (up q) (up k)) (top (causal (up q) (up k)))) (ix2 h R) = ((tot q k h R : ℝ) : EReal) := by
  rw [total_apply]
  simp only [expo_coe, coe_sum, tot]

/-- The probability. -/
def pr : ℝ := ex q k h R K / tot q k h R

theorem soft_coe : soft (expo (causal (up q) (up k)) (top (causal (up q) (up k))))
    (total (expo (causal (up q) (up k)) (top (causal (up q) (up k))))) (ix3 h R K) = ((pr q k h R K : ℝ) : EReal) := by
  rw [soft_apply, expo_coe, total_coe, Ideal.div_coe (tot_pos q k h R).ne', ← EReal.coe_mul, pr, mul_one_div]

/-- The product of the cotangent of query `R` with the value of key `K`. -/
def dp : ℝ := ∑ d : Fin 64, ct (ix2 R (lane h d)) * v (ix3 K h d)

theorem dprob_coe : dprob (up ct) (up v) (ix3 h R K) = ((dp v ct h R K : ℝ) : EReal) := by
  rw [dprob_apply]
  simp only [up_apply, ← EReal.coe_mul, coe_sum, dp]

/-- The mean of a row's products under its probabilities. -/
def mean : ℝ := ∑ K : Fin 8192, pr q k h R K * dp v ct h R K

/-- The gradient of the score. -/
def gr : ℝ := pr q k h R K * (dp v ct h R K - mean q k v ct h R)

theorem expos_eq : expos (up q) (up k) = expo (causal (up q) (up k)) (top (causal (up q) (up k))) := by
  unfold expos
  rw [atLeast_eq]

theorem inner_coe : inner (dprob (up ct) (up v)) (expos (up q) (up k)) (total (expos (up q) (up k))) (ix2 h R)
    = ((-(mean q k v ct h R / tot q k h R) : ℝ) : EReal) := by
  have hz := (tot_pos q k h R).ne'
  rw [inner_apply, expos_eq]
  simp only [expo_coe, total_coe, dprob_coe, ← EReal.coe_mul, Ideal.div_coe (mul_ne_zero hz hz), one_mul, coe_sum, ← EReal.coe_neg]
  rw [mean, Finset.sum_div]
  refine congrArg (fun x : ℝ => ((-x : ℝ) : EReal)) (Finset.sum_congr rfl fun K _ => ?_)
  unfold pr
  field_simp

theorem grads_coe : grads (up q) (up k) (up v) (up ct) (ix3 h R K) = ((gr q k v ct h R K * sc : ℝ) : EReal) := by
  have hz := (tot_pos q k h R).ne'
  unfold grads
  rw [dscore_apply, inner_coe, expos_eq, expo_coe, total_coe, dprob_coe, scale_coe, Ideal.div_coe hz]
  simp only [← EReal.coe_mul, ← EReal.coe_add, coe_ite]
  refine congrArg (fun x : ℝ => ((x : ℝ) : EReal)) (congrArg (· * sc) ?_)
  unfold gr pr
  by_cases hK : K.val ≤ R.val
  · rw [if_pos hK]
    field_simp
    ring
  · rw [if_neg hK, show ex q k h R K = 0 from if_neg hK]
    ring

/-- The three gradients of the attention. -/
def gradQ (d : Fin 96) : ℝ := ∑ K : Fin 8192, gr q k v ct h R K * sc * k (ix3 K h d)
def gradK (d : Fin 96) : ℝ := ∑ R : Fin 8192, gr q k v ct h R K * sc * q (ix3 R h d)
def gradV (d : Fin 64) : ℝ := ∑ R : Fin 8192, ct (ix2 R (lane h d)) * pr q k h R K

theorem dquery_coe (d : Fin 96) :
    dquery (grads (up q) (up k) (up v) (up ct)) (up k) (ix3 R h d) = ((gradQ q k v ct h R d : ℝ) : EReal) := by
  rw [dquery_apply]
  simp only [grads_coe, up_apply, ← EReal.coe_mul, coe_sum, gradQ]

theorem dkey_coe (d : Fin 96) :
    dkey (grads (up q) (up k) (up v) (up ct)) (up q) (ix3 K h d) = ((gradK q k v ct h K d : ℝ) : EReal) := by
  rw [dkey_apply]
  simp only [grads_coe, up_apply, ← EReal.coe_mul, coe_sum, gradK]

theorem dval_coe (d : Fin 64) : dval (up ct) (soft (expos (up q) (up k)) (total (expos (up q) (up k)))) (ix3 K h d)
    = ((gradV q k ct h K d : ℝ) : EReal) := by
  rw [dval_apply, expos_eq]
  simp only [soft_coe, up_apply, ← EReal.coe_mul, coe_sum, gradV]

end Cert.Proof.Softmax
-- ==== Proof.Finite.lean ====
/-
  The precondition: four arrays of which every entry is a real number.
-/
module

public import proofs.«01_k».proof.Pre_finite
public import proofs.«01_k».proof.Proof.Reals
public import Idealize.ShloMosaic.Lib.ReduceAll

@[expose] public section

set_option maxRecDepth 65536

noncomputable section

namespace Cert.Proof.Softmax

open Idealize.ShloMosaic

theorem preFacts : Cert.Pre_finite.Facts where
  bcast_S_S8192x8x96 := by decide
  reducesTo_S8192x8x96_S_d0_1_2 := by decide
  h_S_ := by decide
  bcast_S_S8192x8x64 := by decide
  reducesTo_S8192x8x64_S_d0_1_2 := by decide
  bcast_S_S8192x512 := by decide
  reducesTo_S8192x512_S_d0_1 := by decide

theorem inf : Ideal.ofBits FTy.f32 0x7F800000#32 = ⊤ := by simp [Ideal.ofBits, Ideal.ieee]

theorem real_of_lt (x : EReal) (h : BitVec.ofBool (decide (max x (-x) < ⊤)) = 1#1) : x ≠ ⊤ ∧ x ≠ ⊥ := by
  have h' : max x (-x) < ⊤ := by
    by_contra hn
    rw [decide_eq_false hn] at h
    exact absurd h (by decide)
  rw [max_lt_iff] at h'
  refine ⟨h'.1.ne, fun e => ?_⟩
  rw [e, EReal.neg_bot] at h'
  exact absurd h'.2 (lt_irrefl _)

instance : Subsingleton Cert.Pre_finite.S_.Idx := ⟨fun a b => funext fun x => x.elim0⟩

/-- An array whose entries' absolute values are all below infinity is an array of real numbers. -/
theorem real_of_all {s : Shape} {axes : List (Fin s.rank)} (x : Arr s) (hb : Cert.Pre_finite.S_.BroadcastsInDim s (![] : Fin 0 → Fin s.rank))
    (hr : s.ReducesTo axes Cert.Pre_finite.S_) (hu : 0 < Cert.Pre_finite.S_.numel)
    (e : Host.reduce IntOp.andi (cmpf .olt (Host.absf (F := Ideal) x)
      (broadcastInDim s ![] hb (constant (F := Ideal) Cert.Pre_finite.S_ .f32 0x7F800000#32))) (constantI Cert.Pre_finite.S_ 1 1#1) hr hu
        ix0 = 1#1) : x = up fun i => (x i).toReal := by
  funext i
  have hi := Host.reduce_andi_all _ _ _ _ _ e i
  have hi' : BitVec.ofBool (decide (max (x i) (-(x i)) < Ideal.ofBits FTy.f32 0x7F800000#32)) = 1#1 := hi
  rw [inf] at hi'
  exact (EReal.coe_toReal (real_of_lt _ hi').1 (real_of_lt _ hi').2).symm

theorem both_one : ∀ a b : BitVec 1, IntOp.andi a b = 1#1 → a = 1#1 ∧ b = 1#1 := by decide

/-- The precondition's four arrays are arrays of real numbers. -/
theorem reals_of_finite (q k : Arr Cert.Pre_finite.S8192x8x96) (v : Arr Cert.Pre_finite.S8192x8x64) (ct : Arr Cert.Pre_finite.S8192x512)
    (e : (haveI := preFacts; Cert.Pre_finite.fn (F := Ideal) q k v ct) = fun _ => 1#1) :
    q = up (fun i => (q i).toReal) ∧ k = up (fun i => (k i).toReal) ∧ v = up (fun i => (v i).toReal) ∧ ct = up (fun i => (ct i).toReal) := by
  have e0 := congrFun e ix0
  have h3 := both_one _ _ e0
  have h2 := both_one _ _ h3.1
  have h1 := both_one _ _ h2.1
  exact ⟨real_of_all q _ _ _ h1.1, real_of_all k _ _ _ h1.2, real_of_all v _ _ _ h2.2, real_of_all ct _ _ _ h3.2⟩

end Cert.Proof.Softmax
-- ==== Proof.Tiles.lean ====
/-
  One tile at an entry: what a consumed tile adds to the three gradients.

  Over the extended reals a tile of 256 keys adds, to the query gradient, the sum over its keys of the score gradient
  times the key; to the tile of the key gradient, the sum over the block's queries of the query times the score
  gradient; to the tile of the value gradient, the same with the cotangent and the probability. The three ways in which
  the kernel consumes a tile (below the diagonal, the first on it, the second on it) add the same terms: a masked
  probability is zero.
-/
module

public import proofs.«01_k».proof.Proof.Ends
public import Idealize.ShloMosaic.Lib.Pointwise
public import Idealize.ShloMosaic.PureOps.Ideal
public import Idealize.ShloMosaic.PureOps.IdealRules
public import Idealize.ShloMosaic.Lib.WordCmp

@[expose] public section

set_option maxRecDepth 65536

noncomputable section

namespace Cert.Proof.KernelIdeal

open Cert.KernelIdeal Cert.KernelIdeal.Gen
open Idealize.ShloMosaic

/-- The score of query row `r` and key `c` of tile `n`. -/
def score (b : Blk Ideal) (n : Fin 32) (r : Fin 512) (c : Fin 256) : EReal :=
  ∑ l : Fin 128, b.qh (ix2 r l) * b.kt (ix4 0 n l c)
/-- The cotangent's product with the value of key `c` of tile `n`. -/
def prod (b : Blk Ideal) (n : Fin 32) (r : Fin 512) (c : Fin 256) : EReal :=
  ∑ l : Fin 128, b.dob (ix2 r l) * b.vt (ix4 0 n l c)
/-- The masked probability at query block `i`. -/
def prob (i : ℕ) (b : Blk Ideal) (n : Fin 32) (r : Fin 512) (c : Fin 256) : EReal :=
  if 256 * n.val + c.val ≤ 512 * i + r.val then Ideal.exp2 (score b n r c - b.lse (ix2 r c)) else 0
/-- The gradient of the score. -/
def grad (i : ℕ) (b : Blk Ideal) (n : Fin 32) (r : Fin 512) (c : Fin 256) : EReal :=
  prob i b n r c * (prod b n r c - b.dd (ix2 r c))

/-- What tile `n` adds to the query gradient, and to its own tile of the key and of the value gradient. -/
def dqTerm (i : ℕ) (b : Blk Ideal) (n : Fin 32) (r : Fin 512) (l : Fin 128) : EReal :=
  ∑ c : Fin 256, grad i b n r c * b.kr (ix3 0 ⟨256 * n.val + c.val, by omega⟩ l)
def dkTerm (i : ℕ) (b : Blk Ideal) (n : Fin 32) (l : Fin 128) (c : Fin 256) : EReal :=
  ∑ r : Fin 512, b.qT (ix2 l r) * grad i b n r c
def dvTerm (i : ℕ) (b : Blk Ideal) (n : Fin 32) (l : Fin 128) (c : Fin 256) : EReal :=
  ∑ r : Fin 512, b.dobT (ix2 l r) * prob i b n r c

/-- `a'` is `a` with tile `n` consumed at query block `i`. -/
structure Adds (i : ℕ) (b : Blk Ideal) (n : Fin 32) (a a' : Acc Ideal) : Prop where
  dq : ∀ r l, a'.dq (ix2 r l) = a.dq (ix2 r l) + dqTerm i b n r l
  dk : ∀ j l c, a'.dk (ix4 0 j l c) = a.dk (ix4 0 j l c) + if j = n then dkTerm i b n l c else 0
  dv : ∀ j l c, a'.dv (ix4 0 j l c) = a.dv (ix4 0 j l c) + if j = n then dvTerm i b n l c else 0

/-! ## The tiled arrays and the halves at an entry -/

theorem tile_apply {α : Type} (X : S1x32x128x256.Idx → α) (n : Fin 32) (l : Fin 128) (c : Fin 256) :
    tile X n.val n.isLt (ix4 0 0 l c) = X (ix4 0 n l c) := by
  unfold tile
  pointwise

theorem rowsOf_apply {α : Type} (X : S1x8192x128.Idx → α) (n : Fin 32) (c : Fin 256) (l : Fin 128) :
    rowsOf X n.val n.isLt (ix3 0 c l) = X (ix3 0 ⟨256 * n.val + c.val, by omega⟩ l) := by
  unfold rowsOf
  pointwise

/-- A rectangle's part replaced, at an entry of the rectangle and at one beside it. -/
theorem overlay_at {s : Shape} {α : Type} (r : Rect s) (X : s.Idx → α) (w : r.shape.Idx → α) (y : s.Idx) (x : r.shape.Idx)
    (h : ∀ a, (y a).val = r.off a + r.stride a * (x a).val) : r.overlay X w y = w x := by
  have e : y = r.emb x := funext fun a => Fin.ext (by rw [Rect.emb_apply]; exact h a)
  rw [e, Rect.overlay_emb]

theorem overlay_off {s : Shape} {α : Type} (r : Rect s) (X : s.Idx → α) (w : r.shape.Idx → α) (y : s.Idx) (a : Fin s.rank)
    (h : ¬ ∃ j < r.size a, (y a).val = r.off a + r.stride a * j) : r.overlay X w y = X y :=
  Rect.overlay_of_not_mem _ _ _ fun hm => h (r.mem_set.mp hm a)

theorem setTile_apply {α : Type} (X : S1x32x128x256.Idx → α) (n j : Fin 32) (w : S1x1x128x256.Idx → α) (l : Fin 128) (c : Fin 256) :
    setTile X n.val n.isLt w (ix4 0 j l c) = if j = n then w (ix4 0 0 l c) else X (ix4 0 j l c) := by
  unfold setTile
  by_cases h : j = n
  · obtain rfl := h
    rw [if_pos rfl]
    refine overlay_at (Rect.unit (s := S1x32x128x256) ![0, j.val, 0, 0] S1x1x128x256.size (tileIn j.val j.isLt)) X w _ (ix4 0 0 l c : S1x1x128x256.Idx) fun a => ?_
    match a with
    | ⟨0, _⟩ => rfl
    | ⟨1, _⟩ => show j.val = j.val + 1 * 0; omega
    | ⟨2, _⟩ => show l.val = 0 + 1 * l.val; omega
    | ⟨3, _⟩ => show c.val = 0 + 1 * c.val; omega
  · rw [if_neg h]
    refine overlay_off (Rect.unit (s := S1x32x128x256) ![0, n.val, 0, 0] S1x1x128x256.size (tileIn n.val n.isLt)) X w _ 1 ?_
    show ¬ ∃ k < 1, j.val = n.val + 1 * k
    rintro ⟨k, hk, e⟩
    exact h (Fin.ext (by omega))

theorem setLow_apply {α : Type} (X : S512x128.Idx → α) (w : S256x128.Idx → α) (r : Fin 512) (l : Fin 128) :
    setLow X w (ix2 r l) = if h : 256 ≤ r.val then w (ix2 ⟨r.val - 256, by omega⟩ l) else X (ix2 r l) := by
  unfold setLow
  by_cases h : 256 ≤ r.val
  · rw [dif_pos h]
    refine overlay_at (Rect.unit (s := S512x128) ![256, 0] S256x128.size inb_S512x128_S256x128_256_0) X w _ (ix2 ⟨r.val - 256, by omega⟩ l : S256x128.Idx) fun a => ?_
    match a with
    | ⟨0, _⟩ => show r.val = 256 + 1 * (r.val - 256); omega
    | ⟨1, _⟩ => show l.val = 0 + 1 * l.val; omega
  · rw [dif_neg h]
    refine overlay_off (Rect.unit (s := S512x128) ![256, 0] S256x128.size inb_S512x128_S256x128_256_0) X w _ 0 ?_
    show ¬ ∃ k < 256, r.val = 256 + 1 * k
    rintro ⟨k, hk, e⟩
    omega

theorem lowS_apply {α : Type} (X : S512x256.Idx → α) (r : Fin 256) (c : Fin 256) : lowS X (ix2 r c) = X (ix2 ⟨256 + r.val, by omega⟩ c) := by
  unfold lowS
  pointwise

theorem lowD_apply {α : Type} (X : S512x128.Idx → α) (r : Fin 256) (l : Fin 128) : lowD X (ix2 r l) = X (ix2 ⟨256 + r.val, by omega⟩ l) := by
  unfold lowD
  pointwise

/-! ## The values of a tile -/

theorem named_mask : (Named.named (F := Ideal) (φ := .f32) Cert.KernelIdeal.κ "mask" 0xF149F2CA#32 : EReal) = ⊥ :=
  IdealRules.named_const.ideal_named_scalar _ _ _ _ rfl

theorem bot_sub' (x : EReal) : (⊥ : EReal) - x = ⊥ := by rw [sub_eq_add_neg, EReal.bot_add]

/-- A masked score's probability: the mask is minus infinity, whose power of two is zero. -/
theorem masked (x y : ℕ) (hx : x < 2 ^ 31) (hy : y < 2 ^ 31) (s l : EReal) :
    Ideal.exp2 (Scalar.select (IntOp.cmpi .sle (BitVec.ofNat 32 x) (BitVec.ofNat 32 y)) s (Named.named (F := Ideal) (φ := .f32) Cert.KernelIdeal.κ "mask" 0xF149F2CA#32) - l)
      = if x ≤ y then Ideal.exp2 (s - l) else 0 := by
  rw [WordCmp.cmpi_sle_ofNat (w := 32) hx hy, named_mask]
  by_cases h : x ≤ y
  · simp [h, Scalar.select]
  · simp [h, Scalar.select, bot_sub']

section Values

variable (i : ℕ) (b : Blk Ideal) (n : Fin 32)

theorem sc_apply (r : Fin 512) (c : Fin 256) : sc b n.val n.isLt (ix2 r c) = score b n r c := by
  unfold sc score
  pointwise [k0_pay3, tile_apply]

theorem pp_apply (r : Fin 512) (c : Fin 256) : pp b n.val n.isLt (ix2 r c) = prod b n r c := by
  unfold pp prod
  pointwise [k0_pay4, tile_apply]

theorem scLow_apply (r c : Fin 256) : scLow b n.val n.isLt (ix2 r c) = score b n ⟨256 + r.val, by omega⟩ c := by
  unfold scLow score
  pointwise [k0_pay187, tile_apply]

theorem ppLow_apply (r c : Fin 256) : ppLow b n.val n.isLt (ix2 r c) = prod b n ⟨256 + r.val, by omega⟩ c := by
  unfold ppLow prod
  pointwise [k0_pay188, tile_apply]

theorem pr_apply (h : n.val < 2 * i) (r : Fin 512) (c : Fin 256) : pr b n.val n.isLt (ix2 r c) = prob i b n r c := by
  unfold pr prob
  rw [if_pos (by omega)]
  pointwise [k0_pay5, sc_apply]
  rfl

theorem ds_apply (h : n.val < 2 * i) (r : Fin 512) (c : Fin 256) : ds b n.val n.isLt (ix2 r c) = grad i b n r c := by
  have := pr_apply i b n h r c
  unfold pr at this
  unfold ds grad
  pointwise [k0_pay6, pp_apply]
  rw [this]

theorem dpr_apply (h : n.val = 2 * i) (r : Fin 512) (c : Fin 256) : dpr b n.val n.isLt (ix2 r c) = prob i b n r c := by
  unfold dpr prob
  pointwise [k0_pay189, sc_apply]
  have e : IntOp.addi (BitVec.ofNat 32 c.val) 0#32 = BitVec.ofNat 32 c.val := BitVec.add_zero _
  rw [e]
  refine (masked c.val r.val (by omega) (by omega) _ _).trans ?_
  congr 1
  exact propext ⟨fun _ => by omega, fun _ => by omega⟩

theorem ddf_apply (r : Fin 512) (c : Fin 256) : ddf b n.val n.isLt (ix2 r c) = prod b n r c - b.dd (ix2 r c) := by
  unfold ddf
  pointwise [k0_pay190, pp_apply]

theorem pay196_apply (h : n.val = 2 * i + 1) (r c : Fin 256) :
    k0_pay196 (k0_pay195 iota0 iota1) (scLow b n.val n.isLt) (lowS b.lse) (ix2 r c) = prob i b n ⟨256 + r.val, by omega⟩ c := by
  unfold prob
  pointwise [k0_pay196, k0_pay195, scLow_apply, lowS_apply]
  have e : IntOp.addi (BitVec.ofNat 32 c.val) 256#32 = BitVec.ofNat 32 (c.val + 256) := (BitVec.ofNat_add _ _).symm
  rw [e]
  refine (masked (c.val + 256) (256 + r.val) (by omega) (by omega) _ _).trans ?_
  congr 1
  exact propext ⟨fun _ => by omega, fun _ => by omega⟩

/-! ## The three ways of consuming a tile -/

theorem place {p : Prop} [Decidable p] (x y z : EReal) (h : p → x = y) : (if p then x + z else y) = y + if p then z else 0 := by
  split
  · rename_i hp; rw [h hp]
  · rw [add_zero]

theorem step_adds (h : n.val < 2 * i) (a : Acc Ideal) : Adds i b n a (stepAcc b n.val n.isLt a) := by
  constructor
  · intro r l
    unfold stepAcc dqTerm
    pointwise [k0_pay7, rowsOf_apply, ds_apply i b n h]
  · intro j l c
    unfold stepAcc dkTerm
    dsimp only
    rw [setTile_apply]
    pointwise [k0_pay8, tile_apply, ds_apply i b n h]
    exact place _ _ _ fun e => by rw [e]
  · intro j l c
    unfold stepAcc dvTerm
    dsimp only
    rw [setTile_apply]
    pointwise [k0_pay9, tile_apply, pr_apply i b n h]
    exact place _ _ _ fun e => by rw [e]

theorem diag_adds (h : n.val = 2 * i) (a : Acc Ideal) : Adds i b n a (diagAcc b n.val n.isLt a) := by
  constructor
  · intro r l
    unfold diagAcc dqTerm grad
    pointwise [k0_pay192, k0_pay191, rowsOf_apply, dpr_apply i b n h, ddf_apply]
  · intro j l c
    unfold diagAcc dkTerm grad
    dsimp only
    rw [setTile_apply]
    pointwise [k0_pay193, k0_pay191, tile_apply, dpr_apply i b n h, ddf_apply]
    exact place _ _ _ fun e => by rw [e]
  · intro j l c
    unfold diagAcc dvTerm
    dsimp only
    rw [setTile_apply]
    pointwise [k0_pay194, tile_apply, dpr_apply i b n h]
    exact place _ _ _ fun e => by rw [e]

theorem pay197_apply (h : n.val = 2 * i + 1) (r c : Fin 256) :
    k0_pay197 (k0_pay195 iota0 iota1) (scLow b n.val n.isLt) (lowS b.lse) (ppLow b n.val n.isLt) (lowS b.dd) (ix2 r c)
      = grad i b n ⟨256 + r.val, by omega⟩ c := by
  have := pay196_apply i b n h r c
  unfold k0_pay197 grad
  rw [← this]
  pointwise [ppLow_apply, lowS_apply]

/-- Above the second diagonal tile nothing is left of the block's upper half. -/
theorem prob_upper (h : n.val = 2 * i + 1) (r : Fin 512) (hr : r.val < 256) (c : Fin 256) : prob i b n r c = 0 := by
  unfold prob
  rw [if_neg (by omega)]

theorem lower (f : Fin 512 → EReal) (h : ∀ r : Fin 512, r.val < 256 → f r = 0) :
    ∑ r, f r = ∑ r : Fin 256, f ⟨256 + r.val, by omega⟩ := by
  rw [Fin.sum_univ_two_halves 256 256 rfl f, Finset.sum_eq_zero (fun r _ => h _ r.isLt), zero_add]

theorem half_adds (h : n.val = 2 * i + 1) (a : Acc Ideal) : Adds i b n a (halfAcc b n.val n.isLt a) := by
  constructor
  · intro r l
    unfold halfAcc dqTerm
    dsimp only
    rw [setLow_apply]
    by_cases hr : 256 ≤ r.val
    · rw [dif_pos hr]
      have e : (⟨256 + (r.val - 256), by omega⟩ : Fin 512) = r := Fin.ext (by show 256 + (r.val - 256) = r.val; omega)
      pointwise [k0_pay198, rowsOf_apply, lowD_apply, pay197_apply i b n h]
      rw [e]
    · rw [dif_neg hr]
      unfold grad
      rw [Finset.sum_eq_zero (fun c _ => by rw [prob_upper i b n h r (by omega), zero_mul, zero_mul]), add_zero]
  · intro j l c
    unfold halfAcc dkTerm
    dsimp only
    rw [setTile_apply, lower _ fun r hr => by unfold grad; rw [prob_upper i b n h r hr, zero_mul, mul_zero]]
    pointwise [k0_pay199, tile_apply, pay197_apply i b n h]
    exact place _ _ _ fun e => by rw [e]
  · intro j l c
    unfold halfAcc dvTerm
    dsimp only
    rw [setTile_apply, lower _ fun r hr => by rw [prob_upper i b n h r hr, mul_zero]]
    pointwise [k0_pay1, tile_apply, pay196_apply i b n h]
    exact place _ _ _ fun e => by rw [e]

end Values

end Cert.Proof.KernelIdeal

end
-- ==== Proof.Sums.lean ====
/-
  A grid point, and the sixteen grid points of a head, at an entry.

  A grid point adds to the block's query gradient the terms of all key tiles, and to each tile of the key and value
  gradients its own term: a tile beyond the diagonal adds nothing, its probabilities being zero. The key and value
  gradients start from zero at a head's first block, so after a head's last one they hold the sum over its blocks.
-/
module

public import proofs.«01_k».proof.Proof.Tiles
public import proofs.«01_k».proof.Proof.Run

@[expose] public section

set_option maxRecDepth 65536

noncomputable section

namespace Cert.Proof.KernelIdeal

open Cert.KernelIdeal Cert.KernelIdeal.Gen
open Idealize.ShloMosaic Idealize.ShloMosaic.TcCoe

/-- `a'` is `a` with the first `n` tiles consumed at query block `i`. -/
structure Upto (i : ℕ) (b : Blk Ideal) (n : ℕ) (a a' : Acc Ideal) : Prop where
  dq : ∀ r l, a'.dq (ix2 r l) = a.dq (ix2 r l) + ∑ k : Fin 32, if k.val < n then dqTerm i b k r l else 0
  dk : ∀ j l c, a'.dk (ix4 0 j l c) = a.dk (ix4 0 j l c) + if j.val < n then dkTerm i b j l c else 0
  dv : ∀ j l c, a'.dv (ix4 0 j l c) = a.dv (ix4 0 j l c) + if j.val < n then dvTerm i b j l c else 0

theorem Upto.zero (i : ℕ) (b : Blk Ideal) (a : Acc Ideal) : Upto i b 0 a a := by
  constructor <;> intros <;> simp

theorem one_more (n : Fin 32) (j : Fin 32) (x y : EReal) (t : Fin 32 → EReal) :
    x + (if j.val < n.val then t j else 0) + (if j = n then t n else 0) = x + if j.val < n.val + 1 then t j else 0 := by
  rw [add_assoc]
  congr 1
  by_cases h : j = n
  · subst h; simp
  · have hne : j.val ≠ n.val := fun e => h (Fin.ext e)
    rw [if_neg h, add_zero]
    congr 1
    exact propext ⟨fun _ => by omega, fun _ => by omega⟩

theorem Upto.succ {i : ℕ} {b : Blk Ideal} {n : Fin 32} {a a' a'' : Acc Ideal} (h : Upto i b n.val a a') (h' : Adds i b n a' a'') :
    Upto i b (n.val + 1) a a'' where
  dq r l := by
    rw [h'.dq, h.dq, add_assoc]
    congr 1
    rw [show dqTerm i b n r l = ∑ k : Fin 32, if k = n then dqTerm i b n r l else 0 by simp, ← Finset.sum_add_distrib]
    refine Finset.sum_congr rfl fun k _ => ?_
    have := one_more n k 0 0 fun k => dqTerm i b k r l
    simpa only [zero_add] using this
  dk j l c := by rw [h'.dk, h.dk]; exact one_more n j _ 0 fun j => dkTerm i b j l c
  dv j l c := by rw [h'.dv, h.dv]; exact one_more n j _ 0 fun j => dvTerm i b j l c

theorem accs_upto (i : ℕ) (b : Blk Ideal) (a : Acc Ideal) (hi : i < 16) : ∀ (n : ℕ) (hn : n ≤ 32), n ≤ 2 * i → Upto i b n a (accs b a n hn)
  | 0, _, _ => Upto.zero i b a
  | n + 1, hn, h => (accs_upto i b a hi n (by omega) (by omega)).succ (step_adds i b ⟨n, by omega⟩ (by show n < 2 * i; omega) _)

theorem point_upto (i : grid0.Coords) (b : Blk Ideal) (a : Acc Ideal) : Upto (i 1).val b (2 * (i 1).val + 2) a (pointAcc i b a) := by
  have hi : (i 1).val < 16 := (i 1).isLt
  exact ((accs_upto _ b a hi _ _ le_rfl).succ (diag_adds (i 1).val b ⟨2 * (i 1).val, by omega⟩ rfl _)).succ
    (half_adds (i 1).val b ⟨2 * (i 1).val + 1, by omega⟩ rfl _)

/-- Beyond the diagonal a tile's probabilities are zero, and it adds nothing. -/
theorem prob_beyond (i : ℕ) (b : Blk Ideal) (n : Fin 32) (h : ¬ n.val < 2 * i + 2) (r : Fin 512) (c : Fin 256) : prob i b n r c = 0 := by
  unfold prob
  rw [if_neg (by omega)]

theorem dqTerm_beyond (i : ℕ) (b : Blk Ideal) (n : Fin 32) (h : ¬ n.val < 2 * i + 2) (r : Fin 512) (l : Fin 128) : dqTerm i b n r l = 0 := by
  unfold dqTerm grad
  exact Finset.sum_eq_zero fun c _ => by rw [prob_beyond i b n h, zero_mul, zero_mul]
theorem dkTerm_beyond (i : ℕ) (b : Blk Ideal) (n : Fin 32) (h : ¬ n.val < 2 * i + 2) (l : Fin 128) (c : Fin 256) : dkTerm i b n l c = 0 := by
  unfold dkTerm grad
  exact Finset.sum_eq_zero fun r _ => by rw [prob_beyond i b n h, zero_mul, mul_zero]
theorem dvTerm_beyond (i : ℕ) (b : Blk Ideal) (n : Fin 32) (h : ¬ n.val < 2 * i + 2) (l : Fin 128) (c : Fin 256) : dvTerm i b n l c = 0 := by
  unfold dvTerm
  exact Finset.sum_eq_zero fun r _ => by rw [prob_beyond i b n h, mul_zero]

theorem point_dq (i : grid0.Coords) (b : Blk Ideal) (a : Acc Ideal) (r : Fin 512) (l : Fin 128) :
    (pointAcc i b a).dq (ix2 r l) = a.dq (ix2 r l) + ∑ k : Fin 32, dqTerm (i 1).val b k r l := by
  rw [(point_upto i b a).dq]
  congr 1
  refine Finset.sum_congr rfl fun k _ => ?_
  split
  · rfl
  · rename_i h; exact (dqTerm_beyond _ b k h r l).symm

theorem point_dk (i : grid0.Coords) (b : Blk Ideal) (a : Acc Ideal) (j : Fin 32) (l : Fin 128) (c : Fin 256) :
    (pointAcc i b a).dk (ix4 0 j l c) = a.dk (ix4 0 j l c) + dkTerm (i 1).val b j l c := by
  rw [(point_upto i b a).dk]
  congr 1
  split
  · rfl
  · rename_i h; exact (dkTerm_beyond _ b j h l c).symm

theorem point_dv (i : grid0.Coords) (b : Blk Ideal) (a : Acc Ideal) (j : Fin 32) (l : Fin 128) (c : Fin 256) :
    (pointAcc i b a).dv (ix4 0 j l c) = a.dv (ix4 0 j l c) + dvTerm (i 1).val b j l c := by
  rw [(point_upto i b a).dv]
  congr 1
  split
  · rfl
  · rename_i h; exact (dvTerm_beyond _ b j h l c).symm

/-! ## The sixteen grid points of a head -/

theorem zero_dq (y) : (k0_pay179 (F := Ideal)) y = 0 := by
  idx_vars y
  pointwise [k0_pay179]
theorem zero_dk (y) : (k0_pay164 (F := Ideal)) y = 0 := by
  idx_vars y
  pointwise [k0_pay164]
theorem zero_dv (y) : (k0_pay165 (F := Ideal)) y = 0 := by
  idx_vars y
  pointwise [k0_pay165]

variable (m : (ℓ : Loc nD τ sig) → Buf (Elt Ideal) ℓ) (c : Dev nD)

/-- The terms of the grid point number `u`. -/
def dkAt (u : ℕ) (j : Fin 32) (l : Fin 128) (x : Fin 256) : EReal :=
  if h : u < cfg0.N then dkTerm (u % 16) (blk m c ⟨u, h⟩) j l x else 0
def dvAt (u : ℕ) (j : Fin 32) (l : Fin 128) (x : Fin 256) : EReal :=
  if h : u < cfg0.N then dvTerm (u % 16) (blk m c ⟨u, h⟩) j l x else 0

theorem left_dq (t : ℕ) (h : t < cfg0.N) (r : Fin 512) (l : Fin 128) :
    (left m c t h).dq (ix2 r l) = ∑ k : Fin 32, dqTerm (t % 16) (blk m c ⟨t, h⟩) k r l := by
  cases t with
  | zero =>
    unfold left
    rw [point_dq, coord1]
    unfold acc0
    dsimp only
    rw [zero_dq, zero_add]
  | succ t =>
    unfold left
    rw [point_dq, coord1]
    unfold acc0
    dsimp only
    rw [zero_dq, zero_add]

theorem left_dk (j : Fin 32) (l : Fin 128) (x : Fin 256) : ∀ (t : ℕ) (h : t < cfg0.N),
    (left m c t h).dk (ix4 0 j l x) = ∑ s ∈ Finset.range (t % 16 + 1), dkAt m c (16 * (t / 16) + s) j l x
  | 0, h => by
    unfold left
    rw [point_dk, coord1]
    unfold acc0
    dsimp only
    rw [ite_self, zero_dk, zero_add]
    simp [dkAt, h]
  | t + 1, h => by
    unfold left
    rw [point_dk, coord1]
    unfold acc0
    dsimp only
    rw [coord1]
    have hl : dkTerm ((t + 1) % 16) (blk m c ⟨t + 1, h⟩) j l x = dkAt m c (16 * ((t + 1) / 16) + (t + 1) % 16) j l x := by
      rw [show 16 * ((t + 1) / 16) + (t + 1) % 16 = t + 1 by omega]; unfold dkAt; rw [dif_pos h]
    by_cases e : (t + 1) % 16 = 0
    · dsimp only
      rw [if_pos e, zero_dk, zero_add, hl, e]
      simp
    · dsimp only
      rw [if_neg e, left_dk j l x t (Nat.lt_of_succ_lt h), hl, Finset.sum_range_succ _ ((t + 1) % 16),
        show t % 16 + 1 = (t + 1) % 16 by omega, show t / 16 = (t + 1) / 16 by omega]

theorem left_dv (j : Fin 32) (l : Fin 128) (x : Fin 256) : ∀ (t : ℕ) (h : t < cfg0.N),
    (left m c t h).dv (ix4 0 j l x) = ∑ s ∈ Finset.range (t % 16 + 1), dvAt m c (16 * (t / 16) + s) j l x
  | 0, h => by
    unfold left
    rw [point_dv, coord1]
    unfold acc0
    dsimp only
    rw [ite_self, zero_dv, zero_add]
    simp [dvAt, h]
  | t + 1, h => by
    unfold left
    rw [point_dv, coord1]
    unfold acc0
    dsimp only
    rw [coord1]
    have hl : dvTerm ((t + 1) % 16) (blk m c ⟨t + 1, h⟩) j l x = dvAt m c (16 * ((t + 1) / 16) + (t + 1) % 16) j l x := by
      rw [show 16 * ((t + 1) / 16) + (t + 1) % 16 = t + 1 by omega]; unfold dvAt; rw [dif_pos h]
    by_cases e : (t + 1) % 16 = 0
    · dsimp only
      rw [if_pos e, zero_dv, zero_add, hl, e]
      simp
    · dsimp only
      rw [if_neg e, left_dv j l x t (Nat.lt_of_succ_lt h), hl, Finset.sum_range_succ _ ((t + 1) % 16),
        show t % 16 + 1 = (t + 1) % 16 by omega, show t / 16 = (t + 1) / 16 by omega]

end Cert.Proof.KernelIdeal

end
-- ==== Proof.Blocks.lean ====
/-
  A grid point's blocks at coordinates, in terms of the arrays the region finds.

  Grid point `t` is query block `t % 16` of head `t / 16`. Its queries are rows of that head, its keys and values the
  head's tiles, and its cotangent and output the head's own half of 128 lanes: the lanes of the other head of the pair
  are put to zero.
-/
module

public import proofs.«01_k».proof.Proof.Sums
public import Idealize.ShloMosaic.Lib.Pipeline.ValueKit.Geometry

@[expose] public section

set_option maxRecDepth 65536

noncomputable section

namespace Cert.Proof.KernelIdeal

open Cert.KernelIdeal Cert.KernelIdeal.Gen
open Idealize.ShloMosaic Idealize.ShloMosaic.TcCoe

theorem points (t : Fin cfg0.N) : t.val < 128 := by
  have : cfg0.N = 128 := by decide +kernel
  omega

/-- The head of a grid point. -/
def hd (t : Fin cfg0.N) : Fin 8 := ⟨t.val / 16, by have := points t; omega⟩

/-- Row `r` of a grid point's query block, among the head's rows. -/
def qrow (t : Fin cfg0.N) (r : Fin 512) : Fin 8192 := ⟨512 * (t.val % 16) + r.val, by omega⟩

/-- Lane `l` of the pair of heads a head belongs to. -/
def plane (h : Fin 8) (l : Fin 128) : Fin 512 := ⟨128 * (h.val / 2) + l.val, by omega⟩

/-- The lanes the kernel takes as a head's own. -/
theorem own_lanes : ∀ (h : Fin 8) (l : Fin 128),
    k0_pay166 (show grid0.Coords from fun a => match a with | ⟨0, _⟩ => h | ⟨1, _⟩ => (0 : Fin 16)) (ix2 0 l)
      = if l.val / 64 = h.val % 2 then 1#1 else 0#1 := by
  decide +kernel

theorem own_mask (t : Fin cfg0.N) (l : Fin 128) :
    k0_pay166 (grid0.coords t) (ix2 0 l) = if l.val / 64 = (hd t).val % 2 then 1#1 else 0#1 := by
  rw [← own_lanes (hd t) l]
  have e : (grid0.coords t 0).val = (hd t).val := coord0 t
  unfold k0_pay166
  rw [e]

variable (m : (ℓ : Loc nD τ sig) → Buf (Elt Ideal) ℓ) (c : Dev nD) (t : Fin cfg0.N)

theorem idx0 : ∀ t : Fin cfg0.N, win0_0.index t = ![t.val / 16, t.val % 16, 0] := (by decide +kernel : ∀ t : Fin grid0.N, _)
theorem idx1 : ∀ t : Fin cfg0.N, win0_1.index t = ![t.val / 16, 0, 0] := (by decide +kernel : ∀ t : Fin grid0.N, _)
theorem idx2 : ∀ t : Fin cfg0.N, win0_2.index t = ![t.val / 16, 0, 0, 0] := (by decide +kernel : ∀ t : Fin grid0.N, _)
theorem idx3 : ∀ t : Fin cfg0.N, win0_3.index t = ![t.val / 16, 0, 0, 0] := (by decide +kernel : ∀ t : Fin grid0.N, _)
theorem idx4 : ∀ t : Fin cfg0.N, win0_4.index t = ![t.val % 16, t.val / 32] := (by decide +kernel : ∀ t : Fin grid0.N, _)
theorem idx5 : ∀ t : Fin cfg0.N, win0_5.index t = ![t.val % 16, t.val / 32] := (by decide +kernel : ∀ t : Fin grid0.N, _)
theorem idx6 : ∀ t : Fin cfg0.N, win0_6.index t = ![t.val / 16, 0, t.val % 16] := (by decide +kernel : ∀ t : Fin grid0.N, _)
theorem idx7 : ∀ t : Fin cfg0.N, win0_7.index t = ![t.val / 16, t.val % 16, 0] := (by decide +kernel : ∀ t : Fin grid0.N, _)
theorem idx8 : ∀ t : Fin cfg0.N, win0_8.index t = ![t.val / 16, 0, 0, 0] := (by decide +kernel : ∀ t : Fin grid0.N, _)
theorem idx9 : ∀ t : Fin cfg0.N, win0_9.index t = ![t.val / 16, 0, 0, 0] := (by decide +kernel : ∀ t : Fin grid0.N, _)

theorem blk0 (r : Fin 512) (l : Fin 128) : iblk m c 0 t (ix3 0 r l) = V m c main_v35 (ix3 (hd t) (qrow t r) l) := by
  blk_simp [iblk]
  congr 1
  blk_ext [idx0, hd, qrow]

theorem blk1 (K : Fin 8192) (l : Fin 128) : iblk m c 1 t (ix3 0 K l) = V m c main_v57 (ix3 (hd t) K l) := by
  blk_simp [iblk]
  congr 1
  blk_ext [idx1, hd, qrow]

theorem emb2 (n : Fin 32) (l : Fin 128) (x : Fin 256) : (win0_2.blk t).view.emb (ix4 0 n l x) = ix4 (hd t) n l x := by
  blk_ext [idx2, hd, qrow]

theorem read2 (X : S8x32x128x256.Idx → EReal) (y : S1x32x128x256.Idx) :
    ((cfg0.win 2).blk t).view.read (Elt Ideal) X y = X ((win0_2.blk t).view.emb y) := rfl

theorem blk2 (n : Fin 32) (l : Fin 128) (x : Fin 256) : iblk m c 2 t (ix4 0 n l x) = V m c main_v40 (ix4 (hd t) n l x) := by
  rw [← emb2]
  exact read2 t (V m c main_v40) (ix4 0 n l x)

theorem emb3 (n : Fin 32) (l : Fin 128) (x : Fin 256) : (win0_3.blk t).view.emb (ix4 0 n l x) = ix4 (hd t) n l x := by
  blk_ext [idx3, hd, qrow]

theorem read3 (X : S8x32x128x256.Idx → EReal) (y : S1x32x128x256.Idx) :
    ((cfg0.win 3).blk t).view.read (Elt Ideal) X y = X ((win0_3.blk t).view.emb y) := rfl

theorem blk3 (n : Fin 32) (l : Fin 128) (x : Fin 256) : iblk m c 3 t (ix4 0 n l x) = V m c main_v56 (ix4 (hd t) n l x) := by
  rw [← emb3]
  exact read3 t (V m c main_v56) (ix4 0 n l x)

theorem blk4 (r : Fin 512) (l : Fin 128) : iblk m c 4 t (ix2 r l) = V m c main_v22 (ix2 (qrow t r) (plane (hd t) l)) := by
  blk_simp [iblk]
  congr 1
  blk_ext [idx4, hd, qrow, plane]

theorem blk5 (r : Fin 512) (l : Fin 128) : iblk m c 5 t (ix2 r l) = V m c main_arg3 (ix2 (qrow t r) (plane (hd t) l)) := by
  blk_simp [iblk]
  congr 1
  blk_ext [idx5, hd, qrow, plane]

theorem blk6 (r : Fin 512) : iblk m c 6 t (ix3 0 0 r) = V m c main_v28 (ix3 (hd t) 0 (qrow t r)) := by
  blk_simp [iblk]
  congr 1
  blk_ext [idx6, hd, qrow]

/-! ## The fields of a block -/

theorem qh_at (r : Fin 512) (l : Fin 128) : (blk m c t).qh (ix2 r l) = V m c main_v35 (ix3 (hd t) (qrow t r) l) := by
  rw [← blk0 m c t]
  show k0_pay170 (F := Ideal) (iblk m c 0 t) (ix2 r l) = _
  pointwise [k0_pay170]

theorem qT_at (r : Fin 512) (l : Fin 128) : (blk m c t).qT (ix2 l r) = V m c main_v35 (ix3 (hd t) (qrow t r) l) := by
  rw [← blk0 m c t]
  show k0_pay171 (F := Ideal) (iblk m c 0 t) (ix2 l r) = _
  pointwise [k0_pay171, k0_pay170]

theorem kr_at (K : Fin 8192) (l : Fin 128) : (blk m c t).kr (ix3 0 K l) = V m c main_v57 (ix3 (hd t) K l) := blk1 m c t K l

theorem kt_at (n : Fin 32) (l : Fin 128) (x : Fin 256) : (blk m c t).kt (ix4 0 n l x) = V m c main_v40 (ix4 (hd t) n l x) := blk2 m c t n l x

theorem vt_at (n : Fin 32) (l : Fin 128) (x : Fin 256) : (blk m c t).vt (ix4 0 n l x) = V m c main_v56 (ix4 (hd t) n l x) := blk3 m c t n l x

/-- The cotangent on a head's own lanes, zero on the other head's. -/
def own (ct : S8192x512.Idx → EReal) (h : Fin 8) (R : Fin 8192) (l : Fin 128) : EReal :=
  if l.val / 64 = h.val % 2 then ct (ix2 R (plane h l)) else 0

theorem own_at (r : Fin 512) (l : Fin 128) :
    k0_pay167 (k0_pay166 (grid0.coords t)) (iblk m c 5 t) (ix2 r l) = own (V m c main_arg3) (hd t) (qrow t r) l := by
  unfold own
  rw [← blk5 m c t]
  pointwise [k0_pay167]
  rw [own_mask]
  split <;> simp [Scalar.select]

theorem dob_at (r : Fin 512) (l : Fin 128) : (blk m c t).dob (ix2 r l) = own (V m c main_arg3) (hd t) (qrow t r) l := by
  rw [← own_at]
  rfl

theorem dobT_at (r : Fin 512) (l : Fin 128) : (blk m c t).dobT (ix2 l r) = own (V m c main_arg3) (hd t) (qrow t r) l := by
  rw [← own_at]
  show k0_pay169 (F := Ideal) (k0_pay166 (grid0.coords t)) (iblk m c 5 t) (ix2 l r) = _
  pointwise [k0_pay169]

/-- Two halves at an entry. -/
theorem halves_apply (w1 w2 : S512x128.Idx → EReal) (r : Fin 512) (x : Fin 256) :
    halves (F := Ideal) w1 w2 (ix2 r x)
      = if h : x.val < 128 then w1 (ix2 r ⟨x.val, h⟩) else w2 (ix2 r ⟨x.val - 128, by omega⟩) := by
  unfold halves
  by_cases h : x.val < 128
  · rw [dif_pos h]
    refine (overlay_off (Rect.unit (s := S512x256) ![0, 128] S512x128.size inb_S512x256_S512x128_0_128) _ w2 _ 1 ?_).trans
      (overlay_at (Rect.unit (s := S512x256) ![0, 0] S512x128.size inb_S512x256_S512x128_0_0) _ w1 _ (ix2 r ⟨x.val, h⟩ : S512x128.Idx) fun a => ?_)
    · show ¬ ∃ k < 128, x.val = 128 + 1 * k
      rintro ⟨k, hk, e⟩
      omega
    · match a with
      | ⟨0, _⟩ => show r.val = 0 + 1 * r.val; omega
      | ⟨1, _⟩ => show x.val = 0 + 1 * x.val; omega
  · rw [dif_neg h]
    refine overlay_at (Rect.unit (s := S512x256) ![0, 128] S512x128.size inb_S512x256_S512x128_0_128) _ w2 _ (ix2 r ⟨x.val - 128, by omega⟩ : S512x128.Idx) fun a => ?_
    match a with
    | ⟨0, _⟩ => show r.val = 0 + 1 * r.val; omega
    | ⟨1, _⟩ => show x.val = 128 + 1 * (x.val - 128); omega

theorem lse_at (r : Fin 512) (x : Fin 256) : (blk m c t).lse (ix2 r x) = V m c main_v28 (ix3 (hd t) 0 (qrow t r)) := by
  rw [← blk6 m c t]
  show halves (F := Ideal) (k0_pay174 (F := Ideal) (iblk m c 6 t)) (k0_pay176 (F := Ideal) (iblk m c 6 t)) (ix2 r x) = _
  rw [halves_apply]
  split <;> pointwise [k0_pay174, k0_pay176, k0_pay173]

theorem dd_at (r : Fin 512) (x : Fin 256) : (blk m c t).dd (ix2 r x)
    = ∑ l : Fin 128, own (V m c main_arg3) (hd t) (qrow t r) l * V m c main_v22 (ix2 (qrow t r) (plane (hd t) l)) := by
  simp only [← blk4 m c t]
  show halves (F := Ideal) (k0_pay175 (F := Ideal) (k0_pay166 (grid0.coords t)) (iblk m c 5 t) (iblk m c 4 t))
    (k0_pay178 (F := Ideal) (k0_pay177 (F := Ideal) (k0_pay166 (grid0.coords t)) (iblk m c 5 t) (iblk m c 4 t))) (ix2 r x) = _
  rw [halves_apply]
  split <;> pointwise [k0_pay175, k0_pay178, k0_pay177, k0_pay172, own_at]

end Cert.Proof.KernelIdeal
-- ==== Proof.HostV.lean ====
/-
  The host's arrays before the call, one by one, at an entry.
-/
module

public import proofs.«01_k».proof.Proof.Gen.KernelIdeal.Frame
public import proofs.«01_k».proof.Proof.Softmax

@[expose] public section

set_option maxRecDepth 65536

noncomputable section

namespace Cert.Proof.KernelIdeal

open Cert.KernelIdeal Cert.KernelIdeal.Gen
open Idealize.ShloMosaic Idealize.ShloMosaic.TcCoe
open Cert.Proof.Softmax (Arr causal top expo total soft col)

/-- The arguments. -/
abbrev argQ (m : (ℓ : Loc nD τ sig) → Buf (Elt Ideal) ℓ) (c : Dev nD) : Arr S8192x8x96 := m (c, Proc.devRef .tc main_arg0)
abbrev argK (m : (ℓ : Loc nD τ sig) → Buf (Elt Ideal) ℓ) (c : Dev nD) : Arr S8192x8x96 := m (c, Proc.devRef .tc main_arg1)
abbrev argV (m : (ℓ : Loc nD τ sig) → Buf (Elt Ideal) ℓ) (c : Dev nD) : Arr S8192x8x64 := m (c, Proc.devRef .tc main_arg2)
abbrev argC (m : (ℓ : Loc nD τ sig) → Buf (Elt Ideal) ℓ) (c : Dev nD) : Arr S8192x512 := m (c, Proc.devRef .tc main_arg3)

variable (m : (ℓ : Loc nD τ sig) → Buf (Elt Ideal) ℓ) (c : Dev nD)

/-- The host's exponentials. -/
def hexp (q k : Arr S8192x8x96) : Arr S8x8192x8192 := expo (causal q k) (top (causal q k))

/-- The logarithm of two. -/
def ln2 : Arr S_ := Host.log (F := Ideal) (constant (F := Ideal) S_ .f32 0x40000000#32)

/-- The logarithm, to base two, of the sum of the exponentials of a query's scores. -/
def lse2 (t l : Arr S8x8192) : Arr S8x1x8192 :=
  shapeCast S8x1x8192 (Host.divf (F := Ideal) (addf (col t) (Host.log (F := Ideal) (col l)))
    (broadcastInDim S8x8192x1 ![] bcast_S_S8x8192x1 ln2)) shapeCasts_S8x8192x1_S8x1x8192

/-- The output's 8 heads side by side. -/
def outp (v : Arr S8192x8x64) (p : Arr S8x8192x8192) : Arr S8192x512 :=
  shapeCast S8192x512 (transpose S8192x8x64 [2, 0, 1]
    (Host.dotGeneral (F := Ideal) dot_S8192x8x64_S8x8192x8192_S8x64x8192_0_2_2_1_1_0 none v p)
    transposes_S8x64x8192_S8192x8x64_2_0_1) shapeCasts_S8192x8x64_S8192x512

/-- The rows of each head, with lanes of zeros to 128. -/
def padded (x : Arr S8192x8x96) : Arr S8x8192x128 :=
  pad S8x8192x128 ![0, 0, 0] ![0, 0, 32] ![0, 0, 0] (transpose S8x8192x96 [1, 0, 2] x transposes_S8192x8x96_S8x8192x96_1_0_2)
    (sitofp (F := Ideal) .f32 (constantI S_ 32 0#32)) pads_S8x8192x96_S8x8192x128_000_000_0320 h_S_

/-- The queries the kernel reads. -/
def hq (q : Arr S8192x8x96) : FVec Ideal S8x8192x128 .bf16 :=
  truncf .bf16 (Host.divf (F := Ideal)
    (mulf (padded q) (broadcastInDim S8x8192x128 ![] bcast_S_S8x8192x128 (constant (F := Ideal) S_ .f32 0x3DD105EC#32)))
    (broadcastInDim S8x8192x128 ![] bcast_S_S8x8192x128 ln2)) bitsLt_bf16_f32

/-- The keys in tiles. -/
def hkt (k : Arr S8192x8x96) : FVec Ideal S8x32x128x256 .bf16 :=
  truncf .bf16 (transpose S8x32x128x256 [0, 1, 3, 2] (shapeCast S8x32x256x128 (padded k) shapeCasts_S8x8192x128_S8x32x256x128)
    transposes_S8x32x256x128_S8x32x128x256_0_1_3_2) bitsLt_bf16_f32

/-- The values of each pair of heads. -/
def pairs (v : Arr S8192x8x64) : Arr S4x2x64x8192 :=
  shapeCast S4x2x64x8192 (transpose S8x64x8192 [1, 2, 0] v transposes_S8192x8x64_S8x64x8192_1_2_0) shapeCasts_S8x64x8192_S4x2x64x8192

/-- A row of ones, and 63 rows of zeros. -/
def ones : Arr S4x1x8192 := broadcastInDim S4x1x8192 ![] bcast_S_S4x1x8192 (constant (F := Ideal) S_ .f32 0x3F800000#32)
def noughts : Arr S4x63x8192 := broadcastInDim S4x63x8192 ![] bcast_S_S4x63x8192 (constant (F := Ideal) S_ .f32 0x00000000#32)

/-- The first head's values above those rows. -/
def first (v : Arr S8192x8x64) : Arr S4x128x8192 :=
  concatenate S4x128x8192 1 [⟨S4x64x8192, shapeCast S4x64x8192 (extractStridedSlice S4x1x64x8192 ![0, 0, 0, 0] (pairs v)
    slices_S4x2x64x8192_S4x1x64x8192_0_0_0_0) shapeCasts_S4x1x64x8192_S4x64x8192⟩, ⟨S4x1x8192, ones⟩, ⟨S4x63x8192, noughts⟩]
    concatenates_S4x64x8192_S4x1x8192_S4x63x8192_S4x128x8192_d1

/-- The second head's values below those rows. -/
def second (v : Arr S8192x8x64) : Arr S4x128x8192 :=
  concatenate S4x128x8192 1 [⟨S4x1x8192, ones⟩, ⟨S4x63x8192, noughts⟩,
    ⟨S4x64x8192, shapeCast S4x64x8192 (extractStridedSlice S4x1x64x8192 ![0, 1, 0, 0] (pairs v)
      slices_S4x2x64x8192_S4x1x64x8192_0_1_0_0) shapeCasts_S4x1x64x8192_S4x64x8192⟩]
    concatenates_S4x1x8192_S4x63x8192_S4x64x8192_S4x128x8192_d1

/-- The two of a pair. -/
def both (a b : Arr S4x128x8192) : Arr S4x2x128x8192 :=
  concatenate S4x2x128x8192 1 [⟨S4x1x128x8192, broadcastInDim S4x1x128x8192 ![0, 2, 3] bcast_S4x128x8192_S4x1x128x8192_0_2_3 a⟩,
    ⟨S4x1x128x8192, broadcastInDim S4x1x128x8192 ![0, 2, 3] bcast_S4x128x8192_S4x1x128x8192_0_2_3 b⟩]
    concatenates_S4x1x128x8192_S4x1x128x8192_S4x2x128x8192_d1

/-- The values in tiles. -/
def hvt (v : Arr S8192x8x64) : FVec Ideal S8x32x128x256 .bf16 :=
  truncf .bf16 (transpose S8x32x128x256 [0, 2, 1, 3] (shapeCast S8x128x32x256 (both (first v) (second v)) shapeCasts_S4x2x128x8192_S8x128x32x256)
    transposes_S8x128x32x256_S8x32x128x256_0_2_1_3) bitsLt_bf16_f32

set_option maxHeartbeats 35200000 in
theorem V_lse : V m c main_v28 = lse2 (top (causal (argQ m c) (argK m c))) (total (hexp (argQ m c) (argK m c))) := by
  show StableHlo.after _ _ _ = _
  simp only [hostOps0, hostOps0_1, hostOps0_2, hostOps0_3, hostOps0_4, hostOps0_5, hostOps0_6, List.flatten_cons, List.flatten_nil,
    List.append_nil, List.cons_append, List.nil_append, StableHlo.TRef.nullary, StableHlo.TRef.ternary, StableHlo.TRef.binary,
    StableHlo.TRef.unary, StableHlo.TRef.toBuf, StableHlo.TRef.ofBuf, cast_eq]
  after_results_simp
  rfl

set_option maxHeartbeats 35200000 in
theorem V_o : V m c main_v22 = outp (argV m c) (soft (hexp (argQ m c) (argK m c)) (total (hexp (argQ m c) (argK m c)))) := by
  show StableHlo.after _ _ _ = _
  simp only [hostOps0, hostOps0_1, hostOps0_2, hostOps0_3, hostOps0_4, hostOps0_5, hostOps0_6, List.flatten_cons, List.flatten_nil,
    List.append_nil, List.cons_append, List.nil_append, StableHlo.TRef.nullary, StableHlo.TRef.ternary, StableHlo.TRef.binary,
    StableHlo.TRef.unary, StableHlo.TRef.toBuf, StableHlo.TRef.ofBuf, cast_eq]
  after_results_simp
  rfl

set_option maxHeartbeats 35200000 in
theorem V_q : V m c main_v35 = hq (argQ m c) := by
  show StableHlo.after _ _ _ = _
  simp only [hostOps0, hostOps0_1, hostOps0_2, hostOps0_3, hostOps0_4, hostOps0_5, hostOps0_6, List.flatten_cons, List.flatten_nil,
    List.append_nil, List.cons_append, List.nil_append, StableHlo.TRef.nullary, StableHlo.TRef.ternary, StableHlo.TRef.binary,
    StableHlo.TRef.unary, StableHlo.TRef.toBuf, StableHlo.TRef.ofBuf, cast_eq]
  after_results_simp
  rfl

set_option maxHeartbeats 35200000 in
theorem V_kt : V m c main_v40 = hkt (argK m c) := by
  show StableHlo.after _ _ _ = _
  simp only [hostOps0, hostOps0_1, hostOps0_2, hostOps0_3, hostOps0_4, hostOps0_5, hostOps0_6, List.flatten_cons, List.flatten_nil,
    List.append_nil, List.cons_append, List.nil_append, StableHlo.TRef.nullary, StableHlo.TRef.ternary, StableHlo.TRef.binary,
    StableHlo.TRef.unary, StableHlo.TRef.toBuf, StableHlo.TRef.ofBuf, cast_eq]
  after_results_simp
  rfl

set_option maxHeartbeats 35200000 in
theorem V_k : V m c main_v57 = truncf .bf16 (padded (argK m c)) bitsLt_bf16_f32 := by
  show StableHlo.after _ _ _ = _
  simp only [hostOps0, hostOps0_1, hostOps0_2, hostOps0_3, hostOps0_4, hostOps0_5, hostOps0_6, List.flatten_cons, List.flatten_nil,
    List.append_nil, List.cons_append, List.nil_append, StableHlo.TRef.nullary, StableHlo.TRef.ternary, StableHlo.TRef.binary,
    StableHlo.TRef.unary, StableHlo.TRef.toBuf, StableHlo.TRef.ofBuf, cast_eq]
  after_results_simp
  rfl

set_option maxHeartbeats 35200000 in
theorem V_vt : V m c main_v56 = hvt (argV m c) := by
  show StableHlo.after _ _ _ = _
  simp only [hostOps0, hostOps0_1, hostOps0_2, hostOps0_3, hostOps0_4, hostOps0_5, hostOps0_6, List.flatten_cons, List.flatten_nil,
    List.append_nil, List.cons_append, List.nil_append, StableHlo.TRef.nullary, StableHlo.TRef.ternary, StableHlo.TRef.binary,
    StableHlo.TRef.unary, StableHlo.TRef.toBuf, StableHlo.TRef.ofBuf, cast_eq]
  after_results_simp
  rfl

set_option maxHeartbeats 35200000 in
theorem V_ln2 : V m c main_v23 = ln2 := by
  show StableHlo.after _ _ _ = _
  simp only [hostOps0, hostOps0_1, hostOps0_2, hostOps0_3, hostOps0_4, hostOps0_5, hostOps0_6, List.flatten_cons, List.flatten_nil,
    List.append_nil, List.cons_append, List.nil_append, StableHlo.TRef.nullary, StableHlo.TRef.ternary, StableHlo.TRef.binary,
    StableHlo.TRef.unary, StableHlo.TRef.toBuf, StableHlo.TRef.ofBuf, cast_eq]
  after_results_simp
  rfl

end Cert.Proof.KernelIdeal
-- ==== Proof.HostAt.lean ====
/-
  The arrays the host prepares, at an entry.
-/
module

public import proofs.«01_k».proof.Proof.HostV

@[expose] public section

set_option maxRecDepth 65536

noncomputable section

namespace Cert.Proof.KernelIdeal

open Cert.KernelIdeal Cert.KernelIdeal.Gen
open Idealize.ShloMosaic Idealize.ShloMosaic.TcCoe
open Cert.Proof.Softmax (Arr causal top expo total soft col)

/-- Key `x` of tile `n`. -/
def key (n : Fin 32) (x : Fin 256) : Fin 8192 := ⟨256 * n.val + x.val, by omega⟩

theorem ln2_apply : ln2 ix0 = Ideal.log (Ideal.ofBits FTy.f32 0x40000000#32) := by
  pointwise [ln2]

theorem lse2_apply (t l : Arr S8x8192) (h : Fin 8) (R : Fin 8192) :
    lse2 t l (ix3 h 0 R) = Ideal.div (t (ix2 h R) + Ideal.log (l (ix2 h R))) (ln2 ix0) := by
  pointwise [lse2, col]

theorem outp_apply (v : Arr S8192x8x64) (p : Arr S8x8192x8192) (R : Fin 8192) (h : Fin 8) (d : Fin 64) :
    outp v p (ix2 R (Softmax.lane h d)) = ∑ K : Fin 8192, v (ix3 K h d) * p (ix3 h R K) := by
  pointwise [outp, Softmax.lane]

theorem sitofp_zero : (FloatOps.sitofp (F := Ideal) FTy.f32 (0#32) : EReal) = 0 := by
  show ((_ : ℝ) : EReal) = 0
  simp

theorem padded_apply (x : Arr S8192x8x96) (h : Fin 8) (R : Fin 8192) (l : Fin 128) :
    padded x (ix3 h R l) = if hl : l.val < 96 then x (ix3 R h ⟨l.val, hl⟩) else 0 := by
  pointwise [padded]
  rw [sitofp_zero]

theorem hq_apply (q : Arr S8192x8x96) (h : Fin 8) (R : Fin 8192) (l : Fin 128) :
    hq q (ix3 h R l) = Ideal.div (padded q (ix3 h R l) * Softmax.scale) (ln2 ix0) := by
  pointwise [hq, Softmax.scale]

theorem hkt_apply (k : Arr S8192x8x96) (h : Fin 8) (n : Fin 32) (l : Fin 128) (x : Fin 256) :
    hkt k (ix4 h n l x) = padded k (ix3 h (key n x) l) := by
  pointwise [hkt, key]
  congr 3
  omega

theorem pairs_apply (v : Arr S8192x8x64) (p : Fin 4) (e : Fin 2) (d : Fin 64) (K : Fin 8192) :
    pairs v (ix4 p e d K) = v (ix3 K ⟨p.val * 2 + e.val, by omega⟩ d) := by
  pointwise [pairs]

theorem first_apply (v : Arr S8192x8x64) (p : Fin 4) (d : Fin 64) (K : Fin 8192) :
    first v (ix3 p ⟨d.val, by omega⟩ K) = v (ix3 K ⟨p.val * 2, by omega⟩ d) := by
  pointwise [first, pairs_apply]

theorem second_apply (v : Arr S8192x8x64) (p : Fin 4) (d : Fin 64) (K : Fin 8192) :
    second v (ix3 p ⟨64 + d.val, by omega⟩ K) = v (ix3 K ⟨p.val * 2 + 1, by omega⟩ d) := by
  pointwise [second, pairs_apply]
  rw [dif_neg (by omega), dif_neg (by omega)]
  congr 2
  exact Fin.ext (by show 64 + d.val - 1 - 63 = d.val; omega)

theorem both_apply (a b : Arr S4x128x8192) (p : Fin 4) (e : Fin 2) (l : Fin 128) (K : Fin 8192) :
    both a b (ix4 p e l K) = if e.val = 0 then a (ix3 p l K) else b (ix3 p l K) := by
  pointwise [both]
  by_cases he : e.val = 0
  · rw [dif_pos (by omega), if_pos he]
  · rw [dif_neg (by omega), if_neg he]

/-- Pairs of heads in tiles of keys. -/
theorem tiles_apply (b : Arr S4x2x128x8192) (h : Fin 8) (n : Fin 32) (l : Fin 128) (x : Fin 256) :
    (truncf .bf16 (transpose S8x32x128x256 [0, 2, 1, 3] (shapeCast S8x128x32x256 b shapeCasts_S4x2x128x8192_S8x128x32x256)
      transposes_S8x128x32x256_S8x32x128x256_0_2_1_3) bitsLt_bf16_f32 : FVec Ideal S8x32x128x256 .bf16) (ix4 h n l x)
      = b (ix4 ⟨h.val / 2, by omega⟩ ⟨h.val % 2, by omega⟩ l ⟨n.val * 256 + x.val, by omega⟩) := by
  pointwise

theorem key_eq (n : Fin 32) (x : Fin 256) : (⟨n.val * 256 + x.val, by omega⟩ : Fin 8192) = key n x :=
  Fin.ext (by show n.val * 256 + x.val = 256 * n.val + x.val; omega)

theorem hvt_apply (v : Arr S8192x8x64) (h : Fin 8) (n : Fin 32) (l : Fin 128) (x : Fin 256) :
    hvt v (ix4 h n l x) = both (first v) (second v) (ix4 ⟨h.val / 2, by omega⟩ ⟨h.val % 2, by omega⟩ l (key n x)) := by
  rw [← key_eq]
  exact tiles_apply (both (first v) (second v)) h n l x

/-- On a head's own lanes the tiles hold its values. -/
theorem hvt_own (v : Arr S8192x8x64) (h : Fin 8) (n : Fin 32) (d : Fin 64) (x : Fin 256) :
    hvt v (ix4 h n ⟨64 * (h.val % 2) + d.val, by omega⟩ x) = v (ix3 (key n x) h d) := by
  rw [hvt_apply, both_apply]
  by_cases he : h.val % 2 = 0
  · rw [if_pos he]
    have e : (⟨64 * (h.val % 2) + d.val, by omega⟩ : Fin 128) = ⟨d.val, by omega⟩ := Fin.ext (by show 64 * (h.val % 2) + d.val = d.val; omega)
    have e' : (⟨h.val / 2 * 2, by omega⟩ : Fin 8) = h := Fin.ext (by show h.val / 2 * 2 = h.val; omega)
    rw [e, first_apply v ⟨h.val / 2, by omega⟩ d (key n x)]
    exact congrArg (fun y => v (ix3 (key n x) y d)) e'
  · rw [if_neg he]
    have e : (⟨64 * (h.val % 2) + d.val, by omega⟩ : Fin 128) = ⟨64 + d.val, by omega⟩ :=
      Fin.ext (by show 64 * (h.val % 2) + d.val = 64 + d.val; omega)
    have e' : (⟨h.val / 2 * 2 + 1, by omega⟩ : Fin 8) = h := Fin.ext (by show h.val / 2 * 2 + 1 = h.val; omega)
    rw [e, second_apply v ⟨h.val / 2, by omega⟩ d (key n x)]
    exact congrArg (fun y => v (ix3 (key n x) y d)) e'

end Cert.Proof.KernelIdeal
-- ==== Proof.Results.lean ====
/-
  The three arrays the call leaves, and the three results the host makes of them.
-/
module

public import proofs.«01_k».proof.Proof.Blocks
public import proofs.«01_k».proof.Proof.HostAt

@[expose] public section

set_option maxRecDepth 65536

noncomputable section

namespace Cert.Proof.KernelIdeal

open Cert.KernelIdeal Cert.KernelIdeal.Gen
open Idealize.ShloMosaic Idealize.ShloMosaic.TcCoe
open Cert.Proof.Softmax (Arr)

variable (m : (ℓ : Loc nD τ sig) → Buf (Elt Ideal) ℓ) (c : Dev nD)

/-- Query block `i` of head `h` as a grid point. -/
def pt (h : Fin 8) (i : Fin 16) : Fin cfg0.N := ⟨16 * h.val + i.val, by
  have : cfg0.N = 128 := by decide +kernel
  omega⟩

theorem hd_pt (h : Fin 8) (i : Fin 16) : hd (pt h i) = h := Fin.ext (by show (16 * h.val + i.val) / 16 = h.val; omega)

theorem pt_mod (h : Fin 8) (i : Fin 16) : (pt h i).val % 16 = i.val := by show (16 * h.val + i.val) % 16 = i.val; omega

/-- A grid point's part of the query block. -/
def qi (t : Fin cfg0.N) : Fin 16 := ⟨t.val % 16, by omega⟩

theorem pt_eta (t : Fin cfg0.N) : pt (hd t) (qi t) = t := Fin.ext (by show 16 * (t.val / 16) + t.val % 16 = t.val; omega)

/-- The block of a query row and its place in it. -/
def rblk (R : Fin 8192) : Fin 16 := ⟨R.val / 512, by omega⟩
def roff (R : Fin 8192) : Fin 512 := ⟨R.val % 512, by omega⟩

theorem rblk_qrow (t : Fin cfg0.N) (r : Fin 512) : rblk (qrow t r) = qi t :=
  Fin.ext (by show (512 * (t.val % 16) + r.val) / 512 = t.val % 16; omega)
theorem roff_qrow (t : Fin cfg0.N) (r : Fin 512) : roff (qrow t r) = r :=
  Fin.ext (by show (512 * (t.val % 16) + r.val) % 512 = r.val; omega)

/-- The query gradient's array. -/
def gq (h : Fin 8) (R : Fin 8192) (l : Fin 128) : EReal :=
  ∑ n : Fin 32, dqTerm (rblk R).val (blk m c (pt h (rblk R))) n (roff R) l

/-- The key and value gradients' arrays. -/
def gk (h : Fin 8) (n : Fin 32) (l : Fin 128) (x : Fin 256) : EReal :=
  ∑ i : Fin 16, dkTerm i.val (blk m c (pt h i)) n l x
def gv (h : Fin 8) (n : Fin 32) (l : Fin 128) (x : Fin 256) : EReal :=
  ∑ i : Fin 16, dvTerm i.val (blk m c (pt h i)) n l x

theorem emb7 (t : Fin cfg0.N) (r : Fin 512) (l : Fin 128) : (win0_7.blk t).view.emb (ix3 0 r l) = ix3 (hd t) (qrow t r) l := by
  blk_ext [idx7, hd, qrow]
theorem emb8 (t : Fin cfg0.N) (n : Fin 32) (l : Fin 128) (x : Fin 256) : (win0_8.blk t).view.emb (ix4 0 n l x) = ix4 (hd t) n l x := by
  blk_ext [idx8, hd, qrow]
theorem emb9 (t : Fin cfg0.N) (n : Fin 32) (l : Fin 128) (x : Fin 256) : (win0_9.blk t).view.emb (ix4 0 n l x) = ix4 (hd t) n l x := by
  blk_ext [idx9, hd, qrow]

theorem pay2_apply (X : S512x128.Idx → EReal) (r : Fin 512) (l : Fin 128) : k0_pay2 (F := Ideal) X (ix3 0 r l) = X (ix2 r l) := by
  pointwise [k0_pay2]

theorem left7 (t : Fin cfg0.N) (r : Fin 512) (l : Fin 128) :
    (left m c t.val t.isLt).dq (ix2 r l) = gq m c (hd t) (qrow t r) l := by
  rw [left_dq, gq, rblk_qrow, roff_qrow, pt_eta]
  rfl

theorem last_points (t : Fin cfg0.N) (h : t.val % 16 = 15) (f : ℕ → EReal) (g : Fin 16 → EReal)
    (e : ∀ i : Fin 16, f (16 * (t.val / 16) + i.val) = g i) : ∑ s ∈ Finset.range (t.val % 16 + 1), f (16 * (t.val / 16) + s) = ∑ i, g i := by
  rw [h, Finset.sum_range]
  exact Finset.sum_congr rfl fun i _ => e i

theorem left8 (t : Fin cfg0.N) (h : t.val % 16 = 15) (n : Fin 32) (l : Fin 128) (x : Fin 256) :
    (left m c t.val t.isLt).dk (ix4 0 n l x) = gk m c (hd t) n l x := by
  rw [left_dk]
  refine last_points t h (fun u => dkAt m c u n l x) _ fun i => ?_
  have hu : 16 * (t.val / 16) + i.val < cfg0.N := (pt (hd t) i).isLt
  show dkAt m c (16 * (t.val / 16) + i.val) n l x = _
  unfold dkAt
  rw [dif_pos hu, show (16 * (t.val / 16) + i.val) % 16 = i.val by omega]
  rfl

theorem left9 (t : Fin cfg0.N) (h : t.val % 16 = 15) (n : Fin 32) (l : Fin 128) (x : Fin 256) :
    (left m c t.val t.isLt).dv (ix4 0 n l x) = gv m c (hd t) n l x := by
  rw [left_dv]
  refine last_points t h (fun u => dvAt m c u n l x) _ fun i => ?_
  have hu : 16 * (t.val / 16) + i.val < cfg0.N := (pt (hd t) i).isLt
  show dvAt m c (16 * (t.val / 16) + i.val) n l x = _
  unfold dvAt
  rw [dif_pos hu, show (16 * (t.val / 16) + i.val) % 16 = i.val by omega]
  rfl

/-- The arrays as functions of a multi-index. -/
def Gq : Arr S8x8192x128 := fun z => gq m c (z 0) (z 1) (z 2)
def Gk : Arr S8x32x128x256 := fun z => gk m c (z 0) (z 1) (z 2) (z 3)
def Gv : Arr S8x32x128x256 := fun z => gv m c (z 0) (z 1) (z 2) (z 3)

theorem final7 : (dats m 0 c).arrAt 7 cfg0.N = Gq m c := by
  refine (dats m 0 c).arrAt_eq_of_covers 7 _ (by decide +kernel) fun t hf y => ?_
  blk_simp
  rw [after7]
  idx_vars y
  obtain rfl : y0 = 0 := Subsingleton.elim _ _
  refine Eq.trans ?_ (congrArg (Gq m c) (emb7 t y1 y2)).symm
  exact (pay2_apply _ _ _).trans (left7 m c t y1 y2)

theorem final8 : (dats m 0 c).arrAt 8 cfg0.N = Gk m c := by
  refine (dats m 0 c).arrAt_eq_of_covers 8 _ (by decide +kernel) fun t hf y => ?_
  blk_simp
  rw [after8]
  idx_vars y
  obtain rfl : y0 = 0 := Subsingleton.elim _ _
  refine Eq.trans ?_ (congrArg (Gk m c) (emb8 t y1 y2 y3)).symm
  exact left8 m c t ((flush0_8 t).mp hf) y1 y2 y3

theorem final9 : (dats m 0 c).arrAt 9 cfg0.N = Gv m c := by
  refine (dats m 0 c).arrAt_eq_of_covers 9 _ (by decide +kernel) fun t hf y => ?_
  blk_simp
  rw [after9]
  idx_vars y
  obtain rfl : y0 = 0 := Subsingleton.elim _ _
  refine Eq.trans ?_ (congrArg (Gv m c) (emb9 t y1 y2 y3)).symm
  exact left9 m c t ((flush0_9 t).mp hf) y1 y2 y3

/-! ## The host's results of them -/

/-- The query gradient without the lanes of zeros, scaled. -/
def resQ (a : Arr S8x8192x128) : Arr S8192x8x96 :=
  mulf (transpose S8192x8x96 [1, 0, 2] (extractStridedSlice S8x8192x96 ![0, 0, 0] a slices_S8x8192x128_S8x8192x96_0_0_0)
    transposes_S8x8192x96_S8192x8x96_1_0_2)
    (broadcastInDim S8192x8x96 ![] bcast_S_S8192x8x96 (constant (F := Ideal) S_ .f32 0x3DD105EC#32))

/-- The key gradient without the lanes of zeros, by rows, times the logarithm of two. -/
def resK (a : Arr S8x32x128x256) : Arr S8192x8x96 :=
  mulf (shapeCast S8192x8x96 (transpose S32x256x8x96 [1, 3, 0, 2] (extractStridedSlice S8x32x96x256 ![0, 0, 0, 0] a
    slices_S8x32x128x256_S8x32x96x256_0_0_0_0) transposes_S8x32x96x256_S32x256x8x96_1_3_0_2) shapeCasts_S32x256x8x96_S8192x8x96)
    (broadcastInDim S8192x8x96 ![] bcast_S_S8192x8x96 ln2)

/-- The pairs of heads of the value gradient. -/
def pairsOf (a : Arr S8x32x128x256) : Arr S4x2x32x128x256 := shapeCast S4x2x32x128x256 a shapeCasts_S8x32x128x256_S4x2x32x128x256

/-- Each pair's own halves. -/
def lowerHalf (b : Arr S4x2x32x128x256) : Arr S4x1x32x64x256 :=
  broadcastInDim S4x1x32x64x256 ![0, 2, 3, 4] bcast_S4x32x64x256_S4x1x32x64x256_0_2_3_4
    (shapeCast S4x32x64x256 (extractStridedSlice S4x1x32x64x256 ![0, 0, 0, 0, 0] b slices_S4x2x32x128x256_S4x1x32x64x256_0_0_0_0_0)
      shapeCasts_S4x1x32x64x256_S4x32x64x256)
def upperHalf (b : Arr S4x2x32x128x256) : Arr S4x1x32x64x256 :=
  broadcastInDim S4x1x32x64x256 ![0, 2, 3, 4] bcast_S4x32x64x256_S4x1x32x64x256_0_2_3_4
    (shapeCast S4x32x64x256 (extractStridedSlice S4x1x32x64x256 ![0, 1, 0, 64, 0] b slices_S4x2x32x128x256_S4x1x32x64x256_0_1_0_64_0)
      shapeCasts_S4x1x32x64x256_S4x32x64x256)
def joined (a b : Arr S4x1x32x64x256) : Arr S4x2x32x64x256 :=
  concatenate S4x2x32x64x256 1 [⟨S4x1x32x64x256, a⟩, ⟨S4x1x32x64x256, b⟩] concatenates_S4x1x32x64x256_S4x1x32x64x256_S4x2x32x64x256_d1

/-- The value gradient by rows. -/
def rowsV (a : Arr S4x2x32x64x256) : Arr S8192x8x64 :=
  shapeCast S8192x8x64 (transpose S32x256x8x64 [1, 3, 0, 2] (shapeCast S8x32x64x256 a shapeCasts_S4x2x32x64x256_S8x32x64x256)
    transposes_S8x32x64x256_S32x256x8x64_1_3_0_2) shapeCasts_S32x256x8x64_S8192x8x64
def resV (a : Arr S8x32x128x256) : Arr S8192x8x64 := rowsV (joined (lowerHalf (pairsOf a)) (upperHalf (pairsOf a)))

/-- What the call leaves, as the contents the host's last operations start from. -/
abbrev exit : Valuation τ sig (Elt Ideal) := Pipeline.withArrays spec0 c (V0 m c) fun w => (dats m 0 c).arrAt w cfg0.N

theorem exit7 : exit m c (Proc.devRef .tc main_v58_0) = Gq m c :=
  (Pipeline.withArrays_arr spec0 (by decide) c (V0 m c) (fun w => (dats m 0 c).arrAt w cfg0.N) 7).trans (final7 m c)
theorem exit8 : exit m c (Proc.devRef .tc main_v58_1) = Gk m c :=
  (Pipeline.withArrays_arr spec0 (by decide) c (V0 m c) (fun w => (dats m 0 c).arrAt w cfg0.N) 8).trans (final8 m c)
theorem exit9 : exit m c (Proc.devRef .tc main_v58_2) = Gv m c :=
  (Pipeline.withArrays_arr spec0 (by decide) c (V0 m c) (fun w => (dats m 0 c).arrAt w cfg0.N) 9).trans (final9 m c)
theorem exit_ln2 : exit m c (Proc.devRef .tc main_v23) = ln2 :=
  (Pipeline.withArrays_of_ne spec0 c (V0 m c) (fun w => (dats m 0 c).arrAt w cfg0.N) main_v23
    (by exact (by decide : ∀ w, Pipeline.arrRef spec0 w ≠ main_v23))).trans (V_ln2 m c)

/-- The results of the last operations from any contents. -/
theorem tail_q (W : Valuation τ sig (Elt Ideal)) : StableHlo.after hostOps1 W (Proc.devRef .tc main_v71) = resQ (W (Proc.devRef .tc main_v58_0)) := by
  simp only [hostOps1]
  after_results_simp
  rfl

theorem tail_k (W : Valuation τ sig (Elt Ideal)) (h : W (Proc.devRef .tc main_v23) = ln2) :
    StableHlo.after hostOps1 W (Proc.devRef .tc main_v76) = resK (W (Proc.devRef .tc main_v58_1)) := by
  unfold resK
  rw [← h]
  simp only [hostOps1]
  after_results_simp
  rfl

theorem tail_v (W : Valuation τ sig (Elt Ideal)) : StableHlo.after hostOps1 W (Proc.devRef .tc main_v78) = resV (W (Proc.devRef .tc main_v58_2)) := by
  simp only [hostOps1]
  after_results_simp
  rfl

theorem out_q : Pipeline.afterTail₀ cfgs (dats m) 0 (V0 m) [hostOps1] c main_v71 = resQ (Gq m c) :=
  (tail_q (exit m c)).trans (congrArg resQ (exit7 m c))
theorem out_k : Pipeline.afterTail₀ cfgs (dats m) 0 (V0 m) [hostOps1] c main_v76 = resK (Gk m c) :=
  (tail_k (exit m c) (exit_ln2 m c)).trans (congrArg resK (exit8 m c))
theorem out_v : Pipeline.afterTail₀ cfgs (dats m) 0 (V0 m) [hostOps1] c main_v78 = resV (Gv m c) :=
  (tail_v (exit m c)).trans (congrArg resV (exit9 m c))

/-- The run with its results. -/
theorem run_value (ρ : Dev nD → PrngReg) : θ_run defs (onTc (τ := τ) (main (F := Ideal))) ⟨m, fun _ => 0, ρ⟩ (fun r => ∀ c : Dev nD,
      (r.2.mem ((c.tc : Thread nD τ).loc main_v71) = resQ (Gq m c)
      ∧ r.2.mem ((c.tc : Thread nD τ).loc main_v76) = resK (Gk m c)
      ∧ r.2.mem ((c.tc : Thread nD τ).loc main_v78) = resV (Gv m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨⟨
      ((h.1 c).2 main_v71 (Pipeline.mem_restRefs_of main_v71 (by decide) (by decide))).trans (out_q m c),
      ((h.1 c).2 main_v76 (Pipeline.mem_restRefs_of main_v76 (by decide) (by decide))).trans (out_k m c),
      ((h.1 c).2 main_v78 (Pipeline.mem_restRefs_of main_v78 (by decide) (by decide))).trans (out_v m c)⟩,
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c),
      ((h.1 c).1 5).trans (((dats m 0 c).arrAt_in 5 rfl _).trans ((A_eq m c 5).trans (V_main_arg3 m c)))⟩) (run_main m ρ)

/-! ## At an entry -/

/-- The tile of a key and its place in it. -/
def ktile (K : Fin 8192) : Fin 32 := ⟨K.val / 256, by omega⟩
def kcol (K : Fin 8192) : Fin 256 := ⟨K.val % 256, by omega⟩

theorem resQ_apply (a : Arr S8x8192x128) (R : Fin 8192) (h : Fin 8) (d : Fin 96) :
    resQ a (ix3 R h d) = a (ix3 h R ⟨d.val, by omega⟩) * Softmax.scale := by
  pointwise [resQ, Softmax.scale]

theorem resK_apply (a : Arr S8x32x128x256) (K : Fin 8192) (h : Fin 8) (d : Fin 96) :
    resK a (ix3 K h d) = a (ix4 h (ktile K) ⟨d.val, by omega⟩ (kcol K)) * ln2 ix0 := by
  pointwise [resK, ktile, kcol]

theorem rowsV_apply (a : Arr S4x2x32x64x256) (K : Fin 8192) (h : Fin 8) (d : Fin 64) :
    rowsV a (ix3 K h d) = a (ix5 ⟨h.val / 2, by omega⟩ ⟨h.val % 2, by omega⟩ (ktile K) d (kcol K)) := by
  pointwise [rowsV, ktile, kcol]

theorem joined_apply (a b : Arr S4x1x32x64x256) (p : Fin 4) (e : Fin 2) (n : Fin 32) (d : Fin 64) (x : Fin 256) :
    joined a b (ix5 p e n d x) = if e.val = 0 then a (ix5 p 0 n d x) else b (ix5 p 0 n d x) := by
  pointwise [joined]
  by_cases he : e.val = 0
  · rw [dif_pos (by omega), if_pos he]
    exact congrArg (fun y => a (ix5 p y n d x)) (Subsingleton.elim _ _)
  · rw [dif_neg (by omega), if_neg he]
    exact congrArg (fun y => b (ix5 p y n d x)) (Subsingleton.elim _ _)

theorem lowerHalf_apply (b : Arr S4x2x32x128x256) (p : Fin 4) (n : Fin 32) (d : Fin 64) (x : Fin 256) :
    lowerHalf b (ix5 p 0 n d x) = b (ix5 p 0 n ⟨d.val, by omega⟩ x) := by
  pointwise [lowerHalf]

theorem upperHalf_apply (b : Arr S4x2x32x128x256) (p : Fin 4) (n : Fin 32) (d : Fin 64) (x : Fin 256) :
    upperHalf b (ix5 p 0 n d x) = b (ix5 p 1 n ⟨64 + d.val, by omega⟩ x) := by
  pointwise [upperHalf]

theorem pairsOf_apply (a : Arr S8x32x128x256) (p : Fin 4) (e : Fin 2) (n : Fin 32) (l : Fin 128) (x : Fin 256) :
    pairsOf a (ix5 p e n l x) = a (ix4 ⟨p.val * 2 + e.val, by omega⟩ n l x) := by
  pointwise [pairsOf]

end Cert.Proof.KernelIdeal
-- ==== Proof.Entries.lean ====
/-
  The call's blocks on arrays of real numbers: the kernel's probability and its score gradient are the reference's.
-/
module

public import proofs.«01_k».proof.Proof.Results
public import proofs.«01_k».proof.Proof.Reals

@[expose] public section

set_option maxRecDepth 65536

noncomputable section

namespace Cert.Proof.KernelIdeal

open Cert.KernelIdeal Cert.KernelIdeal.Gen
open Idealize.ShloMosaic Idealize.ShloMosaic.TcCoe
open Cert.Proof.Softmax (Arr up up_apply coe_sum coe_ite scale_coe logit peak ex tot dp mean gr lane)

/-! ## Sums over the lanes -/

/-- A sum over 128 lanes of which the last 32 are zero. -/
theorem sum_pad (f : Fin 128 → ℝ) (g : Fin 96 → ℝ) (e : ∀ l, f l = if hl : l.val < 96 then g ⟨l.val, hl⟩ else 0) :
    ∑ l, f l = ∑ d, g d := by
  refine (Fin.sum_univ_add (a := 96) (b := 32) f).trans ?_
  have h1 : ∀ d : Fin 96, f (Fin.castAdd 32 d) = g d := fun d => (e _).trans (dif_pos d.isLt)
  have h2 : ∀ d : Fin 32, f (Fin.natAdd 96 d) = 0 := fun d => (e _).trans (dif_neg (by simp))
  simp only [h1, h2, Finset.sum_const_zero, add_zero]

/-- The lane of its plane at which a head's component lies. -/
def mine (h : Fin 8) (d : Fin 64) : Fin 128 := ⟨64 * (h.val % 2) + d.val, by omega⟩

theorem plane_mine (h : Fin 8) (d : Fin 64) : plane h (mine h d) = lane h d := by
  apply Fin.ext
  show 128 * (h.val / 2) + (64 * (h.val % 2) + d.val) = 64 * h.val + d.val
  omega

theorem own_mine (ct : S8192x512.Idx → EReal) (h : Fin 8) (R : Fin 8192) (d : Fin 64) : own ct h R (mine h d) = ct (ix2 R (lane h d)) := by
  unfold own
  rw [if_pos (by show (64 * (h.val % 2) + d.val) / 64 = h.val % 2; omega), plane_mine]

/-- A sum over a plane's lanes against the head's own cotangent is one over the head's lanes. -/
theorem sum_own (ct : S8192x512.Idx → EReal) (h : Fin 8) (R : Fin 8192) (F : Fin 128 → EReal) :
    ∑ l : Fin 128, own ct h R l * F l = ∑ d : Fin 64, ct (ix2 R (lane h d)) * F (mine h d) := by
  refine (Fin.sum_univ_add (a := 64) (b := 64) _).trans ?_
  have hz : ∀ l : Fin 128, l.val / 64 ≠ h.val % 2 → own ct h R l * F l = 0 := fun l hl => by
    rw [own, if_neg hl, zero_mul]
  have hm : ∀ d : Fin 64, own ct h R (mine h d) * F (mine h d) = ct (ix2 R (lane h d)) * F (mine h d) := fun d => by rw [own_mine]
  rcases Nat.mod_two_eq_zero_or_one h.val with hp | hp
  · have e1 : ∀ d : Fin 64, (Fin.castAdd 64 d : Fin 128) = mine h d := fun d =>
      Fin.ext (by show d.val = 64 * (h.val % 2) + d.val; omega)
    have e2 : ∀ d : Fin 64, own ct h R (Fin.natAdd 64 d : Fin 128) * F (Fin.natAdd 64 d : Fin 128) = 0 := fun d =>
      hz _ (by show (64 + d.val) / 64 ≠ h.val % 2; omega)
    simp only [e1, e2, hm, Finset.sum_const_zero, add_zero]
  · have e1 : ∀ d : Fin 64, (Fin.natAdd 64 d : Fin 128) = mine h d := fun d =>
      Fin.ext (by show 64 + d.val = 64 * (h.val % 2) + d.val; omega)
    have e2 : ∀ d : Fin 64, own ct h R (Fin.castAdd 64 d : Fin 128) * F (Fin.castAdd 64 d : Fin 128) = 0 := fun d =>
      hz _ (by show d.val / 64 ≠ h.val % 2; omega)
    simp only [e1, e2, hm, Finset.sum_const_zero, zero_add]

/-! ## The host's arrays -/

/-- The logarithm of two. -/
def lt : ℝ := Real.log 2

theorem lt_pos : 0 < lt := Real.log_pos one_lt_two

theorem two : Ideal.ofBits FTy.f32 0x40000000#32 = ((2 : ℝ) : EReal) := by
  simp [Ideal.ofBits, Ideal.ieee, -EReal.coe_mul]
  norm_num

theorem ln2_coe : ln2 ix0 = ((lt : ℝ) : EReal) := by
  rw [ln2_apply, two, Ideal.log_coe, if_neg (by norm_num), lt]

/-- The components of a head, padded with zeros. -/
def pad (x : S8192x8x96.Idx → ℝ) (h : Fin 8) (R : Fin 8192) (l : Fin 128) : ℝ := if hl : l.val < 96 then x (ix3 R h ⟨l.val, hl⟩) else 0

theorem pad_lane (x : S8192x8x96.Idx → ℝ) (h : Fin 8) (R : Fin 8192) (d : Fin 96) : pad x h R ⟨d.val, by omega⟩ = x (ix3 R h d) :=
  dif_pos d.isLt

theorem padded_coe (x : S8192x8x96.Idx → ℝ) (h : Fin 8) (R : Fin 8192) (l : Fin 128) :
    padded (up x) (ix3 h R l) = ((pad x h R l : ℝ) : EReal) := by
  rw [padded_apply]
  unfold pad
  split
  · rfl
  · rfl

theorem hq_coe (q : S8192x8x96.Idx → ℝ) (h : Fin 8) (R : Fin 8192) (l : Fin 128) :
    hq (up q) (ix3 h R l) = ((pad q h R l * Softmax.sc / lt : ℝ) : EReal) := by
  rw [hq_apply, padded_coe, scale_coe, ln2_coe, Ideal.div_coe lt_pos.ne', ← EReal.coe_mul, ← EReal.coe_mul, mul_one_div]

variable (m : (ℓ : Loc nD τ sig) → Buf (Elt Ideal) ℓ) (c : Dev nD) (t : Fin cfg0.N)
variable (q k : S8192x8x96.Idx → ℝ) (v : S8192x8x64.Idx → ℝ) (ct : S8192x512.Idx → ℝ)

/-- The arguments are arrays of real numbers. -/
structure Args : Prop where
  q : argQ m c = up q
  k : argK m c = up k
  v : argV m c = up v
  ct : V m c main_arg3 = up ct

variable {m c q k v ct}
variable (a : Args m c q k v ct) (n : Fin 32) (r : Fin 512) (x : Fin 256)

include a

theorem qh_coe (l : Fin 128) : (blk m c t).qh (ix2 r l) = ((pad q (hd t) (qrow t r) l * Softmax.sc / lt : ℝ) : EReal) := by
  rw [qh_at, V_q, a.q]
  exact hq_coe q _ _ l

theorem kt_coe (l : Fin 128) : (blk m c t).kt (ix4 0 n l x) = ((pad k (hd t) (key n x) l : ℝ) : EReal) := by
  rw [kt_at, V_kt, a.k]
  exact (hkt_apply (up k) _ n l x).trans (padded_coe k _ _ l)

theorem vt_coe (d : Fin 64) : (blk m c t).vt (ix4 0 n (mine (hd t) d) x) = ((v (ix3 (key n x) (hd t) d) : ℝ) : EReal) := by
  rw [vt_at, V_vt, a.v]
  exact hvt_own (up v) (hd t) n d x

theorem score_coe : score (blk m c t) n r x = ((logit q k (hd t) (qrow t r) (key n x) / lt : ℝ) : EReal) := by
  unfold score
  simp only [qh_coe t a, kt_coe t a, ← EReal.coe_mul, coe_sum]
  refine congrArg (fun x : ℝ => ((x : ℝ) : EReal)) ?_
  rw [sum_pad _ (fun d => q (ix3 (qrow t r) (hd t) d) * k (ix3 (key n x) (hd t) d) * (Softmax.sc / lt)), ← Finset.sum_mul, logit, mul_div_assoc]
  intro l
  unfold pad
  split
  · ring
  · ring

theorem lse_coe : (blk m c t).lse (ix2 r x)
    = (((peak q k (hd t) (qrow t r) + Real.log (tot q k (hd t) (qrow t r))) / lt : ℝ) : EReal) := by
  have hz := Softmax.tot_pos q k (hd t) (qrow t r)
  rw [lse_at, V_lse, a.q, a.k, lse2_apply, hexp, Softmax.top_coe, Softmax.total_coe, ln2_coe, Ideal.log_coe, if_neg (not_le.mpr hz),
    Ideal.div_coe lt_pos.ne', ← EReal.coe_add, ← EReal.coe_mul, mul_one_div]

theorem prob_coe : prob (t.val % 16) (blk m c t) n r x = ((Softmax.pr q k (hd t) (qrow t r) (key n x) : ℝ) : EReal) := by
  have hz := Softmax.tot_pos q k (hd t) (qrow t r)
  unfold prob Softmax.pr ex
  by_cases hK : (key n x).val ≤ (qrow t r).val
  · rw [if_pos hK, if_pos (show 256 * n.val + x.val ≤ 512 * (t.val % 16) + r.val from hK), score_coe t a, lse_coe t a, ← EReal.coe_sub,
      Ideal.exp2_coe]
    refine congrArg (fun x : ℝ => ((x : ℝ) : EReal)) ?_
    rw [show ∀ y : ℝ, Real.rpow 2 y = Real.exp (Real.log 2 * y) from Real.rpow_def_of_pos two_pos, ← sub_div, show Real.log 2 = lt from rfl, mul_div_cancel₀ _ lt_pos.ne', ← sub_sub, Real.exp_sub,
      Real.exp_log hz]
  · rw [if_neg hK, if_neg (show ¬ 256 * n.val + x.val ≤ 512 * (t.val % 16) + r.val from hK), zero_div, EReal.coe_zero]

theorem prod_coe : prod (blk m c t) n r x = ((dp v ct (hd t) (qrow t r) (key n x) : ℝ) : EReal) := by
  unfold prod
  simp only [dob_at, a.ct]
  rw [sum_own]
  simp only [vt_coe t a, up_apply, ← EReal.coe_mul, coe_sum, dp]

theorem dd_coe : (blk m c t).dd (ix2 r x) = ((mean q k v ct (hd t) (qrow t r) : ℝ) : EReal) := by
  rw [dd_at, V_o, a.q, a.k, a.v, a.ct, sum_own (up ct) (hd t) (qrow t r) fun l => outp (up v) _ (ix2 (qrow t r) (plane (hd t) l))]
  simp only [plane_mine, outp_apply, hexp, Softmax.soft_coe, up_apply, ← EReal.coe_mul, coe_sum]
  refine congrArg (fun x : ℝ => ((x : ℝ) : EReal)) ?_
  unfold mean dp
  simp only [Finset.mul_sum]
  rw [Finset.sum_comm]
  exact Finset.sum_congr rfl fun K _ => Finset.sum_congr rfl fun d _ => by ring

theorem grad_coe : grad (t.val % 16) (blk m c t) n r x = ((gr q k v ct (hd t) (qrow t r) (key n x) : ℝ) : EReal) := by
  unfold grad gr
  rw [prob_coe t a, prod_coe t a, dd_coe t a, ← EReal.coe_sub, ← EReal.coe_mul]

end Cert.Proof.KernelIdeal
-- ==== Proof.Value.lean ====
/-
  The kernel's three results are the reference's.
-/
module

public import proofs.«01_k».proof.Proof.Entries

@[expose] public section

set_option maxRecDepth 65536

noncomputable section

namespace Cert.Proof.KernelIdeal

open Cert.KernelIdeal Cert.KernelIdeal.Gen
open Idealize.ShloMosaic Idealize.ShloMosaic.TcCoe
open Cert.Proof.Softmax (Arr up up_apply coe_sum scale_coe gr lane gradQ gradK gradV)

/-! ## The keys by tiles and the queries by blocks -/

def keys : Fin 32 × Fin 256 ≃ Fin 8192 where
  toFun p := key p.1 p.2
  invFun K := (ktile K, kcol K)
  left_inv := fun ⟨n, x⟩ => Prod.ext (Fin.ext (by show (256 * n.val + x.val) / 256 = n.val; omega))
    (Fin.ext (by show (256 * n.val + x.val) % 256 = x.val; omega))
  right_inv := fun K => Fin.ext (by show 256 * (K.val / 256) + K.val % 256 = K.val; omega)

theorem key_tile (K : Fin 8192) : key (ktile K) (kcol K) = K := keys.right_inv K

theorem sum_keys (f : Fin 8192 → ℝ) : ∑ n : Fin 32, ∑ x : Fin 256, f (key n x) = ∑ K, f K :=
  (Fintype.sum_prod_type' fun n x => f (key n x)).symm.trans (keys.sum_comp f)

/-- Query `r` of block `i`. -/
def query (i : Fin 16) (r : Fin 512) : Fin 8192 := ⟨512 * i.val + r.val, by omega⟩

theorem qrow_pt (h : Fin 8) (i : Fin 16) (r : Fin 512) : qrow (pt h i) r = query i r :=
  Fin.ext (by show 512 * ((pt h i).val % 16) + r.val = 512 * i.val + r.val; rw [pt_mod])

def queries : Fin 16 × Fin 512 ≃ Fin 8192 where
  toFun p := query p.1 p.2
  invFun R := (rblk R, roff R)
  left_inv := fun ⟨i, r⟩ => Prod.ext (Fin.ext (by show (512 * i.val + r.val) / 512 = i.val; omega))
    (Fin.ext (by show (512 * i.val + r.val) % 512 = r.val; omega))
  right_inv := fun R => Fin.ext (by show 512 * (R.val / 512) + R.val % 512 = R.val; omega)

theorem query_block (R : Fin 8192) : query (rblk R) (roff R) = R := queries.right_inv R

theorem sum_queries (f : Fin 8192 → ℝ) : ∑ i : Fin 16, ∑ r : Fin 512, f (query i r) = ∑ R, f R :=
  (Fintype.sum_prod_type' fun i r => f (query i r)).symm.trans (queries.sum_comp f)

/-! ## The three arrays the call leaves -/

variable {m : (ℓ : Loc nD τ sig) → Buf (Elt Ideal) ℓ} {c : Dev nD}
variable {q k : S8192x8x96.Idx → ℝ} {v : S8192x8x64.Idx → ℝ} {ct : S8192x512.Idx → ℝ}
variable (a : Args m c q k v ct) (h : Fin 8)

include a

theorem grad_pt (i : Fin 16) (n : Fin 32) (r : Fin 512) (x : Fin 256) :
    grad i.val (blk m c (pt h i)) n r x = ((gr q k v ct h (query i r) (key n x) : ℝ) : EReal) := by
  have e := grad_coe (pt h i) a n r x
  rwa [pt_mod, hd_pt, qrow_pt] at e

theorem prob_pt (i : Fin 16) (n : Fin 32) (r : Fin 512) (x : Fin 256) :
    prob i.val (blk m c (pt h i)) n r x = ((Softmax.pr q k h (query i r) (key n x) : ℝ) : EReal) := by
  have e := prob_coe (pt h i) a n r x
  rwa [pt_mod, hd_pt, qrow_pt] at e

theorem kr_pt (i : Fin 16) (K : Fin 8192) (l : Fin 128) : (blk m c (pt h i)).kr (ix3 0 K l) = ((pad k h K l : ℝ) : EReal) := by
  rw [kr_at, V_k, a.k, hd_pt]
  exact padded_coe k h K l

theorem qT_pt (i : Fin 16) (r : Fin 512) (l : Fin 128) :
    (blk m c (pt h i)).qT (ix2 l r) = ((pad q h (query i r) l * Softmax.sc / lt : ℝ) : EReal) := by
  rw [qT_at, V_q, a.q, hd_pt, qrow_pt]
  exact hq_coe q h _ l

theorem dobT_pt (i : Fin 16) (r : Fin 512) (d : Fin 64) :
    (blk m c (pt h i)).dobT (ix2 (mine h d) r) = ((ct (ix2 (query i r) (lane h d)) : ℝ) : EReal) := by
  rw [dobT_at, a.ct, hd_pt, qrow_pt, own_mine, up_apply]

theorem gq_coe (R : Fin 8192) (l : Fin 128) : gq m c h R l = ((∑ K : Fin 8192, gr q k v ct h R K * pad k h K l : ℝ) : EReal) := by
  have e : ∀ n : Fin 32, dqTerm (rblk R).val (blk m c (pt h (rblk R))) n (roff R) l
      = ((∑ x : Fin 256, gr q k v ct h R (key n x) * pad k h (key n x) l : ℝ) : EReal) := fun n => by
    unfold dqTerm
    rw [← coe_sum]
    refine Finset.sum_congr rfl fun x _ => ?_
    rw [grad_pt a, query_block, EReal.coe_mul]
    exact congrArg _ (kr_pt a h (rblk R) (key n x) l)
  unfold gq
  simp only [e, coe_sum]
  exact congrArg (fun x : ℝ => ((x : ℝ) : EReal)) (sum_keys fun K => gr q k v ct h R K * pad k h K l)

theorem gk_coe (n : Fin 32) (l : Fin 128) (x : Fin 256) : gk m c h n l x
    = ((∑ R : Fin 8192, pad q h R l * Softmax.sc / lt * gr q k v ct h R (key n x) : ℝ) : EReal) := by
  have e : ∀ i : Fin 16, dkTerm i.val (blk m c (pt h i)) n l x
      = ((∑ r : Fin 512, pad q h (query i r) l * Softmax.sc / lt * gr q k v ct h (query i r) (key n x) : ℝ) : EReal) := fun i => by
    unfold dkTerm
    rw [← coe_sum]
    refine Finset.sum_congr rfl fun r _ => ?_
    rw [grad_pt a, qT_pt a, EReal.coe_mul]
  unfold gk
  simp only [e, coe_sum]
  exact congrArg (fun x : ℝ => ((x : ℝ) : EReal)) (sum_queries fun R => pad q h R l * Softmax.sc / lt * gr q k v ct h R (key n x))

theorem gv_coe (n : Fin 32) (d : Fin 64) (x : Fin 256) : gv m c h n (mine h d) x
    = ((∑ R : Fin 8192, ct (ix2 R (lane h d)) * Softmax.pr q k h R (key n x) : ℝ) : EReal) := by
  have e : ∀ i : Fin 16, dvTerm i.val (blk m c (pt h i)) n (mine h d) x
      = ((∑ r : Fin 512, ct (ix2 (query i r) (lane h d)) * Softmax.pr q k h (query i r) (key n x) : ℝ) : EReal) := fun i => by
    unfold dvTerm
    rw [← coe_sum]
    refine Finset.sum_congr rfl fun r _ => ?_
    rw [prob_pt a, dobT_pt a, EReal.coe_mul]
  unfold gv
  simp only [e, coe_sum]
  exact congrArg (fun x : ℝ => ((x : ℝ) : EReal)) (sum_queries fun R => ct (ix2 R (lane h d)) * Softmax.pr q k h R (key n x))

/-! ## The three results -/

theorem resQ_coe (R : Fin 8192) (d : Fin 96) : resQ (Gq m c) (ix3 R h d) = ((gradQ q k v ct h R d : ℝ) : EReal) := by
  rw [resQ_apply, scale_coe]
  have e : Gq m c (ix3 h R ⟨d.val, by omega⟩) = _ := gq_coe a h R ⟨d.val, by omega⟩
  rw [e, ← EReal.coe_mul, gradQ, Finset.sum_mul]
  refine congrArg (fun x : ℝ => ((x : ℝ) : EReal)) (Finset.sum_congr rfl fun K _ => ?_)
  rw [pad_lane]
  ring

theorem resK_coe (K : Fin 8192) (d : Fin 96) : resK (Gk m c) (ix3 K h d) = ((gradK q k v ct h K d : ℝ) : EReal) := by
  rw [resK_apply, ln2_coe]
  have e : Gk m c (ix4 h (ktile K) ⟨d.val, by omega⟩ (kcol K)) = _ := gk_coe a h (ktile K) ⟨d.val, by omega⟩ (kcol K)
  rw [e, ← EReal.coe_mul, gradK, Finset.sum_mul, key_tile]
  refine congrArg (fun x : ℝ => ((x : ℝ) : EReal)) (Finset.sum_congr rfl fun R _ => ?_)
  rw [pad_lane]
  have := lt_pos.ne'
  field_simp

omit a in
theorem resV_apply (b : Arr S8x32x128x256) (K : Fin 8192) (d : Fin 64) :
    resV b (ix3 K h d) = b (ix4 h (ktile K) (mine h d) (kcol K)) := by
  unfold resV
  rw [rowsV_apply, joined_apply]
  rcases Nat.mod_two_eq_zero_or_one h.val with hp | hp
  · rw [if_pos hp, lowerHalf_apply, pairsOf_apply]
    refine congrArg b (congrArg₂ (fun y z => ix4 y (ktile K) z (kcol K)) (Fin.ext ?_) (Fin.ext ?_))
    · show h.val / 2 * 2 + 0 = h.val
      omega
    · show d.val = 64 * (h.val % 2) + d.val
      omega
  · rw [if_neg (by show ¬ h.val % 2 = 0; omega), upperHalf_apply, pairsOf_apply]
    refine congrArg b (congrArg₂ (fun y z => ix4 y (ktile K) z (kcol K)) (Fin.ext ?_) (Fin.ext ?_))
    · show h.val / 2 * 2 + 1 = h.val
      omega
    · show 64 + d.val = 64 * (h.val % 2) + d.val
      omega

theorem resV_coe (K : Fin 8192) (d : Fin 64) : resV (Gv m c) (ix3 K h d) = ((gradV q k ct h K d : ℝ) : EReal) := by
  rw [resV_apply]
  have e : Gv m c (ix4 h (ktile K) (mine h d) (kcol K)) = _ := gv_coe a h (ktile K) d (kcol K)
  rw [e, gradV, key_tile]

end Cert.Proof.KernelIdeal
-- ==== Proof.Algebraic.lean ====
/-
  The kernel computes the attention's gradient: on arguments that are arrays of real numbers its three results are the
  reference's.
-/
module

public import proofs.«01_k».proof.Defs
public import proofs.«01_k».proof.Proof.Finite
public import proofs.«01_k».proof.Proof.Value

@[expose] public section

set_option maxRecDepth 65536

noncomputable section

namespace Cert.Proof

open Idealize.ShloMosaic Idealize.SL.Sem
open Cert.Proof.KernelIdeal Cert.Proof.Softmax

/-- Two arrays that agree at every entry. -/
theorem ext96 {x y : Arr Cert.KernelIdeal.S8192x8x96} (e : ∀ R h d, x (ix3 R h d) = y (ix3 R h d)) : x = y := by
  funext z
  idx_vars z
  exact e _ _ _

theorem ext64 {x y : Arr Cert.KernelIdeal.S8192x8x64} (e : ∀ K h d, x (ix3 K h d) = y (ix3 K h d)) : x = y := by
  funext z
  idx_vars z
  exact e _ _ _

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

theorem args (h : haveI := preFacts; Cert.Pre_KernelIdeal_finite m) : Args m c
    (fun i => (argQ m c i).toReal) (fun i => (argK m c i).toReal) (fun i => (argV m c i).toReal) (fun i => (argC m c i).toReal) := by
  have e := reals_of_finite (argQ m c) (argK m c) (argV m c) (argC m c) (h c)
  exact ⟨e.1, e.2.1, e.2.2.1, (Cert.KernelIdeal.Gen.V_main_arg3 m c).trans e.2.2.2⟩

variable {m c}
variable {q k : Cert.KernelIdeal.S8192x8x96.Idx → ℝ} {v : Cert.KernelIdeal.S8192x8x64.Idx → ℝ} {ct : Cert.KernelIdeal.S8192x512.Idx → ℝ}
variable (a : Args m c q k v ct)
include a

theorem same_q : dquery (grads (up q) (up k) (up v) (up ct)) (up k) = resQ (Gq m c) :=
  ext96 fun R h d => (dquery_coe q k v ct h R d).trans (resQ_coe a h R d).symm

theorem same_k : dkey (grads (up q) (up k) (up v) (up ct)) (up q) = resK (Gk m c) :=
  ext96 fun K h d => (dkey_coe q k v ct h K d).trans (resK_coe a h K d).symm

theorem same_v : dval (up ct) (soft (expos (up q) (up k)) (total (expos (up q) (up k)))) = resV (Gv m c) :=
  ext64 fun K h d => (dval_coe q k ct h K d).trans (resV_coe a h K d).symm

end

/-- The idealized kernel and the idealized reference have the same results. -/
theorem algebraic : haveI := preFacts; Cert.algebraic_KernelIdeal_ReferenceIdeal_pre_finite := by
  intro m g m' g' h e
  refine ⟨fun c => resQ (Gq m c), fun c => resK (Gk m c), fun c => resV (Gv m c), ?_, ?_⟩
  · exact (θ_run _ _ _).mono (fun _ r c => ⟨(r c).1.1, (r c).1.2.1, (r c).1.2.2, (r c).2⟩) (run_value m g)
  · refine (θ_run _ _ _).mono (fun _ r c => ?_) (Cert.ReferenceIdeal.Value.run (F := Ideal) m' g')
    have a := args m c h
    have hq : m' ((c.tc : Thread Cert.ReferenceIdeal.nD Cert.ReferenceIdeal.τ).loc Cert.ReferenceIdeal.main_arg0) = up _ := (e c).1.trans a.q
    have hk : m' ((c.tc : Thread Cert.ReferenceIdeal.nD Cert.ReferenceIdeal.τ).loc Cert.ReferenceIdeal.main_arg1) = up _ := (e c).2.1.trans a.k
    have hv : m' ((c.tc : Thread Cert.ReferenceIdeal.nD Cert.ReferenceIdeal.τ).loc Cert.ReferenceIdeal.main_arg2) = up _ := (e c).2.2.1.trans a.v
    have hc : m' ((c.tc : Thread Cert.ReferenceIdeal.nD Cert.ReferenceIdeal.τ).loc Cert.ReferenceIdeal.main_arg3) = up _ :=
      (e c).2.2.2.trans ((Cert.KernelIdeal.Gen.V_main_arg3 m c).symm.trans a.ct)
    refine ⟨(r c).1.trans ((ref_dq m' c).trans ?_), (r c).2.1.trans ((ref_dk m' c).trans ?_), (r c).2.2.1.trans ((ref_dv m' c).trans ?_),
      (r c).2.2.2⟩
    · rw [hq, hk, hv, hc]
      exact same_q a
    · rw [hq, hk, hv, hc]
      exact same_k a
    · rw [hq, hk, hc]
      exact same_v a

end Cert.Proof
-- ==== Proof.Split.lean ====
/-
  Sums by blocks.
-/
module

public import Idealize.ShloMosaic.Lib.Quiescent
public import Idealize.ShloMosaic.Lib.Pointwise
public import Idealize.ShloMosaic.PureOps.Ideal
public import Idealize.ShloMosaic.Lib.Pipeline.ValueKit.Geometry

@[expose] public section

noncomputable section

namespace Cert.Proof.Split

/-- A sum over `n * k` places is the sum, over `n` blocks, of the sums over each block's `k` places. -/
theorem sum_blocks {N : ℕ} (n k : ℕ) (h : n * k = N) (f : Fin N → EReal) :
    ∑ i, f i = ∑ t : Fin n, ∑ r : Fin k, f ⟨k * t.val + r.val, by
      calc k * t.val + r.val < k * t.val + k := by omega
        _ = k * (t.val + 1) := (Nat.mul_succ _ _).symm
        _ ≤ k * n := Nat.mul_le_mul_left _ t.isLt
        _ = N := by rw [Nat.mul_comm, h]⟩ := by
  subst h
  rw [← finProdFinEquiv.sum_comp, Fintype.sum_prod_type]
  refine Finset.sum_congr rfl fun t _ => Finset.sum_congr rfl fun r _ => congrArg f (Fin.ext ?_)
  show r.val + k * t.val = k * t.val + r.val
  omega

/-- The same over the blocks' numbers. -/
theorem sum_range_blocks {N : ℕ} (n k : ℕ) (h : n * k = N) (f : Fin N → EReal) (g : ℕ → EReal)
    (e : ∀ (t : Fin n), g t.val = ∑ r : Fin k, f ⟨k * t.val + r.val, by
      calc k * t.val + r.val < k * t.val + k := by omega
        _ = k * (t.val + 1) := (Nat.mul_succ _ _).symm
        _ ≤ k * n := Nat.mul_le_mul_left _ t.isLt
        _ = N := by rw [Nat.mul_comm, h]⟩) : ∑ s ∈ Finset.range n, g s = ∑ i, f i := by
  rw [Finset.sum_range, sum_blocks n k h f]
  exact Finset.sum_congr rfl fun t _ => e t

/-- The offsets of a whole block of two dimensions. -/
theorem zeros : (![0, 0] : Fin 2 → ℕ) = fun _ => 0 := by decide

end Cert.Proof.Split
-- ==== Proof.Pack.lean ====
/-
  The packed columns of the input projection: where each of the 4256 columns lies among the 4352 packed ones, and what
  the packed ones hold.
-/
module

public import proofs.«01_k».proof.Proof.Split

@[expose] public section

noncomputable section

namespace Cert.Proof.Pack

/-- Where column `n` lies. -/
def slot (n : Fin 4256) : Fin 4352 :=
  ⟨if n.val < 384 then n.val + 3072 else if n.val < 416 then n.val + 3136
    else if n.val < 2976 then n.val - 416 else if n.val < 3744 then n.val + 608 else n.val - 1184, by split_ifs <;> omega⟩

/-- What the packed columns hold, the padding zero. -/
def packed (f : Fin 4256 → EReal) (j : Fin 4352) : EReal :=
  if h : j.val < 2560 then f ⟨j.val + 416, by omega⟩
  else if h : j.val < 3072 then f ⟨j.val + 1184, by omega⟩
  else if h : j.val < 3456 then f ⟨j.val - 3072, by omega⟩
  else if h : j.val < 3520 then 0
  else if h : j.val < 3552 then f ⟨j.val - 3136, by omega⟩
  else if h : j.val < 3584 then 0
  else f ⟨j.val - 608, by omega⟩

theorem slot_val (n : Fin 4256) : (slot n).val = if n.val < 384 then n.val + 3072 else if n.val < 416 then n.val + 3136
    else if n.val < 2976 then n.val - 416 else if n.val < 3744 then n.val + 608 else n.val - 1184 := by
  unfold slot
  dsimp only

theorem packed_slot (f : Fin 4256 → EReal) (n : Fin 4256) : packed f (slot n) = f n := by
  have e := slot_val n
  unfold packed
  split_ifs at e ⊢ <;> first | (exfalso; omega) | exact congrArg f (Fin.ext (by dsimp only; omega))

theorem slot_injective : Function.Injective slot := by
  intro a b h
  have e := slot_val a
  have e' := slot_val b
  have h' := congrArg Fin.val h
  refine Fin.ext ?_
  split_ifs at e e' <;> omega

/-- A packed column which no column lies at is zero. -/
theorem packed_pad (f : Fin 4256 → EReal) (j : Fin 4352) (h : ∀ n, slot n ≠ j) : packed f j = 0 := by
  by_contra hp
  have key : ∀ n : Fin 4256, (slot n).val ≠ j.val := fun n e => h n (Fin.ext e)
  unfold packed at hp
  split_ifs at hp with h1 h2 h3 h4 h5 h6
  · exact key ⟨j.val + 416, by omega⟩ (by rw [slot_val]; dsimp only; split_ifs <;> omega)
  · exact key ⟨j.val + 1184, by omega⟩ (by rw [slot_val]; dsimp only; split_ifs <;> omega)
  · exact key ⟨j.val - 3072, by omega⟩ (by rw [slot_val]; dsimp only; split_ifs <;> omega)
  · exact hp rfl
  · exact key ⟨j.val - 3136, by omega⟩ (by rw [slot_val]; dsimp only; split_ifs <;> omega)
  · exact hp rfl
  · exact key ⟨j.val - 608, by omega⟩ (by rw [slot_val]; dsimp only; split_ifs <;> omega)

/-- A contraction over the packed columns is the one over the columns. -/
theorem sum_packed (f g : Fin 4256 → EReal) : ∑ j, packed f j * packed g j = ∑ n, f n * g n := by
  refine (Finset.sum_of_injOn slot slot_injective.injOn (fun _ _ => Finset.mem_univ _) ?_ ?_).symm
  · intro j _ hj
    rw [packed_pad f j fun n e => hj ⟨n, Finset.mem_coe.mpr (Finset.mem_univ n), e⟩, zero_mul]
  · intro n _
    rw [packed_slot, packed_slot]

/-- Nine pieces laid end to end, as they are read. -/
theorem packed_eq (f : Fin 4256 → EReal) (j : Fin 4352) :
    (if h : j.val < 2560 then f ⟨416 + j.val, by omega⟩
    else if h : j.val - 2560 < 512 then f ⟨3744 + (j.val - 2560), by omega⟩
    else if h : j.val - 2560 - 512 < 384 then f ⟨j.val - 2560 - 512, by omega⟩
    else if h : j.val - 2560 - 512 - 384 < 64 then 0
    else if h : j.val - 2560 - 512 - 384 - 64 < 32 then f ⟨384 + (j.val - 2560 - 512 - 384 - 64), by omega⟩
    else if h : j.val - 2560 - 512 - 384 - 64 - 32 < 32 then 0
    else if h : j.val - 2560 - 512 - 384 - 64 - 32 - 32 < 512 then f ⟨2976 + (j.val - 2560 - 512 - 384 - 64 - 32 - 32), by omega⟩
    else if h : j.val - 2560 - 512 - 384 - 64 - 32 - 32 - 512 < 128 then
      f ⟨3488 + (j.val - 2560 - 512 - 384 - 64 - 32 - 32 - 512), by omega⟩
    else f ⟨3616 + (j.val - 2560 - 512 - 384 - 64 - 32 - 32 - 512 - 128), by omega⟩) = packed f j := by
  unfold packed
  split_ifs <;> first | (exfalso; omega) | exact congrArg f (Fin.ext (by dsimp only; omega)) | rfl

/-- Seven pieces cut out and laid end to end, as they are read. -/
theorem slot_eq (f : Fin 4352 → EReal) (n : Fin 4256) :
    (if h : n.val < 384 then f ⟨3072 + n.val, by omega⟩
    else if h : n.val - 384 < 32 then f ⟨3520 + (n.val - 384), by omega⟩
    else if h : n.val - 384 - 32 < 2560 then f ⟨n.val - 384 - 32, by omega⟩
    else if h : n.val - 384 - 32 - 2560 < 512 then f ⟨3584 + (n.val - 384 - 32 - 2560), by omega⟩
    else if h : n.val - 384 - 32 - 2560 - 512 < 128 then f ⟨4096 + (n.val - 384 - 32 - 2560 - 512), by omega⟩
    else if h : n.val - 384 - 32 - 2560 - 512 - 128 < 128 then f ⟨4224 + (n.val - 384 - 32 - 2560 - 512 - 128), by omega⟩
    else f ⟨2560 + (n.val - 384 - 32 - 2560 - 512 - 128 - 128), by omega⟩) = f (slot n) := by
  have e := slot_val n
  generalize slot n = k at e ⊢
  split_ifs at e <;> split_ifs <;> first | (exfalso; omega) | exact congrArg f (Fin.ext (by dsimp only; omega))

end Cert.Proof.Pack
-- ==== Proof.Norm.lean ====
/-
  The scale of a normed row.
-/
module

public import proofs.«01_k».proof.Proof.Split

@[expose] public section

noncomputable section

namespace Cert.Proof.Norm

open Idealize.ShloMosaic

/-- One over the root of the mean square, as the kernels take it. -/
def scale (x : Fin 1024 → EReal) : EReal :=
  Ideal.rsqrt ((∑ d, x d * x d) * Ideal.ofBits FTy.f32 0x3A800000#32 + Ideal.ofBits FTy.f32 0x358637BD#32)

theorem inv_width : Ideal.ofBits FTy.f32 0x3A800000#32 = ((1 / 1024 : ℝ) : EReal) := by
  simp [Ideal.ofBits, Ideal.ieee, -EReal.coe_mul]
  norm_num

theorem width : Ideal.ofBits FTy.f32 0x44800000#32 = ((1024 : ℝ) : EReal) := by
  simp [Ideal.ofBits, Ideal.ieee, -EReal.coe_mul]
  norm_num

/-- Dividing by the width is multiplying by its inverse, which is a power of two. -/
theorem div_width (s : EReal) : Ideal.div s (Ideal.ofBits FTy.f32 0x44800000#32) = s * Ideal.ofBits FTy.f32 0x3A800000#32 := by
  rw [width, inv_width, Ideal.div_coe (by norm_num)]

end Cert.Proof.Norm
-- ==== Proof.InFwd.lean ====
/-
  The input projection, forward: each row normed and projected onto the packed columns, and the columns put back in
  their places.
-/
module

public import proofs.«01_k».proof.Defs
public import proofs.«01_k».proof.Proof.Split
public import proofs.«01_k».proof.Proof.Pack
public import proofs.«01_k».proof.Proof.Norm
public import proofs.«01_k».proof.Proof.Gen.Kernel2
public import proofs.«01_k».proof.Proof.Gen.Kernel2Ideal.Frame
public import proofs.«01_k».proof.Proof.Gen.Reference2Ideal.Run

@[expose] public section

set_option maxRecDepth 65536

noncomputable section

namespace Cert.Proof.InFwd

open Idealize.ShloMosaic Idealize.ShloMosaic.TcCoe Idealize.SL.Sem
open Cert.Proof.Split Cert.Proof.Pack Cert.Proof.Norm

section Reference

open Cert.Reference2Ideal Cert.Reference2Ideal.Gen

def hostNorm (x : S8192x1024.Idx → EReal) (g : S1024.Idx → EReal) : S8192x1024.Idx → EReal :=
  mulf (F := Ideal) (φ := .f32) (mulf (F := Ideal) (φ := .f32) x (broadcastInDim S8192x1024 ![0, 1] bcast_S8192x1_S8192x1024_0_1 (Host.rsqrt (F := Ideal) (φ := .f32)
    (addf (Host.divf (broadcastInDim S8192x1 ![0] bcast_S8192_S8192x1_0 (Host.reduceAdd (mulf (F := Ideal) (φ := .f32) x x) (constant S_ .f32 0x00000000#32) reducesTo_S8192x1024_S8192_d1 h_S_))
      (broadcastInDim S8192x1 ![] bcast_S_S8192x1 (constant S_ .f32 0x44800000#32))) (broadcastInDim S8192x1 ![] bcast_S_S8192x1 (constant S_ .f32 0x358637BD#32))))))
    (broadcastInDim S8192x1024 ![0, 1] bcast_S1x1024_S8192x1024_0_1 (broadcastInDim S1x1024 ![1] bcast_S1024_S1x1024_1 g))

theorem hostNorm_apply (x : S8192x1024.Idx → EReal) (g : S1024.Idx → EReal) (R : Fin 8192) (d : Fin 1024) :
    hostNorm x g (ix2 R d) = x (ix2 R d) * scale (fun e => x (ix2 R e)) * g (ix1 d) := by
  unfold hostNorm scale
  pointwise
  rw [div_width]

theorem reference (x : S8192x1024.Idx → EReal) (g : S1024.Idx → EReal) (w : S1024x4256.Idx → EReal) (R : Fin 8192) (n : Fin 4256) :
    Host.dotGeneral (F := Ideal) (φ₁ := .f32) (φ₂ := .f32) dot_S8192x1024_S1024x4256_S8192x4256_1_0_0_1_n_n none (hostNorm x g) w (ix2 R n)
      = ∑ d : Fin 1024, x (ix2 R d) * scale (fun e => x (ix2 R e)) * g (ix1 d) * w (ix2 d n) := by
  have e : ∀ h : S8192x1024.Idx → EReal,
      Host.dotGeneral (F := Ideal) (φ₁ := .f32) (φ₂ := .f32) dot_S8192x1024_S1024x4256_S8192x4256_1_0_0_1_n_n none h w (ix2 R n)
        = ∑ d : Fin 1024, h (ix2 R d) * w (ix2 d n) := by
    intro h
    pointwise
  rw [e]
  simp only [hostNorm_apply]

end Reference

open Cert.Kernel2Ideal Cert.Kernel2Ideal.Gen

/-! ## The frames -/

theorem frame_ideal : Cert.quiescent_Kernel2Ideal := fun m ρ _ => Gen.frame (F := Ideal) m ρ

/-- The program as printed has the same kernel body, and so the same text. -/
theorem bodies : Cert.Kernel2.defs₀ (F := Bits) = defs₀ (F := Bits) := by
  unfold Cert.Kernel2.defs₀ defs₀
  refine congrArg Defs.onTc (funext fun l => funext fun a => ?_)
  match l with
  | 0 => rfl

theorem frame_kernel : Cert.quiescent_Kernel2 := fun m ρ _ => by
  rw [show Cert.Kernel2.defs (F := Bits) = defs (F := Bits) from congrArg (Pipeline.defs Cert.Kernel2.pcfgs) bodies]
  exact Gen.frame (F := Bits) m ρ

theorem frame_reference : Cert.quiescent_Reference2Ideal := fun m ρ _ =>
  (θ_run _ _ _).mono (fun r h => ⟨fun c => (h c).2, sem_eq_zero_of_no_sems (by decide) r.2⟩)
    (Cert.Reference2Ideal.Value.run (F := Ideal) m ρ)

/-! ## What a grid point leaves -/

theorem norm_apply (x0 : Vec Ideal S512x1024 .f32) (x1 : Vec Ideal S1x1024 .f32) (r : Fin 512) (d : Fin 1024) :
    k0_pay1 (F := Ideal) x0 x1 (ix2 r d) = x0 (ix2 r d) * scale (fun e => x0 (ix2 r e)) * x1 (ix2 0 d) := by
  unfold scale
  pointwise [k0_pay1]

theorem pay_apply (x0 : Vec Ideal S512x1024 .f32) (x1 : Vec Ideal S1x1024 .f32) (x2 : Vec Ideal S1024x4352 .bf16) (r : Fin 512) (j : Fin 4352) :
    k0_pay2 (F := Ideal) x0 x1 x2 (ix2 r j)
      = ∑ d : Fin 1024, x0 (ix2 r d) * scale (fun e => x0 (ix2 r e)) * x1 (ix2 0 d) * x2 (ix2 d j) := by
  have e : ∀ h : FVec Ideal S512x1024 .bf16, matmul (F := Ideal) (φ₁ := .bf16) (φ₂ := .bf16) dot_S512x1024_S1024x4352_S512x4352_1_0_0_1_n_n none h
      (shapeCast S1024x4352 x2 shapeCasts_S1024x4352_S1024x4352) (constant S512x4352 .f32 0x00000000#32) (ix2 r j)
        = ∑ d : Fin 1024, h (ix2 r d) * x2 (ix2 d j) := by
    intro h
    pointwise
  refine (e (k0_pay1 (F := Ideal) x0 x1)).trans (Finset.sum_congr rfl fun d _ => ?_)
  rw [norm_apply]

theorem out_apply (x0 : Vec Ideal S512x1024 .f32) (x1 : Vec Ideal S1x1024 .f32) (x2 : Vec Ideal S1024x4352 .bf16) (r : Fin 512) (j : Fin 4352) :
    out0_3 (F := Ideal) x0 x1 x2 (ix2 r j)
      = ∑ d : Fin 1024, x0 (ix2 r d) * scale (fun e => x0 (ix2 r e)) * x1 (ix2 0 d) * x2 (ix2 d j) := by
  unfold out0_3
  rw [View.canon_unit_zero zeros, View.ld_unit_zero zeros, View.ld_unit_zero zeros, View.ld_unit_zero zeros]
  exact pay_apply x0 x1 x2 r j

/-! ## The packing -/

theorem packing (w : S1024x4256.Idx → EReal) (d : Fin 1024) (j : Fin 4352) :
    transpose S1024x4352 [1, 0] (concatenate S4352x1024 0
      [⟨S2560x1024, extractStridedSlice S2560x1024 ![416, 0] (transpose S4256x1024 [1, 0] w transposes_S1024x4256_S4256x1024_1_0) slices_S4256x1024_S2560x1024_416_0⟩,
       ⟨S512x1024, extractStridedSlice S512x1024 ![3744, 0] (transpose S4256x1024 [1, 0] w transposes_S1024x4256_S4256x1024_1_0) slices_S4256x1024_S512x1024_3744_0⟩,
       ⟨S384x1024, extractStridedSlice S384x1024 ![0, 0] (transpose S4256x1024 [1, 0] w transposes_S1024x4256_S4256x1024_1_0) slices_S4256x1024_S384x1024_0_0⟩,
       ⟨S64x1024, broadcastInDim S64x1024 ![] bcast_S_S64x1024 (constant (F := Ideal) S_ .bf16 0x0000#16)⟩,
       ⟨S32x1024, extractStridedSlice S32x1024 ![384, 0] (transpose S4256x1024 [1, 0] w transposes_S1024x4256_S4256x1024_1_0) slices_S4256x1024_S32x1024_384_0⟩,
       ⟨S32x1024, broadcastInDim S32x1024 ![] bcast_S_S32x1024 (constant (F := Ideal) S_ .bf16 0x0000#16)⟩,
       ⟨S512x1024, extractStridedSlice S512x1024 ![2976, 0] (transpose S4256x1024 [1, 0] w transposes_S1024x4256_S4256x1024_1_0) slices_S4256x1024_S512x1024_2976_0⟩,
       ⟨S128x1024, extractStridedSlice S128x1024 ![3488, 0] (transpose S4256x1024 [1, 0] w transposes_S1024x4256_S4256x1024_1_0) slices_S4256x1024_S128x1024_3488_0⟩,
       ⟨S128x1024, extractStridedSlice S128x1024 ![3616, 0] (transpose S4256x1024 [1, 0] w transposes_S1024x4256_S4256x1024_1_0) slices_S4256x1024_S128x1024_3616_0⟩]
      concatenates_S2560x1024_S512x1024_S384x1024_S64x1024_S32x1024_S32x1024_S512x1024_S128x1024_S128x1024_S4352x1024_d0)
      transposes_S4352x1024_S1024x4352_1_0 (ix2 d j) = packed (fun n => w (ix2 d n)) j := by
  pointwise
  exact packed_eq (fun n => w (ix2 d n)) j

theorem unpacking (p : S8192x4352.Idx → EReal) (R : Fin 8192) (n : Fin 4256) :
    concatenate S8192x4256 1
      [⟨S8192x384, extractStridedSlice S8192x384 ![0, 3072] p slices_S8192x4352_S8192x384_0_3072⟩,
       ⟨S8192x32, extractStridedSlice S8192x32 ![0, 3520] p slices_S8192x4352_S8192x32_0_3520⟩,
       ⟨S8192x2560, extractStridedSlice S8192x2560 ![0, 0] p slices_S8192x4352_S8192x2560_0_0⟩,
       ⟨S8192x512, extractStridedSlice S8192x512 ![0, 3584] p slices_S8192x4352_S8192x512_0_3584⟩,
       ⟨S8192x128, extractStridedSlice S8192x128 ![0, 4096] p slices_S8192x4352_S8192x128_0_4096⟩,
       ⟨S8192x128, extractStridedSlice S8192x128 ![0, 4224] p slices_S8192x4352_S8192x128_0_4224⟩,
       ⟨S8192x512, extractStridedSlice S8192x512 ![0, 2560] p slices_S8192x4352_S8192x512_0_2560⟩]
      concatenates_S8192x384_S8192x32_S8192x2560_S8192x512_S8192x128_S8192x128_S8192x512_S8192x4256_d1 (ix2 R n) = p (ix2 R (slot n)) := by
  pointwise
  exact slot_eq (fun j => p (ix2 R j)) n

/-! ## The blocks -/

variable (m : (ℓ : Loc nD τ sig) → Buf (Elt Ideal) ℓ) (c : Dev nD)

/-- The rows, the norm's weights and the projection's. -/
abbrev X : S8192x1024.Idx → EReal := m ((c : Thread nD τ).loc main_arg0)
abbrev G : S1024.Idx → EReal := m ((c : Thread nD τ).loc main_arg1)
abbrev W : S1024x4256.Idx → EReal := m ((c : Thread nD τ).loc main_arg2)

theorem V_g (d : Fin 1024) : V m c main_v0 (ix2 0 d) = G m c (ix1 d) := by
  have e : V m c main_v0 = shapeCast S1x1024 (G m c) shapeCasts_S1024_S1x1024 := by
    show StableHlo.after hostOps0 (fun b => m (c, b)) main_v0 = _
    simp only [hostOps0]
    after_results_simp
    rfl
  rw [e]
  pointwise

theorem V_w (d : Fin 1024) (j : Fin 4352) : V m c main_v13 (ix2 d j) = packed (fun n => W m c (ix2 d n)) j := by
  refine Eq.trans ?_ (packing (W m c) d j)
  refine congrFun ?_ (ix2 d j)
  show StableHlo.after hostOps0 (fun b => m (c, b)) main_v13 = _
  simp only [hostOps0]
  after_results_simp
  rfl

theorem points (t : Fin cfg0.N) : t.val < 16 := by
  have : cfg0.N = 16 := by decide +kernel
  omega

/-- Row `r` of the block of point `t`. -/
def row (t : Fin cfg0.N) (r : Fin 512) : Fin 8192 := ⟨512 * t.val + r.val, by have := points t; omega⟩

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)

theorem blk0 (t : Fin cfg0.N) (r : Fin 512) (d : Fin 1024) : iblk m c 0 t (ix2 r d) = X m c (ix2 (row t r) d) := by
  rw [show X m c = V m c main_arg0 from (V_main_arg0 m c).symm]
  blk_simp [iblk]
  congr 1
  blk_ext [idx0, row]

theorem blk1 (t : Fin cfg0.N) (d : Fin 1024) : iblk m c 1 t (ix2 0 d) = G m c (ix1 d) := by
  rw [← V_g]
  blk_simp [iblk]
  congr 1
  blk_ext [idx1]

theorem blk2 (t : Fin cfg0.N) (d : Fin 1024) (j : Fin 4352) : iblk m c 2 t (ix2 d j) = packed (fun n => W m c (ix2 d n)) j := by
  rw [← V_w]
  blk_simp [iblk]
  congr 1
  blk_ext [idx2]

theorem emb3 (t : Fin cfg0.N) (r : Fin 512) (j : Fin 4352) : (win0_3.blk t).view.emb (ix2 r j) = ix2 (row t r) j := by
  blk_ext [idx3, row]

/-! ## The result -/

/-- A row's projection onto a column. -/
def proj (x : S8192x1024.Idx → EReal) (g : S1024.Idx → EReal) (w : Fin 1024 → EReal) (R : Fin 8192) : EReal :=
  ∑ d : Fin 1024, x (ix2 R d) * scale (fun e => x (ix2 R e)) * g (ix1 d) * w d

def packedRes : S8192x4352.Idx → EReal :=
  fun z => proj (X m c) (G m c) (fun d => packed (fun n => W m c (ix2 d n)) (z 1)) (z 0)

def res (x : S8192x1024.Idx → EReal) (g : S1024.Idx → EReal) (w : S1024x4256.Idx → EReal) : S8192x4256.Idx → EReal :=
  fun z => proj x g (fun d => w (ix2 d (z 1))) (z 0)

theorem final3 : (dats m 0 c).arrAt 3 cfg0.N = packedRes m c := by
  refine (dats m 0 c).arrAt_eq_of_covers 3 _ (by decide +kernel) fun t hf y => ?_
  blk_simp
  rw [after0_3]
  idx_vars y
  refine Eq.trans ?_ (congrArg (packedRes m c) (emb3 t y0 y1)).symm
  refine (out_apply _ _ _ y0 y1).trans ?_
  simp only [blk0, blk1, blk2]
  rfl

abbrev exit : Valuation τ sig (Elt Ideal) := Pipeline.withArrays spec0 c (V0 m c) fun w => (dats m 0 c).arrAt w cfg0.N

theorem exit3 : exit m c (Proc.devRef .tc main_v14_0) = packedRes m c :=
  (Pipeline.withArrays_arr spec0 (by decide) c (V0 m c) (fun w => (dats m 0 c).arrAt w cfg0.N) 3).trans (final3 m c)

theorem tail (Z : Valuation τ sig (Elt Ideal)) (R : Fin 8192) (n : Fin 4256) :
    (StableHlo.after hostOps1 Z (Proc.devRef .tc main_v22) : S8192x4256.Idx → EReal) (ix2 R n)
      = (Z (Proc.devRef .tc main_v14_0) : S8192x4352.Idx → EReal) (ix2 R (slot n)) := by
  refine Eq.trans ?_ (unpacking (Z (Proc.devRef .tc main_v14_0)) R n)
  refine congrFun ?_ (ix2 R n)
  simp only [hostOps1]
  after_results_simp
  rfl

theorem out : Pipeline.afterTail₀ cfgs (dats m) 0 (V0 m) [hostOps1] c main_v22 = res (X m c) (G m c) (W m c) := by
  funext z
  idx_vars z
  refine (tail (exit m c) z0 z1).trans ((congrFun (exit3 m c) (ix2 z0 (slot z1))).trans ?_)
  show proj (X m c) (G m c) (fun d => packed (fun n => W m c (ix2 d n)) (slot z1)) z0 = proj (X m c) (G m c) (fun d => W m c (ix2 d z1)) z0
  simp only [packed_slot]

theorem run_value (ρ : Dev nD → PrngReg) : θ_run defs (onTc (τ := τ) (main (F := Ideal))) ⟨m, fun _ => 0, ρ⟩ (fun r => ∀ c : Dev nD,
      r.2.mem ((c.tc : Thread nD τ).loc main_v22) = res (X m c) (G m c) (W m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨
      ((h.1 c).2 main_v22 (Pipeline.mem_restRefs_of main_v22 (by decide) (by decide))).trans (out m c), h.2 c⟩)
    (θ_run_and (run_main m ρ) (unchanged m ρ))

theorem algebraic : Cert.algebraic_Kernel2Ideal_Reference2Ideal := by
  intro m g m' g' h e
  refine ⟨fun c => res (X m c) (G m c) (W m c), run_value m g, ?_⟩
  refine (θ_run _ _ _).mono (fun _ r c => ⟨(r c).1.trans ?_, (r c).2⟩)
    (Cert.Reference2Ideal.Value.run (F := Ideal) m' g')
  rw [(e c).1, (e c).2.1, (e c).2.2]
  funext z
  idx_vars z
  exact reference (X m c) (G m c) (W m c) z0 z1

end Cert.Proof.InFwd
-- ==== Proof.InBwdW.lean ====
/-
  The gradient of the input projection's weights: the normed rows against the cotangent in the packed columns,
  accumulated over the row blocks for each half of the columns.
-/
module

public import proofs.«01_k».proof.Defs
public import proofs.«01_k».proof.Proof.Split
public import proofs.«01_k».proof.Proof.Pack
public import proofs.«01_k».proof.Proof.Gen.Kernel3
public import proofs.«01_k».proof.Proof.Gen.Kernel3Ideal.Frame
public import proofs.«01_k».proof.Proof.Gen.Reference3Ideal.Run

@[expose] public section

set_option maxRecDepth 65536

noncomputable section

namespace Cert.Proof.InBwdW

open Cert.Kernel3Ideal Cert.Kernel3Ideal.Gen
open Idealize.ShloMosaic Idealize.ShloMosaic.TcCoe Idealize.SL.Sem
open Cert.Proof.Split Cert.Proof.Pack

/-! ## The frames -/

theorem frame_ideal : Cert.quiescent_Kernel3Ideal := fun m ρ _ => Gen.frame (F := Ideal) m ρ

/-- The program as printed has the same kernel body, and so the same text. -/
theorem bodies : Cert.Kernel3.defs₀ (F := Bits) = defs₀ (F := Bits) := by
  unfold Cert.Kernel3.defs₀ defs₀
  refine congrArg Defs.onTc (funext fun l => funext fun a => ?_)
  match l with
  | 0 => rfl

theorem frame_kernel : Cert.quiescent_Kernel3 := fun m ρ _ => by
  rw [show Cert.Kernel3.defs (F := Bits) = defs (F := Bits) from congrArg (Pipeline.defs Cert.Kernel3.pcfgs) bodies]
  exact Gen.frame (F := Bits) m ρ

theorem frame_reference : Cert.quiescent_Reference3Ideal := fun m ρ _ =>
  (θ_run _ _ _).mono (fun r h => ⟨fun c => (h c).2, sem_eq_zero_of_no_sems (by decide) r.2⟩)
    (Cert.Reference3Ideal.Value.run (F := Ideal) m ρ)

/-! ## The packing -/

theorem packing (g : S8192x4256.Idx → EReal) (R : Fin 8192) (j : Fin 4352) :
    transpose S8192x4352 [1, 0] (concatenate S4352x8192 0
      [⟨S2560x8192, extractStridedSlice S2560x8192 ![416, 0] (transpose S4256x8192 [1, 0] g transposes_S8192x4256_S4256x8192_1_0) slices_S4256x8192_S2560x8192_416_0⟩,
       ⟨S512x8192, extractStridedSlice S512x8192 ![3744, 0] (transpose S4256x8192 [1, 0] g transposes_S8192x4256_S4256x8192_1_0) slices_S4256x8192_S512x8192_3744_0⟩,
       ⟨S384x8192, extractStridedSlice S384x8192 ![0, 0] (transpose S4256x8192 [1, 0] g transposes_S8192x4256_S4256x8192_1_0) slices_S4256x8192_S384x8192_0_0⟩,
       ⟨S64x8192, broadcastInDim S64x8192 ![] bcast_S_S64x8192 (constant (F := Ideal) S_ .f32 0x00000000#32)⟩,
       ⟨S32x8192, extractStridedSlice S32x8192 ![384, 0] (transpose S4256x8192 [1, 0] g transposes_S8192x4256_S4256x8192_1_0) slices_S4256x8192_S32x8192_384_0⟩,
       ⟨S32x8192, broadcastInDim S32x8192 ![] bcast_S_S32x8192 (constant (F := Ideal) S_ .f32 0x00000000#32)⟩,
       ⟨S512x8192, extractStridedSlice S512x8192 ![2976, 0] (transpose S4256x8192 [1, 0] g transposes_S8192x4256_S4256x8192_1_0) slices_S4256x8192_S512x8192_2976_0⟩,
       ⟨S128x8192, extractStridedSlice S128x8192 ![3488, 0] (transpose S4256x8192 [1, 0] g transposes_S8192x4256_S4256x8192_1_0) slices_S4256x8192_S128x8192_3488_0⟩,
       ⟨S128x8192, extractStridedSlice S128x8192 ![3616, 0] (transpose S4256x8192 [1, 0] g transposes_S8192x4256_S4256x8192_1_0) slices_S4256x8192_S128x8192_3616_0⟩]
      concatenates_S2560x8192_S512x8192_S384x8192_S64x8192_S32x8192_S32x8192_S512x8192_S128x8192_S128x8192_S4352x8192_d0)
      transposes_S4352x8192_S8192x4352_1_0 (ix2 R j) = packed (fun n => g (ix2 R n)) j := by
  pointwise
  exact packed_eq (fun n => g (ix2 R n)) j

theorem unpacking (p : S1024x4352.Idx → EReal) (a : Fin 1024) (n : Fin 4256) :
    concatenate S1024x4256 1
      [⟨S1024x384, extractStridedSlice S1024x384 ![0, 3072] p slices_S1024x4352_S1024x384_0_3072⟩,
       ⟨S1024x32, extractStridedSlice S1024x32 ![0, 3520] p slices_S1024x4352_S1024x32_0_3520⟩,
       ⟨S1024x2560, extractStridedSlice S1024x2560 ![0, 0] p slices_S1024x4352_S1024x2560_0_0⟩,
       ⟨S1024x512, extractStridedSlice S1024x512 ![0, 3584] p slices_S1024x4352_S1024x512_0_3584⟩,
       ⟨S1024x128, extractStridedSlice S1024x128 ![0, 4096] p slices_S1024x4352_S1024x128_0_4096⟩,
       ⟨S1024x128, extractStridedSlice S1024x128 ![0, 4224] p slices_S1024x4352_S1024x128_0_4224⟩,
       ⟨S1024x512, extractStridedSlice S1024x512 ![0, 2560] p slices_S1024x4352_S1024x512_0_2560⟩]
      concatenates_S1024x384_S1024x32_S1024x2560_S1024x512_S1024x128_S1024x128_S1024x512_S1024x4256_d1 (ix2 a n) = p (ix2 a (slot n)) := by
  pointwise
  exact slot_eq (fun j => p (ix2 a j)) n

/-! ## What a grid point leaves -/

section Bodies

variable (c : Dev nD) (i : grid0.Coords) (a2 : Memref sig .tc .vmem S1024x1024 .bf16) (h2 : a2.IsWhole)
  (a3 : Memref sig .tc .vmem S1024x2176 .bf16) (h3 : a3.IsWhole) (a4 : Memref sig .tc .vmem S1024x2176 .bf16) (h4 : a4.IsWhole)
  (a5 : Memref sig .tc .vmem S1024x2176 .f32) (h5 : a5.IsWhole)
  (x0 : Vec Ideal S1024x1024 .bf16) (x1 : Vec Ideal S1024x2176 .bf16) (xs : Vec Ideal S1024x2176 .f32)

theorem first_acc (hc0 : cond0_0 i) (hc1 : ¬cond0_1 i) :
    sout0_A_0 c i a2 h2 a3 h3 a4 h4 a5 h5 hc0 hc1 x0 x1 = k0_pay2 (k0_pay1 (F := Ideal)) x0 x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1024x2176) zeros, View.readCov_unit_zero (S := S1024x2176) _ zeros]
  simp only [View.readAt_eq_ld, h2.read_unread, h3.read_unread, View.ld_unit_zero (S := S1024x1024) zeros, View.ld_unit_zero (S := S1024x2176) zeros]

theorem next_acc (hc0 : ¬cond0_0 i) (hc1 : ¬cond0_1 i) :
    sout0_B_0 c i a2 h2 a3 h3 a4 h4 a5 h5 hc0 hc1 x0 x1 xs = k0_pay2 xs x0 x1 := by
  unfold sout0_B_0
  rw [View.read_writes_eq_canon _ _ _ (scover0_B_0 c i a2 h2 a3 h3 a4 h4 a5 h5 hc0 hc1 x0 x1 xs)]
  unfold kernelRun0_B
  dsimp only
  rw [View.canon_unit_zero zeros]
  simp only [View.readAt_eq_ld, h2.read_unread, h3.read_unread, h5.read_unread, View.ld_unit_zero (S := S1024x1024) zeros, View.ld_unit_zero (S := S1024x2176) zeros]

theorem last_acc (hc0 : ¬cond0_0 i) (hc1 : cond0_1 i) :
    sout0_C_0 c i a2 h2 a3 h3 a4 h4 a5 h5 hc0 hc1 x0 x1 xs = k0_pay2 xs x0 x1 := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero zeros]
  simp only [View.readAt_eq_ld, h2.read_unread, h3.read_unread, h5.read_unread, View.ld_unit_zero (S := S1024x1024) zeros, View.ld_unit_zero (S := S1024x2176) zeros]

theorem last_out (hc0 : ¬cond0_0 i) (hc1 : cond0_1 i) :
    out0_C_2 c i a2 h2 a3 h3 a4 h4 a5 h5 hc0 hc1 x0 x1 xs = k0_pay3 (k0_pay2 xs x0 x1) := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero zeros, View.readCov_unit_zero (S := S1024x2176) _ zeros]
  simp only [View.readAt_eq_ld, h2.read_unread, h3.read_unread, h5.read_unread, View.ld_unit_zero (S := S1024x1024) zeros, View.ld_unit_zero (S := S1024x2176) zeros]

theorem acc_apply (a : Fin 1024) (q : Fin 2176) :
    k0_pay2 (F := Ideal) xs x0 x1 (ix2 a q) = xs (ix2 a q) + ∑ r : Fin 1024, x0 (ix2 r a) * x1 (ix2 r q) := by
  pointwise [k0_pay2]

theorem start_apply (a : Fin 1024) (q : Fin 2176) : k0_pay1 (F := Ideal) (ix2 a q) = 0 := by
  pointwise [k0_pay1]

end Bodies

/-! ## The blocks -/

variable (m : (ℓ : Loc nD τ sig) → Buf (Elt Ideal) ℓ) (c : Dev nD)

/-- The normed rows and the packed cotangent. -/
abbrev H : S8192x1024.Idx → EReal := V m c main_v13
abbrev D : S8192x4352.Idx → EReal := V m c main_v26

theorem points (t : Fin cfg0.N) : t.val < 16 := by
  have : cfg0.N = 16 := by decide +kernel
  omega

/-- Row `r` of row block `s`, and column `q` of column block `j`. -/
def row (s : ℕ) (r : Fin 1024) : Fin 8192 := ⟨(1024 * s + r.val) % 8192, by omega⟩
def col (j : ℕ) (q : Fin 2176) : Fin 4352 := ⟨(2176 * j + q.val) % 4352, by omega⟩

theorem idx0 : ∀ t : Fin cfg0.N, win0_0.index t = ![t.val % 8, 0] := (by decide +kernel : ∀ t : Fin grid0.N, _)
theorem idx1 : ∀ t : Fin cfg0.N, win0_1.index t = ![t.val % 8, t.val / 8] := (by decide +kernel : ∀ t : Fin grid0.N, _)
theorem idx2 : ∀ t : Fin cfg0.N, win0_2.index t = ![0, t.val / 8] := (by decide +kernel : ∀ t : Fin grid0.N, _)

theorem blk0 (t : Fin cfg0.N) (r a : Fin 1024) : iblk m c 0 t (ix2 r a) = H m c (ix2 (row (t.val % 8) r) a) := by
  have := points t
  blk_simp [iblk]
  congr 1
  blk_ext [idx0, row]

theorem blk1 (t : Fin cfg0.N) (r : Fin 1024) (q : Fin 2176) : iblk m c 1 t (ix2 r q) = D m c (ix2 (row (t.val % 8) r) (col (t.val / 8) q)) := by
  have := points t
  blk_simp [iblk]
  congr 1
  blk_ext [idx1, row, col]

theorem emb2 (t : Fin cfg0.N) (a : Fin 1024) (q : Fin 2176) : (win0_2.blk t).view.emb (ix2 a q) = ix2 a (col (t.val / 8) q) := by
  have := points t
  blk_ext [idx2, col]

/-! ## The accumulation -/

/-- What row block `s` adds to an entry. -/
def part (s : ℕ) (a : Fin 1024) (j : Fin 4352) : EReal := ∑ r : Fin 1024, H m c (ix2 (row s r) a) * D m c (ix2 (row s r) j)

theorem acc_at (t : Fin cfg0.N) (xs : S1024x2176.Idx → EReal) (a : Fin 1024) (q : Fin 2176) :
    k0_pay2 (F := Ideal) xs (iblk m c 0 t) (iblk m c 1 t) (ix2 a q) = xs (ix2 a q) + part m c (t.val % 8) a (col (t.val / 8) q) := by
  rw [part, acc_apply]
  simp only [blk0, blk1]

theorem acc_zero (t : Fin cfg0.N) (h : t.val % 8 = 0) (a : Fin 1024) (q : Fin 2176) :
    (outsAt0 m c t.val t.isLt).2 (ix2 a q) = part m c 0 a (col (t.val / 8) q) := by
  rw [outsAt0_A m c t h (by omega)]
  dsimp only
  rw [first_acc, acc_at, start_apply, zero_add, h]

theorem acc_succ (t : Fin cfg0.N) (h : t.val % 8 ≠ 0) (a : Fin 1024) (q : Fin 2176) :
    (outsAt0 m c t.val t.isLt).2 (ix2 a q)
      = (outsAt0 m c (t.val - 1) (Nat.lt_of_le_of_lt (Nat.sub_le _ _) t.isLt)).2 (ix2 a q) + part m c (t.val % 8) a (col (t.val / 8) q) := by
  by_cases hl : t.val % 8 = 7
  · rw [outsAt0_C m c t h hl]
    dsimp only
    rw [last_acc, acc_at]
  · rw [outsAt0_B m c t h hl]
    dsimp only
    rw [next_acc, acc_at]

theorem acc_eq (a : Fin 1024) (q : Fin 2176) : ∀ (n : ℕ) (h : n < cfg0.N),
    (outsAt0 m c n h).2 (ix2 a q) = ∑ s ∈ Finset.range (n % 8 + 1), part m c s a (col (n / 8) q)
  | 0, h => by
    rw [Finset.sum_range_one]
    exact acc_zero m c ⟨0, h⟩ rfl a q
  | n + 1, h => by
    by_cases h0 : (n + 1) % 8 = 0
    · rw [h0, Finset.sum_range_one]
      exact acc_zero m c ⟨n + 1, h⟩ h0 a q
    · rw [Finset.sum_range_succ, show (n + 1) % 8 = n % 8 + 1 by omega, show (n + 1) / 8 = n / 8 by omega, ← acc_eq a q n (by omega)]
      refine (acc_succ m c ⟨n + 1, h⟩ h0 a q).trans ?_
      dsimp only
      rw [show (n + 1) % 8 = n % 8 + 1 by omega, show (n + 1) / 8 = n / 8 by omega]
      rfl

/-! ## The result -/

/-- The rows against the cotangent, whatever they are. -/
def cross {K : ℕ} (h : Fin 8192 → Fin 1024 → EReal) (g : Fin 8192 → Fin K → EReal) (a : Fin 1024) (j : Fin K) : EReal :=
  ∑ R : Fin 8192, h R a * g R j

abbrev packedRes : S1024x4352.Idx → EReal :=
  fun z => cross (fun R a => H m c (ix2 R a)) (fun R j => D m c (ix2 R j)) (z 0) (z 1)

theorem total (a : Fin 1024) (j : Fin 4352) : ∑ s ∈ Finset.range 8, part m c s a j = packedRes m c (ix2 a j) := by
  refine sum_range_blocks 8 1024 (by norm_num) (fun R : Fin 8192 => H m c (ix2 R a) * D m c (ix2 R j)) _ fun t => ?_
  refine Finset.sum_congr rfl fun r _ => ?_
  have e : row t.val r = ⟨1024 * t.val + r.val, by omega⟩ := Fin.ext (Nat.mod_eq_of_lt (by omega))
  rw [e]

theorem final2 : (dats m 0 c).arrAt 2 cfg0.N = packedRes m c := by
  refine (dats m 0 c).arrAt_eq_of_covers 2 _ (by decide +kernel) fun t hf y => ?_
  blk_simp
  rw [after0_2]
  idx_vars y
  refine Eq.trans ?_ (congrArg (packedRes m c) (emb2 t y0 y1)).symm
  have hl := (flush0_2 t).mp hf
  rw [outsAt0_C m c t (by omega) hl]
  dsimp only
  rw [last_out]
  refine Eq.trans (acc_at m c t _ y0 y1) ?_
  rw [acc_eq, ← total, show (t.val - 1) % 8 + 1 = 7 by omega, show (t.val - 1) / 8 = t.val / 8 by omega, hl]
  exact (Finset.sum_range_succ (fun s => part m c s y0 (col (t.val / 8) y1)) 7).symm

/-! ## The host's arrays -/

/-- The rows, the norm's weights and the cotangent. -/
abbrev X : S8192x1024.Idx → EReal := m ((c : Thread nD τ).loc main_arg0)
abbrev G : S1024.Idx → EReal := m ((c : Thread nD τ).loc main_arg1)
abbrev C : S8192x4256.Idx → EReal := m ((c : Thread nD τ).loc main_arg3)

/-- The normed rows as the host computes them. -/
def hostNorm (x : S8192x1024.Idx → EReal) (g : S1024.Idx → EReal) : S8192x1024.Idx → EReal :=
  mulf (F := Ideal) (φ := .f32) (mulf (F := Ideal) (φ := .f32) x (broadcastInDim S8192x1024 ![0, 1] bcast_S8192x1_S8192x1024_0_1 (Host.rsqrt (F := Ideal) (φ := .f32)
    (addf (Host.divf (broadcastInDim S8192x1 ![0] bcast_S8192_S8192x1_0 (Host.reduceAdd (mulf (F := Ideal) (φ := .f32) x x) (constant S_ .f32 0x00000000#32) reducesTo_S8192x1024_S8192_d1 h_S_))
      (broadcastInDim S8192x1 ![] bcast_S_S8192x1 (constant S_ .f32 0x44800000#32))) (broadcastInDim S8192x1 ![] bcast_S_S8192x1 (constant S_ .f32 0x358637BD#32))))))
    (broadcastInDim S8192x1024 ![0, 1] bcast_S1x1024_S8192x1024_0_1 (broadcastInDim S1x1024 ![1] bcast_S1024_S1x1024_1 g))

theorem V_h : H m c = hostNorm (X m c) (G m c) := by
  show StableHlo.after hostOps0 (fun b => m (c, b)) main_v13 = _
  simp only [hostOps0]
  after_results_simp
  rfl

theorem V_d (R : Fin 8192) (j : Fin 4352) : D m c (ix2 R j) = packed (fun n => C m c (ix2 R n)) j := by
  refine Eq.trans ?_ (packing (C m c) R j)
  refine congrFun ?_ (ix2 R j)
  show StableHlo.after hostOps0 (fun b => m (c, b)) main_v26 = _
  simp only [hostOps0]
  after_results_simp
  rfl

def res (x : S8192x1024.Idx → EReal) (g : S1024.Idx → EReal) (d : S8192x4256.Idx → EReal) : S1024x4256.Idx → EReal :=
  fun z => cross (fun R a => hostNorm x g (ix2 R a)) (fun R n => d (ix2 R n)) (z 0) (z 1)

/-! ## The run -/

abbrev exit : Valuation τ sig (Elt Ideal) := Pipeline.withArrays spec0 c (V0 m c) fun w => (dats m 0 c).arrAt w cfg0.N

theorem exit2 : exit m c (Proc.devRef .tc main_v27) = packedRes m c :=
  (Pipeline.withArrays_arr spec0 (by decide) c (V0 m c) (fun w => (dats m 0 c).arrAt w cfg0.N) 2).trans (final2 m c)

theorem tail (Z : Valuation τ sig (Elt Ideal)) (a : Fin 1024) (n : Fin 4256) :
    (StableHlo.after hostOps1 Z (Proc.devRef .tc main_v36) : S1024x4256.Idx → EReal) (ix2 a n)
      = (Z (Proc.devRef .tc main_v27) : S1024x4352.Idx → EReal) (ix2 a (slot n)) := by
  refine Eq.trans ?_ (unpacking (Z (Proc.devRef .tc main_v27)) a n)
  refine congrFun ?_ (ix2 a n)
  simp only [hostOps1]
  after_results_simp
  rfl

theorem out : Pipeline.afterTail₀ cfgs (dats m) 0 (V0 m) [hostOps1] c main_v36 = res (X m c) (G m c) (C m c) := by
  funext z
  idx_vars z
  refine (tail (exit m c) z0 z1).trans ((congrFun (exit2 m c) (ix2 z0 (slot z1))).trans ?_)
  show (∑ R : Fin 8192, H m c (ix2 R z0) * D m c (ix2 R (slot z1)))
    = ∑ R : Fin 8192, hostNorm (X m c) (G m c) (ix2 R z0) * C m c (ix2 R z1)
  refine Finset.sum_congr rfl fun R _ => ?_
  rw [V_d, packed_slot, V_h]

theorem run_value (ρ : Dev nD → PrngReg) : θ_run defs (onTc (τ := τ) (main (F := Ideal))) ⟨m, fun _ => 0, ρ⟩ (fun r => ∀ c : Dev nD,
      r.2.mem ((c.tc : Thread nD τ).loc main_v36) = res (X m c) (G m c) (C m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      ((h.1 c).2 main_v36 (Pipeline.mem_restRefs_of main_v36 (by decide) (by decide))).trans (out m c), h.2 c⟩)
    (θ_run_and (run_main m ρ) (unchanged m ρ))

/-! ## The reference -/

section Reference

open Cert.Reference3Ideal Cert.Reference3Ideal.Gen

theorem reference (h : Cert.Reference3Ideal.S8192x1024.Idx → EReal) (d : Cert.Reference3Ideal.S8192x4256.Idx → EReal) :
    transpose Cert.Reference3Ideal.S1024x4256 [1, 0] (Host.dotGeneral (F := Ideal) (φ₁ := .f32) (φ₂ := .f32)
      dot_S8192x4256_S8192x1024_S4256x1024_0_0_1_1_n_n none d h) transposes_S4256x1024_S1024x4256_1_0
      = fun z => cross (fun R a => h (ix2 R a)) (fun R n => d (ix2 R n)) (z 0) (z 1) := by
  funext z
  idx_vars z
  pointwise [cross]
  exact Finset.sum_congr rfl fun R _ => mul_comm _ _

end Reference

theorem algebraic : Cert.algebraic_Kernel3Ideal_Reference3Ideal := by
  intro m g m' g' h e
  refine ⟨fun c => res (X m c) (G m c) (C m c), run_value m g, ?_⟩
  refine (θ_run _ _ _).mono (fun _ r c => ⟨(r c).1.trans ((reference _ _).trans ?_), (r c).2⟩)
    (Cert.Reference3Ideal.Value.run (F := Ideal) m' g')
  rw [(e c).1, (e c).2.1, (e c).2.2.2]
  rfl

end Cert.Proof.InBwdW
-- ==== Proof.NormBwd.lean ====
/-
  The gradient of a row's norm, over real numbers: the form the kernel computes and the form of the reference are the
  same number.
-/
module

public import proofs.«01_k».proof.Proof.Norm
public import proofs.«01_k».proof.Proof.Reals

@[expose] public section

noncomputable section

namespace Cert.Proof.NormBwd

open Idealize.ShloMosaic Cert.Proof.Norm Cert.Proof.Softmax

/-- The gradient of entry `d` of a row `x` whose scaled entries have gradients `y`, added to `a`, as the kernel computes it. -/
def centred (x y : Fin 1024 → EReal) (a : EReal) (d : Fin 1024) : EReal :=
  a + Norm.scale x * (y d - x d * Norm.scale x * ((∑ e, y e * (x e * Norm.scale x)) * Ideal.ofBits FTy.f32 0x3A800000#32))

/-- A row's mean square. -/
def square (x : Fin 1024 → EReal) : EReal :=
  (∑ d, x d * x d) * Ideal.ofBits FTy.f32 0x3A800000#32 + Ideal.ofBits FTy.f32 0x358637BD#32

/-- The gradient of the mean square, halved. -/
def slope (x y : Fin 1024 → EReal) : EReal :=
  (∑ e, x e * y e) * (Ideal.ofBits FTy.f32 0xBF000000#32 * Ideal.div (Norm.scale x) (square x)) * Ideal.ofBits FTy.f32 0x3A800000#32

/-- The same gradient with the scale's own gradient apart, as the reference has it. -/
def chained (x y : Fin 1024 → EReal) (a : EReal) (d : Fin 1024) : EReal :=
  a + y d * Norm.scale x + x d * slope x y + slope x y * x d

theorem half : Ideal.ofBits FTy.f32 0xBF000000#32 = ((-1 / 2 : ℝ) : EReal) := by
  simp [Ideal.ofBits, Ideal.ieee, -EReal.coe_mul]
  norm_num

theorem small : ∃ e : ℝ, 0 < e ∧ Ideal.ofBits FTy.f32 0x358637BD#32 = ((e : ℝ) : EReal) := by
  refine ⟨(Ideal.ofBits FTy.f32 0x358637BD#32).toReal, ?_, (EReal.coe_toReal ?_ ?_).symm⟩ <;>
    simp [Ideal.ofBits, Ideal.ieee, -EReal.coe_mul]

/-- On rows of real numbers the mean square is a positive real number and the scale one over its root. -/
theorem real_scale (x : Fin 1024 → ℝ) : ∃ v : ℝ, 0 < v ∧ square (fun d => ((x d : ℝ) : EReal)) = ((v : ℝ) : EReal)
    ∧ Norm.scale (fun d => ((x d : ℝ) : EReal)) = (((Real.sqrt v)⁻¹ : ℝ) : EReal) := by
  obtain ⟨e, he, es⟩ := small
  have hs : square (fun d => ((x d : ℝ) : EReal)) = (((∑ d, x d * x d) * (1 / 1024) + e : ℝ) : EReal) := by
    unfold square
    rw [es, inv_width]
    simp only [← EReal.coe_mul, coe_sum, ← EReal.coe_add]
  have hv : 0 < (∑ d, x d * x d) * (1 / 1024) + e := by
    have : 0 ≤ ∑ d, x d * x d := Finset.sum_nonneg fun d _ => mul_self_nonneg _
    positivity
  refine ⟨_, hv, hs, ?_⟩
  show Ideal.rsqrt (square fun d => ((x d : ℝ) : EReal)) = _
  rw [hs, Ideal.rsqrt_coe, if_neg (not_lt.mpr hv.le), if_neg hv.ne']

theorem centred_eq (x y : Fin 1024 → ℝ) (a : ℝ) (d : Fin 1024) :
    centred (fun e => ((x e : ℝ) : EReal)) (fun e => ((y e : ℝ) : EReal)) ((a : ℝ) : EReal) d
      = chained (fun e => ((x e : ℝ) : EReal)) (fun e => ((y e : ℝ) : EReal)) ((a : ℝ) : EReal) d := by
  obtain ⟨v, hv, hs, hr⟩ := real_scale x
  unfold centred chained slope
  rw [hs, hr, half, inv_width, Ideal.div_coe hv.ne']
  simp only [← EReal.coe_mul, coe_sum, ← EReal.coe_add, ← EReal.coe_sub]
  refine congrArg (fun r : ℝ => (r : EReal)) ?_
  have hq : (Real.sqrt v)⁻¹ * (Real.sqrt v)⁻¹ = 1 / v := by
    rw [← mul_inv, Real.mul_self_sqrt hv.le, one_div]
  generalize (Real.sqrt v)⁻¹ = s at hq ⊢
  have hsum : ∑ e, y e * (x e * s) = (∑ e, x e * y e) * s := by
    rw [Finset.sum_mul]
    exact Finset.sum_congr rfl fun e _ => by ring
  rw [hsum, ← hq]
  ring

end Cert.Proof.NormBwd
-- ==== Proof.InBwdX.lean ====
/-
  The gradient of the input projection's rows: the cotangent in the packed columns against the packed weights, and
  back through the norm; with the gradient of the norm's weights, accumulated over the row blocks.
-/
module

public import proofs.«01_k».proof.Defs
public import proofs.«01_k».proof.Proof.Split
public import proofs.«01_k».proof.Proof.Pack
public import proofs.«01_k».proof.Proof.NormBwd
public import proofs.«01_k».proof.Proof.Finite
public import proofs.«01_k».proof.Proof.Gen.Kernel4
public import proofs.«01_k».proof.Proof.Gen.Kernel4Ideal.Frame
public import proofs.«01_k».proof.Proof.Gen.Reference4Ideal.Run

@[expose] public section

set_option maxRecDepth 65536

noncomputable section

namespace Cert.Proof.InBwdX

open Idealize.ShloMosaic Idealize.ShloMosaic.TcCoe Idealize.SL.Sem
open Cert.Proof.Split Cert.Proof.Pack Cert.Proof.Norm Cert.Proof.NormBwd

/-! ## The reference -/

section Reference

open Cert.Reference4Ideal Cert.Reference4Ideal.Gen

variable (x : S8192x1024.Idx → EReal) (g : S1024.Idx → EReal) (a : S8192x1024.Idx → EReal) (dh : S8192x1024.Idx → EReal)

def hostSquare : S8192x1.Idx → EReal :=
  addf (F := Ideal) (φ := .f32) (Host.divf (broadcastInDim S8192x1 ![0] bcast_S8192_S8192x1_0 (Host.reduceAdd (mulf (F := Ideal) (φ := .f32) x x) (constant S_ .f32 0x00000000#32) reducesTo_S8192x1024_S8192_d1 h_S_))
    (broadcastInDim S8192x1 ![] bcast_S_S8192x1 (constant S_ .f32 0x44800000#32))) (broadcastInDim S8192x1 ![] bcast_S_S8192x1 (constant S_ .f32 0x358637BD#32))

theorem hostSquare_apply (R : Fin 8192) : hostSquare x (ix2 R 0) = square fun e => x (ix2 R e) := by
  unfold hostSquare square
  pointwise
  rw [div_width]

/-- The gradient of the scaled rows. -/
def hostY : S8192x1024.Idx → EReal :=
  mulf (F := Ideal) (φ := .f32) dh (broadcastInDim S8192x1024 ![0, 1] bcast_S1x1024_S8192x1024_0_1 (broadcastInDim S1x1024 ![1] bcast_S1024_S1x1024_1 g))

theorem hostY_apply (R : Fin 8192) (d : Fin 1024) : hostY g dh (ix2 R d) = dh (ix2 R d) * g (ix1 d) := by
  unfold hostY
  pointwise

def hostSlope (y : S8192x1024.Idx → EReal) (q : S8192x1.Idx → EReal) : S8192.Idx → EReal :=
  Host.reduceAdd (F := Ideal) (φ := .f32) (Host.divf (mulf (shapeCast _ (Host.reduceAdd (mulf (F := Ideal) (φ := .f32) x y) (constant S_ .f32 0x00000000#32) reducesTo_S8192x1024_S8192_d1 h_S_) shapeCasts_S8192_S8192x1)
    (mulf (broadcastInDim S8192x1 ![] bcast_S_S8192x1 (constant S_ .f32 0xBF000000#32)) (Host.divf (Host.rsqrt (F := Ideal) (φ := .f32) q) q)))
    (broadcastInDim S8192x1 ![] bcast_S_S8192x1 (constant S_ .f32 0x44800000#32))) (constant S_ .f32 0x00000000#32) reducesTo_S8192x1_S8192_d1 h_S_

theorem hostSlope_apply (y : S8192x1024.Idx → EReal) (q : S8192x1.Idx → EReal) (R : Fin 8192) :
    hostSlope x y q (ix1 R) = (∑ e : Fin 1024, x (ix2 R e) * y (ix2 R e))
      * (Ideal.ofBits FTy.f32 0xBF000000#32 * Ideal.div (Ideal.rsqrt (q (ix2 R 0))) (q (ix2 R 0))) * Ideal.ofBits FTy.f32 0x3A800000#32 := by
  unfold hostSlope
  pointwise
  refine (Fin.sum_univ_one _).trans ?_
  rw [div_width]

def hostRows (y : S8192x1024.Idx → EReal) (q : S8192x1.Idx → EReal) (p : S8192.Idx → EReal) : S8192x1024.Idx → EReal :=
  addf (F := Ideal) (φ := .f32) (addf (addf (F := Ideal) (φ := .f32) a (mulf (F := Ideal) (φ := .f32) y (broadcastInDim S8192x1024 ![0, 1] bcast_S8192x1_S8192x1024_0_1 (Host.rsqrt (F := Ideal) (φ := .f32) q))))
    (mulf (F := Ideal) (φ := .f32) x (broadcastInDim S8192x1024 ![0] bcast_S8192_S8192x1024_0 p)))
    (mulf (F := Ideal) (φ := .f32) (broadcastInDim S8192x1024 ![0] bcast_S8192_S8192x1024_0 p) x)

theorem hostRows_apply (y : S8192x1024.Idx → EReal) (q : S8192x1.Idx → EReal) (p : S8192.Idx → EReal) (R : Fin 8192) (d : Fin 1024) :
    hostRows x a y q p (ix2 R d)
      = a (ix2 R d) + y (ix2 R d) * Ideal.rsqrt (q (ix2 R 0)) + x (ix2 R d) * p (ix1 R) + p (ix1 R) * x (ix2 R d) := by
  unfold hostRows
  pointwise

/-- The reference's rows at an entry. -/
theorem reference_rows (R : Fin 8192) (d : Fin 1024) :
    hostRows x a (hostY g dh) (hostSquare x) (hostSlope x (hostY g dh) (hostSquare x)) (ix2 R d)
      = chained (fun e => x (ix2 R e)) (fun e => dh (ix2 R e) * g (ix1 e)) (a (ix2 R d)) d := by
  rw [hostRows_apply, hostSlope_apply, hostSquare_apply]
  simp only [hostY_apply]
  rfl

/-- The gradient of the normed rows. -/
def hostDh (w : S1024x4256.Idx → EReal) (ct : S8192x4256.Idx → EReal) : S8192x1024.Idx → EReal :=
  Host.dotGeneral (F := Ideal) (φ₁ := .f32) (φ₂ := .f32) dot_S8192x4256_S1024x4256_S8192x1024_1_1_0_0_n_n none ct w

theorem hostDh_apply (w : S1024x4256.Idx → EReal) (ct : S8192x4256.Idx → EReal) (R : Fin 8192) (d : Fin 1024) :
    hostDh w ct (ix2 R d) = ∑ n : Fin 4256, ct (ix2 R n) * w (ix2 d n) := by
  unfold hostDh
  pointwise

def hostG (q : S8192x1.Idx → EReal) : S1024.Idx → EReal :=
  Host.reduceAdd (F := Ideal) (φ := .f32) (shapeCast _ (Host.reduceAdd (mulf (F := Ideal) (φ := .f32) (mulf (F := Ideal) (φ := .f32) x (broadcastInDim S8192x1024 ![0, 1] bcast_S8192x1_S8192x1024_0_1 (Host.rsqrt (F := Ideal) (φ := .f32) q))) dh)
    (constant S_ .f32 0x00000000#32) reducesTo_S8192x1024_S1024_d0 h_S_) shapeCasts_S1024_S1x1024) (constant S_ .f32 0x00000000#32) reducesTo_S1x1024_S1024_d0 h_S_

theorem hostG_apply (q : S8192x1.Idx → EReal) (d : Fin 1024) :
    hostG x dh q (ix1 d) = ∑ R : Fin 8192, x (ix2 R d) * Ideal.rsqrt (q (ix2 R 0)) * dh (ix2 R d) := by
  unfold hostG
  pointwise
  exact Fin.sum_univ_one _

end Reference

open Cert.Kernel4Ideal Cert.Kernel4Ideal.Gen

/-! ## The frames -/

theorem frame_ideal : Cert.quiescent_Kernel4Ideal := fun m ρ _ => Gen.frame (F := Ideal) m ρ

/-- The program as printed has the same kernel body, and so the same text. -/
theorem bodies : Cert.Kernel4.defs₀ (F := Bits) = defs₀ (F := Bits) := by
  unfold Cert.Kernel4.defs₀ defs₀
  refine congrArg Defs.onTc (funext fun l => funext fun a => ?_)
  match l with
  | 0 => rfl

theorem frame_kernel : Cert.quiescent_Kernel4 := fun m ρ _ => by
  rw [show Cert.Kernel4.defs (F := Bits) = defs (F := Bits) from congrArg (Pipeline.defs Cert.Kernel4.pcfgs) bodies]
  exact Gen.frame (F := Bits) m ρ

theorem frame_reference : Cert.quiescent_Reference4Ideal := fun m ρ _ =>
  (θ_run _ _ _).mono (fun r h => ⟨fun c => (h c).2.2, sem_eq_zero_of_no_sems (by decide) r.2⟩)
    (Cert.Reference4Ideal.Value.run (F := Ideal) m ρ)

/-! ## The packing -/

theorem packing_ct (g : S8192x4256.Idx → EReal) (R : Fin 8192) (j : Fin 4352) :
    transpose S8192x4352 [1, 0] (concatenate S4352x8192 0
      [⟨S2560x8192, extractStridedSlice S2560x8192 ![416, 0] (transpose S4256x8192 [1, 0] g transposes_S8192x4256_S4256x8192_1_0) slices_S4256x8192_S2560x8192_416_0⟩,
       ⟨S512x8192, extractStridedSlice S512x8192 ![3744, 0] (transpose S4256x8192 [1, 0] g transposes_S8192x4256_S4256x8192_1_0) slices_S4256x8192_S512x8192_3744_0⟩,
       ⟨S384x8192, extractStridedSlice S384x8192 ![0, 0] (transpose S4256x8192 [1, 0] g transposes_S8192x4256_S4256x8192_1_0) slices_S4256x8192_S384x8192_0_0⟩,
       ⟨S64x8192, broadcastInDim S64x8192 ![] bcast_S_S64x8192 (constant (F := Ideal) S_ .f32 0x00000000#32)⟩,
       ⟨S32x8192, extractStridedSlice S32x8192 ![384, 0] (transpose S4256x8192 [1, 0] g transposes_S8192x4256_S4256x8192_1_0) slices_S4256x8192_S32x8192_384_0⟩,
       ⟨S32x8192, broadcastInDim S32x8192 ![] bcast_S_S32x8192 (constant (F := Ideal) S_ .f32 0x00000000#32)⟩,
       ⟨S512x8192, extractStridedSlice S512x8192 ![2976, 0] (transpose S4256x8192 [1, 0] g transposes_S8192x4256_S4256x8192_1_0) slices_S4256x8192_S512x8192_2976_0⟩,
       ⟨S128x8192, extractStridedSlice S128x8192 ![3488, 0] (transpose S4256x8192 [1, 0] g transposes_S8192x4256_S4256x8192_1_0) slices_S4256x8192_S128x8192_3488_0⟩,
       ⟨S128x8192, extractStridedSlice S128x8192 ![3616, 0] (transpose S4256x8192 [1, 0] g transposes_S8192x4256_S4256x8192_1_0) slices_S4256x8192_S128x8192_3616_0⟩]
      concatenates_S2560x8192_S512x8192_S384x8192_S64x8192_S32x8192_S32x8192_S512x8192_S128x8192_S128x8192_S4352x8192_d0)
      transposes_S4352x8192_S8192x4352_1_0 (ix2 R j) = packed (fun n => g (ix2 R n)) j := by
  pointwise
  exact packed_eq (fun n => g (ix2 R n)) j

theorem packing_w (w : S1024x4256.Idx → EReal) (j : Fin 4352) (d : Fin 1024) :
    concatenate S4352x1024 0
      [⟨S2560x1024, extractStridedSlice S2560x1024 ![416, 0] (transpose S4256x1024 [1, 0] w transposes_S1024x4256_S4256x1024_1_0) slices_S4256x1024_S2560x1024_416_0⟩,
       ⟨S512x1024, extractStridedSlice S512x1024 ![3744, 0] (transpose S4256x1024 [1, 0] w transposes_S1024x4256_S4256x1024_1_0) slices_S4256x1024_S512x1024_3744_0⟩,
       ⟨S384x1024, extractStridedSlice S384x1024 ![0, 0] (transpose S4256x1024 [1, 0] w transposes_S1024x4256_S4256x1024_1_0) slices_S4256x1024_S384x1024_0_0⟩,
       ⟨S64x1024, broadcastInDim S64x1024 ![] bcast_S_S64x1024 (constant (F := Ideal) S_ .bf16 0x0000#16)⟩,
       ⟨S32x1024, extractStridedSlice S32x1024 ![384, 0] (transpose S4256x1024 [1, 0] w transposes_S1024x4256_S4256x1024_1_0) slices_S4256x1024_S32x1024_384_0⟩,
       ⟨S32x1024, broadcastInDim S32x1024 ![] bcast_S_S32x1024 (constant (F := Ideal) S_ .bf16 0x0000#16)⟩,
       ⟨S512x1024, extractStridedSlice S512x1024 ![2976, 0] (transpose S4256x1024 [1, 0] w transposes_S1024x4256_S4256x1024_1_0) slices_S4256x1024_S512x1024_2976_0⟩,
       ⟨S128x1024, extractStridedSlice S128x1024 ![3488, 0] (transpose S4256x1024 [1, 0] w transposes_S1024x4256_S4256x1024_1_0) slices_S4256x1024_S128x1024_3488_0⟩,
       ⟨S128x1024, extractStridedSlice S128x1024 ![3616, 0] (transpose S4256x1024 [1, 0] w transposes_S1024x4256_S4256x1024_1_0) slices_S4256x1024_S128x1024_3616_0⟩]
      concatenates_S2560x1024_S512x1024_S384x1024_S64x1024_S32x1024_S32x1024_S512x1024_S128x1024_S128x1024_S4352x1024_d0
      (ix2 j d) = packed (fun n => w (ix2 d n)) j := by
  pointwise
  exact packed_eq (fun n => w (ix2 d n)) j

/-! ## What a grid point leaves -/

section Bodies

variable (c : Dev nD) (i : grid0.Coords) (a1 : Memref sig .tc .vmem S512x4352 .bf16) (h1 : a1.IsWhole)
  (a2 : Memref sig .tc .vmem S4352x1024 .bf16) (h2 : a2.IsWhole) (a3 : Memref sig .tc .vmem S512x1024 .f32) (h3 : a3.IsWhole)
  (a4 : Memref sig .tc .vmem S512x1024 .f32) (h4 : a4.IsWhole) (a5 : Memref sig .tc .vmem S1x1024 .f32) (h5 : a5.IsWhole)
  (a6 : Memref sig .tc .vmem S512x1024 .f32) (h6 : a6.IsWhole) (a7 : Memref sig .tc .vmem S8x1024 .f32) (h7 : a7.IsWhole)
  (x0 : Vec Ideal S512x4352 .bf16) (x1 : Vec Ideal S4352x1024 .bf16) (x2 : Vec Ideal S512x1024 .f32) (x3 : Vec Ideal S512x1024 .f32)
  (x4 : Vec Ideal S1x1024 .f32) (xo : Vec Ideal S8x1024 .f32)

/-- The rows a point writes. -/
abbrev rows : FVec Ideal S512x1024 .f32 := k0_pay1 (k0_pay3 x0 x1) (k0_pay4 x2) (k0_pay5 x2) x3 x4

theorem first_rows (hc0 : cond0_0 i) :
    out0_A_5 c i a1 h1 a2 h2 a3 h3 a4 h4 a5 h5 a6 h6 a7 h7 hc0 x0 x1 x2 x3 x4 = rows x0 x1 x2 x3 x4 := by
  unfold out0_A_5
  rw [View.read_writes_eq_canon _ _ _ (cover0_A_5 c i a1 h1 a2 h2 a3 h3 a4 h4 a5 h5 a6 h6 a7 h7 hc0 x0 x1 x2 x3 x4)]
  unfold kernelRun0_A
  dsimp only
  sl_unfold_words
  rw [View.canon_unit_zero zeros]
  simp only [View.readAt_eq_ld, h1.read_unread, h2.read_unread, h3.read_unread, h4.read_unread, h5.read_unread, View.ld_unit_zero (S := S512x4352) zeros,
    View.ld_unit_zero (S := S4352x1024) zeros, View.ld_unit_zero (S := S512x1024) zeros, View.ld_unit_zero (S := S1x1024) zeros]

theorem next_rows (hc0 : ¬cond0_0 i) :
    out0_B_5 c i a1 h1 a2 h2 a3 h3 a4 h4 a5 h5 a6 h6 a7 h7 hc0 x0 x1 x2 x3 x4 xo = rows x0 x1 x2 x3 x4 := by
  unfold out0_B_5
  rw [View.read_writes_eq_canon _ _ _ (cover0_B_5 c i a1 h1 a2 h2 a3 h3 a4 h4 a5 h5 a6 h6 a7 h7 hc0 x0 x1 x2 x3 x4 xo)]
  unfold kernelRun0_B
  dsimp only
  sl_unfold_words
  rw [View.canon_unit_zero zeros]
  simp only [View.readAt_eq_ld, h1.read_unread, h2.read_unread, h3.read_unread, h4.read_unread, h5.read_unread, View.ld_unit_zero (S := S512x4352) zeros,
    View.ld_unit_zero (S := S4352x1024) zeros, View.ld_unit_zero (S := S512x1024) zeros, View.ld_unit_zero (S := S1x1024) zeros]

theorem first_acc (hc0 : cond0_0 i) :
    out0_A_6 c i a1 h1 a2 h2 a3 h3 a4 h4 a5 h5 a6 h6 a7 h7 hc0 x0 x1 x2 x3 x4 = k0_pay6 x0 x1 x2 (k0_pay2 (F := Ideal)) := by
  unfold out0_A_6
  rw [View.read_writes_eq_canon _ _ _ (cover0_A_6 c i a1 h1 a2 h2 a3 h3 a4 h4 a5 h5 a6 h6 a7 h7 hc0 x0 x1 x2 x3 x4)]
  unfold kernelRun0_A
  dsimp only
  sl_unfold_words
  rw [View.canon_cons_unit_zero (S := S8x1024) zeros, View.readCov_unit_zero (S := S8x1024) _ zeros]
  simp only [View.readAt_eq_ld, h1.read_unread, h2.read_unread, h3.read_unread, View.ld_unit_zero (S := S512x4352) zeros,
    View.ld_unit_zero (S := S4352x1024) zeros, View.ld_unit_zero (S := S512x1024) zeros]

theorem next_acc (hc0 : ¬cond0_0 i) :
    out0_B_6 c i a1 h1 a2 h2 a3 h3 a4 h4 a5 h5 a6 h6 a7 h7 hc0 x0 x1 x2 x3 x4 xo = k0_pay6 x0 x1 x2 xo := by
  unfold out0_B_6
  rw [View.read_writes_eq_canon _ _ _ (cover0_B_6 c i a1 h1 a2 h2 a3 h3 a4 h4 a5 h5 a6 h6 a7 h7 hc0 x0 x1 x2 x3 x4 xo)]
  unfold kernelRun0_B
  dsimp only
  sl_unfold_words
  rw [View.canon_unit_zero zeros]
  simp only [View.readAt_eq_ld, h1.read_unread, h2.read_unread, h3.read_unread, h7.read_unread, View.ld_unit_zero (S := S512x4352) zeros,
    View.ld_unit_zero (S := S4352x1024) zeros, View.ld_unit_zero (S := S512x1024) zeros, View.ld_unit_zero (S := S8x1024) zeros]

/-! ### At an entry -/

theorem dh_apply (r : Fin 512) (d : Fin 1024) : k0_pay3 (F := Ideal) x0 x1 (ix2 r d) = ∑ j : Fin 4352, x0 (ix2 r j) * x1 (ix2 j d) := by
  pointwise [k0_pay3]

theorem scale_apply (r : Fin 512) : k0_pay4 (F := Ideal) x2 (ix2 r 0) = scale fun e => x2 (ix2 r e) := by
  unfold scale
  pointwise [k0_pay4]

theorem norm_apply (r : Fin 512) (d : Fin 1024) : k0_pay5 (F := Ideal) x2 (ix2 r d) = x2 (ix2 r d) * scale fun e => x2 (ix2 r e) := by
  unfold scale
  pointwise [k0_pay5, k0_pay4]

theorem pay_apply (v7 : FVec Ideal S512x1024 .f32) (v16 : FVec Ideal S512x1 .f32) (v18 : FVec Ideal S512x1024 .f32) (r : Fin 512) (d : Fin 1024) :
    k0_pay1 (F := Ideal) v7 v16 v18 x3 x4 (ix2 r d) = x3 (ix2 r d) + v16 (ix2 r 0) * (v7 (ix2 r d) * x4 (ix2 0 d)
      - v18 (ix2 r d) * ((∑ e : Fin 1024, v7 (ix2 r e) * x4 (ix2 0 e) * v18 (ix2 r e)) * Ideal.ofBits FTy.f32 0x3A800000#32)) := by
  pointwise [k0_pay1]

theorem rows_apply (r : Fin 512) (d : Fin 1024) :
    rows x0 x1 x2 x3 x4 (ix2 r d)
      = centred (fun e => x2 (ix2 r e)) (fun e => k0_pay3 (F := Ideal) x0 x1 (ix2 r e) * x4 (ix2 0 e)) (x3 (ix2 r d)) d := by
  unfold rows
  rw [pay_apply]
  simp only [scale_apply, norm_apply]
  rfl

theorem start_apply (i : Fin 8) (d : Fin 1024) : k0_pay2 (F := Ideal) (ix2 i d) = 0 := by
  pointwise [k0_pay2]

theorem acc_apply (i : Fin 8) (d : Fin 1024) :
    k0_pay6 (F := Ideal) x0 x1 x2 xo (ix2 i d) = xo (ix2 i d)
      + if i = 0 then ∑ r : Fin 512, k0_pay3 (F := Ideal) x0 x1 (ix2 r d) * k0_pay5 (F := Ideal) x2 (ix2 r d) else 0 := by
  unfold k0_pay6
  generalize k0_pay3 (F := Ideal) x0 x1 = u
  generalize k0_pay5 (F := Ideal) x2 = v
  pointwise
  congr 1
  fin_cases i <;> rfl

end Bodies

/-! ## The blocks -/

variable (m : (ℓ : Loc nD τ sig) → Buf (Elt Ideal) ℓ) (c : Dev nD)

/-- The rows, the norm's weights, the projection's weights, the gradient already there and the cotangent. -/
abbrev X : S8192x1024.Idx → EReal := m ((c : Thread nD τ).loc main_arg0)
abbrev G : S1024.Idx → EReal := m ((c : Thread nD τ).loc main_arg1)
abbrev W : S1024x4256.Idx → EReal := m ((c : Thread nD τ).loc main_arg2)
abbrev A : S8192x1024.Idx → EReal := m ((c : Thread nD τ).loc main_arg3)
abbrev C : S8192x4256.Idx → EReal := m ((c : Thread nD τ).loc main_arg4)

theorem V_g (d : Fin 1024) : V m c main_v25 (ix2 0 d) = G m c (ix1 d) := by
  have e : V m c main_v25 = shapeCast S1x1024 (G m c) shapeCasts_S1024_S1x1024 := by
    show StableHlo.after hostOps0 (fun b => m (c, b)) main_v25 = _
    simp only [hostOps0]
    after_results_simp
    rfl
  rw [e]
  pointwise

theorem V_w (j : Fin 4352) (d : Fin 1024) : V m c main_v11 (ix2 j d) = packed (fun n => W m c (ix2 d n)) j := by
  refine Eq.trans ?_ (packing_w (W m c) j d)
  refine congrFun ?_ (ix2 j d)
  show StableHlo.after hostOps0 (fun b => m (c, b)) main_v11 = _
  simp only [hostOps0]
  after_results_simp
  rfl

theorem V_ct (R : Fin 8192) (j : Fin 4352) : V m c main_v24 (ix2 R j) = packed (fun n => C m c (ix2 R n)) j := by
  refine Eq.trans ?_ (packing_ct (C m c) R j)
  refine congrFun ?_ (ix2 R j)
  show StableHlo.after hostOps0 (fun b => m (c, b)) main_v24 = _
  simp only [hostOps0]
  after_results_simp
  rfl

theorem points (t : Fin cfg0.N) : t.val < 16 := by
  have : cfg0.N = 16 := by decide +kernel
  omega

/-- Row `r` of block `s`. -/
def row (s : ℕ) (r : Fin 512) : Fin 8192 := ⟨(512 * s + r.val) % 8192, by omega⟩

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, 0] := (by decide +kernel : ∀ t : Fin grid0.N, _)

theorem blk0 (t : Fin cfg0.N) (r : Fin 512) (j : Fin 4352) : iblk m c 0 t (ix2 r j) = packed (fun n => C m c (ix2 (row t.val r) n)) j := by
  have := points t
  rw [← V_ct]
  blk_simp [iblk]
  congr 1
  blk_ext [idx0, row]

theorem blk1 (t : Fin cfg0.N) (j : Fin 4352) (d : Fin 1024) : iblk m c 1 t (ix2 j d) = packed (fun n => W m c (ix2 d n)) j := by
  rw [← V_w]
  blk_simp [iblk]
  congr 1
  blk_ext [idx1]

theorem blk2 (t : Fin cfg0.N) (r : Fin 512) (d : Fin 1024) : iblk m c 2 t (ix2 r d) = X m c (ix2 (row t.val r) d) := by
  have := points t
  rw [show X m c = V m c main_arg0 from (V_main_arg0 m c).symm]
  blk_simp [iblk]
  congr 1
  blk_ext [idx2, row]

theorem blk3 (t : Fin cfg0.N) (r : Fin 512) (d : Fin 1024) : iblk m c 3 t (ix2 r d) = A m c (ix2 (row t.val r) d) := by
  have := points t
  rw [show A m c = V m c main_arg3 from (V_main_arg3 m c).symm]
  blk_simp [iblk]
  congr 1
  blk_ext [idx3, row]

theorem blk4 (t : Fin cfg0.N) (d : Fin 1024) : iblk m c 4 t (ix2 0 d) = G m c (ix1 d) := by
  rw [← V_g]
  blk_simp [iblk]
  congr 1
  blk_ext [idx4]

theorem emb5 (t : Fin cfg0.N) (r : Fin 512) (d : Fin 1024) : (win0_5.blk t).view.emb (ix2 r d) = ix2 (row t.val r) d := by
  have := points t
  blk_ext [idx5, row]

theorem emb6 (t : Fin cfg0.N) (i : Fin 8) (d : Fin 1024) : (win0_6.blk t).view.emb (ix2 i d) = ix2 i d := by
  blk_ext [idx6]

/-! ## The rows -/

/-- The gradient of a normed row's entry. -/
def back (w : S1024x4256.Idx → EReal) (ct : S8192x4256.Idx → EReal) (R : Fin 8192) (d : Fin 1024) : EReal :=
  ∑ n : Fin 4256, ct (ix2 R n) * w (ix2 d n)

theorem back_at (t : Fin cfg0.N) (r : Fin 512) (d : Fin 1024) :
    k0_pay3 (F := Ideal) (iblk m c 0 t) (iblk m c 1 t) (ix2 r d) = back (W m c) (C m c) (row t.val r) d := by
  rw [dh_apply]
  simp only [blk0, blk1]
  exact sum_packed (fun n => C m c (ix2 (row t.val r) n)) (fun n => W m c (ix2 d n))

def resX (x : S8192x1024.Idx → EReal) (g : S1024.Idx → EReal) (w : S1024x4256.Idx → EReal) (a : S8192x1024.Idx → EReal)
    (ct : S8192x4256.Idx → EReal) : S8192x1024.Idx → EReal :=
  fun z => centred (fun e => x (ix2 (z 0) e)) (fun e => back w ct (z 0) e * g (ix1 e)) (a (ix2 (z 0) (z 1))) (z 1)

theorem rows_at (t : Fin cfg0.N) : (outsAt0 m c t.val t.isLt).1
    = rows (iblk m c 0 t) (iblk m c 1 t) (iblk m c 2 t) (iblk m c 3 t) (iblk m c 4 t) := by
  by_cases h : t.val % 16 = 0
  · rw [outsAt0_A m c t h]
    dsimp only
    rw [first_rows]
  · rw [outsAt0_B m c t h]
    dsimp only
    rw [next_rows]

theorem final5 : (dats m 0 c).arrAt 5 cfg0.N = resX (X m c) (G m c) (W m c) (A m c) (C m c) := by
  refine (dats m 0 c).arrAt_eq_of_covers 5 _ (by decide +kernel) fun t hf y => ?_
  blk_simp
  rw [after0_5]
  idx_vars y
  refine Eq.trans ?_ (congrArg (resX (X m c) (G m c) (W m c) (A m c) (C m c)) (emb5 t y0 y1)).symm
  rw [rows_at]
  refine (rows_apply _ _ _ _ _ y0 y1).trans ?_
  simp only [back_at, blk2, blk3, blk4]
  rfl

/-! ## The norm's weights -/

/-- What row block `s` adds to the gradient of a weight of the norm; the accumulator's other rows stay zero. -/
def part (s : ℕ) (i : Fin 8) (d : Fin 1024) : EReal :=
  if i = 0 then ∑ r : Fin 512, back (W m c) (C m c) (row s r) d * (X m c (ix2 (row s r) d) * scale fun e => X m c (ix2 (row s r) e)) else 0

theorem acc_at (t : Fin cfg0.N) (xo : S8x1024.Idx → EReal) (i : Fin 8) (d : Fin 1024) :
    k0_pay6 (F := Ideal) (iblk m c 0 t) (iblk m c 1 t) (iblk m c 2 t) xo (ix2 i d) = xo (ix2 i d) + part m c t.val i d := by
  rw [part, acc_apply]
  simp only [norm_apply, back_at, blk2]

theorem acc_zero (t : Fin cfg0.N) (h : t.val = 0) (i : Fin 8) (d : Fin 1024) :
    (outsAt0 m c t.val t.isLt).2 (ix2 i d) = part m c 0 i d := by
  rw [outsAt0_A m c t (by rw [h])]
  dsimp only
  rw [first_acc, acc_at, start_apply, zero_add, h]

theorem acc_succ (t : Fin cfg0.N) (h : t.val ≠ 0) (i : Fin 8) (d : Fin 1024) :
    (outsAt0 m c t.val t.isLt).2 (ix2 i d)
      = (outsAt0 m c (t.val - 1) (Nat.lt_of_le_of_lt (Nat.sub_le _ _) t.isLt)).2 (ix2 i d) + part m c t.val i d := by
  have := points t
  rw [outsAt0_B m c t (by omega)]
  dsimp only
  rw [next_acc, acc_at]

theorem acc_eq (i : Fin 8) (d : Fin 1024) : ∀ (n : ℕ) (h : n < cfg0.N),
    (outsAt0 m c n h).2 (ix2 i d) = ∑ s ∈ Finset.range (n + 1), part m c s i d
  | 0, h => by
    rw [Finset.sum_range_one]
    exact acc_zero m c ⟨0, h⟩ rfl i d
  | n + 1, h => by
    rw [Finset.sum_range_succ, ← acc_eq i d n (by omega)]
    exact acc_succ m c ⟨n + 1, h⟩ (Nat.succ_ne_zero n) i d

def accRes : S8x1024.Idx → EReal := fun z => ∑ s ∈ Finset.range 16, part m c s (z 0) (z 1)

theorem final6 : (dats m 0 c).arrAt 6 cfg0.N = accRes m c := by
  refine (dats m 0 c).arrAt_eq_of_covers 6 _ (by decide +kernel) fun t hf y => ?_
  blk_simp
  rw [after0_6]
  idx_vars y
  refine Eq.trans ?_ (congrArg (accRes m c) (emb6 t y0 y1)).symm
  have hl := (flush0_6 t).mp hf
  have := points t
  rw [acc_eq, show t.val + 1 = 16 by omega]
  rfl

def resG (x : S8192x1024.Idx → EReal) (w : S1024x4256.Idx → EReal) (ct : S8192x4256.Idx → EReal) : S1024.Idx → EReal :=
  fun z => ∑ R : Fin 8192, back w ct R (z 0) * (x (ix2 R (z 0)) * scale fun e => x (ix2 R e))

theorem total (d : Fin 1024) : accRes m c (ix2 0 d) = resG (X m c) (W m c) (C m c) (ix1 d) := by
  show ∑ s ∈ Finset.range 16, part m c s 0 d = _
  refine sum_range_blocks 16 512 (by norm_num)
    (fun R : Fin 8192 => back (W m c) (C m c) R d * (X m c (ix2 R d) * scale fun e => X m c (ix2 R e))) _ fun t => ?_
  rw [part, if_pos rfl]
  refine Finset.sum_congr rfl fun r _ => ?_
  have e : row t.val r = ⟨512 * t.val + r.val, by omega⟩ := Fin.ext (Nat.mod_eq_of_lt (by omega))
  rw [e]

/-! ## The run -/

abbrev exit : Valuation τ sig (Elt Ideal) := Pipeline.withArrays spec0 c (V0 m c) fun w => (dats m 0 c).arrAt w cfg0.N

theorem exit6 : exit m c (Proc.devRef .tc main_v26_1) = accRes m c :=
  (Pipeline.withArrays_arr spec0 (by decide) c (V0 m c) (fun w => (dats m 0 c).arrAt w cfg0.N) 6).trans (final6 m c)

theorem first_row (a : S8x1024.Idx → EReal) (d : Fin 1024) :
    shapeCast S1024 (extractStridedSlice S1x1024 ![0, 0] a slices_S8x1024_S1x1024_0_0) shapeCasts_S1x1024_S1024 (ix1 d) = a (ix2 0 d) := by
  pointwise

theorem tail (Z : Valuation τ sig (Elt Ideal)) (d : Fin 1024) :
    (StableHlo.after hostOps1 Z (Proc.devRef .tc main_v28) : S1024.Idx → EReal) (ix1 d)
      = (Z (Proc.devRef .tc main_v26_1) : S8x1024.Idx → EReal) (ix2 0 d) := by
  refine Eq.trans ?_ (first_row (Z (Proc.devRef .tc main_v26_1)) d)
  refine congrFun ?_ (ix1 d)
  simp only [hostOps1]
  after_results_simp
  rfl

theorem out : Pipeline.afterTail₀ cfgs (dats m) 0 (V0 m) [hostOps1] c main_v28 = resG (X m c) (W m c) (C m c) := by
  funext z
  idx_vars z
  exact (tail (exit m c) z0).trans ((congrFun (exit6 m c) (ix2 0 z0)).trans (total m c z0))

theorem run_value (ρ : Dev nD → PrngReg) : θ_run defs (onTc (τ := τ) (main (F := Ideal))) ⟨m, fun _ => 0, ρ⟩ (fun r => ∀ c : Dev nD,
      r.2.mem ((c.tc : Thread nD τ).loc main_v26_0) = resX (X m c) (G m c) (W m c) (A m c) (C m c)
      ∧ r.2.mem ((c.tc : Thread nD τ).loc main_v28) = resG (X m c) (W m c) (C m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 5).trans (final5 m c),
      ((h.1 c).2 main_v28 (Pipeline.mem_restRefs_of main_v28 (by decide) (by decide))).trans (out m c), h.2 c⟩)
    (θ_run_and (run_main m ρ) (unchanged m ρ))

/-! ## The two results against the reference's -/

theorem preFacts : Cert.Pre_finite4.Facts where
  bcast_S_S8192x1024 := by decide
  reducesTo_S8192x1024_S_d0_1 := by decide
  h_S_ := by decide
  bcast_S_S1024 := by decide
  reducesTo_S1024_S_d0 := by decide
  bcast_S_S1024x4256 := by decide
  reducesTo_S1024x4256_S_d0_1 := by decide
  bcast_S_S8192x4256 := by decide
  reducesTo_S8192x4256_S_d0_1 := by decide

/-- The precondition's five arrays are arrays of real numbers. -/
theorem reals_of_finite (x : FVec Ideal S8192x1024 .f32) (g : FVec Ideal S1024 .f32) (w : FVec Ideal S1024x4256 .f32)
    (a : FVec Ideal S8192x1024 .f32) (ct : FVec Ideal S8192x4256 .f32)
    (e : (haveI := preFacts; Cert.Pre_finite4.fn (F := Ideal) x g w a ct) = fun _ => 1#1) :
    x = Softmax.up (fun i => (x i).toReal) ∧ g = Softmax.up (fun i => (g i).toReal) ∧ w = Softmax.up (fun i => (w i).toReal)
      ∧ a = Softmax.up (fun i => (a i).toReal) ∧ ct = Softmax.up (fun i => (ct i).toReal) := by
  have e0 := congrFun e ix0
  have h4 := Softmax.both_one _ _ e0
  have h3 := Softmax.both_one _ _ h4.1
  have h2 := Softmax.both_one _ _ h3.1
  have h1 := Softmax.both_one _ _ h2.1
  exact ⟨Softmax.real_of_all x _ _ _ h1.1, Softmax.real_of_all g _ _ _ h1.2, Softmax.real_of_all w _ _ _ h2.2,
    Softmax.real_of_all a _ _ _ h3.2, Softmax.real_of_all ct _ _ _ h4.2⟩

/-- On real numbers the kernel's rows are the reference's. -/
theorem rows_eq (x : S8192x1024.Idx → ℝ) (g : S1024.Idx → ℝ) (w : S1024x4256.Idx → ℝ) (a : S8192x1024.Idx → ℝ) (ct : S8192x4256.Idx → ℝ)
    (R : Fin 8192) (d : Fin 1024) :
    chained (fun e => Softmax.up x (ix2 R e)) (fun e => back (Softmax.up w) (Softmax.up ct) R e * Softmax.up g (ix1 e)) (Softmax.up a (ix2 R d)) d
      = resX (Softmax.up x) (Softmax.up g) (Softmax.up w) (Softmax.up a) (Softmax.up ct) (ix2 R d) := by
  have hy : ∀ e : Fin 1024, back (Softmax.up w) (Softmax.up ct) R e * Softmax.up g (ix1 e)
      = (((∑ n : Fin 4256, ct (ix2 R n) * w (ix2 e n)) * g (ix1 e) : ℝ) : EReal) := by
    intro e
    unfold back
    simp only [Softmax.up_apply, ← EReal.coe_mul, Softmax.coe_sum]
  show _ = centred (fun e => Softmax.up x (ix2 R e)) (fun e => back (Softmax.up w) (Softmax.up ct) R e * Softmax.up g (ix1 e)) (Softmax.up a (ix2 R d)) d
  simp only [hy, Softmax.up_apply]
  exact (centred_eq (fun e => x (ix2 R e)) _ (a (ix2 R d)) d).symm

theorem reference_x (x : S8192x1024.Idx → EReal) (g : S1024.Idx → EReal) (w : S1024x4256.Idx → EReal) (a : S8192x1024.Idx → EReal)
    (ct : S8192x4256.Idx → EReal) (e : (haveI := preFacts; Cert.Pre_finite4.fn (F := Ideal) x g w a ct) = fun _ => 1#1) :
    hostRows x a (hostY g (hostDh w ct)) (hostSquare x) (hostSlope x (hostY g (hostDh w ct)) (hostSquare x)) = resX x g w a ct := by
  obtain ⟨hx, hg, hw, ha, hct⟩ := reals_of_finite x g w a ct e
  funext z
  idx_vars z
  rw [reference_rows]
  simp only [hostDh_apply]
  rw [hx, hg, hw, ha, hct]
  exact rows_eq _ _ _ _ _ z0 z1

theorem reference_g (x : S8192x1024.Idx → EReal) (w : S1024x4256.Idx → EReal) (ct : S8192x4256.Idx → EReal) :
    hostG x (hostDh w ct) (hostSquare x) = resG x w ct := by
  funext z
  idx_vars z
  rw [hostG_apply]
  simp only [hostDh_apply, hostSquare_apply]
  exact Finset.sum_congr rfl fun R _ => mul_comm _ _

theorem algebraic : (haveI := preFacts; Cert.algebraic_Kernel4Ideal_Reference4Ideal_pre_finite4) := by
  intro m g m' g' h e
  refine ⟨fun c => resX (X m c) (G m c) (W m c) (A m c) (C m c), fun c => resG (X m c) (W m c) (C m c), run_value m g, ?_⟩
  refine (θ_run _ _ _).mono (fun _ r c => ⟨(r c).1.trans ?_, (r c).2.1.trans ?_, (r c).2.2⟩)
    (Cert.Reference4Ideal.Value.run (F := Ideal) m' g')
  · unfold Cert.Reference4Ideal.Value.res_main_v40
    rw [(e c).1, (e c).2.1, (e c).2.2.1, (e c).2.2.2.1, (e c).2.2.2.2]
    exact reference_x (X m c) (G m c) (W m c) (A m c) (C m c) (h c)
  · rw [(e c).1, (e c).2.2.1, (e c).2.2.2.2]
    exact reference_g (X m c) (W m c) (C m c)

end Cert.Proof.InBwdX
-- ==== Proof.OutFwd.lean ====
/-
  The output projection with its residual: the kernel's blocks of 512 rows make up the whole product.
-/
module

public import proofs.«01_k».proof.Defs
public import proofs.«01_k».proof.Proof.Split
public import proofs.«01_k».proof.Proof.Gen.Kernel5
public import proofs.«01_k».proof.Proof.Gen.Kernel5Ideal.Frame
public import proofs.«01_k».proof.Proof.Gen.Reference5Ideal.Run

@[expose] public section

set_option maxRecDepth 65536

noncomputable section

namespace Cert.Proof.OutFwd

open Cert.Kernel5Ideal Cert.Kernel5Ideal.Gen
open Idealize.ShloMosaic Idealize.ShloMosaic.TcCoe Idealize.SL.Sem

/-! ## The frames -/

theorem frame_ideal : Cert.quiescent_Kernel5Ideal := fun m ρ _ => Gen.frame (F := Ideal) m ρ

/-- The program as printed has the same kernel body, and so the same text. -/
theorem bodies : Cert.Kernel5.defs₀ (F := Bits) = defs₀ (F := Bits) := by
  unfold Cert.Kernel5.defs₀ defs₀
  refine congrArg Defs.onTc (funext fun l => funext fun a => ?_)
  match l with
  | 0 => rfl

theorem frame_kernel : Cert.quiescent_Kernel5 := fun m ρ _ => by
  rw [show Cert.Kernel5.defs (F := Bits) = defs (F := Bits) from congrArg (Pipeline.defs Cert.Kernel5.pcfgs) bodies]
  exact Gen.frame (F := Bits) m ρ

theorem frame_reference : Cert.quiescent_Reference5Ideal := fun m ρ _ =>
  (θ_run _ _ _).mono (fun r h => ⟨fun c => (h c).2, sem_eq_zero_of_no_sems (by decide) r.2⟩)
    (Cert.Reference5Ideal.Value.run (F := Ideal) m ρ)

/-! ## The value -/

/-- The residual plus the product of a matrix of 8192 rows. -/
def res (y : S8192x1536.Idx → EReal) (w : S1536x1024.Idx → EReal) (x : S8192x1024.Idx → EReal) : S8192x1024.Idx → EReal :=
  fun z => x z + ∑ k : Fin 1536, y (ix2 (z 0) k) * w (ix2 k (z 1))

theorem pay_apply (a : S512x1536.Idx → EReal) (b : S1536x1024.Idx → EReal) (x : S512x1024.Idx → EReal) (r : Fin 512) (d : Fin 1024) :
    k0_pay1 (F := Ideal) a b x (ix2 r d) = x (ix2 r d) + ∑ k : Fin 1536, a (ix2 r k) * b (ix2 k d) := by
  pointwise [k0_pay1]
  exact add_comm _ _

theorem out_apply (a : S512x1536.Idx → EReal) (b : S1536x1024.Idx → EReal) (x : S512x1024.Idx → EReal) :
    out0_3 (F := Ideal) a b x = k0_pay1 (F := Ideal) a b x := by
  unfold out0_3
  rw [View.canon_unit_zero Split.zeros, View.ld_unit_zero Split.zeros, View.ld_unit_zero Split.zeros, View.ld_unit_zero Split.zeros]

variable (m : (ℓ : Loc nD τ sig) → Buf (Elt Ideal) ℓ) (c : Dev nD)

theorem V_y : V m c main_v0 = m ((c : Thread nD τ).loc main_arg0) := by
  show StableHlo.after hostOps0 (fun b => m (c, b)) main_v0 = _
  simp only [hostOps0]
  after_results_simp
  rfl

theorem V_w : V m c main_v1 = m ((c : Thread nD τ).loc main_arg1) := by
  show StableHlo.after hostOps0 (fun b => m (c, b)) main_v1 = _
  simp only [hostOps0]
  after_results_simp
  rfl

theorem points (t : Fin cfg0.N) : t.val < 16 := by
  have : cfg0.N = 16 := by decide +kernel
  omega

/-- Row `r` of block `t`. -/
def row (t : Fin cfg0.N) (r : Fin 512) : Fin 8192 := ⟨512 * t.val + r.val, by have := points t; omega⟩

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)

theorem blk0 (t : Fin cfg0.N) (r : Fin 512) (k : Fin 1536) : iblk m c 0 t (ix2 r k) = V m c main_v0 (ix2 (row t r) k) := by
  blk_simp [iblk]
  congr 1
  blk_ext [idx0, row]

theorem blk1 (t : Fin cfg0.N) (k : Fin 1536) (d : Fin 1024) : iblk m c 1 t (ix2 k d) = V m c main_v1 (ix2 k d) := by
  blk_simp [iblk]
  congr 1
  blk_ext [idx1]

theorem blk2 (t : Fin cfg0.N) (r : Fin 512) (d : Fin 1024) : iblk m c 2 t (ix2 r d) = V m c main_arg2 (ix2 (row t r) d) := by
  blk_simp [iblk]
  congr 1
  blk_ext [idx2, row]

theorem emb3 (t : Fin cfg0.N) (r : Fin 512) (d : Fin 1024) : (win0_3.blk t).view.emb (ix2 r d) = ix2 (row t r) d := by
  blk_ext [idx3, row]

abbrev out : S8192x1024.Idx → EReal :=
  res (m ((c : Thread nD τ).loc main_arg0)) (m ((c : Thread nD τ).loc main_arg1)) (m ((c : Thread nD τ).loc main_arg2))

theorem final3 : (dats m 0 c).arrAt 3 cfg0.N = out m c := by
  refine (dats m 0 c).arrAt_eq_of_covers 3 _ (by decide +kernel) fun t hf y => ?_
  blk_simp
  rw [after0_3]
  idx_vars y
  refine Eq.trans ?_ (congrArg (out m c) (emb3 t y0 y1)).symm
  refine (congrFun (out_apply _ _ _) _).trans ((pay_apply _ _ _ y0 y1).trans ?_)
  simp only [blk0, blk1, blk2, V_y, V_w, V_main_arg2]
  rfl

theorem run_value (ρ : Dev nD → PrngReg) : θ_run defs (onTc (τ := τ) (main (F := Ideal))) ⟨m, fun _ => 0, ρ⟩ (fun r => ∀ c : Dev nD,
      r.2.mem ((c.tc : Thread nD τ).loc main_v2) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 3).trans (final3 m c), h.2 c⟩)
    (θ_run_and (run_main m ρ) (unchanged m ρ))

theorem reference (y : Cert.Reference5Ideal.S8192x1536.Idx → EReal) (w : Cert.Reference5Ideal.S1536x1024.Idx → EReal)
    (x : Cert.Reference5Ideal.S8192x1024.Idx → EReal) :
    addf (F := Ideal) (φ := .f32) x (Host.dotGeneral (F := Ideal) (φ₁ := .f32) (φ₂ := .f32) Cert.Reference5Ideal.dot_S8192x1536_S1536x1024_S8192x1024_1_0_0_1_n_n none y w) = res y w x := by
  funext z
  idx_vars z
  pointwise [res]

theorem algebraic : Cert.algebraic_Kernel5Ideal_Reference5Ideal := by
  intro m g m' g' h e
  refine ⟨fun c => out m c, run_value m g, ?_⟩
  refine (θ_run _ _ _).mono (fun _ r c => ⟨(r c).1.trans ((reference _ _ _).trans ?_), (r c).2⟩) (Cert.Reference5Ideal.Value.run (F := Ideal) m' g')
  rw [(e c).1, (e c).2.1, (e c).2.2]

end Cert.Proof.OutFwd
-- ==== Proof.OutBwd.lean ====
/-
  The gradients of the output projection: the cotangent against the weights, row block by row block, and the rows
  against the cotangent, accumulated over the row blocks.
-/
module

public import proofs.«01_k».proof.Defs
public import proofs.«01_k».proof.Proof.Split
public import proofs.«01_k».proof.Proof.Gen.Kernel6
public import proofs.«01_k».proof.Proof.Gen.Kernel6Ideal.Frame
public import proofs.«01_k».proof.Proof.Gen.Reference6Ideal.Run

@[expose] public section

set_option maxRecDepth 65536

noncomputable section

namespace Cert.Proof.OutBwd

open Cert.Kernel6Ideal Cert.Kernel6Ideal.Gen
open Idealize.ShloMosaic Idealize.ShloMosaic.TcCoe Idealize.SL.Sem
open Cert.Proof.Split

/-! ## The frames -/

theorem frame_ideal : Cert.quiescent_Kernel6Ideal := fun m ρ _ => Gen.frame (F := Ideal) m ρ

/-- The program as printed has the same kernel body, and so the same text. -/
theorem bodies : Cert.Kernel6.defs₀ (F := Bits) = defs₀ (F := Bits) := by
  unfold Cert.Kernel6.defs₀ defs₀
  refine congrArg Defs.onTc (funext fun l => funext fun a => ?_)
  match l with
  | 0 => rfl

theorem frame_kernel : Cert.quiescent_Kernel6 := fun m ρ _ => by
  rw [show Cert.Kernel6.defs (F := Bits) = defs (F := Bits) from congrArg (Pipeline.defs Cert.Kernel6.pcfgs) bodies]
  exact Gen.frame (F := Bits) m ρ

theorem frame_reference : Cert.quiescent_Reference6Ideal := fun m ρ _ =>
  (θ_run _ _ _).mono (fun r h => ⟨fun c => (h c).2.2, sem_eq_zero_of_no_sems (by decide) r.2⟩)
    (Cert.Reference6Ideal.Value.run (F := Ideal) m ρ)

/-! ## What a grid point leaves -/

section Bodies

variable (c : Dev nD) (i : grid0.Coords) (a1 : Memref sig .tc .vmem S512x1024 .f32) (h1 : a1.IsWhole)
  (a2 : Memref sig .tc .vmem S512x1536 .bf16) (h2 : a2.IsWhole) (a3 : Memref sig .tc .vmem S1024x1536 .bf16) (h3 : a3.IsWhole)
  (a4 : Memref sig .tc .vmem S512x1536 .f32) (h4 : a4.IsWhole) (a5 : Memref sig .tc .vmem S1536x1024 .bf16) (h5 : a5.IsWhole)
  (a6 : Memref sig .tc .vmem S1536x1024 .f32) (h6 : a6.IsWhole)
  (x0 : Vec Ideal S512x1024 .f32) (x1 : Vec Ideal S512x1536 .bf16) (x2 : Vec Ideal S1024x1536 .bf16) (xs : Vec Ideal S1536x1024 .f32)

theorem first_rows (hc0 : cond0_0 i) (hc1 : ¬cond0_1 i) :
    out0_A_3 c i a1 h1 a2 h2 a3 h3 a4 h4 a5 h5 a6 h6 hc0 hc1 x0 x1 x2 = k0_pay3 x0 x2 := by
  unfold out0_A_3
  rw [View.read_writes_eq_canon _ _ _ (cover0_A_3 c i a1 h1 a2 h2 a3 h3 a4 h4 a5 h5 a6 h6 hc0 hc1 x0 x1 x2)]
  unfold kernelRun0_A
  dsimp only
  rw [View.canon_unit_zero zeros]
  simp only [View.readAt_eq_ld, h1.read_unread, h3.read_unread, View.ld_unit_zero (S := S512x1024) zeros, View.ld_unit_zero (S := S1024x1536) zeros]

theorem first_acc (hc0 : cond0_0 i) (hc1 : ¬cond0_1 i) :
    sout0_A_0 c i a1 h1 a2 h2 a3 h3 a4 h4 a5 h5 a6 h6 hc0 hc1 x0 x1 x2 = k0_pay4 x0 (k0_pay1 (F := Ideal)) x1 := by
  unfold sout0_A_0
  rw [View.read_writes_eq_canon _ _ _ (scover0_A_0 c i a1 h1 a2 h2 a3 h3 a4 h4 a5 h5 a6 h6 hc0 hc1 x0 x1 x2)]
  unfold kernelRun0_A
  dsimp only
  sl_unfold_words
  rw [View.canon_cons_unit_zero (S := S1536x1024) zeros, View.readCov_unit_zero (S := S1536x1024) _ zeros]
  simp only [View.readAt_eq_ld, h1.read_unread, h2.read_unread, View.ld_unit_zero (S := S512x1024) zeros, View.ld_unit_zero (S := S512x1536) zeros]

theorem next_rows (hc0 : ¬cond0_0 i) (hc1 : ¬cond0_1 i) :
    out0_B_3 c i a1 h1 a2 h2 a3 h3 a4 h4 a5 h5 a6 h6 hc0 hc1 x0 x1 x2 xs = k0_pay3 x0 x2 := by
  unfold out0_B_3
  rw [View.read_writes_eq_canon _ _ _ (cover0_B_3 c i a1 h1 a2 h2 a3 h3 a4 h4 a5 h5 a6 h6 hc0 hc1 x0 x1 x2 xs)]
  unfold kernelRun0_B
  dsimp only
  rw [View.canon_unit_zero zeros]
  simp only [View.readAt_eq_ld, h1.read_unread, h3.read_unread, View.ld_unit_zero (S := S512x1024) zeros, View.ld_unit_zero (S := S1024x1536) zeros]

theorem next_acc (hc0 : ¬cond0_0 i) (hc1 : ¬cond0_1 i) :
    sout0_B_0 c i a1 h1 a2 h2 a3 h3 a4 h4 a5 h5 a6 h6 hc0 hc1 x0 x1 x2 xs = k0_pay4 x0 xs x1 := by
  unfold sout0_B_0
  rw [View.read_writes_eq_canon _ _ _ (scover0_B_0 c i a1 h1 a2 h2 a3 h3 a4 h4 a5 h5 a6 h6 hc0 hc1 x0 x1 x2 xs)]
  unfold kernelRun0_B
  dsimp only
  rw [View.canon_unit_zero zeros]
  simp only [View.readAt_eq_ld, h1.read_unread, h2.read_unread, h6.read_unread, View.ld_unit_zero (S := S512x1024) zeros,
    View.ld_unit_zero (S := S512x1536) zeros, View.ld_unit_zero (S := S1536x1024) zeros]

theorem last_rows (hc0 : ¬cond0_0 i) (hc1 : cond0_1 i) :
    out0_C_3 c i a1 h1 a2 h2 a3 h3 a4 h4 a5 h5 a6 h6 hc0 hc1 x0 x1 x2 xs = k0_pay3 x0 x2 := by
  unfold out0_C_3
  rw [View.read_writes_eq_canon _ _ _ (cover0_C_3 c i a1 h1 a2 h2 a3 h3 a4 h4 a5 h5 a6 h6 hc0 hc1 x0 x1 x2 xs)]
  unfold kernelRun0_C
  dsimp only
  rw [View.canon_unit_zero zeros]
  simp only [View.readAt_eq_ld, h1.read_unread, h3.read_unread, View.ld_unit_zero (S := S512x1024) zeros, View.ld_unit_zero (S := S1024x1536) zeros]

theorem last_acc (hc0 : ¬cond0_0 i) (hc1 : cond0_1 i) :
    sout0_C_0 c i a1 h1 a2 h2 a3 h3 a4 h4 a5 h5 a6 h6 hc0 hc1 x0 x1 x2 xs = k0_pay4 x0 xs x1 := by
  unfold sout0_C_0
  rw [View.read_writes_eq_canon _ _ _ (scover0_C_0 c i a1 h1 a2 h2 a3 h3 a4 h4 a5 h5 a6 h6 hc0 hc1 x0 x1 x2 xs)]
  unfold kernelRun0_C
  dsimp only
  sl_unfold_words
  rw [View.canon_unit_zero zeros]
  simp only [View.readAt_eq_ld, h1.read_unread, h2.read_unread, h6.read_unread, View.ld_unit_zero (S := S512x1024) zeros,
    View.ld_unit_zero (S := S512x1536) zeros, View.ld_unit_zero (S := S1536x1024) zeros]

theorem last_out (hc0 : ¬cond0_0 i) (hc1 : cond0_1 i) :
    out0_C_4 c i a1 h1 a2 h2 a3 h3 a4 h4 a5 h5 a6 h6 hc0 hc1 x0 x1 x2 xs = k0_pay5 (k0_pay4 x0 xs x1) := by
  unfold out0_C_4
  rw [View.read_writes_eq_canon _ _ _ (cover0_C_4 c i a1 h1 a2 h2 a3 h3 a4 h4 a5 h5 a6 h6 hc0 hc1 x0 x1 x2 xs)]
  unfold kernelRun0_C
  dsimp only
  sl_unfold_words
  rw [View.canon_unit_zero zeros, View.readCov_unit_zero (S := S1536x1024) _ zeros]
  simp only [View.readAt_eq_ld, h1.read_unread, h2.read_unread, h6.read_unread, View.ld_unit_zero (S := S512x1024) zeros,
    View.ld_unit_zero (S := S512x1536) zeros, View.ld_unit_zero (S := S1536x1024) zeros]

/-! ### At an entry -/

theorem rows_apply (r : Fin 512) (k : Fin 1536) :
    k0_pay3 (F := Ideal) x0 x2 (ix2 r k) = ∑ d : Fin 1024, x0 (ix2 r d) * x2 (ix2 d k) := by
  pointwise [k0_pay3, k0_pay2]

theorem acc_apply (k : Fin 1536) (d : Fin 1024) :
    k0_pay4 (F := Ideal) x0 xs x1 (ix2 k d) = xs (ix2 k d) + ∑ r : Fin 512, x1 (ix2 r k) * x0 (ix2 r d) := by
  pointwise [k0_pay4, k0_pay2]

theorem start_apply (k : Fin 1536) (d : Fin 1024) : k0_pay1 (F := Ideal) (ix2 k d) = 0 := by
  pointwise [k0_pay1]

end Bodies

/-! ## The blocks -/

variable (m : (ℓ : Loc nD τ sig) → Buf (Elt Ideal) ℓ) (c : Dev nD)

/-- The rows, the weights and the cotangent. -/
abbrev Y : S8192x1536.Idx → EReal := m ((c : Thread nD τ).loc main_arg0)
abbrev W : S1536x1024.Idx → EReal := m ((c : Thread nD τ).loc main_arg1)
abbrev C : S8192x1024.Idx → EReal := m ((c : Thread nD τ).loc main_arg3)

theorem V_y : V m c main_v0 = Y m c := by
  show StableHlo.after hostOps0 (fun b => m (c, b)) main_v0 = _
  simp only [hostOps0]
  after_results_simp
  rfl

theorem V_w (d : Fin 1024) (k : Fin 1536) : V m c main_v2 (ix2 d k) = W m c (ix2 k d) := by
  have e : V m c main_v2 = transpose S1024x1536 [1, 0] (W m c) transposes_S1536x1024_S1024x1536_1_0 := by
    show StableHlo.after hostOps0 (fun b => m (c, b)) main_v2 = _
    simp only [hostOps0]
    after_results_simp
    rfl
  rw [e]
  pointwise

theorem points (t : Fin cfg0.N) : t.val < 16 := by
  have : cfg0.N = 16 := by decide +kernel
  omega

/-- Row `r` of block `s`. -/
def row (s : ℕ) (r : Fin 512) : Fin 8192 := ⟨(512 * s + r.val) % 8192, by omega⟩

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)

theorem blk0 (t : Fin cfg0.N) (r : Fin 512) (d : Fin 1024) : iblk m c 0 t (ix2 r d) = C m c (ix2 (row t.val r) d) := by
  have := points t
  rw [show C m c = V m c main_arg3 from (V_main_arg3 m c).symm]
  blk_simp [iblk]
  congr 1
  blk_ext [idx0, row]

theorem blk1 (t : Fin cfg0.N) (r : Fin 512) (k : Fin 1536) : iblk m c 1 t (ix2 r k) = Y m c (ix2 (row t.val r) k) := by
  have := points t
  rw [← V_y]
  blk_simp [iblk]
  congr 1
  blk_ext [idx1, row]

theorem blk2 (t : Fin cfg0.N) (d : Fin 1024) (k : Fin 1536) : iblk m c 2 t (ix2 d k) = W m c (ix2 k d) := by
  rw [← V_w]
  blk_simp [iblk]
  congr 1
  blk_ext [idx2]

theorem emb3 (t : Fin cfg0.N) (r : Fin 512) (k : Fin 1536) : (win0_3.blk t).view.emb (ix2 r k) = ix2 (row t.val r) k := by
  have := points t
  blk_ext [idx3, row]

theorem emb4 (t : Fin cfg0.N) (k : Fin 1536) (d : Fin 1024) : (win0_4.blk t).view.emb (ix2 k d) = ix2 k d := by
  blk_ext [idx4]

/-! ## The accumulation -/

/-- What row block `s` adds to the weights' gradient. -/
def part (s : ℕ) (k : Fin 1536) (d : Fin 1024) : EReal :=
  ∑ r : Fin 512, Y m c (ix2 (row s r) k) * C m c (ix2 (row s r) d)

theorem acc_at (t : Fin cfg0.N) (xs : S1536x1024.Idx → EReal) (k : Fin 1536) (d : Fin 1024) :
    k0_pay4 (F := Ideal) (iblk m c 0 t) xs (iblk m c 1 t) (ix2 k d) = xs (ix2 k d) + part m c t.val k d := by
  rw [part, acc_apply]
  simp only [blk0, blk1]

theorem acc_zero (t : Fin cfg0.N) (h : t.val = 0) (k : Fin 1536) (d : Fin 1024) :
    (outsAt0 m c t.val t.isLt).2.2 (ix2 k d) = part m c 0 k d := by
  rw [outsAt0_A m c t (by rw [h]) (by rw [h]; omega)]
  dsimp only
  rw [first_acc, acc_at, start_apply, zero_add, h]

theorem acc_succ (t : Fin cfg0.N) (h : t.val ≠ 0) (k : Fin 1536) (d : Fin 1024) :
    (outsAt0 m c t.val t.isLt).2.2 (ix2 k d)
      = (outsAt0 m c (t.val - 1) (Nat.lt_of_le_of_lt (Nat.sub_le _ _) t.isLt)).2.2 (ix2 k d) + part m c t.val k d := by
  have := points t
  by_cases hl : t.val % 16 = 15
  · rw [outsAt0_C m c t (by omega) hl]
    dsimp only
    rw [last_acc, acc_at]
  · rw [outsAt0_B m c t (by omega) hl]
    dsimp only
    rw [next_acc, acc_at]

theorem acc_eq (k : Fin 1536) (d : Fin 1024) : ∀ (n : ℕ) (h : n < cfg0.N),
    (outsAt0 m c n h).2.2 (ix2 k d) = ∑ s ∈ Finset.range (n + 1), part m c s k d
  | 0, h => by
    rw [Finset.sum_range_one]
    exact acc_zero m c ⟨0, h⟩ rfl k d
  | n + 1, h => by
    rw [Finset.sum_range_succ, ← acc_eq k d n (by omega)]
    exact acc_succ m c ⟨n + 1, h⟩ (Nat.succ_ne_zero n) k d

/-! ## The two results -/

def resY (w : S1536x1024.Idx → EReal) (g : S8192x1024.Idx → EReal) : S8192x1536.Idx → EReal :=
  fun z => ∑ d : Fin 1024, g (ix2 (z 0) d) * w (ix2 (z 1) d)
def resW (y : S8192x1536.Idx → EReal) (g : S8192x1024.Idx → EReal) : S1536x1024.Idx → EReal :=
  fun z => ∑ R : Fin 8192, y (ix2 R (z 0)) * g (ix2 R (z 1))

theorem rows_at (t : Fin cfg0.N) : (outsAt0 m c t.val t.isLt).1 = k0_pay3 (F := Ideal) (iblk m c 0 t) (iblk m c 2 t) := by
  have := points t
  by_cases h : t.val % 16 = 0
  · rw [outsAt0_A m c t h (by omega)]
    dsimp only
    rw [first_rows]
  · by_cases hl : t.val % 16 = 15
    · rw [outsAt0_C m c t h hl]
      dsimp only
      rw [last_rows]
    · rw [outsAt0_B m c t h hl]
      dsimp only
      rw [next_rows]

theorem final3 : (dats m 0 c).arrAt 3 cfg0.N = resY (W m c) (C m c) := by
  refine (dats m 0 c).arrAt_eq_of_covers 3 _ (by decide +kernel) fun t hf y => ?_
  blk_simp
  rw [after0_3]
  idx_vars y
  refine Eq.trans ?_ (congrArg (resY (W m c) (C m c)) (emb3 t y0 y1)).symm
  rw [rows_at]
  refine (rows_apply _ _ y0 y1).trans ?_
  simp only [blk0, blk2]
  rfl

theorem total (k : Fin 1536) (d : Fin 1024) : ∑ s ∈ Finset.range 16, part m c s k d = resW (Y m c) (C m c) (ix2 k d) := by
  refine sum_range_blocks 16 512 (by norm_num) (fun R : Fin 8192 => Y m c (ix2 R k) * C m c (ix2 R d)) _ fun t => ?_
  refine Finset.sum_congr rfl fun r _ => ?_
  have e : row t.val r = ⟨512 * t.val + r.val, by omega⟩ := Fin.ext (Nat.mod_eq_of_lt (by omega))
  rw [e]

theorem final4 : (dats m 0 c).arrAt 4 cfg0.N = resW (Y m c) (C m c) := by
  refine (dats m 0 c).arrAt_eq_of_covers 4 _ (by decide +kernel) fun t hf y => ?_
  blk_simp
  rw [after0_4]
  idx_vars y
  refine Eq.trans ?_ (congrArg (resW (Y m c) (C m c)) (emb4 t y0 y1)).symm
  have hl := (flush0_4 t).mp hf
  have := points t
  rw [outsAt0_C m c t (by omega) hl]
  dsimp only
  rw [last_out]
  refine Eq.trans (acc_at m c t _ y0 y1) ?_
  rw [acc_eq, ← total, show t.val - 1 + 1 = 15 by omega, show t.val = 15 by omega]
  exact (Finset.sum_range_succ (fun s => part m c s y0 y1) 15).symm

/-! ## The run -/

abbrev exit : Valuation τ sig (Elt Ideal) := Pipeline.withArrays spec0 c (V0 m c) fun w => (dats m 0 c).arrAt w cfg0.N

theorem exit4 : exit m c (Proc.devRef .tc main_v3_1) = resW (Y m c) (C m c) :=
  (Pipeline.withArrays_arr spec0 (by decide) c (V0 m c) (fun w => (dats m 0 c).arrAt w cfg0.N) 4).trans (final4 m c)

theorem tail (X : Valuation τ sig (Elt Ideal)) : StableHlo.after hostOps1 X (Proc.devRef .tc main_v4) = X (Proc.devRef .tc main_v3_1) := by
  simp only [hostOps1]
  after_results_simp
  rfl

theorem out4 : Pipeline.afterTail₀ cfgs (dats m) 0 (V0 m) [hostOps1] c main_v4 = resW (Y m c) (C m c) :=
  (tail (exit m c)).trans (exit4 m c)

theorem run_value (ρ : Dev nD → PrngReg) : θ_run defs (onTc (τ := τ) (main (F := Ideal))) ⟨m, fun _ => 0, ρ⟩ (fun r => ∀ c : Dev nD,
      r.2.mem ((c.tc : Thread nD τ).loc main_v3_0) = resY (W m c) (C m c)
      ∧ r.2.mem ((c.tc : Thread nD τ).loc main_v4) = resW (Y m c) (C m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 3).trans (final3 m c),
      ((h.1 c).2 main_v4 (Pipeline.mem_restRefs_of main_v4 (by decide) (by decide))).trans (out4 m c), h.2 c⟩)
    (θ_run_and (run_main m ρ) (unchanged m ρ))

/-! ## The reference -/

section Reference

open Cert.Reference6Ideal Cert.Reference6Ideal.Gen

theorem reference_y (w : Cert.Reference6Ideal.S1536x1024.Idx → EReal) (g : Cert.Reference6Ideal.S8192x1024.Idx → EReal) :
    Host.dotGeneral (F := Ideal) (φ₁ := .f32) (φ₂ := .f32) dot_S8192x1024_S1536x1024_S8192x1536_1_1_0_0_n_n none
      (shapeCast _ g shapeCasts_S8192x1024_S8192x1024) w = resY w g := by
  funext z
  idx_vars z
  pointwise [resY]

theorem reference_w (y : Cert.Reference6Ideal.S8192x1536.Idx → EReal) (g : Cert.Reference6Ideal.S8192x1024.Idx → EReal) :
    transpose Cert.Reference6Ideal.S1536x1024 [1, 0] (Host.dotGeneral (F := Ideal) (φ₁ := .f32) (φ₂ := .f32)
      dot_S8192x1024_S8192x1536_S1024x1536_0_0_1_1_n_n none (shapeCast _ g shapeCasts_S8192x1024_S8192x1024) y)
      transposes_S1024x1536_S1536x1024_1_0 = resW y g := by
  funext z
  idx_vars z
  pointwise [resW]
  exact Finset.sum_congr rfl fun R _ => mul_comm _ _

end Reference

theorem algebraic : Cert.algebraic_Kernel6Ideal_Reference6Ideal := by
  intro m g m' g' h e
  refine ⟨fun c => resY (W m c) (C m c), fun c => resW (Y m c) (C m c), run_value m g, ?_⟩
  refine (θ_run _ _ _).mono (fun _ r c => ⟨(r c).1.trans ((reference_y _ _).trans ?_), (r c).2.1.trans ((reference_w _ _).trans ?_), (r c).2.2⟩)
    (Cert.Reference6Ideal.Value.run (F := Ideal) m' g')
  · rw [(e c).2.1, (e c).2.2.2]
  · rw [(e c).1, (e c).2.2.2]

end Cert.Proof.OutBwd
-- ==== Proof.OutLoss.lean ====
/-
  The last layer's output projection with the loss: the kernel's blocks of 512 rows leave the loss's gradient, and the
  squares of their errors, folded to eight rows and accumulated over the row blocks, make up the loss.
-/
module

public import proofs.«01_k».proof.Defs
public import proofs.«01_k».proof.Proof.Split
public import proofs.«01_k».proof.Proof.Norm
public import proofs.«01_k».proof.Proof.Gen.Kernel7
public import proofs.«01_k».proof.Proof.Gen.Kernel7Ideal.Frame
public import proofs.«01_k».proof.Proof.Gen.Reference7Ideal.Run

@[expose] public section

set_option maxRecDepth 65536

noncomputable section

namespace Cert.Proof.OutLoss

open Cert.Kernel7Ideal Cert.Kernel7Ideal.Gen
open Idealize.ShloMosaic Idealize.ShloMosaic.TcCoe Idealize.SL.Sem
open Cert.Proof.Split Cert.Proof.Norm

/-! ## The frames -/

theorem frame_ideal : Cert.quiescent_Kernel7Ideal := fun m ρ _ => Gen.frame (F := Ideal) m ρ

/-- The program as printed has the same kernel body, and so the same text. -/
theorem bodies : Cert.Kernel7.defs₀ (F := Bits) = defs₀ (F := Bits) := by
  unfold Cert.Kernel7.defs₀ defs₀
  refine congrArg Defs.onTc (funext fun l => funext fun a => ?_)
  match l with
  | 0 => rfl

theorem frame_kernel : Cert.quiescent_Kernel7 := fun m ρ _ => by
  rw [show Cert.Kernel7.defs (F := Bits) = defs (F := Bits) from congrArg (Pipeline.defs Cert.Kernel7.pcfgs) bodies]
  exact Gen.frame (F := Bits) m ρ

theorem frame_reference : Cert.quiescent_Reference7Ideal := fun m ρ _ =>
  (θ_run _ _ _).mono (fun r h => ⟨fun c => (h c).2.2, sem_eq_zero_of_no_sems (by decide) r.2⟩)
    (Cert.Reference7Ideal.Value.run (F := Ideal) m ρ)

/-! ## What a grid point leaves -/

section Bodies

variable (c : Dev nD) (i : grid0.Coords) (a1 : Memref sig .tc .vmem S512x1536 .bf16) (h1 : a1.IsWhole)
  (a2 : Memref sig .tc .vmem S1536x1024 .bf16) (h2 : a2.IsWhole) (a3 : Memref sig .tc .vmem S512x1024 .f32) (h3 : a3.IsWhole)
  (a4 : Memref sig .tc .vmem S512x1024 .f32) (h4 : a4.IsWhole) (a5 : Memref sig .tc .vmem S512x1024 .f32) (h5 : a5.IsWhole)
  (a6 : Memref sig .tc .vmem S8x128 .f32) (h6 : a6.IsWhole) (a7 : Memref sig .tc .vmem S8x1024 .f32) (h7 : a7.IsWhole)
  (x0 : Vec Ideal S512x1536 .bf16) (x1 : Vec Ideal S1536x1024 .bf16) (x2 : Vec Ideal S512x1024 .f32) (x3 : Vec Ideal S512x1024 .f32)
  (xs : Vec Ideal S8x1024 .f32)

theorem first_rows (hc0 : cond0_0 i) (hc1 : ¬cond0_1 i) :
    out0_A_4 c i a1 h1 a2 h2 a3 h3 a4 h4 a5 h5 a6 h6 a7 h7 hc0 hc1 x0 x1 x2 x3 = k0_pay3 x0 x1 x2 x3 := by
  unfold out0_A_4
  rw [View.read_writes_eq_canon _ _ _ (cover0_A_4 c i a1 h1 a2 h2 a3 h3 a4 h4 a5 h5 a6 h6 a7 h7 hc0 hc1 x0 x1 x2 x3)]
  unfold kernelRun0_A
  dsimp only
  sl_unfold_words
  rw [View.canon_unit_zero zeros]
  simp only [View.readAt_eq_ld, h1.read_unread, h2.read_unread, h3.read_unread, h4.read_unread, View.ld_unit_zero (S := S512x1536) zeros,
    View.ld_unit_zero (S := S1536x1024) zeros, View.ld_unit_zero (S := S512x1024) zeros]

theorem first_acc (hc0 : cond0_0 i) (hc1 : ¬cond0_1 i) :
    sout0_A_0 c i a1 h1 a2 h2 a3 h3 a4 h4 a5 h5 a6 h6 a7 h7 hc0 hc1 x0 x1 x2 x3 = k0_pay4 x0 x1 x2 x3 (k0_pay1 (F := Ideal)) := by
  unfold sout0_A_0
  rw [View.read_writes_eq_canon _ _ _ (scover0_A_0 c i a1 h1 a2 h2 a3 h3 a4 h4 a5 h5 a6 h6 a7 h7 hc0 hc1 x0 x1 x2 x3)]
  unfold kernelRun0_A
  dsimp only
  sl_unfold_words
  rw [View.canon_cons_unit_zero (S := S8x1024) zeros, View.readCov_unit_zero (S := S8x1024) _ zeros]
  simp only [View.readAt_eq_ld, h1.read_unread, h2.read_unread, h3.read_unread, h4.read_unread, View.ld_unit_zero (S := S512x1536) zeros,
    View.ld_unit_zero (S := S1536x1024) zeros, View.ld_unit_zero (S := S512x1024) zeros]

theorem next_rows (hc0 : ¬cond0_0 i) (hc1 : ¬cond0_1 i) :
    out0_B_4 c i a1 h1 a2 h2 a3 h3 a4 h4 a5 h5 a6 h6 a7 h7 hc0 hc1 x0 x1 x2 x3 xs = k0_pay3 x0 x1 x2 x3 := by
  unfold out0_B_4
  rw [View.read_writes_eq_canon _ _ _ (cover0_B_4 c i a1 h1 a2 h2 a3 h3 a4 h4 a5 h5 a6 h6 a7 h7 hc0 hc1 x0 x1 x2 x3 xs)]
  unfold kernelRun0_B
  dsimp only
  sl_unfold_words
  rw [View.canon_unit_zero zeros]
  simp only [View.readAt_eq_ld, h1.read_unread, h2.read_unread, h3.read_unread, h4.read_unread, View.ld_unit_zero (S := S512x1536) zeros,
    View.ld_unit_zero (S := S1536x1024) zeros, View.ld_unit_zero (S := S512x1024) zeros]

theorem next_acc (hc0 : ¬cond0_0 i) (hc1 : ¬cond0_1 i) :
    sout0_B_0 c i a1 h1 a2 h2 a3 h3 a4 h4 a5 h5 a6 h6 a7 h7 hc0 hc1 x0 x1 x2 x3 xs = k0_pay4 x0 x1 x2 x3 xs := by
  unfold sout0_B_0
  rw [View.read_writes_eq_canon _ _ _ (scover0_B_0 c i a1 h1 a2 h2 a3 h3 a4 h4 a5 h5 a6 h6 a7 h7 hc0 hc1 x0 x1 x2 x3 xs)]
  unfold kernelRun0_B
  dsimp only
  sl_unfold_words
  rw [View.canon_unit_zero zeros]
  simp only [View.readAt_eq_ld, h1.read_unread, h2.read_unread, h3.read_unread, h4.read_unread, h7.read_unread, View.ld_unit_zero (S := S512x1536) zeros,
    View.ld_unit_zero (S := S1536x1024) zeros, View.ld_unit_zero (S := S512x1024) zeros, View.ld_unit_zero (S := S8x1024) zeros]

theorem last_rows (hc0 : ¬cond0_0 i) (hc1 : cond0_1 i) :
    out0_C_4 c i a1 h1 a2 h2 a3 h3 a4 h4 a5 h5 a6 h6 a7 h7 hc0 hc1 x0 x1 x2 x3 xs = k0_pay3 x0 x1 x2 x3 := by
  unfold out0_C_4
  rw [View.read_writes_eq_canon _ _ _ (cover0_C_4 c i a1 h1 a2 h2 a3 h3 a4 h4 a5 h5 a6 h6 a7 h7 hc0 hc1 x0 x1 x2 x3 xs)]
  unfold kernelRun0_C
  dsimp only
  sl_unfold_words
  rw [View.canon_unit_zero zeros]
  simp only [View.readAt_eq_ld, h1.read_unread, h2.read_unread, h3.read_unread, h4.read_unread, View.ld_unit_zero (S := S512x1536) zeros,
    View.ld_unit_zero (S := S1536x1024) zeros, View.ld_unit_zero (S := S512x1024) zeros]

theorem last_acc (hc0 : ¬cond0_0 i) (hc1 : cond0_1 i) :
    sout0_C_0 c i a1 h1 a2 h2 a3 h3 a4 h4 a5 h5 a6 h6 a7 h7 hc0 hc1 x0 x1 x2 x3 xs = k0_pay4 x0 x1 x2 x3 xs := by
  unfold sout0_C_0
  rw [View.read_writes_eq_canon _ _ _ (scover0_C_0 c i a1 h1 a2 h2 a3 h3 a4 h4 a5 h5 a6 h6 a7 h7 hc0 hc1 x0 x1 x2 x3 xs)]
  unfold kernelRun0_C
  dsimp only
  sl_unfold_words
  rw [View.canon_unit_zero zeros]
  simp only [View.readAt_eq_ld, h1.read_unread, h2.read_unread, h3.read_unread, h4.read_unread, h7.read_unread, View.ld_unit_zero (S := S512x1536) zeros,
    View.ld_unit_zero (S := S1536x1024) zeros, View.ld_unit_zero (S := S512x1024) zeros, View.ld_unit_zero (S := S8x1024) zeros]

theorem last_out (hc0 : ¬cond0_0 i) (hc1 : cond0_1 i) :
    out0_C_5 c i a1 h1 a2 h2 a3 h3 a4 h4 a5 h5 a6 h6 a7 h7 hc0 hc1 x0 x1 x2 x3 xs = k0_pay5 (k0_pay4 x0 x1 x2 x3 xs) := by
  unfold out0_C_5
  rw [View.read_writes_eq_canon _ _ _ (cover0_C_5 c i a1 h1 a2 h2 a3 h3 a4 h4 a5 h5 a6 h6 a7 h7 hc0 hc1 x0 x1 x2 x3 xs)]
  unfold kernelRun0_C
  dsimp only
  sl_unfold_words
  rw [View.canon_unit_zero zeros, View.readCov_unit_zero (S := S8x1024) _ zeros]
  simp only [View.readAt_eq_ld, h1.read_unread, h2.read_unread, h3.read_unread, h4.read_unread, h7.read_unread, View.ld_unit_zero (S := S512x1536) zeros,
    View.ld_unit_zero (S := S1536x1024) zeros, View.ld_unit_zero (S := S512x1024) zeros, View.ld_unit_zero (S := S8x1024) zeros]

/-! ### At an entry -/

theorem err_apply (r : Fin 512) (d : Fin 1024) :
    k0_pay2 (F := Ideal) x0 x1 x2 x3 (ix2 r d) = x2 (ix2 r d) + (∑ k : Fin 1536, x0 (ix2 r k) * x1 (ix2 k d)) - x3 (ix2 r d) := by
  pointwise [k0_pay2]
  rw [add_comm]

theorem rows_apply (r : Fin 512) (d : Fin 1024) :
    k0_pay3 (F := Ideal) x0 x1 x2 x3 (ix2 r d) = k0_pay2 (F := Ideal) x0 x1 x2 x3 (ix2 r d) * Ideal.ofBits FTy.f32 0x3A800000#32 := by
  unfold k0_pay3
  generalize k0_pay2 (F := Ideal) x0 x1 x2 x3 = u
  pointwise

/-- Row `i` of group `a` of eight rows. -/
def fold (a : Fin 64) (i : Fin 8) : Fin 512 := ⟨8 * a.val + i.val, by omega⟩

theorem acc_apply (i : Fin 8) (d : Fin 1024) :
    k0_pay4 (F := Ideal) x0 x1 x2 x3 xs (ix2 i d) = xs (ix2 i d)
      + ∑ a : Fin 64, k0_pay2 (F := Ideal) x0 x1 x2 x3 (ix2 (fold a i) d) * k0_pay2 (F := Ideal) x0 x1 x2 x3 (ix2 (fold a i) d) := by
  unfold k0_pay4
  generalize k0_pay2 (F := Ideal) x0 x1 x2 x3 = u
  pointwise
  have e : ∀ a : Fin 64, (⟨a.val * 8 + i.val, by omega⟩ : Fin 512) = fold a i := fun a => Fin.ext (by simp only [fold]; omega)
  simp only [e]

theorem start_apply (i : Fin 8) (d : Fin 1024) : k0_pay1 (F := Ideal) (ix2 i d) = 0 := by
  pointwise [k0_pay1]

theorem loss_apply (i : Fin 8) (j : Fin 128) :
    k0_pay5 (F := Ideal) xs (ix2 i j) = (∑ i : Fin 8, ∑ d : Fin 1024, xs (ix2 i d)) * Ideal.ofBits FTy.f32 0x3A000000#32 := by
  pointwise [k0_pay5]

end Bodies

/-! ## The blocks -/

variable (m : (ℓ : Loc nD τ sig) → Buf (Elt Ideal) ℓ) (c : Dev nD)

/-- The mixers' rows, the weights, the residual and the target. -/
abbrev Y : S8192x1536.Idx → EReal := m ((c : Thread nD τ).loc main_arg0)
abbrev W : S1536x1024.Idx → EReal := m ((c : Thread nD τ).loc main_arg1)
abbrev X : S8192x1024.Idx → EReal := m ((c : Thread nD τ).loc main_arg2)
abbrev T : S8192x1024.Idx → EReal := m ((c : Thread nD τ).loc main_arg3)

theorem V_y : V m c main_v0 = Y m c := by
  show StableHlo.after hostOps0 (fun b => m (c, b)) main_v0 = _
  simp only [hostOps0]
  after_results_simp
  rfl

theorem V_w : V m c main_v1 = W m c := by
  show StableHlo.after hostOps0 (fun b => m (c, b)) main_v1 = _
  simp only [hostOps0]
  after_results_simp
  rfl

theorem points (t : Fin cfg0.N) : t.val < 16 := by
  have : cfg0.N = 16 := by decide +kernel
  omega

/-- Row `r` of block `s`. -/
def row (s : ℕ) (r : Fin 512) : Fin 8192 := ⟨(512 * s + r.val) % 8192, by omega⟩

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0] := (by decide +kernel : ∀ t : Fin grid0.N, _)

theorem blk0 (t : Fin cfg0.N) (r : Fin 512) (k : Fin 1536) : iblk m c 0 t (ix2 r k) = Y m c (ix2 (row t.val r) k) := by
  have := points t
  rw [← V_y]
  blk_simp [iblk]
  congr 1
  blk_ext [idx0, row]

theorem blk1 (t : Fin cfg0.N) (k : Fin 1536) (d : Fin 1024) : iblk m c 1 t (ix2 k d) = W m c (ix2 k d) := by
  rw [← V_w]
  blk_simp [iblk]
  congr 1
  blk_ext [idx1]

theorem blk2 (t : Fin cfg0.N) (r : Fin 512) (d : Fin 1024) : iblk m c 2 t (ix2 r d) = X m c (ix2 (row t.val r) d) := by
  have := points t
  rw [show X m c = V m c main_arg2 from (V_main_arg2 m c).symm]
  blk_simp [iblk]
  congr 1
  blk_ext [idx2, row]

theorem blk3 (t : Fin cfg0.N) (r : Fin 512) (d : Fin 1024) : iblk m c 3 t (ix2 r d) = T m c (ix2 (row t.val r) d) := by
  have := points t
  rw [show T m c = V m c main_arg3 from (V_main_arg3 m c).symm]
  blk_simp [iblk]
  congr 1
  blk_ext [idx3, row]

theorem emb4 (t : Fin cfg0.N) (r : Fin 512) (d : Fin 1024) : (win0_4.blk t).view.emb (ix2 r d) = ix2 (row t.val r) d := by
  have := points t
  blk_ext [idx4, row]

theorem emb5 (t : Fin cfg0.N) (i : Fin 8) (j : Fin 128) : (win0_5.blk t).view.emb (ix2 i j) = ix2 i j := by
  blk_ext [idx5]

/-! ## The error -/

/-- The output's entry less the target's. -/
def err (y : S8192x1536.Idx → EReal) (w : S1536x1024.Idx → EReal) (x t : S8192x1024.Idx → EReal) (R : Fin 8192) (d : Fin 1024) : EReal :=
  x (ix2 R d) + (∑ k : Fin 1536, y (ix2 R k) * w (ix2 k d)) - t (ix2 R d)

abbrev E : Fin 8192 → Fin 1024 → EReal := err (Y m c) (W m c) (X m c) (T m c)

theorem err_at (t : Fin cfg0.N) (r : Fin 512) (d : Fin 1024) :
    k0_pay2 (F := Ideal) (iblk m c 0 t) (iblk m c 1 t) (iblk m c 2 t) (iblk m c 3 t) (ix2 r d) = E m c (row t.val r) d := by
  rw [err_apply]
  simp only [blk0, blk1, blk2, blk3]
  rfl

/-! ## The accumulation -/

/-- What row block `s` adds to the accumulator. -/
def part (s : ℕ) (i : Fin 8) (d : Fin 1024) : EReal :=
  ∑ a : Fin 64, E m c (row s (fold a i)) d * E m c (row s (fold a i)) d

theorem acc_at (t : Fin cfg0.N) (xs : S8x1024.Idx → EReal) (i : Fin 8) (d : Fin 1024) :
    k0_pay4 (F := Ideal) (iblk m c 0 t) (iblk m c 1 t) (iblk m c 2 t) (iblk m c 3 t) xs (ix2 i d) = xs (ix2 i d) + part m c t.val i d := by
  rw [part, acc_apply]
  simp only [err_at]

theorem acc_zero (t : Fin cfg0.N) (h : t.val = 0) (i : Fin 8) (d : Fin 1024) :
    (outsAt0 m c t.val t.isLt).2.2 (ix2 i d) = part m c 0 i d := by
  rw [outsAt0_A m c t (by rw [h]) (by rw [h]; omega)]
  dsimp only
  rw [first_acc, acc_at, start_apply, zero_add, h]

theorem acc_succ (t : Fin cfg0.N) (h : t.val ≠ 0) (i : Fin 8) (d : Fin 1024) :
    (outsAt0 m c t.val t.isLt).2.2 (ix2 i d)
      = (outsAt0 m c (t.val - 1) (Nat.lt_of_le_of_lt (Nat.sub_le _ _) t.isLt)).2.2 (ix2 i d) + part m c t.val i d := by
  have := points t
  by_cases hl : t.val % 16 = 15
  · rw [outsAt0_C m c t (by omega) hl]
    dsimp only
    rw [last_acc, acc_at]
  · rw [outsAt0_B m c t (by omega) hl]
    dsimp only
    rw [next_acc, acc_at]

theorem acc_eq (i : Fin 8) (d : Fin 1024) : ∀ (n : ℕ) (h : n < cfg0.N),
    (outsAt0 m c n h).2.2 (ix2 i d) = ∑ s ∈ Finset.range (n + 1), part m c s i d
  | 0, h => by
    rw [Finset.sum_range_one]
    exact acc_zero m c ⟨0, h⟩ rfl i d
  | n + 1, h => by
    rw [Finset.sum_range_succ, ← acc_eq i d n (by omega)]
    exact acc_succ m c ⟨n + 1, h⟩ (Nat.succ_ne_zero n) i d

/-! ## The two results -/

def resG (e : Fin 8192 → Fin 1024 → EReal) : S8192x1024.Idx → EReal :=
  fun z => e (z 0) (z 1) * Ideal.ofBits FTy.f32 0x3A800000#32
def loss (e : Fin 8192 → Fin 1024 → EReal) : EReal :=
  (∑ R : Fin 8192, ∑ d : Fin 1024, e R d * e R d) * Ideal.ofBits FTy.f32 0x3A000000#32

theorem rows_at (t : Fin cfg0.N) : (outsAt0 m c t.val t.isLt).1
    = k0_pay3 (F := Ideal) (iblk m c 0 t) (iblk m c 1 t) (iblk m c 2 t) (iblk m c 3 t) := by
  have := points t
  by_cases h : t.val % 16 = 0
  · rw [outsAt0_A m c t h (by omega)]
    dsimp only
    rw [first_rows]
  · by_cases hl : t.val % 16 = 15
    · rw [outsAt0_C m c t h hl]
      dsimp only
      rw [last_rows]
    · rw [outsAt0_B m c t h hl]
      dsimp only
      rw [next_rows]

theorem final4 : (dats m 0 c).arrAt 4 cfg0.N = resG (E m c) := by
  refine (dats m 0 c).arrAt_eq_of_covers 4 _ (by decide +kernel) fun t hf y => ?_
  blk_simp
  rw [after0_4]
  idx_vars y
  refine Eq.trans ?_ (congrArg (resG (E m c)) (emb4 t y0 y1)).symm
  rw [rows_at]
  refine (rows_apply _ _ _ _ y0 y1).trans ?_
  rw [err_at]
  rfl

/-- Over all row blocks, the accumulator's rows hold every square once. -/
theorem total : (∑ i : Fin 8, ∑ d : Fin 1024, ∑ s ∈ Finset.range 16, part m c s i d)
    = ∑ R : Fin 8192, ∑ d : Fin 1024, E m c R d * E m c R d := by
  have e : ∀ s, (∑ i : Fin 8, ∑ d : Fin 1024, part m c s i d)
      = ∑ r : Fin 512, ∑ d : Fin 1024, E m c (row s r) d * E m c (row s r) d := by
    intro s
    refine Eq.symm ((sum_blocks (N := 512) 64 8 (by norm_num) _).trans ?_)
    rw [Finset.sum_comm]
    refine Finset.sum_congr rfl fun i _ => ?_
    unfold part
    rw [Finset.sum_comm]
    rfl
  have e' : (∑ i : Fin 8, ∑ d : Fin 1024, ∑ s ∈ Finset.range 16, part m c s i d)
      = ∑ s ∈ Finset.range 16, ∑ i : Fin 8, ∑ d : Fin 1024, part m c s i d := by
    rw [Finset.sum_comm (s := Finset.range 16)]
    exact Finset.sum_congr rfl fun i _ => Finset.sum_comm
  rw [e']
  refine sum_range_blocks 16 512 (by norm_num) (fun R : Fin 8192 => ∑ d : Fin 1024, E m c R d * E m c R d) _ fun t => (e t.val).trans ?_
  refine Finset.sum_congr rfl fun r _ => ?_
  have e : row t.val r = ⟨512 * t.val + r.val, by omega⟩ := Fin.ext (Nat.mod_eq_of_lt (by omega))
  rw [e]

def tile (e : Fin 8192 → Fin 1024 → EReal) : S8x128.Idx → EReal := fun _ => loss e

theorem final5 : (dats m 0 c).arrAt 5 cfg0.N = tile (E m c) := by
  refine (dats m 0 c).arrAt_eq_of_covers 5 _ (by decide +kernel) fun t hf y => ?_
  blk_simp
  rw [after0_5]
  idx_vars y
  refine Eq.trans ?_ (congrArg (tile (E m c)) (emb5 t y0 y1)).symm
  have hl := (flush0_5 t).mp hf
  have := points t
  rw [outsAt0_C m c t (by omega) hl]
  dsimp only
  rw [last_out]
  refine (loss_apply _ y0 y1).trans ?_
  show _ = loss (E m c)
  rw [loss, ← total]
  refine congrArg (· * _) (Finset.sum_congr rfl fun i _ => Finset.sum_congr rfl fun d _ => ?_)
  rw [acc_at, acc_eq, show t.val - 1 + 1 = 15 by omega, show t.val = 15 by omega]
  exact (Finset.sum_range_succ (fun s => part m c s i d) 15).symm

/-! ## The run -/

abbrev exit : Valuation τ sig (Elt Ideal) := Pipeline.withArrays spec0 c (V0 m c) fun w => (dats m 0 c).arrAt w cfg0.N

theorem exit5 : exit m c (Proc.devRef .tc main_v2_1) = tile (E m c) :=
  (Pipeline.withArrays_arr spec0 (by decide) c (V0 m c) (fun w => (dats m 0 c).arrAt w cfg0.N) 5).trans (final5 m c)

theorem first_entry (a : S8x128.Idx → EReal) :
    shapeCast S_ (extractStridedSlice S1x1 ![0, 0] a slices_S8x128_S1x1_0_0) shapeCasts_S1x1_S_ ix0 = a (ix2 0 0) := by
  pointwise

theorem tail (Z : Valuation τ sig (Elt Ideal)) :
    (StableHlo.after hostOps1 Z (Proc.devRef .tc main_v4) : S_.Idx → EReal) ix0
      = (Z (Proc.devRef .tc main_v2_1) : S8x128.Idx → EReal) (ix2 0 0) := by
  refine Eq.trans ?_ (first_entry (Z (Proc.devRef .tc main_v2_1)))
  refine congrFun ?_ ix0
  simp only [hostOps1]
  after_results_simp
  rfl

/-- The loss as the array of its one entry. -/
def resL (e : Fin 8192 → Fin 1024 → EReal) : S_.Idx → EReal := fun _ => loss e

theorem out : Pipeline.afterTail₀ cfgs (dats m) 0 (V0 m) [hostOps1] c main_v4 = resL (E m c) := by
  funext z
  rw [show z = ix0 from funext fun i => i.elim0]
  exact (tail (exit m c)).trans (congrFun (exit5 m c) (ix2 0 0))

theorem run_value (ρ : Dev nD → PrngReg) : θ_run defs (onTc (τ := τ) (main (F := Ideal))) ⟨m, fun _ => 0, ρ⟩ (fun r => ∀ c : Dev nD,
      r.2.mem ((c.tc : Thread nD τ).loc main_v4) = resL (E m c)
      ∧ r.2.mem ((c.tc : Thread nD τ).loc main_v2_0) = resG (E m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).2 main_v4 (Pipeline.mem_restRefs_of main_v4 (by decide) (by decide))).trans (out m c),
      ((h.1 c).1 4).trans (final4 m c), h.2 c⟩)
    (θ_run_and (run_main m ρ) (unchanged m ρ))

/-! ## The reference -/

section Constants

theorem half : Ideal.ofBits FTy.f32 0x3F000000#32 = ((1 / 2 : ℝ) : EReal) := by
  simp [Ideal.ofBits, Ideal.ieee, -EReal.coe_mul]
  norm_num
theorem two : Ideal.ofBits FTy.f32 0x40000000#32 = ((2 : ℝ) : EReal) := by
  simp [Ideal.ofBits, Ideal.ieee, -EReal.coe_mul]
  norm_num
theorem half_inv_width : Ideal.ofBits FTy.f32 0x3A000000#32 = ((1 / 2048 : ℝ) : EReal) := by
  simp [Ideal.ofBits, Ideal.ieee, -EReal.coe_mul]
  norm_num

/-- A nonnegative real factor comes out of a sum. -/
theorem sum_mul_real {n : ℕ} (f : Fin n → EReal) (r : ℝ) (hr : 0 ≤ r) : ∑ i, f i * (r : EReal) = (∑ i, f i) * (r : EReal) := by
  induction n with
  | zero => simp
  | succ n ih =>
    rw [Fin.sum_univ_succ, Fin.sum_univ_succ, ih,
      EReal.right_distrib_of_nonneg_of_ne_top (EReal.coe_nonneg.mpr hr) (EReal.coe_ne_top r)]

end Constants

section Reference

open Cert.Reference7Ideal Cert.Reference7Ideal.Gen

variable (y : Cert.Reference7Ideal.S8192x1536.Idx → EReal) (w : Cert.Reference7Ideal.S1536x1024.Idx → EReal)
  (x t : Cert.Reference7Ideal.S8192x1024.Idx → EReal)

def hostErr : Cert.Reference7Ideal.S8192x1024.Idx → EReal :=
  subf (F := Ideal) (φ := .f32) (addf (F := Ideal) (φ := .f32) x (Host.dotGeneral (F := Ideal) (φ₁ := .f32) (φ₂ := .f32)
    Cert.Reference7Ideal.dot_S8192x1536_S1536x1024_S8192x1024_1_0_0_1_n_n none y w)) t

theorem hostErr_apply (R : Fin 8192) (d : Fin 1024) : hostErr y w x t (ix2 R d) = err y w x t R d := by
  unfold hostErr err
  pointwise

theorem reference_g (e : Cert.Reference7Ideal.S8192x1024.Idx → EReal) (R : Fin 8192) (d : Fin 1024) :
    mulf (F := Ideal) (φ := .f32) (broadcastInDim Cert.Reference7Ideal.S8192x1024 ![0] bcast_S8192_S8192x1024_0 (Host.divf (broadcastInDim Cert.Reference7Ideal.S8192 ![] bcast_S_S8192 (mulf (F := Ideal) (φ := .f32) (constant Cert.Reference7Ideal.S_ .f32 0x3F000000#32) (constant Cert.Reference7Ideal.S_ .f32 0x3F800000#32)))
      (broadcastInDim Cert.Reference7Ideal.S8192 ![] bcast_S_S8192 (constant Cert.Reference7Ideal.S_ .f32 0x44800000#32)))) (mulf (F := Ideal) (φ := .f32) (broadcastInDim Cert.Reference7Ideal.S8192x1024 ![] bcast_S_S8192x1024 (constant Cert.Reference7Ideal.S_ .f32 0x40000000#32)) e) (ix2 R d)
      = e (ix2 R d) * Ideal.ofBits FTy.f32 0x3A800000#32 := by
  pointwise
  rw [div_width, half, two, inv_width, ← mul_assoc, mul_comm]
  simp only [← EReal.coe_mul]
  norm_num

theorem reference_l (e : Cert.Reference7Ideal.S8192x1024.Idx → EReal) :
    mulf (F := Ideal) (φ := .f32) (constant Cert.Reference7Ideal.S_ .f32 0x3F000000#32) (Host.reduceAdd (Host.divf (Host.reduceAdd (mulf (F := Ideal) (φ := .f32) e e) (constant Cert.Reference7Ideal.S_ .f32 0x00000000#32) reducesTo_S8192x1024_S8192_d1 h_S_)
      (broadcastInDim Cert.Reference7Ideal.S8192 ![] bcast_S_S8192 (constant Cert.Reference7Ideal.S_ .f32 0x44800000#32))) (constant Cert.Reference7Ideal.S_ .f32 0x00000000#32) reducesTo_S8192_S_d0 h_S_) ix0
      = (∑ R : Fin 8192, ∑ d : Fin 1024, e (ix2 R d) * e (ix2 R d)) * Ideal.ofBits FTy.f32 0x3A000000#32 := by
  pointwise
  simp only [div_width, inv_width]
  rw [sum_mul_real _ _ (by norm_num), half, half_inv_width, mul_comm, mul_assoc, ← EReal.coe_mul]
  norm_num

end Reference

theorem algebraic : Cert.algebraic_Kernel7Ideal_Reference7Ideal := by
  intro m g m' g' h e
  refine ⟨fun c => resL (E m c), fun c => resG (E m c), run_value m g, ?_⟩
  refine (θ_run _ _ _).mono (fun _ r c => ⟨(r c).1.trans ?_, (r c).2.1.trans ?_, (r c).2.2⟩)
    (Cert.Reference7Ideal.Value.run (F := Ideal) m' g')
  · rw [(e c).1, (e c).2.1, (e c).2.2.1, (e c).2.2.2]
    funext z
    rw [show z = ix0 from funext fun i => i.elim0]
    refine (reference_l (hostErr (Y m c) (W m c) (X m c) (T m c))).trans ?_
    simp only [hostErr_apply]
    rfl
  · rw [(e c).1, (e c).2.1, (e c).2.2.1, (e c).2.2.2]
    funext z
    idx_vars z
    refine (reference_g (hostErr (Y m c) (W m c) (X m c) (T m c)) z0 z1).trans ?_
    rw [hostErr_apply]
    rfl

end Cert.Proof.OutLoss
-- ==== Proof.Adam.lean ====
/-
  The optimiser's step of a weight of any width: the sum of the devices' parts of its gradient, the new means and
  the change of the weight, and the lines of the host that compute them.
-/
module

public import Idealize.ShloMosaic.Lib.Quiescent
public import Idealize.ShloMosaic.Lib.Pointwise
public import Idealize.ShloMosaic.PureOps.Ideal
public import Idealize.ShloMosaic.Lib.Pipeline.ValueKit.Tiles

@[expose] public section

noncomputable section

namespace Cert.Proof.Adam

open Idealize.ShloMosaic

/-! ## One place -/

/-- The new mean of the gradient. -/
def mean (g m : EReal) : EReal :=
  Ideal.ofBits FTy.f32 0x3F666666#32 * m + Ideal.ofBits FTy.f32 0x3DCCCCCD#32 * g

/-- The new mean of the gradient's square. -/
def square (g v : EReal) : EReal :=
  Ideal.ofBits FTy.f32 0x3F7FBE77#32 * v + Ideal.ofBits FTy.f32 0x3A83126F#32 * (g * g)

/-- The change of the weight. -/
def delta (g w m v : EReal) : EReal :=
  Ideal.ofBits FTy.f32 0xBA83126F#32 *
    (Ideal.div (Ideal.div (mean g m) (Ideal.ofBits FTy.f32 0x3F26BD02#32))
        (Ideal.sqrt (Ideal.div (square g v) (Ideal.ofBits FTy.f32 0x3C231ACC#32)) + Ideal.ofBits FTy.f32 0x322BCC77#32)
      + Ideal.ofBits FTy.f32 0x3C23D70A#32 * w)

/-! ## A weight of two layers -/

section Weight

variable {rows cols N : ℕ}

/-- The gradient: the sum of the eight devices' parts. -/
def grad (p : (⟨4, ![8, 2, rows, cols]⟩ : Shape).Idx → EReal) : (⟨3, ![2, rows, cols]⟩ : Shape).Idx → EReal :=
  fun z => ∑ s : Fin 8, p (ix4 s (z 0) (z 1) (z 2))

/-- Both layers of a weight, one under the other. -/
def flat (h : N = 2 * rows) (f : (⟨3, ![2, rows, cols]⟩ : Shape).Idx → EReal) : (⟨2, ![N, cols]⟩ : Shape).Idx → EReal :=
  fun z => have hz : (z 0).val < N := (z 0).isLt
    f (ix3 ⟨(z 0).val / rows, Nat.div_lt_of_lt_mul (by rw [Nat.mul_comm]; omega)⟩
      ⟨(z 0).val % rows, Nat.mod_lt _ (by omega)⟩ (z 1))

end Weight

/-! ## The steps of arrays -/

section Step

variable {S : Shape} (g w m v : S.Idx → EReal)

def means : S.Idx → EReal := fun z => mean (g z) (m z)
def squares : S.Idx → EReal := fun z => square (g z) (v z)
def deltas : S.Idx → EReal := fun z => delta (g z) (w z) (m z) (v z)

/-- A constant of the host, at every place of an array. -/
abbrev all (h : (⟨0, ![]⟩ : Shape).BroadcastsInDim S (![] : Fin 0 → Fin S.rank)) (b : BitVec 32) : FVec Ideal S .f32 :=
  broadcastInDim S ![] h (constant (⟨0, ![]⟩ : Shape) .f32 b)

variable (h : (⟨0, ![]⟩ : Shape).BroadcastsInDim S (![] : Fin 0 → Fin S.rank))

theorem host_means :
    addf (F := Ideal) (φ := .f32) (mulf (F := Ideal) (φ := .f32) (all h 0x3F666666#32) m) (mulf (F := Ideal) (φ := .f32) (all h 0x3DCCCCCD#32) g)
      = means g m := rfl

theorem host_squares :
    addf (F := Ideal) (φ := .f32) (mulf (F := Ideal) (φ := .f32) (all h 0x3F7FBE77#32) v)
        (mulf (F := Ideal) (φ := .f32) (all h 0x3A83126F#32) (mulf (F := Ideal) (φ := .f32) g g))
      = squares g v := rfl

theorem host_deltas :
    mulf (F := Ideal) (φ := .f32) (all h 0xBA83126F#32) (addf (F := Ideal) (φ := .f32)
        (Host.divf (F := Ideal) (φ := .f32) (Host.divf (F := Ideal) (φ := .f32) (means g m) (all h 0x3F26BD02#32))
          (addf (F := Ideal) (φ := .f32) (Host.sqrt (F := Ideal) (φ := .f32) (Host.divf (F := Ideal) (φ := .f32) (squares g v) (all h 0x3C231ACC#32)))
            (all h 0x322BCC77#32)))
        (mulf (F := Ideal) (φ := .f32) (all h 0x3C23D70A#32) w))
      = deltas g w m v := rfl

end Step

/-! ## The parts in a block -/

section Block

variable {rows cols : ℕ} (a : Vec Ideal ⟨3, ![8, rows, cols]⟩ .bf16)

/-- What is loaded as one device's part. -/
abbrev part (s : ℕ) (inb : ∀ i, (![s, 0, 0] : Fin 3 → ℕ) i + (⟨3, ![1, rows, cols]⟩ : Shape).size i ≤ (⟨3, ![8, rows, cols]⟩ : Shape).size i)
    (r : Fin rows) (k : Fin cols) : EReal :=
  View.ld a (Rect.unit (s := ⟨3, ![8, rows, cols]⟩) ![s, 0, 0] (⟨3, ![1, rows, cols]⟩ : Shape).size inb) (ix3 0 r k)

theorem part_apply (s : ℕ) (hs : s < 8) (inb) (r : Fin rows) (k : Fin cols) : part a s inb r k = a (ix3 ⟨s, hs⟩ r k) := by
  refine View.ld_unit_apply_of a _ _ inb (ix3 0 r k) (ix3 ⟨s, hs⟩ r k) fun i => ?_
  match i with
  | 0 => rfl
  | 1 => exact (Nat.zero_add _).symm
  | 2 => exact (Nat.zero_add _).symm

/-- The parts added in their order. -/
theorem parts_sum (i0 i1 i2 i3 i4 i5 i6 i7) (r : Fin rows) (k : Fin cols) :
    part a 0 i0 r k + part a 1 i1 r k + part a 2 i2 r k + part a 3 i3 r k + part a 4 i4 r k + part a 5 i5 r k + part a 6 i6 r k
      + part a 7 i7 r k = ∑ s : Fin 8, (a (ix3 s r k) : EReal) := by
  rw [Fin.sum_univ_eight, part_apply a 0 (by norm_num), part_apply a 1 (by norm_num), part_apply a 2 (by norm_num),
    part_apply a 3 (by norm_num), part_apply a 4 (by norm_num), part_apply a 5 (by norm_num), part_apply a 6 (by norm_num),
    part_apply a 7 (by norm_num)]
  rfl

end Block

end Cert.Proof.Adam
-- ==== Proof.Step8.lean ====
/-
  The optimiser's step for the weights of the input projection: the blocks of rows make up both layers, and the eight
  devices' parts of the gradient are added in their order.
-/
module

public import proofs.«01_k».proof.Defs
public import proofs.«01_k».proof.Proof.Adam
public import proofs.«01_k».proof.Proof.Split
public import proofs.«01_k».proof.Proof.Gen.Kernel8
public import proofs.«01_k».proof.Proof.Gen.Kernel8Ideal.Frame
public import proofs.«01_k».proof.Proof.Gen.Reference8Ideal.Run

@[expose] public section

set_option maxRecDepth 65536

noncomputable section

namespace Cert.Proof.Step8

open Cert.Kernel8Ideal Cert.Kernel8Ideal.Gen
open Idealize.ShloMosaic Idealize.ShloMosaic.TcCoe Idealize.SL.Sem

/-! ## The frames -/

theorem frame_ideal : Cert.quiescent_Kernel8Ideal := fun m ρ _ => Gen.frame (F := Ideal) m ρ

/-- The program as printed has the same kernel body, and so the same text. -/
theorem bodies : Cert.Kernel8.defs₀ (F := Bits) = defs₀ (F := Bits) := by
  unfold Cert.Kernel8.defs₀ defs₀
  refine congrArg Defs.onTc (funext fun l => funext fun a => ?_)
  match l with
  | 0 => rfl

theorem frame_kernel : Cert.quiescent_Kernel8 := fun m ρ _ => by
  rw [show Cert.Kernel8.defs (F := Bits) = defs (F := Bits) from congrArg (Pipeline.defs Cert.Kernel8.pcfgs) bodies]
  exact Gen.frame (F := Bits) m ρ

theorem frame_reference : Cert.quiescent_Reference8Ideal := fun m ρ _ =>
  (θ_run _ _ _).mono (fun r h => ⟨fun c => (h c).2.2.2.2, sem_eq_zero_of_no_sems (by decide) r.2⟩)
    (Cert.Reference8Ideal.Value.run (F := Ideal) m ρ)

/-! ## One block -/

/-- The loaded parts, cast and added in their order. -/
theorem sum_apply (a0 a1 a2 a3 a4 a5 a6 a7 : S1x256x532.Idx → EReal) (r : Fin 256) (k : Fin 532) :
    k0_pay4 (F := Ideal) a0 a1 a2 a3 a4 a5 a6 a7 (ix2 r k) = a0 (ix3 0 r k) + a1 (ix3 0 r k) + a2 (ix3 0 r k) + a3 (ix3 0 r k)
      + a4 (ix3 0 r k) + a5 (ix3 0 r k) + a6 (ix3 0 r k) + a7 (ix3 0 r k) := by
  pointwise [k0_pay4]

/-- The block of the gradient is the sum of the block's eight parts. -/
theorem grad_apply (a : S8x256x532.Idx → EReal) (w u v : S256x532.Idx → EReal) (r : Fin 256) (k : Fin 532) :
    k0_pay6 (F := Ideal) a w u v (ix2 r k) = ∑ s : Fin 8, a (ix3 s r k) := by
  unfold k0_pay6
  refine (sum_apply _ _ _ _ _ _ _ _ r k).trans ?_
  exact Adam.parts_sum a _ _ _ _ _ _ _ _ r k

/-- The block of the gradient's new mean. -/
theorem mean_apply (g u : S256x532.Idx → EReal) (r : Fin 256) (k : Fin 532) :
    k0_pay1 (F := Ideal) g u (ix2 r k) = Adam.mean (g (ix2 r k)) (u (ix2 r k)) := by
  pointwise [k0_pay1, Adam.mean]

/-- The block of the new mean of the gradient's square. -/
theorem square_apply (g v : S256x532.Idx → EReal) (r : Fin 256) (k : Fin 532) :
    k0_pay2 (F := Ideal) g v (ix2 r k) = Adam.square (g (ix2 r k)) (v (ix2 r k)) := by
  pointwise [k0_pay2, Adam.square]

/-- The block of the weight's change. -/
theorem delta_apply (g w u v : S256x532.Idx → EReal) (r : Fin 256) (k : Fin 532) :
    k0_pay3 (F := Ideal) g (k0_pay5 (F := Ideal) w) u v (ix2 r k)
      = Adam.delta (g (ix2 r k)) (w (ix2 r k)) (u (ix2 r k)) (v (ix2 r k)) := by
  pointwise [k0_pay3, k0_pay5, k0_pay1, k0_pay2, Adam.delta, Adam.mean, Adam.square]

section Out

variable (a : S8x256x532.Idx → EReal) (w u v : S256x532.Idx → EReal)

theorem out4_eq : out0_4 (F := Ideal) a w u v = k0_pay6 (F := Ideal) a w u v := by
  unfold out0_4
  rw [View.canon_unit_zero Split.zeros]

theorem out5_eq : out0_5 (F := Ideal) a w u v = k0_pay3 (F := Ideal) (k0_pay6 (F := Ideal) a w u v) (k0_pay5 (F := Ideal) w) u v := by
  unfold out0_5
  rw [View.canon_unit_zero Split.zeros, View.ld_unit_zero (S := S256x532) Split.zeros, View.ld_unit_zero (S := S256x532) Split.zeros,
    View.ld_unit_zero (S := S256x532) Split.zeros]

theorem out6_eq : out0_6 (F := Ideal) a w u v = k0_pay1 (F := Ideal) (k0_pay6 (F := Ideal) a w u v) u := by
  unfold out0_6
  rw [View.canon_unit_zero Split.zeros, View.ld_unit_zero (S := S256x532) Split.zeros]

theorem out7_eq : out0_7 (F := Ideal) a w u v = k0_pay2 (F := Ideal) (k0_pay6 (F := Ideal) a w u v) v := by
  unfold out0_7
  rw [View.canon_unit_zero Split.zeros, View.ld_unit_zero (S := S256x532) Split.zeros]

end Out

/-! ## The arrays -/

/-- Both layers of a weight, one under the other. -/
abbrev flat (f : S2x1024x532.Idx → EReal) : S2048x532.Idx → EReal := Adam.flat (rows := 1024) rfl f

theorem flat_eq (f : S2x1024x532.Idx → EReal) : shapeCast S2048x532 f shapeCasts_S2x1024x532_S2048x532 = flat f := by
  funext z
  idx_vars z
  pointwise [flat, Adam.flat]

/-- The layers parted again. -/
theorem unflat (f : S2x1024x532.Idx → EReal) : shapeCast S2x1024x532 (flat f) shapeCasts_S2048x532_S2x1024x532 = f := by
  rw [← flat_eq]
  exact shapeCast_shapeCast _ _ _

/-- The devices' parts as the call takes them. -/
theorem parts_apply (p : S8x2x1024x532.Idx → EReal) (s : Fin 8) (R : Fin 2048) (k : Fin 532) :
    shapeCast S8x2048x532 (truncf (F := Ideal) (φ := .f32) .bf16 p bitsLt_bf16_f32) shapeCasts_S8x2x1024x532_S8x2048x532 (ix3 s R k)
      = flat (fun z => p (ix4 s (z 0) (z 1) (z 2))) (ix2 R k) := by
  pointwise [flat, Adam.flat]

variable (m : (ℓ : Loc nD τ sig) → Buf (Elt Ideal) ℓ) (c : Dev nD)

abbrev P : S8x2x1024x532.Idx → EReal := m ((c : Thread nD τ).loc main_arg0)
abbrev W : S2x1024x532.Idx → EReal := m ((c : Thread nD τ).loc main_arg1)
abbrev U : S2x1024x532.Idx → EReal := m ((c : Thread nD τ).loc main_arg2)
abbrev Q : S2x1024x532.Idx → EReal := m ((c : Thread nD τ).loc main_arg3)
/-- The gradient of both layers. -/
abbrev G : S2x1024x532.Idx → EReal := Adam.grad (P m c)

theorem V_p (s : Fin 8) (R : Fin 2048) (k : Fin 532) :
    (V m c main_v2 : S8x2048x532.Idx → EReal) (ix3 s R k) = flat (fun z => P m c (ix4 s (z 0) (z 1) (z 2))) (ix2 R k) := by
  refine Eq.trans ?_ (parts_apply (P m c) s R k)
  refine congrFun ?_ (ix3 s R k)
  show StableHlo.after hostOps0 (fun b => m (c, b)) main_v2 = _
  simp only [hostOps0]
  after_results_simp
  rfl

theorem V_w : (V m c main_v3 : S2048x532.Idx → EReal) = flat (W m c) := by
  rw [← flat_eq]
  show StableHlo.after hostOps0 (fun b => m (c, b)) main_v3 = _
  simp only [hostOps0]
  after_results_simp
  rfl

theorem V_u : (V m c main_v4 : S2048x532.Idx → EReal) = flat (U m c) := by
  rw [← flat_eq]
  show StableHlo.after hostOps0 (fun b => m (c, b)) main_v4 = _
  simp only [hostOps0]
  after_results_simp
  rfl

theorem V_q : (V m c main_v5 : S2048x532.Idx → EReal) = flat (Q m c) := by
  rw [← flat_eq]
  show StableHlo.after hostOps0 (fun b => m (c, b)) main_v5 = _
  simp only [hostOps0]
  after_results_simp
  rfl

/-! ## The blocks -/

theorem points (t : Fin cfg0.N) : t.val < 8 := by
  have : cfg0.N = 8 := by decide +kernel
  omega

/-- Row `r` of block `t`. -/
def row (t : Fin cfg0.N) (r : Fin 256) : Fin 2048 := ⟨256 * t.val + r.val, by have := points t; omega⟩

theorem idx0 : ∀ t : Fin cfg0.N, win0_0.index t = ![0, t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

theorem blk0 (t : Fin cfg0.N) (s : Fin 8) (r : Fin 256) (k : Fin 532) :
    iblk m c 0 t (ix3 s r k) = V m c main_v2 (ix3 s (row t r) k) := by
  blk_simp [iblk]
  congr 1
  blk_ext [idx0, row]

theorem blk1 (t : Fin cfg0.N) (r : Fin 256) (k : Fin 532) : iblk m c 1 t (ix2 r k) = V m c main_v3 (ix2 (row t r) k) := by
  blk_simp [iblk]
  congr 1
  blk_ext [idx1, row]

theorem blk2 (t : Fin cfg0.N) (r : Fin 256) (k : Fin 532) : iblk m c 2 t (ix2 r k) = V m c main_v4 (ix2 (row t r) k) := by
  blk_simp [iblk]
  congr 1
  blk_ext [idx2, row]

theorem blk3 (t : Fin cfg0.N) (r : Fin 256) (k : Fin 532) : iblk m c 3 t (ix2 r k) = V m c main_v5 (ix2 (row t r) k) := by
  blk_simp [iblk]
  congr 1
  blk_ext [idx3, row]

theorem emb4 (t : Fin cfg0.N) (r : Fin 256) (k : Fin 532) : (win0_4.blk t).view.emb (ix2 r k) = ix2 (row t r) k := by
  blk_ext [idx4, row]

theorem emb5 (t : Fin cfg0.N) (r : Fin 256) (k : Fin 532) : (win0_5.blk t).view.emb (ix2 r k) = ix2 (row t r) k := by
  blk_ext [idx5, row]

theorem emb6 (t : Fin cfg0.N) (r : Fin 256) (k : Fin 532) : (win0_6.blk t).view.emb (ix2 r k) = ix2 (row t r) k := by
  blk_ext [idx6, row]

theorem emb7 (t : Fin cfg0.N) (r : Fin 256) (k : Fin 532) : (win0_7.blk t).view.emb (ix2 r k) = ix2 (row t r) k := by
  blk_ext [idx7, row]

/-- The gradient of a block is that block of the gradient. -/
theorem grad_at (t : Fin cfg0.N) (r : Fin 256) (k : Fin 532) :
    k0_pay6 (F := Ideal) (iblk m c 0 t) (iblk m c 1 t) (iblk m c 2 t) (iblk m c 3 t) (ix2 r k)
      = flat (G m c) (ix2 (row t r) k) := by
  refine (grad_apply _ _ _ _ r k).trans ?_
  exact congrArg (fun f : Fin 8 → EReal => ∑ s, f s) (funext fun s => (blk0 m c t s r k).trans (V_p m c s (row t r) k))

/-! ## The results before the layers are parted -/

theorem final4 : (dats m 0 c).arrAt 4 cfg0.N = flat (G m c) := by
  refine (dats m 0 c).arrAt_eq_of_covers 4 _ (by decide +kernel) fun t hf y => ?_
  blk_simp
  rw [after0_4]
  idx_vars y
  refine Eq.trans ?_ (congrArg (flat (G m c)) (emb4 t y0 y1)).symm
  exact (congrFun (out4_eq _ _ _ _) _).trans (grad_at m c t y0 y1)

theorem final5 : (dats m 0 c).arrAt 5 cfg0.N = flat (Adam.deltas (G m c) (W m c) (U m c) (Q m c)) := by
  refine (dats m 0 c).arrAt_eq_of_covers 5 _ (by decide +kernel) fun t hf y => ?_
  blk_simp
  rw [after0_5]
  idx_vars y
  refine Eq.trans ?_ (congrArg (flat (Adam.deltas (G m c) (W m c) (U m c) (Q m c))) (emb5 t y0 y1)).symm
  refine (congrFun (out5_eq _ _ _ _) _).trans ((delta_apply _ _ _ _ y0 y1).trans ?_)
  rw [grad_at, blk1, blk2, blk3, V_w, V_u, V_q]
  rfl

theorem final6 : (dats m 0 c).arrAt 6 cfg0.N = flat (Adam.means (G m c) (U m c)) := by
  refine (dats m 0 c).arrAt_eq_of_covers 6 _ (by decide +kernel) fun t hf y => ?_
  blk_simp
  rw [after0_6]
  idx_vars y
  refine Eq.trans ?_ (congrArg (flat (Adam.means (G m c) (U m c))) (emb6 t y0 y1)).symm
  refine (congrFun (out6_eq _ _ _ _) _).trans ((mean_apply _ _ y0 y1).trans ?_)
  rw [grad_at, blk2, V_u]
  rfl

theorem final7 : (dats m 0 c).arrAt 7 cfg0.N = flat (Adam.squares (G m c) (Q m c)) := by
  refine (dats m 0 c).arrAt_eq_of_covers 7 _ (by decide +kernel) fun t hf y => ?_
  blk_simp
  rw [after0_7]
  idx_vars y
  refine Eq.trans ?_ (congrArg (flat (Adam.squares (G m c) (Q m c))) (emb7 t y0 y1)).symm
  refine (congrFun (out7_eq _ _ _ _) _).trans ((square_apply _ _ y0 y1).trans ?_)
  rw [grad_at, blk3, V_q]
  rfl

/-! ## The run -/

abbrev exit : Valuation τ sig (Elt Ideal) := Pipeline.withArrays spec0 c (V0 m c) fun w => (dats m 0 c).arrAt w cfg0.N

theorem exit4 : exit m c (Proc.devRef .tc main_v6_0) = flat (G m c) :=
  (Pipeline.withArrays_arr spec0 (by decide) c (V0 m c) (fun w => (dats m 0 c).arrAt w cfg0.N) 4).trans (final4 m c)

theorem tail4 (Z : Valuation τ sig (Elt Ideal)) :
    (StableHlo.after hostOps1 Z (Proc.devRef .tc main_v7) : S2x1024x532.Idx → EReal)
      = shapeCast S2x1024x532 (Z (Proc.devRef .tc main_v6_0) : S2048x532.Idx → EReal) shapeCasts_S2048x532_S2x1024x532 := by
  simp only [hostOps1]
  after_results_simp
  rfl

theorem out4 : Pipeline.afterTail₀ cfgs (dats m) 0 (V0 m) [hostOps1] c main_v7 = G m c := by
  refine (tail4 (exit m c)).trans ?_
  rw [exit4]
  exact unflat _

theorem exit5 : exit m c (Proc.devRef .tc main_v6_1) = flat (Adam.deltas (G m c) (W m c) (U m c) (Q m c)) :=
  (Pipeline.withArrays_arr spec0 (by decide) c (V0 m c) (fun w => (dats m 0 c).arrAt w cfg0.N) 5).trans (final5 m c)

theorem tail5 (Z : Valuation τ sig (Elt Ideal)) :
    (StableHlo.after hostOps1 Z (Proc.devRef .tc main_v8) : S2x1024x532.Idx → EReal)
      = shapeCast S2x1024x532 (Z (Proc.devRef .tc main_v6_1) : S2048x532.Idx → EReal) shapeCasts_S2048x532_S2x1024x532 := by
  simp only [hostOps1]
  after_results_simp
  rfl

theorem out5 : Pipeline.afterTail₀ cfgs (dats m) 0 (V0 m) [hostOps1] c main_v8 = Adam.deltas (G m c) (W m c) (U m c) (Q m c) := by
  refine (tail5 (exit m c)).trans ?_
  rw [exit5]
  exact unflat _

theorem exit6 : exit m c (Proc.devRef .tc main_v6_2) = flat (Adam.means (G m c) (U m c)) :=
  (Pipeline.withArrays_arr spec0 (by decide) c (V0 m c) (fun w => (dats m 0 c).arrAt w cfg0.N) 6).trans (final6 m c)

theorem tail6 (Z : Valuation τ sig (Elt Ideal)) :
    (StableHlo.after hostOps1 Z (Proc.devRef .tc main_v9) : S2x1024x532.Idx → EReal)
      = shapeCast S2x1024x532 (Z (Proc.devRef .tc main_v6_2) : S2048x532.Idx → EReal) shapeCasts_S2048x532_S2x1024x532 := by
  simp only [hostOps1]
  after_results_simp
  rfl

theorem out6 : Pipeline.afterTail₀ cfgs (dats m) 0 (V0 m) [hostOps1] c main_v9 = Adam.means (G m c) (U m c) := by
  refine (tail6 (exit m c)).trans ?_
  rw [exit6]
  exact unflat _

theorem exit7 : exit m c (Proc.devRef .tc main_v6_3) = flat (Adam.squares (G m c) (Q m c)) :=
  (Pipeline.withArrays_arr spec0 (by decide) c (V0 m c) (fun w => (dats m 0 c).arrAt w cfg0.N) 7).trans (final7 m c)

theorem tail7 (Z : Valuation τ sig (Elt Ideal)) :
    (StableHlo.after hostOps1 Z (Proc.devRef .tc main_v10) : S2x1024x532.Idx → EReal)
      = shapeCast S2x1024x532 (Z (Proc.devRef .tc main_v6_3) : S2048x532.Idx → EReal) shapeCasts_S2048x532_S2x1024x532 := by
  simp only [hostOps1]
  after_results_simp
  rfl

theorem out7 : Pipeline.afterTail₀ cfgs (dats m) 0 (V0 m) [hostOps1] c main_v10 = Adam.squares (G m c) (Q m c) := by
  refine (tail7 (exit m c)).trans ?_
  rw [exit7]
  exact unflat _

/-- The program ends with the gradient, the change of the weight and the two means, and its arguments as they were. -/
theorem run_value (ρ : Dev nD → PrngReg) : θ_run defs (onTc (τ := τ) (main (F := Ideal))) ⟨m, fun _ => 0, ρ⟩ (fun r => ∀ c : Dev nD,
      r.2.mem ((c.tc : Thread nD τ).loc main_v7) = G m c
      ∧ r.2.mem ((c.tc : Thread nD τ).loc main_v8) = Adam.deltas (G m c) (W m c) (U m c) (Q m c)
      ∧ r.2.mem ((c.tc : Thread nD τ).loc main_v9) = Adam.means (G m c) (U m c)
      ∧ r.2.mem ((c.tc : Thread nD τ).loc main_v10) = Adam.squares (G m c) (Q m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).2 main_v7 (Pipeline.mem_restRefs_of main_v7 (by decide) (by decide))).trans (out4 m c),
      ((h.1 c).2 main_v8 (Pipeline.mem_restRefs_of main_v8 (by decide) (by decide))).trans (out5 m c),
      ((h.1 c).2 main_v9 (Pipeline.mem_restRefs_of main_v9 (by decide) (by decide))).trans (out6 m c),
      ((h.1 c).2 main_v10 (Pipeline.mem_restRefs_of main_v10 (by decide) (by decide))).trans (out7 m c), h.2 c⟩)
    (θ_run_and (run_main m ρ) (unchanged m ρ))

/-! ## The reference -/

/-- The host's sum over the devices. -/
theorem reference_grad (p : Cert.Reference8Ideal.S8x2x1024x532.Idx → EReal) :
    Host.reduceAdd (F := Ideal) (φ := .f32) p (constant Cert.Reference8Ideal.S_ .f32 0x00000000#32) Cert.Reference8Ideal.Gen.reducesTo_S8x2x1024x532_S2x1024x532_d0 Cert.Reference8Ideal.Gen.h_S_ = Adam.grad p := by
  funext z
  idx_vars z
  pointwise [Adam.grad]

/-- The call and the lines of the reference have the same results. -/
theorem algebraic : Cert.algebraic_Kernel8Ideal_Reference8Ideal := by
  intro m g m' g' h e
  refine ⟨fun c => G m c, fun c => Adam.deltas (G m c) (W m c) (U m c) (Q m c), fun c => Adam.means (G m c) (U m c),
    fun c => Adam.squares (G m c) (Q m c), run_value m g, ?_⟩
  refine (θ_run _ _ _).mono (fun _ r c => ⟨(r c).1.trans ?_, (r c).2.1.trans ?_, (r c).2.2.1.trans ?_, (r c).2.2.2.1.trans ?_, (r c).2.2.2.2⟩)
    (Cert.Reference8Ideal.Value.run (F := Ideal) m' g')
  · rw [(e c).1]
    exact reference_grad (P m c)
  · rw [(e c).1, (e c).2.1, (e c).2.2.1, (e c).2.2.2]
    erw [reference_grad (P m c), Adam.host_means (G m c) (U m c), Adam.host_squares (G m c) (Q m c)]
    exact Adam.host_deltas (G m c) (W m c) (U m c) (Q m c) _
  · rw [(e c).1, (e c).2.2.1]
    erw [reference_grad (P m c)]
    exact Adam.host_means (G m c) (U m c) _
  · rw [(e c).1, (e c).2.2.2]
    erw [reference_grad (P m c)]
    exact Adam.host_squares (G m c) (Q m c) _

end Cert.Proof.Step8
-- ==== Proof.Step9.lean ====
/-
  The optimiser's step for the weights of the output projection: the blocks of rows make up both layers, and the eight
  devices' parts of the gradient are added in their order.
-/
module

public import proofs.«01_k».proof.Defs
public import proofs.«01_k».proof.Proof.Adam
public import proofs.«01_k».proof.Proof.Split
public import proofs.«01_k».proof.Proof.Gen.Kernel9
public import proofs.«01_k».proof.Proof.Gen.Kernel9Ideal.Frame
public import proofs.«01_k».proof.Proof.Gen.Reference9Ideal.Run

@[expose] public section

set_option maxRecDepth 65536

noncomputable section

namespace Cert.Proof.Step9

open Cert.Kernel9Ideal Cert.Kernel9Ideal.Gen
open Idealize.ShloMosaic Idealize.ShloMosaic.TcCoe Idealize.SL.Sem

/-! ## The frames -/

theorem frame_ideal : Cert.quiescent_Kernel9Ideal := fun m ρ _ => Gen.frame (F := Ideal) m ρ

/-- The program as printed has the same kernel body, and so the same text. -/
theorem bodies : Cert.Kernel9.defs₀ (F := Bits) = defs₀ (F := Bits) := by
  unfold Cert.Kernel9.defs₀ defs₀
  refine congrArg Defs.onTc (funext fun l => funext fun a => ?_)
  match l with
  | 0 => rfl

theorem frame_kernel : Cert.quiescent_Kernel9 := fun m ρ _ => by
  rw [show Cert.Kernel9.defs (F := Bits) = defs (F := Bits) from congrArg (Pipeline.defs Cert.Kernel9.pcfgs) bodies]
  exact Gen.frame (F := Bits) m ρ

theorem frame_reference : Cert.quiescent_Reference9Ideal := fun m ρ _ =>
  (θ_run _ _ _).mono (fun r h => ⟨fun c => (h c).2.2.2.2, sem_eq_zero_of_no_sems (by decide) r.2⟩)
    (Cert.Reference9Ideal.Value.run (F := Ideal) m ρ)

/-! ## One block -/

/-- The loaded parts, cast and added in their order. -/
theorem sum_apply (a0 a1 a2 a3 a4 a5 a6 a7 : S1x192x1024.Idx → EReal) (r : Fin 192) (k : Fin 1024) :
    k0_pay4 (F := Ideal) a0 a1 a2 a3 a4 a5 a6 a7 (ix2 r k) = a0 (ix3 0 r k) + a1 (ix3 0 r k) + a2 (ix3 0 r k) + a3 (ix3 0 r k)
      + a4 (ix3 0 r k) + a5 (ix3 0 r k) + a6 (ix3 0 r k) + a7 (ix3 0 r k) := by
  pointwise [k0_pay4]

/-- The block of the gradient is the sum of the block's eight parts. -/
theorem grad_apply (a : S8x192x1024.Idx → EReal) (w u v : S192x1024.Idx → EReal) (r : Fin 192) (k : Fin 1024) :
    k0_pay6 (F := Ideal) a w u v (ix2 r k) = ∑ s : Fin 8, a (ix3 s r k) := by
  unfold k0_pay6
  refine (sum_apply _ _ _ _ _ _ _ _ r k).trans ?_
  exact Adam.parts_sum a _ _ _ _ _ _ _ _ r k

/-- The block of the gradient's new mean. -/
theorem mean_apply (g u : S192x1024.Idx → EReal) (r : Fin 192) (k : Fin 1024) :
    k0_pay1 (F := Ideal) g u (ix2 r k) = Adam.mean (g (ix2 r k)) (u (ix2 r k)) := by
  pointwise [k0_pay1, Adam.mean]

/-- The block of the new mean of the gradient's square. -/
theorem square_apply (g v : S192x1024.Idx → EReal) (r : Fin 192) (k : Fin 1024) :
    k0_pay2 (F := Ideal) g v (ix2 r k) = Adam.square (g (ix2 r k)) (v (ix2 r k)) := by
  pointwise [k0_pay2, Adam.square]

/-- The block of the weight's change. -/
theorem delta_apply (g w u v : S192x1024.Idx → EReal) (r : Fin 192) (k : Fin 1024) :
    k0_pay3 (F := Ideal) g (k0_pay5 (F := Ideal) w) u v (ix2 r k)
      = Adam.delta (g (ix2 r k)) (w (ix2 r k)) (u (ix2 r k)) (v (ix2 r k)) := by
  pointwise [k0_pay3, k0_pay5, k0_pay1, k0_pay2, Adam.delta, Adam.mean, Adam.square]

section Out

variable (a : S8x192x1024.Idx → EReal) (w u v : S192x1024.Idx → EReal)

theorem out4_eq : out0_4 (F := Ideal) a w u v = k0_pay6 (F := Ideal) a w u v := by
  unfold out0_4
  rw [View.canon_unit_zero Split.zeros]

theorem out5_eq : out0_5 (F := Ideal) a w u v = k0_pay3 (F := Ideal) (k0_pay6 (F := Ideal) a w u v) (k0_pay5 (F := Ideal) w) u v := by
  unfold out0_5
  rw [View.canon_unit_zero Split.zeros, View.ld_unit_zero (S := S192x1024) Split.zeros, View.ld_unit_zero (S := S192x1024) Split.zeros,
    View.ld_unit_zero (S := S192x1024) Split.zeros]

theorem out6_eq : out0_6 (F := Ideal) a w u v = k0_pay1 (F := Ideal) (k0_pay6 (F := Ideal) a w u v) u := by
  unfold out0_6
  rw [View.canon_unit_zero Split.zeros, View.ld_unit_zero (S := S192x1024) Split.zeros]

theorem out7_eq : out0_7 (F := Ideal) a w u v = k0_pay2 (F := Ideal) (k0_pay6 (F := Ideal) a w u v) v := by
  unfold out0_7
  rw [View.canon_unit_zero Split.zeros, View.ld_unit_zero (S := S192x1024) Split.zeros]

end Out

/-! ## The arrays -/

/-- Both layers of a weight, one under the other. -/
abbrev flat (f : S2x192x1024.Idx → EReal) : S384x1024.Idx → EReal := Adam.flat (rows := 192) rfl f

theorem flat_eq (f : S2x192x1024.Idx → EReal) : shapeCast S384x1024 f shapeCasts_S2x192x1024_S384x1024 = flat f := by
  funext z
  idx_vars z
  pointwise [flat, Adam.flat]

/-- The layers parted again. -/
theorem unflat (f : S2x192x1024.Idx → EReal) : shapeCast S2x192x1024 (flat f) shapeCasts_S384x1024_S2x192x1024 = f := by
  rw [← flat_eq]
  exact shapeCast_shapeCast _ _ _

/-- The devices' parts as the call takes them. -/
theorem parts_apply (p : S8x2x192x1024.Idx → EReal) (s : Fin 8) (R : Fin 384) (k : Fin 1024) :
    shapeCast S8x384x1024 (truncf (F := Ideal) (φ := .f32) .bf16 p bitsLt_bf16_f32) shapeCasts_S8x2x192x1024_S8x384x1024 (ix3 s R k)
      = flat (fun z => p (ix4 s (z 0) (z 1) (z 2))) (ix2 R k) := by
  pointwise [flat, Adam.flat]

variable (m : (ℓ : Loc nD τ sig) → Buf (Elt Ideal) ℓ) (c : Dev nD)

abbrev P : S8x2x192x1024.Idx → EReal := m ((c : Thread nD τ).loc main_arg0)
abbrev W : S2x192x1024.Idx → EReal := m ((c : Thread nD τ).loc main_arg1)
abbrev U : S2x192x1024.Idx → EReal := m ((c : Thread nD τ).loc main_arg2)
abbrev Q : S2x192x1024.Idx → EReal := m ((c : Thread nD τ).loc main_arg3)
/-- The gradient of both layers. -/
abbrev G : S2x192x1024.Idx → EReal := Adam.grad (P m c)

theorem V_p (s : Fin 8) (R : Fin 384) (k : Fin 1024) :
    (V m c main_v2 : S8x384x1024.Idx → EReal) (ix3 s R k) = flat (fun z => P m c (ix4 s (z 0) (z 1) (z 2))) (ix2 R k) := by
  refine Eq.trans ?_ (parts_apply (P m c) s R k)
  refine congrFun ?_ (ix3 s R k)
  show StableHlo.after hostOps0 (fun b => m (c, b)) main_v2 = _
  simp only [hostOps0]
  after_results_simp
  rfl

theorem V_w : (V m c main_v3 : S384x1024.Idx → EReal) = flat (W m c) := by
  rw [← flat_eq]
  show StableHlo.after hostOps0 (fun b => m (c, b)) main_v3 = _
  simp only [hostOps0]
  after_results_simp
  rfl

theorem V_u : (V m c main_v4 : S384x1024.Idx → EReal) = flat (U m c) := by
  rw [← flat_eq]
  show StableHlo.after hostOps0 (fun b => m (c, b)) main_v4 = _
  simp only [hostOps0]
  after_results_simp
  rfl

theorem V_q : (V m c main_v5 : S384x1024.Idx → EReal) = flat (Q m c) := by
  rw [← flat_eq]
  show StableHlo.after hostOps0 (fun b => m (c, b)) main_v5 = _
  simp only [hostOps0]
  after_results_simp
  rfl

/-! ## The blocks -/

theorem points (t : Fin cfg0.N) : t.val < 2 := by
  have : cfg0.N = 2 := by decide +kernel
  omega

/-- Row `r` of block `t`. -/
def row (t : Fin cfg0.N) (r : Fin 192) : Fin 384 := ⟨192 * t.val + r.val, by have := points t; omega⟩

theorem idx0 : ∀ t : Fin cfg0.N, win0_0.index t = ![0, t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

theorem blk0 (t : Fin cfg0.N) (s : Fin 8) (r : Fin 192) (k : Fin 1024) :
    iblk m c 0 t (ix3 s r k) = V m c main_v2 (ix3 s (row t r) k) := by
  blk_simp [iblk]
  congr 1
  blk_ext [idx0, row]

theorem blk1 (t : Fin cfg0.N) (r : Fin 192) (k : Fin 1024) : iblk m c 1 t (ix2 r k) = V m c main_v3 (ix2 (row t r) k) := by
  blk_simp [iblk]
  congr 1
  blk_ext [idx1, row]

theorem blk2 (t : Fin cfg0.N) (r : Fin 192) (k : Fin 1024) : iblk m c 2 t (ix2 r k) = V m c main_v4 (ix2 (row t r) k) := by
  blk_simp [iblk]
  congr 1
  blk_ext [idx2, row]

theorem blk3 (t : Fin cfg0.N) (r : Fin 192) (k : Fin 1024) : iblk m c 3 t (ix2 r k) = V m c main_v5 (ix2 (row t r) k) := by
  blk_simp [iblk]
  congr 1
  blk_ext [idx3, row]

theorem emb4 (t : Fin cfg0.N) (r : Fin 192) (k : Fin 1024) : (win0_4.blk t).view.emb (ix2 r k) = ix2 (row t r) k := by
  blk_ext [idx4, row]

theorem emb5 (t : Fin cfg0.N) (r : Fin 192) (k : Fin 1024) : (win0_5.blk t).view.emb (ix2 r k) = ix2 (row t r) k := by
  blk_ext [idx5, row]

theorem emb6 (t : Fin cfg0.N) (r : Fin 192) (k : Fin 1024) : (win0_6.blk t).view.emb (ix2 r k) = ix2 (row t r) k := by
  blk_ext [idx6, row]

theorem emb7 (t : Fin cfg0.N) (r : Fin 192) (k : Fin 1024) : (win0_7.blk t).view.emb (ix2 r k) = ix2 (row t r) k := by
  blk_ext [idx7, row]

/-- The gradient of a block is that block of the gradient. -/
theorem grad_at (t : Fin cfg0.N) (r : Fin 192) (k : Fin 1024) :
    k0_pay6 (F := Ideal) (iblk m c 0 t) (iblk m c 1 t) (iblk m c 2 t) (iblk m c 3 t) (ix2 r k)
      = flat (G m c) (ix2 (row t r) k) := by
  refine (grad_apply _ _ _ _ r k).trans ?_
  exact congrArg (fun f : Fin 8 → EReal => ∑ s, f s) (funext fun s => (blk0 m c t s r k).trans (V_p m c s (row t r) k))

/-! ## The results before the layers are parted -/

theorem final4 : (dats m 0 c).arrAt 4 cfg0.N = flat (G m c) := by
  refine (dats m 0 c).arrAt_eq_of_covers 4 _ (by decide +kernel) fun t hf y => ?_
  blk_simp
  rw [after0_4]
  idx_vars y
  refine Eq.trans ?_ (congrArg (flat (G m c)) (emb4 t y0 y1)).symm
  exact (congrFun (out4_eq _ _ _ _) _).trans (grad_at m c t y0 y1)

theorem final5 : (dats m 0 c).arrAt 5 cfg0.N = flat (Adam.deltas (G m c) (W m c) (U m c) (Q m c)) := by
  refine (dats m 0 c).arrAt_eq_of_covers 5 _ (by decide +kernel) fun t hf y => ?_
  blk_simp
  rw [after0_5]
  idx_vars y
  refine Eq.trans ?_ (congrArg (flat (Adam.deltas (G m c) (W m c) (U m c) (Q m c))) (emb5 t y0 y1)).symm
  refine (congrFun (out5_eq _ _ _ _) _).trans ((delta_apply _ _ _ _ y0 y1).trans ?_)
  rw [grad_at, blk1, blk2, blk3, V_w, V_u, V_q]
  rfl

theorem final6 : (dats m 0 c).arrAt 6 cfg0.N = flat (Adam.means (G m c) (U m c)) := by
  refine (dats m 0 c).arrAt_eq_of_covers 6 _ (by decide +kernel) fun t hf y => ?_
  blk_simp
  rw [after0_6]
  idx_vars y
  refine Eq.trans ?_ (congrArg (flat (Adam.means (G m c) (U m c))) (emb6 t y0 y1)).symm
  refine (congrFun (out6_eq _ _ _ _) _).trans ((mean_apply _ _ y0 y1).trans ?_)
  rw [grad_at, blk2, V_u]
  rfl

theorem final7 : (dats m 0 c).arrAt 7 cfg0.N = flat (Adam.squares (G m c) (Q m c)) := by
  refine (dats m 0 c).arrAt_eq_of_covers 7 _ (by decide +kernel) fun t hf y => ?_
  blk_simp
  rw [after0_7]
  idx_vars y
  refine Eq.trans ?_ (congrArg (flat (Adam.squares (G m c) (Q m c))) (emb7 t y0 y1)).symm
  refine (congrFun (out7_eq _ _ _ _) _).trans ((square_apply _ _ y0 y1).trans ?_)
  rw [grad_at, blk3, V_q]
  rfl

/-! ## The run -/

abbrev exit : Valuation τ sig (Elt Ideal) := Pipeline.withArrays spec0 c (V0 m c) fun w => (dats m 0 c).arrAt w cfg0.N

theorem exit4 : exit m c (Proc.devRef .tc main_v6_0) = flat (G m c) :=
  (Pipeline.withArrays_arr spec0 (by decide) c (V0 m c) (fun w => (dats m 0 c).arrAt w cfg0.N) 4).trans (final4 m c)

theorem tail4 (Z : Valuation τ sig (Elt Ideal)) :
    (StableHlo.after hostOps1 Z (Proc.devRef .tc main_v7) : S2x192x1024.Idx → EReal)
      = shapeCast S2x192x1024 (Z (Proc.devRef .tc main_v6_0) : S384x1024.Idx → EReal) shapeCasts_S384x1024_S2x192x1024 := by
  simp only [hostOps1]
  after_results_simp
  rfl

theorem out4 : Pipeline.afterTail₀ cfgs (dats m) 0 (V0 m) [hostOps1] c main_v7 = G m c := by
  refine (tail4 (exit m c)).trans ?_
  rw [exit4]
  exact unflat _

theorem exit5 : exit m c (Proc.devRef .tc main_v6_1) = flat (Adam.deltas (G m c) (W m c) (U m c) (Q m c)) :=
  (Pipeline.withArrays_arr spec0 (by decide) c (V0 m c) (fun w => (dats m 0 c).arrAt w cfg0.N) 5).trans (final5 m c)

theorem tail5 (Z : Valuation τ sig (Elt Ideal)) :
    (StableHlo.after hostOps1 Z (Proc.devRef .tc main_v8) : S2x192x1024.Idx → EReal)
      = shapeCast S2x192x1024 (Z (Proc.devRef .tc main_v6_1) : S384x1024.Idx → EReal) shapeCasts_S384x1024_S2x192x1024 := by
  simp only [hostOps1]
  after_results_simp
  rfl

theorem out5 : Pipeline.afterTail₀ cfgs (dats m) 0 (V0 m) [hostOps1] c main_v8 = Adam.deltas (G m c) (W m c) (U m c) (Q m c) := by
  refine (tail5 (exit m c)).trans ?_
  rw [exit5]
  exact unflat _

theorem exit6 : exit m c (Proc.devRef .tc main_v6_2) = flat (Adam.means (G m c) (U m c)) :=
  (Pipeline.withArrays_arr spec0 (by decide) c (V0 m c) (fun w => (dats m 0 c).arrAt w cfg0.N) 6).trans (final6 m c)

theorem tail6 (Z : Valuation τ sig (Elt Ideal)) :
    (StableHlo.after hostOps1 Z (Proc.devRef .tc main_v9) : S2x192x1024.Idx → EReal)
      = shapeCast S2x192x1024 (Z (Proc.devRef .tc main_v6_2) : S384x1024.Idx → EReal) shapeCasts_S384x1024_S2x192x1024 := by
  simp only [hostOps1]
  after_results_simp
  rfl

theorem out6 : Pipeline.afterTail₀ cfgs (dats m) 0 (V0 m) [hostOps1] c main_v9 = Adam.means (G m c) (U m c) := by
  refine (tail6 (exit m c)).trans ?_
  rw [exit6]
  exact unflat _

theorem exit7 : exit m c (Proc.devRef .tc main_v6_3) = flat (Adam.squares (G m c) (Q m c)) :=
  (Pipeline.withArrays_arr spec0 (by decide) c (V0 m c) (fun w => (dats m 0 c).arrAt w cfg0.N) 7).trans (final7 m c)

theorem tail7 (Z : Valuation τ sig (Elt Ideal)) :
    (StableHlo.after hostOps1 Z (Proc.devRef .tc main_v10) : S2x192x1024.Idx → EReal)
      = shapeCast S2x192x1024 (Z (Proc.devRef .tc main_v6_3) : S384x1024.Idx → EReal) shapeCasts_S384x1024_S2x192x1024 := by
  simp only [hostOps1]
  after_results_simp
  rfl

theorem out7 : Pipeline.afterTail₀ cfgs (dats m) 0 (V0 m) [hostOps1] c main_v10 = Adam.squares (G m c) (Q m c) := by
  refine (tail7 (exit m c)).trans ?_
  rw [exit7]
  exact unflat _

/-- The program ends with the gradient, the change of the weight and the two means, and its arguments as they were. -/
theorem run_value (ρ : Dev nD → PrngReg) : θ_run defs (onTc (τ := τ) (main (F := Ideal))) ⟨m, fun _ => 0, ρ⟩ (fun r => ∀ c : Dev nD,
      r.2.mem ((c.tc : Thread nD τ).loc main_v7) = G m c
      ∧ r.2.mem ((c.tc : Thread nD τ).loc main_v8) = Adam.deltas (G m c) (W m c) (U m c) (Q m c)
      ∧ r.2.mem ((c.tc : Thread nD τ).loc main_v9) = Adam.means (G m c) (U m c)
      ∧ r.2.mem ((c.tc : Thread nD τ).loc main_v10) = Adam.squares (G m c) (Q m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).2 main_v7 (Pipeline.mem_restRefs_of main_v7 (by decide) (by decide))).trans (out4 m c),
      ((h.1 c).2 main_v8 (Pipeline.mem_restRefs_of main_v8 (by decide) (by decide))).trans (out5 m c),
      ((h.1 c).2 main_v9 (Pipeline.mem_restRefs_of main_v9 (by decide) (by decide))).trans (out6 m c),
      ((h.1 c).2 main_v10 (Pipeline.mem_restRefs_of main_v10 (by decide) (by decide))).trans (out7 m c), h.2 c⟩)
    (θ_run_and (run_main m ρ) (unchanged m ρ))

/-! ## The reference -/

/-- The host's sum over the devices. -/
theorem reference_grad (p : Cert.Reference9Ideal.S8x2x192x1024.Idx → EReal) :
    Host.reduceAdd (F := Ideal) (φ := .f32) p (constant Cert.Reference9Ideal.S_ .f32 0x00000000#32) Cert.Reference9Ideal.Gen.reducesTo_S8x2x192x1024_S2x192x1024_d0 Cert.Reference9Ideal.Gen.h_S_ = Adam.grad p := by
  funext z
  idx_vars z
  pointwise [Adam.grad]

/-- The call and the lines of the reference have the same results. -/
theorem algebraic : Cert.algebraic_Kernel9Ideal_Reference9Ideal := by
  intro m g m' g' h e
  refine ⟨fun c => G m c, fun c => Adam.deltas (G m c) (W m c) (U m c) (Q m c), fun c => Adam.means (G m c) (U m c),
    fun c => Adam.squares (G m c) (Q m c), run_value m g, ?_⟩
  refine (θ_run _ _ _).mono (fun _ r c => ⟨(r c).1.trans ?_, (r c).2.1.trans ?_, (r c).2.2.1.trans ?_, (r c).2.2.2.1.trans ?_, (r c).2.2.2.2⟩)
    (Cert.Reference9Ideal.Value.run (F := Ideal) m' g')
  · rw [(e c).1]
    exact reference_grad (P m c)
  · rw [(e c).1, (e c).2.1, (e c).2.2.1, (e c).2.2.2]
    erw [reference_grad (P m c), Adam.host_means (G m c) (U m c), Adam.host_squares (G m c) (Q m c)]
    exact Adam.host_deltas (G m c) (W m c) (U m c) (Q m c) _
  · rw [(e c).1, (e c).2.2.1]
    erw [reference_grad (P m c)]
    exact Adam.host_means (G m c) (U m c) _
  · rw [(e c).1, (e c).2.2.2]
    erw [reference_grad (P m c)]
    exact Adam.host_squares (G m c) (Q m c) _

end Cert.Proof.Step9
-- ==== Proof.Step10.lean ====
/-
  The optimiser's step for the weights of the queries' up-projection: the blocks of rows make up both layers, and the eight
  devices' parts of the gradient are added in their order.
-/
module

public import proofs.«01_k».proof.Defs
public import proofs.«01_k».proof.Proof.Adam
public import proofs.«01_k».proof.Proof.Split
public import proofs.«01_k».proof.Proof.Gen.Kernel10
public import proofs.«01_k».proof.Proof.Gen.Kernel10Ideal.Frame
public import proofs.«01_k».proof.Proof.Gen.Reference10Ideal.Run

@[expose] public section

set_option maxRecDepth 65536

noncomputable section

namespace Cert.Proof.Step10

open Cert.Kernel10Ideal Cert.Kernel10Ideal.Gen
open Idealize.ShloMosaic Idealize.ShloMosaic.TcCoe Idealize.SL.Sem

/-! ## The frames -/

theorem frame_ideal : Cert.quiescent_Kernel10Ideal := fun m ρ _ => Gen.frame (F := Ideal) m ρ

/-- The program as printed has the same kernel body, and so the same text. -/
theorem bodies : Cert.Kernel10.defs₀ (F := Bits) = defs₀ (F := Bits) := by
  unfold Cert.Kernel10.defs₀ defs₀
  refine congrArg Defs.onTc (funext fun l => funext fun a => ?_)
  match l with
  | 0 => rfl

theorem frame_kernel : Cert.quiescent_Kernel10 := fun m ρ _ => by
  rw [show Cert.Kernel10.defs (F := Bits) = defs (F := Bits) from congrArg (Pipeline.defs Cert.Kernel10.pcfgs) bodies]
  exact Gen.frame (F := Bits) m ρ

theorem frame_reference : Cert.quiescent_Reference10Ideal := fun m ρ _ =>
  (θ_run _ _ _).mono (fun r h => ⟨fun c => (h c).2.2.2.2, sem_eq_zero_of_no_sems (by decide) r.2⟩)
    (Cert.Reference10Ideal.Value.run (F := Ideal) m ρ)

/-! ## One block -/

/-- The loaded parts, cast and added in their order. -/
theorem sum_apply (a0 a1 a2 a3 a4 a5 a6 a7 : S1x512x96.Idx → EReal) (r : Fin 512) (k : Fin 96) :
    k0_pay4 (F := Ideal) a0 a1 a2 a3 a4 a5 a6 a7 (ix2 r k) = a0 (ix3 0 r k) + a1 (ix3 0 r k) + a2 (ix3 0 r k) + a3 (ix3 0 r k)
      + a4 (ix3 0 r k) + a5 (ix3 0 r k) + a6 (ix3 0 r k) + a7 (ix3 0 r k) := by
  pointwise [k0_pay4]

/-- The block of the gradient is the sum of the block's eight parts. -/
theorem grad_apply (a : S8x512x96.Idx → EReal) (w u v : S512x96.Idx → EReal) (r : Fin 512) (k : Fin 96) :
    k0_pay6 (F := Ideal) a w u v (ix2 r k) = ∑ s : Fin 8, a (ix3 s r k) := by
  unfold k0_pay6
  refine (sum_apply _ _ _ _ _ _ _ _ r k).trans ?_
  exact Adam.parts_sum a _ _ _ _ _ _ _ _ r k

/-- The block of the gradient's new mean. -/
theorem mean_apply (g u : S512x96.Idx → EReal) (r : Fin 512) (k : Fin 96) :
    k0_pay1 (F := Ideal) g u (ix2 r k) = Adam.mean (g (ix2 r k)) (u (ix2 r k)) := by
  pointwise [k0_pay1, Adam.mean]

/-- The block of the new mean of the gradient's square. -/
theorem square_apply (g v : S512x96.Idx → EReal) (r : Fin 512) (k : Fin 96) :
    k0_pay2 (F := Ideal) g v (ix2 r k) = Adam.square (g (ix2 r k)) (v (ix2 r k)) := by
  pointwise [k0_pay2, Adam.square]

/-- The block of the weight's change. -/
theorem delta_apply (g w u v : S512x96.Idx → EReal) (r : Fin 512) (k : Fin 96) :
    k0_pay3 (F := Ideal) g (k0_pay5 (F := Ideal) w) u v (ix2 r k)
      = Adam.delta (g (ix2 r k)) (w (ix2 r k)) (u (ix2 r k)) (v (ix2 r k)) := by
  pointwise [k0_pay3, k0_pay5, k0_pay1, k0_pay2, Adam.delta, Adam.mean, Adam.square]

section Out

variable (a : S8x512x96.Idx → EReal) (w u v : S512x96.Idx → EReal)

theorem out4_eq : out0_4 (F := Ideal) a w u v = k0_pay6 (F := Ideal) a w u v := by
  unfold out0_4
  rw [View.canon_unit_zero Split.zeros]

theorem out5_eq : out0_5 (F := Ideal) a w u v = k0_pay3 (F := Ideal) (k0_pay6 (F := Ideal) a w u v) (k0_pay5 (F := Ideal) w) u v := by
  unfold out0_5
  rw [View.canon_unit_zero Split.zeros, View.ld_unit_zero (S := S512x96) Split.zeros, View.ld_unit_zero (S := S512x96) Split.zeros,
    View.ld_unit_zero (S := S512x96) Split.zeros]

theorem out6_eq : out0_6 (F := Ideal) a w u v = k0_pay1 (F := Ideal) (k0_pay6 (F := Ideal) a w u v) u := by
  unfold out0_6
  rw [View.canon_unit_zero Split.zeros, View.ld_unit_zero (S := S512x96) Split.zeros]

theorem out7_eq : out0_7 (F := Ideal) a w u v = k0_pay2 (F := Ideal) (k0_pay6 (F := Ideal) a w u v) v := by
  unfold out0_7
  rw [View.canon_unit_zero Split.zeros, View.ld_unit_zero (S := S512x96) Split.zeros]

end Out

/-! ## The arrays -/

/-- Both layers of a weight, one under the other. -/
abbrev flat (f : S2x256x96.Idx → EReal) : S512x96.Idx → EReal := Adam.flat (rows := 256) rfl f

theorem flat_eq (f : S2x256x96.Idx → EReal) : shapeCast S512x96 f shapeCasts_S2x256x96_S512x96 = flat f := by
  funext z
  idx_vars z
  pointwise [flat, Adam.flat]

/-- The layers parted again. -/
theorem unflat (f : S2x256x96.Idx → EReal) : shapeCast S2x256x96 (flat f) shapeCasts_S512x96_S2x256x96 = f := by
  rw [← flat_eq]
  exact shapeCast_shapeCast _ _ _

/-- The devices' parts as the call takes them. -/
theorem parts_apply (p : S8x2x256x96.Idx → EReal) (s : Fin 8) (R : Fin 512) (k : Fin 96) :
    shapeCast S8x512x96 (truncf (F := Ideal) (φ := .f32) .bf16 p bitsLt_bf16_f32) shapeCasts_S8x2x256x96_S8x512x96 (ix3 s R k)
      = flat (fun z => p (ix4 s (z 0) (z 1) (z 2))) (ix2 R k) := by
  pointwise [flat, Adam.flat]

variable (m : (ℓ : Loc nD τ sig) → Buf (Elt Ideal) ℓ) (c : Dev nD)

abbrev P : S8x2x256x96.Idx → EReal := m ((c : Thread nD τ).loc main_arg0)
abbrev W : S2x256x96.Idx → EReal := m ((c : Thread nD τ).loc main_arg1)
abbrev U : S2x256x96.Idx → EReal := m ((c : Thread nD τ).loc main_arg2)
abbrev Q : S2x256x96.Idx → EReal := m ((c : Thread nD τ).loc main_arg3)
/-- The gradient of both layers. -/
abbrev G : S2x256x96.Idx → EReal := Adam.grad (P m c)

theorem V_p (s : Fin 8) (R : Fin 512) (k : Fin 96) :
    (V m c main_v2 : S8x512x96.Idx → EReal) (ix3 s R k) = flat (fun z => P m c (ix4 s (z 0) (z 1) (z 2))) (ix2 R k) := by
  refine Eq.trans ?_ (parts_apply (P m c) s R k)
  refine congrFun ?_ (ix3 s R k)
  show StableHlo.after hostOps0 (fun b => m (c, b)) main_v2 = _
  simp only [hostOps0]
  after_results_simp
  rfl

theorem V_w : (V m c main_v3 : S512x96.Idx → EReal) = flat (W m c) := by
  rw [← flat_eq]
  show StableHlo.after hostOps0 (fun b => m (c, b)) main_v3 = _
  simp only [hostOps0]
  after_results_simp
  rfl

theorem V_u : (V m c main_v4 : S512x96.Idx → EReal) = flat (U m c) := by
  rw [← flat_eq]
  show StableHlo.after hostOps0 (fun b => m (c, b)) main_v4 = _
  simp only [hostOps0]
  after_results_simp
  rfl

theorem V_q : (V m c main_v5 : S512x96.Idx → EReal) = flat (Q m c) := by
  rw [← flat_eq]
  show StableHlo.after hostOps0 (fun b => m (c, b)) main_v5 = _
  simp only [hostOps0]
  after_results_simp
  rfl

/-! ## The blocks -/

theorem points (t : Fin cfg0.N) : t.val < 1 := by
  have : cfg0.N = 1 := by decide +kernel
  omega

/-- Row `r` of block `t`. -/
def row (t : Fin cfg0.N) (r : Fin 512) : Fin 512 := ⟨512 * t.val + r.val, by have := points t; omega⟩

theorem idx0 : ∀ t : Fin cfg0.N, win0_0.index t = ![0, t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

theorem blk0 (t : Fin cfg0.N) (s : Fin 8) (r : Fin 512) (k : Fin 96) :
    iblk m c 0 t (ix3 s r k) = V m c main_v2 (ix3 s (row t r) k) := by
  blk_simp [iblk]
  congr 1
  blk_ext [idx0, row]

theorem blk1 (t : Fin cfg0.N) (r : Fin 512) (k : Fin 96) : iblk m c 1 t (ix2 r k) = V m c main_v3 (ix2 (row t r) k) := by
  blk_simp [iblk]
  congr 1
  blk_ext [idx1, row]

theorem blk2 (t : Fin cfg0.N) (r : Fin 512) (k : Fin 96) : iblk m c 2 t (ix2 r k) = V m c main_v4 (ix2 (row t r) k) := by
  blk_simp [iblk]
  congr 1
  blk_ext [idx2, row]

theorem blk3 (t : Fin cfg0.N) (r : Fin 512) (k : Fin 96) : iblk m c 3 t (ix2 r k) = V m c main_v5 (ix2 (row t r) k) := by
  blk_simp [iblk]
  congr 1
  blk_ext [idx3, row]

theorem emb4 (t : Fin cfg0.N) (r : Fin 512) (k : Fin 96) : (win0_4.blk t).view.emb (ix2 r k) = ix2 (row t r) k := by
  blk_ext [idx4, row]

theorem emb5 (t : Fin cfg0.N) (r : Fin 512) (k : Fin 96) : (win0_5.blk t).view.emb (ix2 r k) = ix2 (row t r) k := by
  blk_ext [idx5, row]

theorem emb6 (t : Fin cfg0.N) (r : Fin 512) (k : Fin 96) : (win0_6.blk t).view.emb (ix2 r k) = ix2 (row t r) k := by
  blk_ext [idx6, row]

theorem emb7 (t : Fin cfg0.N) (r : Fin 512) (k : Fin 96) : (win0_7.blk t).view.emb (ix2 r k) = ix2 (row t r) k := by
  blk_ext [idx7, row]

/-- The gradient of a block is that block of the gradient. -/
theorem grad_at (t : Fin cfg0.N) (r : Fin 512) (k : Fin 96) :
    k0_pay6 (F := Ideal) (iblk m c 0 t) (iblk m c 1 t) (iblk m c 2 t) (iblk m c 3 t) (ix2 r k)
      = flat (G m c) (ix2 (row t r) k) := by
  refine (grad_apply _ _ _ _ r k).trans ?_
  exact congrArg (fun f : Fin 8 → EReal => ∑ s, f s) (funext fun s => (blk0 m c t s r k).trans (V_p m c s (row t r) k))

/-! ## The results before the layers are parted -/

theorem final4 : (dats m 0 c).arrAt 4 cfg0.N = flat (G m c) := by
  refine (dats m 0 c).arrAt_eq_of_covers 4 _ (by decide +kernel) fun t hf y => ?_
  blk_simp
  rw [after0_4]
  idx_vars y
  refine Eq.trans ?_ (congrArg (flat (G m c)) (emb4 t y0 y1)).symm
  exact (congrFun (out4_eq _ _ _ _) _).trans (grad_at m c t y0 y1)

theorem final5 : (dats m 0 c).arrAt 5 cfg0.N = flat (Adam.deltas (G m c) (W m c) (U m c) (Q m c)) := by
  refine (dats m 0 c).arrAt_eq_of_covers 5 _ (by decide +kernel) fun t hf y => ?_
  blk_simp
  rw [after0_5]
  idx_vars y
  refine Eq.trans ?_ (congrArg (flat (Adam.deltas (G m c) (W m c) (U m c) (Q m c))) (emb5 t y0 y1)).symm
  refine (congrFun (out5_eq _ _ _ _) _).trans ((delta_apply _ _ _ _ y0 y1).trans ?_)
  rw [grad_at, blk1, blk2, blk3, V_w, V_u, V_q]
  rfl

theorem final6 : (dats m 0 c).arrAt 6 cfg0.N = flat (Adam.means (G m c) (U m c)) := by
  refine (dats m 0 c).arrAt_eq_of_covers 6 _ (by decide +kernel) fun t hf y => ?_
  blk_simp
  rw [after0_6]
  idx_vars y
  refine Eq.trans ?_ (congrArg (flat (Adam.means (G m c) (U m c))) (emb6 t y0 y1)).symm
  refine (congrFun (out6_eq _ _ _ _) _).trans ((mean_apply _ _ y0 y1).trans ?_)
  rw [grad_at, blk2, V_u]
  rfl

theorem final7 : (dats m 0 c).arrAt 7 cfg0.N = flat (Adam.squares (G m c) (Q m c)) := by
  refine (dats m 0 c).arrAt_eq_of_covers 7 _ (by decide +kernel) fun t hf y => ?_
  blk_simp
  rw [after0_7]
  idx_vars y
  refine Eq.trans ?_ (congrArg (flat (Adam.squares (G m c) (Q m c))) (emb7 t y0 y1)).symm
  refine (congrFun (out7_eq _ _ _ _) _).trans ((square_apply _ _ y0 y1).trans ?_)
  rw [grad_at, blk3, V_q]
  rfl

/-! ## The run -/

abbrev exit : Valuation τ sig (Elt Ideal) := Pipeline.withArrays spec0 c (V0 m c) fun w => (dats m 0 c).arrAt w cfg0.N

theorem exit4 : exit m c (Proc.devRef .tc main_v6_0) = flat (G m c) :=
  (Pipeline.withArrays_arr spec0 (by decide) c (V0 m c) (fun w => (dats m 0 c).arrAt w cfg0.N) 4).trans (final4 m c)

theorem tail4 (Z : Valuation τ sig (Elt Ideal)) :
    (StableHlo.after hostOps1 Z (Proc.devRef .tc main_v7) : S2x256x96.Idx → EReal)
      = shapeCast S2x256x96 (Z (Proc.devRef .tc main_v6_0) : S512x96.Idx → EReal) shapeCasts_S512x96_S2x256x96 := by
  simp only [hostOps1]
  after_results_simp
  rfl

theorem out4 : Pipeline.afterTail₀ cfgs (dats m) 0 (V0 m) [hostOps1] c main_v7 = G m c := by
  refine (tail4 (exit m c)).trans ?_
  rw [exit4]
  exact unflat _

theorem exit5 : exit m c (Proc.devRef .tc main_v6_1) = flat (Adam.deltas (G m c) (W m c) (U m c) (Q m c)) :=
  (Pipeline.withArrays_arr spec0 (by decide) c (V0 m c) (fun w => (dats m 0 c).arrAt w cfg0.N) 5).trans (final5 m c)

theorem tail5 (Z : Valuation τ sig (Elt Ideal)) :
    (StableHlo.after hostOps1 Z (Proc.devRef .tc main_v8) : S2x256x96.Idx → EReal)
      = shapeCast S2x256x96 (Z (Proc.devRef .tc main_v6_1) : S512x96.Idx → EReal) shapeCasts_S512x96_S2x256x96 := by
  simp only [hostOps1]
  after_results_simp
  rfl

theorem out5 : Pipeline.afterTail₀ cfgs (dats m) 0 (V0 m) [hostOps1] c main_v8 = Adam.deltas (G m c) (W m c) (U m c) (Q m c) := by
  refine (tail5 (exit m c)).trans ?_
  rw [exit5]
  exact unflat _

theorem exit6 : exit m c (Proc.devRef .tc main_v6_2) = flat (Adam.means (G m c) (U m c)) :=
  (Pipeline.withArrays_arr spec0 (by decide) c (V0 m c) (fun w => (dats m 0 c).arrAt w cfg0.N) 6).trans (final6 m c)

theorem tail6 (Z : Valuation τ sig (Elt Ideal)) :
    (StableHlo.after hostOps1 Z (Proc.devRef .tc main_v9) : S2x256x96.Idx → EReal)
      = shapeCast S2x256x96 (Z (Proc.devRef .tc main_v6_2) : S512x96.Idx → EReal) shapeCasts_S512x96_S2x256x96 := by
  simp only [hostOps1]
  after_results_simp
  rfl

theorem out6 : Pipeline.afterTail₀ cfgs (dats m) 0 (V0 m) [hostOps1] c main_v9 = Adam.means (G m c) (U m c) := by
  refine (tail6 (exit m c)).trans ?_
  rw [exit6]
  exact unflat _

theorem exit7 : exit m c (Proc.devRef .tc main_v6_3) = flat (Adam.squares (G m c) (Q m c)) :=
  (Pipeline.withArrays_arr spec0 (by decide) c (V0 m c) (fun w => (dats m 0 c).arrAt w cfg0.N) 7).trans (final7 m c)

theorem tail7 (Z : Valuation τ sig (Elt Ideal)) :
    (StableHlo.after hostOps1 Z (Proc.devRef .tc main_v10) : S2x256x96.Idx → EReal)
      = shapeCast S2x256x96 (Z (Proc.devRef .tc main_v6_3) : S512x96.Idx → EReal) shapeCasts_S512x96_S2x256x96 := by
  simp only [hostOps1]
  after_results_simp
  rfl

theorem out7 : Pipeline.afterTail₀ cfgs (dats m) 0 (V0 m) [hostOps1] c main_v10 = Adam.squares (G m c) (Q m c) := by
  refine (tail7 (exit m c)).trans ?_
  rw [exit7]
  exact unflat _

/-- The program ends with the gradient, the change of the weight and the two means, and its arguments as they were. -/
theorem run_value (ρ : Dev nD → PrngReg) : θ_run defs (onTc (τ := τ) (main (F := Ideal))) ⟨m, fun _ => 0, ρ⟩ (fun r => ∀ c : Dev nD,
      r.2.mem ((c.tc : Thread nD τ).loc main_v7) = G m c
      ∧ r.2.mem ((c.tc : Thread nD τ).loc main_v8) = Adam.deltas (G m c) (W m c) (U m c) (Q m c)
      ∧ r.2.mem ((c.tc : Thread nD τ).loc main_v9) = Adam.means (G m c) (U m c)
      ∧ r.2.mem ((c.tc : Thread nD τ).loc main_v10) = Adam.squares (G m c) (Q m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).2 main_v7 (Pipeline.mem_restRefs_of main_v7 (by decide) (by decide))).trans (out4 m c),
      ((h.1 c).2 main_v8 (Pipeline.mem_restRefs_of main_v8 (by decide) (by decide))).trans (out5 m c),
      ((h.1 c).2 main_v9 (Pipeline.mem_restRefs_of main_v9 (by decide) (by decide))).trans (out6 m c),
      ((h.1 c).2 main_v10 (Pipeline.mem_restRefs_of main_v10 (by decide) (by decide))).trans (out7 m c), h.2 c⟩)
    (θ_run_and (run_main m ρ) (unchanged m ρ))

/-! ## The reference -/

/-- The host's sum over the devices. -/
theorem reference_grad (p : Cert.Reference10Ideal.S8x2x256x96.Idx → EReal) :
    Host.reduceAdd (F := Ideal) (φ := .f32) p (constant Cert.Reference10Ideal.S_ .f32 0x00000000#32) Cert.Reference10Ideal.Gen.reducesTo_S8x2x256x96_S2x256x96_d0 Cert.Reference10Ideal.Gen.h_S_ = Adam.grad p := by
  funext z
  idx_vars z
  pointwise [Adam.grad]

/-- The call and the lines of the reference have the same results. -/
theorem algebraic : Cert.algebraic_Kernel10Ideal_Reference10Ideal := by
  intro m g m' g' h e
  refine ⟨fun c => G m c, fun c => Adam.deltas (G m c) (W m c) (U m c) (Q m c), fun c => Adam.means (G m c) (U m c),
    fun c => Adam.squares (G m c) (Q m c), run_value m g, ?_⟩
  refine (θ_run _ _ _).mono (fun _ r c => ⟨(r c).1.trans ?_, (r c).2.1.trans ?_, (r c).2.2.1.trans ?_, (r c).2.2.2.1.trans ?_, (r c).2.2.2.2⟩)
    (Cert.Reference10Ideal.Value.run (F := Ideal) m' g')
  · rw [(e c).1]
    exact reference_grad (P m c)
  · rw [(e c).1, (e c).2.1, (e c).2.2.1, (e c).2.2.2]
    erw [reference_grad (P m c), Adam.host_means (G m c) (U m c), Adam.host_squares (G m c) (Q m c)]
    exact Adam.host_deltas (G m c) (W m c) (U m c) (Q m c) _
  · rw [(e c).1, (e c).2.2.1]
    erw [reference_grad (P m c)]
    exact Adam.host_means (G m c) (U m c) _
  · rw [(e c).1, (e c).2.2.2]
    erw [reference_grad (P m c)]
    exact Adam.host_squares (G m c) (Q m c) _

end Cert.Proof.Step10
-- ==== Proof.Step11.lean ====
/-
  The optimiser's step for the weights of the keys' and values' up-projection: the blocks of rows make up both layers, and the eight
  devices' parts of the gradient are added in their order.
-/
module

public import proofs.«01_k».proof.Defs
public import proofs.«01_k».proof.Proof.Adam
public import proofs.«01_k».proof.Proof.Split
public import proofs.«01_k».proof.Proof.Gen.Kernel11
public import proofs.«01_k».proof.Proof.Gen.Kernel11Ideal.Frame
public import proofs.«01_k».proof.Proof.Gen.Reference11Ideal.Run

@[expose] public section

set_option maxRecDepth 65536

noncomputable section

namespace Cert.Proof.Step11

open Cert.Kernel11Ideal Cert.Kernel11Ideal.Gen
open Idealize.ShloMosaic Idealize.ShloMosaic.TcCoe Idealize.SL.Sem

/-! ## The frames -/

theorem frame_ideal : Cert.quiescent_Kernel11Ideal := fun m ρ _ => Gen.frame (F := Ideal) m ρ

/-- The program as printed has the same kernel body, and so the same text. -/
theorem bodies : Cert.Kernel11.defs₀ (F := Bits) = defs₀ (F := Bits) := by
  unfold Cert.Kernel11.defs₀ defs₀
  refine congrArg Defs.onTc (funext fun l => funext fun a => ?_)
  match l with
  | 0 => rfl

theorem frame_kernel : Cert.quiescent_Kernel11 := fun m ρ _ => by
  rw [show Cert.Kernel11.defs (F := Bits) = defs (F := Bits) from congrArg (Pipeline.defs Cert.Kernel11.pcfgs) bodies]
  exact Gen.frame (F := Bits) m ρ

theorem frame_reference : Cert.quiescent_Reference11Ideal := fun m ρ _ =>
  (θ_run _ _ _).mono (fun r h => ⟨fun c => (h c).2.2.2.2, sem_eq_zero_of_no_sems (by decide) r.2⟩)
    (Cert.Reference11Ideal.Value.run (F := Ideal) m ρ)

/-! ## One block -/

/-- The loaded parts, cast and added in their order. -/
theorem sum_apply (a0 a1 a2 a3 a4 a5 a6 a7 : S1x256x128.Idx → EReal) (r : Fin 256) (k : Fin 128) :
    k0_pay4 (F := Ideal) a0 a1 a2 a3 a4 a5 a6 a7 (ix2 r k) = a0 (ix3 0 r k) + a1 (ix3 0 r k) + a2 (ix3 0 r k) + a3 (ix3 0 r k)
      + a4 (ix3 0 r k) + a5 (ix3 0 r k) + a6 (ix3 0 r k) + a7 (ix3 0 r k) := by
  pointwise [k0_pay4]

/-- The block of the gradient is the sum of the block's eight parts. -/
theorem grad_apply (a : S8x256x128.Idx → EReal) (w u v : S256x128.Idx → EReal) (r : Fin 256) (k : Fin 128) :
    k0_pay6 (F := Ideal) a w u v (ix2 r k) = ∑ s : Fin 8, a (ix3 s r k) := by
  unfold k0_pay6
  refine (sum_apply _ _ _ _ _ _ _ _ r k).trans ?_
  exact Adam.parts_sum a _ _ _ _ _ _ _ _ r k

/-- The block of the gradient's new mean. -/
theorem mean_apply (g u : S256x128.Idx → EReal) (r : Fin 256) (k : Fin 128) :
    k0_pay1 (F := Ideal) g u (ix2 r k) = Adam.mean (g (ix2 r k)) (u (ix2 r k)) := by
  pointwise [k0_pay1, Adam.mean]

/-- The block of the new mean of the gradient's square. -/
theorem square_apply (g v : S256x128.Idx → EReal) (r : Fin 256) (k : Fin 128) :
    k0_pay2 (F := Ideal) g v (ix2 r k) = Adam.square (g (ix2 r k)) (v (ix2 r k)) := by
  pointwise [k0_pay2, Adam.square]

/-- The block of the weight's change. -/
theorem delta_apply (g w u v : S256x128.Idx → EReal) (r : Fin 256) (k : Fin 128) :
    k0_pay3 (F := Ideal) g (k0_pay5 (F := Ideal) w) u v (ix2 r k)
      = Adam.delta (g (ix2 r k)) (w (ix2 r k)) (u (ix2 r k)) (v (ix2 r k)) := by
  pointwise [k0_pay3, k0_pay5, k0_pay1, k0_pay2, Adam.delta, Adam.mean, Adam.square]

section Out

variable (a : S8x256x128.Idx → EReal) (w u v : S256x128.Idx → EReal)

theorem out4_eq : out0_4 (F := Ideal) a w u v = k0_pay6 (F := Ideal) a w u v := by
  unfold out0_4
  rw [View.canon_unit_zero Split.zeros]

theorem out5_eq : out0_5 (F := Ideal) a w u v = k0_pay3 (F := Ideal) (k0_pay6 (F := Ideal) a w u v) (k0_pay5 (F := Ideal) w) u v := by
  unfold out0_5
  rw [View.canon_unit_zero Split.zeros, View.ld_unit_zero (S := S256x128) Split.zeros, View.ld_unit_zero (S := S256x128) Split.zeros,
    View.ld_unit_zero (S := S256x128) Split.zeros]

theorem out6_eq : out0_6 (F := Ideal) a w u v = k0_pay1 (F := Ideal) (k0_pay6 (F := Ideal) a w u v) u := by
  unfold out0_6
  rw [View.canon_unit_zero Split.zeros, View.ld_unit_zero (S := S256x128) Split.zeros]

theorem out7_eq : out0_7 (F := Ideal) a w u v = k0_pay2 (F := Ideal) (k0_pay6 (F := Ideal) a w u v) v := by
  unfold out0_7
  rw [View.canon_unit_zero Split.zeros, View.ld_unit_zero (S := S256x128) Split.zeros]

end Out

/-! ## The arrays -/

/-- Both layers of a weight, one under the other. -/
abbrev flat (f : S2x128x128.Idx → EReal) : S256x128.Idx → EReal := Adam.flat (rows := 128) rfl f

theorem flat_eq (f : S2x128x128.Idx → EReal) : shapeCast S256x128 f shapeCasts_S2x128x128_S256x128 = flat f := by
  funext z
  idx_vars z
  pointwise [flat, Adam.flat]

/-- The layers parted again. -/
theorem unflat (f : S2x128x128.Idx → EReal) : shapeCast S2x128x128 (flat f) shapeCasts_S256x128_S2x128x128 = f := by
  rw [← flat_eq]
  exact shapeCast_shapeCast _ _ _

/-- The devices' parts as the call takes them. -/
theorem parts_apply (p : S8x2x128x128.Idx → EReal) (s : Fin 8) (R : Fin 256) (k : Fin 128) :
    shapeCast S8x256x128 (truncf (F := Ideal) (φ := .f32) .bf16 p bitsLt_bf16_f32) shapeCasts_S8x2x128x128_S8x256x128 (ix3 s R k)
      = flat (fun z => p (ix4 s (z 0) (z 1) (z 2))) (ix2 R k) := by
  pointwise [flat, Adam.flat]

variable (m : (ℓ : Loc nD τ sig) → Buf (Elt Ideal) ℓ) (c : Dev nD)

abbrev P : S8x2x128x128.Idx → EReal := m ((c : Thread nD τ).loc main_arg0)
abbrev W : S2x128x128.Idx → EReal := m ((c : Thread nD τ).loc main_arg1)
abbrev U : S2x128x128.Idx → EReal := m ((c : Thread nD τ).loc main_arg2)
abbrev Q : S2x128x128.Idx → EReal := m ((c : Thread nD τ).loc main_arg3)
/-- The gradient of both layers. -/
abbrev G : S2x128x128.Idx → EReal := Adam.grad (P m c)

theorem V_p (s : Fin 8) (R : Fin 256) (k : Fin 128) :
    (V m c main_v2 : S8x256x128.Idx → EReal) (ix3 s R k) = flat (fun z => P m c (ix4 s (z 0) (z 1) (z 2))) (ix2 R k) := by
  refine Eq.trans ?_ (parts_apply (P m c) s R k)
  refine congrFun ?_ (ix3 s R k)
  show StableHlo.after hostOps0 (fun b => m (c, b)) main_v2 = _
  simp only [hostOps0]
  after_results_simp
  rfl

theorem V_w : (V m c main_v3 : S256x128.Idx → EReal) = flat (W m c) := by
  rw [← flat_eq]
  show StableHlo.after hostOps0 (fun b => m (c, b)) main_v3 = _
  simp only [hostOps0]
  after_results_simp
  rfl

theorem V_u : (V m c main_v4 : S256x128.Idx → EReal) = flat (U m c) := by
  rw [← flat_eq]
  show StableHlo.after hostOps0 (fun b => m (c, b)) main_v4 = _
  simp only [hostOps0]
  after_results_simp
  rfl

theorem V_q : (V m c main_v5 : S256x128.Idx → EReal) = flat (Q m c) := by
  rw [← flat_eq]
  show StableHlo.after hostOps0 (fun b => m (c, b)) main_v5 = _
  simp only [hostOps0]
  after_results_simp
  rfl

/-! ## The blocks -/

theorem points (t : Fin cfg0.N) : t.val < 1 := by
  have : cfg0.N = 1 := by decide +kernel
  omega

/-- Row `r` of block `t`. -/
def row (t : Fin cfg0.N) (r : Fin 256) : Fin 256 := ⟨256 * t.val + r.val, by have := points t; omega⟩

theorem idx0 : ∀ t : Fin cfg0.N, win0_0.index t = ![0, t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

theorem blk0 (t : Fin cfg0.N) (s : Fin 8) (r : Fin 256) (k : Fin 128) :
    iblk m c 0 t (ix3 s r k) = V m c main_v2 (ix3 s (row t r) k) := by
  blk_simp [iblk]
  congr 1
  blk_ext [idx0, row]

theorem blk1 (t : Fin cfg0.N) (r : Fin 256) (k : Fin 128) : iblk m c 1 t (ix2 r k) = V m c main_v3 (ix2 (row t r) k) := by
  blk_simp [iblk]
  congr 1
  blk_ext [idx1, row]

theorem blk2 (t : Fin cfg0.N) (r : Fin 256) (k : Fin 128) : iblk m c 2 t (ix2 r k) = V m c main_v4 (ix2 (row t r) k) := by
  blk_simp [iblk]
  congr 1
  blk_ext [idx2, row]

theorem blk3 (t : Fin cfg0.N) (r : Fin 256) (k : Fin 128) : iblk m c 3 t (ix2 r k) = V m c main_v5 (ix2 (row t r) k) := by
  blk_simp [iblk]
  congr 1
  blk_ext [idx3, row]

theorem emb4 (t : Fin cfg0.N) (r : Fin 256) (k : Fin 128) : (win0_4.blk t).view.emb (ix2 r k) = ix2 (row t r) k := by
  blk_ext [idx4, row]

theorem emb5 (t : Fin cfg0.N) (r : Fin 256) (k : Fin 128) : (win0_5.blk t).view.emb (ix2 r k) = ix2 (row t r) k := by
  blk_ext [idx5, row]

theorem emb6 (t : Fin cfg0.N) (r : Fin 256) (k : Fin 128) : (win0_6.blk t).view.emb (ix2 r k) = ix2 (row t r) k := by
  blk_ext [idx6, row]

theorem emb7 (t : Fin cfg0.N) (r : Fin 256) (k : Fin 128) : (win0_7.blk t).view.emb (ix2 r k) = ix2 (row t r) k := by
  blk_ext [idx7, row]

/-- The gradient of a block is that block of the gradient. -/
theorem grad_at (t : Fin cfg0.N) (r : Fin 256) (k : Fin 128) :
    k0_pay6 (F := Ideal) (iblk m c 0 t) (iblk m c 1 t) (iblk m c 2 t) (iblk m c 3 t) (ix2 r k)
      = flat (G m c) (ix2 (row t r) k) := by
  refine (grad_apply _ _ _ _ r k).trans ?_
  exact congrArg (fun f : Fin 8 → EReal => ∑ s, f s) (funext fun s => (blk0 m c t s r k).trans (V_p m c s (row t r) k))

/-! ## The results before the layers are parted -/

theorem final4 : (dats m 0 c).arrAt 4 cfg0.N = flat (G m c) := by
  refine (dats m 0 c).arrAt_eq_of_covers 4 _ (by decide +kernel) fun t hf y => ?_
  blk_simp
  rw [after0_4]
  idx_vars y
  refine Eq.trans ?_ (congrArg (flat (G m c)) (emb4 t y0 y1)).symm
  exact (congrFun (out4_eq _ _ _ _) _).trans (grad_at m c t y0 y1)

theorem final5 : (dats m 0 c).arrAt 5 cfg0.N = flat (Adam.deltas (G m c) (W m c) (U m c) (Q m c)) := by
  refine (dats m 0 c).arrAt_eq_of_covers 5 _ (by decide +kernel) fun t hf y => ?_
  blk_simp
  rw [after0_5]
  idx_vars y
  refine Eq.trans ?_ (congrArg (flat (Adam.deltas (G m c) (W m c) (U m c) (Q m c))) (emb5 t y0 y1)).symm
  refine (congrFun (out5_eq _ _ _ _) _).trans ((delta_apply _ _ _ _ y0 y1).trans ?_)
  rw [grad_at, blk1, blk2, blk3, V_w, V_u, V_q]
  rfl

theorem final6 : (dats m 0 c).arrAt 6 cfg0.N = flat (Adam.means (G m c) (U m c)) := by
  refine (dats m 0 c).arrAt_eq_of_covers 6 _ (by decide +kernel) fun t hf y => ?_
  blk_simp
  rw [after0_6]
  idx_vars y
  refine Eq.trans ?_ (congrArg (flat (Adam.means (G m c) (U m c))) (emb6 t y0 y1)).symm
  refine (congrFun (out6_eq _ _ _ _) _).trans ((mean_apply _ _ y0 y1).trans ?_)
  rw [grad_at, blk2, V_u]
  rfl

theorem final7 : (dats m 0 c).arrAt 7 cfg0.N = flat (Adam.squares (G m c) (Q m c)) := by
  refine (dats m 0 c).arrAt_eq_of_covers 7 _ (by decide +kernel) fun t hf y => ?_
  blk_simp
  rw [after0_7]
  idx_vars y
  refine Eq.trans ?_ (congrArg (flat (Adam.squares (G m c) (Q m c))) (emb7 t y0 y1)).symm
  refine (congrFun (out7_eq _ _ _ _) _).trans ((square_apply _ _ y0 y1).trans ?_)
  rw [grad_at, blk3, V_q]
  rfl

/-! ## The run -/

abbrev exit : Valuation τ sig (Elt Ideal) := Pipeline.withArrays spec0 c (V0 m c) fun w => (dats m 0 c).arrAt w cfg0.N

theorem exit4 : exit m c (Proc.devRef .tc main_v6_0) = flat (G m c) :=
  (Pipeline.withArrays_arr spec0 (by decide) c (V0 m c) (fun w => (dats m 0 c).arrAt w cfg0.N) 4).trans (final4 m c)

theorem tail4 (Z : Valuation τ sig (Elt Ideal)) :
    (StableHlo.after hostOps1 Z (Proc.devRef .tc main_v7) : S2x128x128.Idx → EReal)
      = shapeCast S2x128x128 (Z (Proc.devRef .tc main_v6_0) : S256x128.Idx → EReal) shapeCasts_S256x128_S2x128x128 := by
  simp only [hostOps1]
  after_results_simp
  rfl

theorem out4 : Pipeline.afterTail₀ cfgs (dats m) 0 (V0 m) [hostOps1] c main_v7 = G m c := by
  refine (tail4 (exit m c)).trans ?_
  rw [exit4]
  exact unflat _

theorem exit5 : exit m c (Proc.devRef .tc main_v6_1) = flat (Adam.deltas (G m c) (W m c) (U m c) (Q m c)) :=
  (Pipeline.withArrays_arr spec0 (by decide) c (V0 m c) (fun w => (dats m 0 c).arrAt w cfg0.N) 5).trans (final5 m c)

theorem tail5 (Z : Valuation τ sig (Elt Ideal)) :
    (StableHlo.after hostOps1 Z (Proc.devRef .tc main_v8) : S2x128x128.Idx → EReal)
      = shapeCast S2x128x128 (Z (Proc.devRef .tc main_v6_1) : S256x128.Idx → EReal) shapeCasts_S256x128_S2x128x128 := by
  simp only [hostOps1]
  after_results_simp
  rfl

theorem out5 : Pipeline.afterTail₀ cfgs (dats m) 0 (V0 m) [hostOps1] c main_v8 = Adam.deltas (G m c) (W m c) (U m c) (Q m c) := by
  refine (tail5 (exit m c)).trans ?_
  rw [exit5]
  exact unflat _

theorem exit6 : exit m c (Proc.devRef .tc main_v6_2) = flat (Adam.means (G m c) (U m c)) :=
  (Pipeline.withArrays_arr spec0 (by decide) c (V0 m c) (fun w => (dats m 0 c).arrAt w cfg0.N) 6).trans (final6 m c)

theorem tail6 (Z : Valuation τ sig (Elt Ideal)) :
    (StableHlo.after hostOps1 Z (Proc.devRef .tc main_v9) : S2x128x128.Idx → EReal)
      = shapeCast S2x128x128 (Z (Proc.devRef .tc main_v6_2) : S256x128.Idx → EReal) shapeCasts_S256x128_S2x128x128 := by
  simp only [hostOps1]
  after_results_simp
  rfl

theorem out6 : Pipeline.afterTail₀ cfgs (dats m) 0 (V0 m) [hostOps1] c main_v9 = Adam.means (G m c) (U m c) := by
  refine (tail6 (exit m c)).trans ?_
  rw [exit6]
  exact unflat _

theorem exit7 : exit m c (Proc.devRef .tc main_v6_3) = flat (Adam.squares (G m c) (Q m c)) :=
  (Pipeline.withArrays_arr spec0 (by decide) c (V0 m c) (fun w => (dats m 0 c).arrAt w cfg0.N) 7).trans (final7 m c)

theorem tail7 (Z : Valuation τ sig (Elt Ideal)) :
    (StableHlo.after hostOps1 Z (Proc.devRef .tc main_v10) : S2x128x128.Idx → EReal)
      = shapeCast S2x128x128 (Z (Proc.devRef .tc main_v6_3) : S256x128.Idx → EReal) shapeCasts_S256x128_S2x128x128 := by
  simp only [hostOps1]
  after_results_simp
  rfl

theorem out7 : Pipeline.afterTail₀ cfgs (dats m) 0 (V0 m) [hostOps1] c main_v10 = Adam.squares (G m c) (Q m c) := by
  refine (tail7 (exit m c)).trans ?_
  rw [exit7]
  exact unflat _

/-- The program ends with the gradient, the change of the weight and the two means, and its arguments as they were. -/
theorem run_value (ρ : Dev nD → PrngReg) : θ_run defs (onTc (τ := τ) (main (F := Ideal))) ⟨m, fun _ => 0, ρ⟩ (fun r => ∀ c : Dev nD,
      r.2.mem ((c.tc : Thread nD τ).loc main_v7) = G m c
      ∧ r.2.mem ((c.tc : Thread nD τ).loc main_v8) = Adam.deltas (G m c) (W m c) (U m c) (Q m c)
      ∧ r.2.mem ((c.tc : Thread nD τ).loc main_v9) = Adam.means (G m c) (U m c)
      ∧ r.2.mem ((c.tc : Thread nD τ).loc main_v10) = Adam.squares (G m c) (Q m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).2 main_v7 (Pipeline.mem_restRefs_of main_v7 (by decide) (by decide))).trans (out4 m c),
      ((h.1 c).2 main_v8 (Pipeline.mem_restRefs_of main_v8 (by decide) (by decide))).trans (out5 m c),
      ((h.1 c).2 main_v9 (Pipeline.mem_restRefs_of main_v9 (by decide) (by decide))).trans (out6 m c),
      ((h.1 c).2 main_v10 (Pipeline.mem_restRefs_of main_v10 (by decide) (by decide))).trans (out7 m c), h.2 c⟩)
    (θ_run_and (run_main m ρ) (unchanged m ρ))

/-! ## The reference -/

/-- The host's sum over the devices. -/
theorem reference_grad (p : Cert.Reference11Ideal.S8x2x128x128.Idx → EReal) :
    Host.reduceAdd (F := Ideal) (φ := .f32) p (constant Cert.Reference11Ideal.S_ .f32 0x00000000#32) Cert.Reference11Ideal.Gen.reducesTo_S8x2x128x128_S2x128x128_d0 Cert.Reference11Ideal.Gen.h_S_ = Adam.grad p := by
  funext z
  idx_vars z
  pointwise [Adam.grad]

/-- The call and the lines of the reference have the same results. -/
theorem algebraic : Cert.algebraic_Kernel11Ideal_Reference11Ideal := by
  intro m g m' g' h e
  refine ⟨fun c => G m c, fun c => Adam.deltas (G m c) (W m c) (U m c) (Q m c), fun c => Adam.means (G m c) (U m c),
    fun c => Adam.squares (G m c) (Q m c), run_value m g, ?_⟩
  refine (θ_run _ _ _).mono (fun _ r c => ⟨(r c).1.trans ?_, (r c).2.1.trans ?_, (r c).2.2.1.trans ?_, (r c).2.2.2.1.trans ?_, (r c).2.2.2.2⟩)
    (Cert.Reference11Ideal.Value.run (F := Ideal) m' g')
  · rw [(e c).1]
    exact reference_grad (P m c)
  · rw [(e c).1, (e c).2.1, (e c).2.2.1, (e c).2.2.2]
    erw [reference_grad (P m c), Adam.host_means (G m c) (U m c), Adam.host_squares (G m c) (Q m c)]
    exact Adam.host_deltas (G m c) (W m c) (U m c) (Q m c) _
  · rw [(e c).1, (e c).2.2.1]
    erw [reference_grad (P m c)]
    exact Adam.host_means (G m c) (U m c) _
  · rw [(e c).1, (e c).2.2.2]
    erw [reference_grad (P m c)]
    exact Adam.host_squares (G m c) (Q m c) _

end Cert.Proof.Step11
-- ==== Proof.lean ====
/-
  Every claim of this certificate, from the modules that prove each.
-/
module

public import proofs.«01_k».proof.Defs
public import proofs.«01_k».proof.Proof.Frames
public import proofs.«01_k».proof.Proof.Algebraic
public import proofs.«01_k».proof.Proof.InFwd
public import proofs.«01_k».proof.Proof.InBwdW
public import proofs.«01_k».proof.Proof.InBwdX
public import proofs.«01_k».proof.Proof.OutFwd
public import proofs.«01_k».proof.Proof.OutBwd
public import proofs.«01_k».proof.Proof.OutLoss
public import proofs.«01_k».proof.Proof.Step8
public import proofs.«01_k».proof.Proof.Step9
public import proofs.«01_k».proof.Proof.Step10
public import proofs.«01_k».proof.Proof.Step11

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Softmax.preFacts, InBwdX.preFacts,
    frame_kernel, frame_ideal, fun m ρ _ => frame_ideal m ρ trivial, frame_reference, fun m ρ _ => frame_reference m ρ trivial,
    InFwd.frame_kernel, InFwd.frame_ideal, InFwd.frame_reference,
    InBwdW.frame_kernel, InBwdW.frame_ideal, InBwdW.frame_reference,
    InBwdX.frame_kernel, InBwdX.frame_ideal, fun m ρ _ => InBwdX.frame_ideal m ρ trivial,
    InBwdX.frame_reference, fun m ρ _ => InBwdX.frame_reference m ρ trivial,
    OutFwd.frame_kernel, OutFwd.frame_ideal, OutFwd.frame_reference,
    OutBwd.frame_kernel, OutBwd.frame_ideal, OutBwd.frame_reference,
    OutLoss.frame_kernel, OutLoss.frame_ideal, OutLoss.frame_reference,
    Step8.frame_kernel, Step8.frame_ideal, Step8.frame_reference,
    Step9.frame_kernel, Step9.frame_ideal, Step9.frame_reference,
    Step10.frame_kernel, Step10.frame_ideal, Step10.frame_reference,
    Step11.frame_kernel, Step11.frame_ideal, Step11.frame_reference,
    preserves_mask, algebraic,
    trivial, InFwd.algebraic,
    trivial, InBwdW.algebraic,
    trivial, InBwdX.algebraic,
    trivial, OutFwd.algebraic,
    trivial, OutBwd.algebraic,
    trivial, OutLoss.algebraic,
    trivial, Step8.algebraic,
    trivial, Step9.algebraic,
    trivial, Step10.algebraic,
    trivial, Step11.algebraic⟩

end Cert.Proof

end
